-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v395) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v241) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v233) = v5 c
          ∧ r.2.mem ((c.tc : Thread Cert.ReferenceIdeal.nD Cert.ReferenceIdeal.τ).loc Cert.ReferenceIdeal.main_v158) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x128x16384 : Shape := ⟨3, ![1, 128, 16384]⟩
abbrev S3072x16384 : Shape := ⟨2, ![3072, 16384]⟩
abbrev S_ : Shape := ⟨0, ![]⟩

class Facts : Prop where
  bcast_S_S1x128x16384 : S_.BroadcastsInDim S1x128x16384 (![] : Fin 0 → Fin S1x128x16384.rank)
  reducesTo_S1x128x16384_S_d0_1_2 : S1x128x16384.ReducesTo [0, 1, 2] S_
  h_S_ : 0 < S_.numel
  bcast_S_S3072x16384 : S_.BroadcastsInDim S3072x16384 (![] : Fin 0 → Fin S3072x16384.rank)
  reducesTo_S3072x16384_S_d0_1 : S3072x16384.ReducesTo [0, 1] S_

variable [Facts]

def fn {F : FTy → Type} [FloatOps F] (main_arg0 : FVec F S1x128x16384 .bf16) (main_arg1 : FVec F S3072x16384 .bf16) : IVec S_ 1 :=
  let main_v0 : FVec F S1x128x16384 .bf16 := Host.absf main_arg0
  let main_cst : FVec F S_ .bf16 := constant S_ .bf16 0x7F80#16
  let main_v1 : FVec F S1x128x16384 .bf16 := broadcastInDim S1x128x16384 ![] bcast_S_S1x128x16384 main_cst
  let main_v2 : IVec S1x128x16384 1 := cmpf .olt main_v0 main_v1
  let main_c : IVec S_ 1 := constantI S_ 1 1#1
  let main_v3 : IVec S_ 1 := (fun x v => Host.reduce IntOp.andi x v reducesTo_S1x128x16384_S_d0_1_2 h_S_) main_v2 main_c
  let main_v4 : FVec F S3072x16384 .bf16 := Host.absf main_arg1
  let main_cst_0 : FVec F S_ .bf16 := constant S_ .bf16 0x7F80#16
  let main_v5 : FVec F S3072x16384 .bf16 := broadcastInDim S3072x16384 ![] bcast_S_S3072x16384 main_cst_0
  let main_v6 : IVec S3072x16384 1 := cmpf .olt main_v4 main_v5
  let main_c_1 : IVec S_ 1 := constantI S_ 1 1#1
  let main_v7 : IVec S_ 1 := (fun x v => Host.reduce IntOp.andi x v reducesTo_S3072x16384_S_d0_1 h_S_) main_v6 main_c_1
  let main_v8 : IVec S_ 1 := andi main_v3 main_v7
  main_v8
-- ==== Kernel.lean ====
abbrev S1x128x16384 : Shape := ⟨3, ![1, 128, 16384]⟩
abbrev S3072x16384 : Shape := ⟨2, ![3072, 16384]⟩
abbrev S256x256 : Shape := ⟨2, ![256, 256]⟩
abbrev S128x16384 : Shape := ⟨2, ![128, 16384]⟩
abbrev S128x3072 : Shape := ⟨2, ![128, 3072]⟩
abbrev S128x2048 : Shape := ⟨2, ![128, 2048]⟩
abbrev S3072x2048 : Shape := ⟨2, ![3072, 2048]⟩
abbrev S128x8192 : Shape := ⟨2, ![128, 8192]⟩
abbrev S128x512 : Shape := ⟨2, ![128, 512]⟩
abbrev S3072x8192 : Shape := ⟨2, ![3072, 8192]⟩
abbrev S3072x512 : Shape := ⟨2, ![3072, 512]⟩
abbrev S128x4096 : Shape := ⟨2, ![128, 4096]⟩
abbrev S256x4096 : Shape := ⟨2, ![256, 4096]⟩
abbrev S128x256 : Shape := ⟨2, ![128, 256]⟩
abbrev S256x512 : Shape := ⟨2, ![256, 512]⟩
abbrev S128x128 : Shape := ⟨2, ![128, 128]⟩
abbrev S256x2048 : Shape := ⟨2, ![256, 2048]⟩
abbrev S256x128 : Shape := ⟨2, ![256, 128]⟩
abbrev S8x64x128 : Shape := ⟨3, ![8, 64, 128]⟩
abbrev S8x3x8x128 : Shape := ⟨4, ![8, 3, 8, 128]⟩
abbrev S2x128x128 : Shape := ⟨3, ![2, 128, 128]⟩
abbrev S8x4x8x128 : Shape := ⟨4, ![8, 4, 8, 128]⟩
abbrev S8x8x128 : Shape := ⟨3, ![8, 8, 128]⟩
abbrev S64x128 : Shape := ⟨2, ![64, 128]⟩
abbrev S1x64x128 : Shape := ⟨3, ![1, 64, 128]⟩
abbrev S8x128 : Shape := ⟨2, ![8, 128]⟩
abbrev S1x3x8x128 : Shape := ⟨4, ![1, 3, 8, 128]⟩
abbrev S3x8x128 : Shape := ⟨3, ![3, 8, 128]⟩
abbrev S1x8x128 : Shape := ⟨3, ![1, 8, 128]⟩
abbrev S32x128 : Shape := ⟨2, ![32, 128]⟩
abbrev S1x1x128 : Shape := ⟨3, ![1, 1, 128]⟩
abbrev S1x128 : Shape := ⟨2, ![1, 128]⟩
abbrev S32x8x128 : Shape := ⟨3, ![32, 8, 128]⟩
abbrev S32x1x128 : Shape := ⟨3, ![32, 1, 128]⟩
abbrev S16x16x128 : Shape := ⟨3, ![16, 16, 128]⟩
abbrev S16x128 : Shape := ⟨2, ![16, 128]⟩
abbrev S16x1x128 : Shape := ⟨3, ![16, 1, 128]⟩
abbrev S16x8x128 : Shape := ⟨3, ![16, 8, 128]⟩
abbrev S8x16x128 : Shape := ⟨3, ![8, 16, 128]⟩
abbrev S1x128x128 : Shape := ⟨3, ![1, 128, 128]⟩
abbrev S128x1024 : Shape := ⟨2, ![128, 1024]⟩
abbrev S1024x256 : Shape := ⟨2, ![1024, 256]⟩

abbrev nBuf : Space → Nat
  | .hbm => 11
  | .vmem => 24
  | .smem => 0
  | _ => 0

abbrev bufTy : (tb : Table) → Fin (tcTables nBuf tb) → BufTy
  | .hbm, ⟨0, _⟩ => ⟨S1x128x16384, .bf16⟩
  | .hbm, ⟨1, _⟩ => ⟨S3072x16384, .bf16⟩
  | .hbm, ⟨2, _⟩ => ⟨S256x256, .bf16⟩
  | .hbm, ⟨3, _⟩ => ⟨S128x16384, .bf16⟩
  | .hbm, ⟨4, _⟩ => ⟨S128x3072, .bf16⟩
  | .hbm, ⟨5, _⟩ => ⟨S128x2048, .i8⟩
  | .hbm, ⟨6, _⟩ => ⟨S3072x2048, .i8⟩
  | .hbm, ⟨7, _⟩ => ⟨S128x8192, .i8⟩
  | .hbm, ⟨8, _⟩ => ⟨S128x512, .i8⟩
  | .hbm, ⟨9, _⟩ => ⟨S3072x8192, .i8⟩
  | .hbm, ⟨10, _⟩ => ⟨S3072x512, .i8⟩
  | .local _ .vmem, ⟨0, _⟩ => ⟨S256x256, .bf16⟩
  | .local _ .vmem, ⟨1, _⟩ => ⟨S128x4096, .bf16⟩
  | .local _ .vmem, ⟨2, _⟩ => ⟨S128x4096, .bf16⟩
  | .local _ .vmem, ⟨3, _⟩ => ⟨S256x4096, .bf16⟩
  | .local _ .vmem, ⟨4, _⟩ => ⟨S256x4096, .bf16⟩
  | .local _ .vmem, ⟨5, _⟩ => ⟨S128x256, .bf16⟩
  | .local _ .vmem, ⟨6, _⟩ => ⟨S128x256, .bf16⟩
  | .local _ .vmem, ⟨7, _⟩ => ⟨S128x512, .i8⟩
  | .local _ .vmem, ⟨8, _⟩ => ⟨S128x512, .i8⟩
  | .local _ .vmem, ⟨9, _⟩ => ⟨S256x512, .i8⟩
  | .local _ .vmem, ⟨10, _⟩ => ⟨S256x512, .i8⟩
  | .local _ .vmem, ⟨11, _⟩ => ⟨S128x2048, .i8⟩
  | .local _ .vmem, ⟨12, _⟩ => ⟨S128x2048, .i8⟩
  | .local _ .vmem, ⟨13, _⟩ => ⟨S128x128, .i8⟩
  | .local _ .vmem, ⟨14, _⟩ => ⟨S128x128, .i8⟩
  | .local _ .vmem, ⟨15, _⟩ => ⟨S256x2048, .i8⟩
  | .local _ .vmem, ⟨16, _⟩ => ⟨S256x2048, .i8⟩
  | .local _ .vmem, ⟨17, _⟩ => ⟨S256x128, .i8⟩
  | .local _ .vmem, ⟨18, _⟩ => ⟨S256x128, .i8⟩
  | .local _ .vmem, ⟨19, _⟩ => ⟨S128x16384, .bf16⟩
  | .local _ .vmem, ⟨20, _⟩ => ⟨S128x256, .f32⟩
  | .local _ .vmem, ⟨21, _⟩ => ⟨S8x64x128, .f32⟩
  | .local _ .vmem, ⟨22, _⟩ => ⟨S8x3x8x128, .f32⟩
  | .local _ .vmem, ⟨23, _⟩ => ⟨S2x128x128, .i32⟩
  | _, _ => ⟨S1x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![12, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c4_i32_14 : BitVec 32 := 4#32
  let v20 : BitVec 32 := Scalar.addi c0_i32_13 c4_i32_14
  let c1_i32_15 : BitVec 32 := 1#32
  ⟨c0_i32_13, v20, c1_i32_15⟩
def k0_mult1 (k0_t1 : Fin k0_t1_loop.trips) : BitVec 32 :=
  let c0_i32_13 : BitVec 32 := 0#32
  let c1_i32_15 : BitVec 32 := 1#32
  let arg17 : BitVec 32 := Scf.iv c0_i32_13 c1_i32_15 k0_t1
  let c1024_i32 : BitVec 32 := 1024#32
  let v26 : BitVec 32 := Scalar.muli arg17 c1024_i32
  v26
def k0_mult2 (k0_t1 : Fin k0_t1_loop.trips) : BitVec 32 :=
  let c0_i32_13 : BitVec 32 := 0#32
  let c1_i32_15 : BitVec 32 := 1#32
  let arg17 : BitVec 32 := Scf.iv c0_i32_13 c1_i32_15 k0_t1
  let c512_i32 : BitVec 32 := 512#32
  let v28 : BitVec 32 := Scalar.muli arg17 c512_i32
  v28
def k0_mult3 (k0_t1 : Fin k0_t1_loop.trips) : BitVec 32 :=
  let c0_i32_13 : BitVec 32 := 0#32
  let c1_i32_15 : BitVec 32 := 1#32
  let arg17 : BitVec 32 := Scf.iv c0_i32_13 c1_i32_15 k0_t1
  let c32_i32 : BitVec 32 := 32#32
  let v30 : BitVec 32 := Scalar.muli arg17 c32_i32
  v30
def k0_off1 (k0_t1 : Fin k0_t1_loop.trips) (c0_i32_24 : BitVec 32) : Fin 2 → Nat :=
  let c0_25 : Index := 0#32
  let c0_i32_13 : BitVec 32 := 0#32
  let c1_i32_15 : BitVec 32 := 1#32
  let arg17 : BitVec 32 := Scf.iv c0_i32_13 c1_i32_15 k0_t1
  let c1024_i32 : BitVec 32 := 1024#32
  let v26 : BitVec 32 := Scalar.muli arg17 c1024_i32
  let v27 : BitVec 32 := v26
  let v33 : BitVec 32 := Scalar.addi v27 c0_i32_24
  let v34 : Index := Scalar.indexCast v33
  ![0, v34.toNat]
def k0_off2 (k0_t1 : Fin k0_t1_loop.trips) (c0_i32_333 : BitVec 32) : Fin 2 → Nat :=
  let c0_334 : Index := 0#32
  let c0_i32_13 : BitVec 32 := 0#32
  let c1_i32_15 : BitVec 32 := 1#32
  let arg17 : BitVec 32 := Scf.iv c0_i32_13 c1_i32_15 k0_t1
  let c512_i32 : BitVec 32 := 512#32
  let v28 : BitVec 32 := Scalar.muli arg17 c512_i32
  let v29 : BitVec 32 := v28
  let v484 : BitVec 32 := Scalar.addi v29 c0_i32_333
  let v485 : Index := Scalar.indexCast v484
  ![0, v485.toNat]
def k0_off3 (k0_t1 : Fin k0_t1_loop.trips) (c0_i32_335 : BitVec 32) : Fin 3 → Nat :=
  let c0_336 : Index := 0#32
  let c0_i32_13 : BitVec 32 := 0#32
  let c1_i32_15 : BitVec 32 := 1#32
  let arg17 : BitVec 32 := Scf.iv c0_i32_13 c1_i32_15 k0_t1
  let c32_i32 : BitVec 32 := 32#32
  let v30 : BitVec 32 := Scalar.muli arg17 c32_i32
  let v31 : BitVec 32 := v30
  let v487 : BitVec 32 := Scalar.addi v31 c0_i32_335
  let v488 : Index := Scalar.indexCast v487
  let c0_337 : Index := 0#32
  ![0, v488.toNat, 0]
def k0_mult4 (k0_t1 : Fin k0_t1_loop.trips) : BitVec 32 :=
  let c0_i32_13 : BitVec 32 := 0#32
  let c1_i32_15 : BitVec 32 := 1#32
  let arg17 : BitVec 32 := Scf.iv c0_i32_13 c1_i32_15 k0_t1
  let c128_i32_1390 : BitVec 32 := 128#32
  let v2051 : BitVec 32 := Scalar.muli arg17 c128_i32_1390
  v2051
def k0_off4 (k0_t1 : Fin k0_t1_loop.trips) : Fin 2 → Nat :=
  let c0_1391 : Index := 0#32
  let c0_i32_13 : BitVec 32 := 0#32
  let c1_i32_15 : BitVec 32 := 1#32
  let arg17 : BitVec 32 := Scf.iv c0_i32_13 c1_i32_15 k0_t1
  let c128_i32_1390 : BitVec 32 := 128#32
  let v2051 : BitVec 32 := Scalar.muli arg17 c128_i32_1390
  let v2052 : BitVec 32 := v2051
  let v2053 : Index := Scalar.indexCast v2052
  ![0, v2053.toNat]
def k0_mult5 (i : grid0.Coords) (k0_t1 : Fin k0_t1_loop.trips) : BitVec 32 :=
  let arg1 : BitVec 32 := BitVec.ofNat 32 (i 1).val
  let c4096_i32 : BitVec 32 := 4096#32
  let v2055 : BitVec 32 := Scalar.muli arg1 c4096_i32
  let c0_i32_13 : BitVec 32 := 0#32
  let c1_i32_15 : BitVec 32 := 1#32
  let arg17 : BitVec 32 := Scf.iv c0_i32_13 c1_i32_15 k0_t1
  let c1024_i32_1392 : BitVec 32 := 1024#32
  let v2056 : BitVec 32 := Scalar.muli arg17 c1024_i32_1392
  let v2057 : BitVec 32 := Scalar.addi v2055 v2056
  v2057
def k0_off5 (i : grid0.Coords) (k0_t1 : Fin k0_t1_loop.trips) (c0_i32_1393 : BitVec 32) : Fin 2 → Nat :=
  let c0_1394 : Index := 0#32
  let arg1 : BitVec 32 := BitVec.ofNat 32 (i 1).val
  let c4096_i32 : BitVec 32 := 4096#32
  let v2055 : BitVec 32 := Scalar.muli arg1 c4096_i32
  let c0_i32_13 : BitVec 32 := 0#32
  let c1_i32_15 : BitVec 32 := 1#32
  let arg17 : BitVec 32 := Scf.iv c0_i32_13 c1_i32_15 k0_t1
  let c1024_i32_1392 : BitVec 32 := 1024#32
  let v2056 : BitVec 32 := Scalar.muli arg17 c1024_i32_1392
  let v2057 : BitVec 32 := Scalar.addi v2055 v2056
  let v2058 : BitVec 32 := v2057
  let v2059 : BitVec 32 := Scalar.addi v2058 c0_i32_1393
  let v2061 : Index := Scalar.indexCast v2059
  ![0, v2061.toNat]
def k0_mult6 (i : grid0.Coords) (k0_t1 : Fin k0_t1_loop.trips) : BitVec 32 :=
  let arg1 : BitVec 32 := BitVec.ofNat 32 (i 1).val
  let c4096_i32_1395 : BitVec 32 := 4096#32
  let v2065 : BitVec 32 := Scalar.muli arg1 c4096_i32_1395
  let c0_i32_13 : BitVec 32 := 0#32
  let c1_i32_15 : BitVec 32 := 1#32
  let arg17 : BitVec 32 := Scf.iv c0_i32_13 c1_i32_15 k0_t1
  let c1024_i32_1396 : BitVec 32 := 1024#32
  let v2066 : BitVec 32 := Scalar.muli arg17 c1024_i32_1396
  let v2067 : BitVec 32 := Scalar.addi v2065 v2066
  v2067
def k0_mult7 (i : grid0.Coords) (k0_t1 : Fin k0_t1_loop.trips) : BitVec 32 :=
  let arg1 : BitVec 32 := BitVec.ofNat 32 (i 1).val
  let c4096_i32_1399 : BitVec 32 := 4096#32
  let v2075 : BitVec 32 := Scalar.muli arg1 c4096_i32_1399
  let c0_i32_13 : BitVec 32 := 0#32
  let c1_i32_15 : BitVec 32 := 1#32
  let arg17 : BitVec 32 := Scf.iv c0_i32_13 c1_i32_15 k0_t1
  let c1024_i32_1400 : BitVec 32 := 1024#32
  let v2076 : BitVec 32 := Scalar.muli arg17 c1024_i32_1400
  let v2077 : BitVec 32 := Scalar.addi v2075 v2076
  v2077
def k0_mult8 (i : grid0.Coords) (k0_t1 : Fin k0_t1_loop.trips) : BitVec 32 :=
  let arg1 : BitVec 32 := BitVec.ofNat 32 (i 1).val
  let c4096_i32_1403 : BitVec 32 := 4096#32
  let v2085 : BitVec 32 := Scalar.muli arg1 c4096_i32_1403
  let c0_i32_13 : BitVec 32 := 0#32
  let c1_i32_15 : BitVec 32 := 1#32
  let arg17 : BitVec 32 := Scf.iv c0_i32_13 c1_i32_15 k0_t1
  let c1024_i32_1404 : BitVec 32 := 1024#32
  let v2086 : BitVec 32 := Scalar.muli arg17 c1024_i32_1404
  let v2087 : BitVec 32 := Scalar.addi v2085 v2086
  v2087
@[reducible] def k0_t2_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_mult9 (k0_t2 : Fin k0_t2_loop.trips) : BitVec 32 :=
  let c0_i32_3 : BitVec 32 := 0#32
  let c1_i32 : BitVec 32 := 1#32
  let arg17 : BitVec 32 := Scf.iv c0_i32_3 c1_i32 k0_t2
  let c1024_i32 : BitVec 32 := 1024#32
  let v20 : BitVec 32 := Scalar.muli arg17 c1024_i32
  v20
def k0_mult10 (k0_t2 : Fin k0_t2_loop.trips) : BitVec 32 :=
  let c0_i32_3 : BitVec 32 := 0#32
  let c1_i32 : BitVec 32 := 1#32
  let arg17 : BitVec 32 := Scf.iv c0_i32_3 c1_i32 k0_t2
  let c512_i32 : BitVec 32 := 512#32
  let v22 : BitVec 32 := Scalar.muli arg17 c512_i32
  v22
def k0_mult11 (k0_t2 : Fin k0_t2_loop.trips) : BitVec 32 :=
  let c0_i32_3 : BitVec 32 := 0#32
  let c1_i32 : BitVec 32 := 1#32
  let arg17 : BitVec 32 := Scf.iv c0_i32_3 c1_i32 k0_t2
  let c32_i32 : BitVec 32 := 32#32
  let v24 : BitVec 32 := Scalar.muli arg17 c32_i32
  v24
def k0_off6 (k0_t2 : Fin k0_t2_loop.trips) (c0_i32_15 : BitVec 32) : Fin 2 → Nat :=
  let c0_16 : Index := 0#32
  let c0_i32_3 : BitVec 32 := 0#32
  let c1_i32 : BitVec 32 := 1#32
  let arg17 : BitVec 32 := Scf.iv c0_i32_3 c1_i32 k0_t2
  let c1024_i32 : BitVec 32 := 1024#32
  let v20 : BitVec 32 := Scalar.muli arg17 c1024_i32
  let v21 : BitVec 32 := v20
  let v27 : BitVec 32 := Scalar.addi v21 c0_i32_15
  let v28 : Index := Scalar.indexCast v27
  ![0, v28.toNat]
def k0_off7 (k0_t2 : Fin k0_t2_loop.trips) (c0_i32_324 : BitVec 32) : Fin 2 → Nat :=
  let c0_325 : Index := 0#32
  let c0_i32_3 : BitVec 32 := 0#32
  let c1_i32 : BitVec 32 := 1#32
  let arg17 : BitVec 32 := Scf.iv c0_i32_3 c1_i32 k0_t2
  let c512_i32 : BitVec 32 := 512#32
  let v22 : BitVec 32 := Scalar.muli arg17 c512_i32
  let v23 : BitVec 32 := v22
  let v478 : BitVec 32 := Scalar.addi v23 c0_i32_324
  let v479 : Index := Scalar.indexCast v478
  ![0, v479.toNat]
def k0_off8 (k0_t2 : Fin k0_t2_loop.trips) (c0_i32_326 : BitVec 32) : Fin 3 → Nat :=
  let c0_327 : Index := 0#32
  let c0_i32_3 : BitVec 32 := 0#32
  let c1_i32 : BitVec 32 := 1#32
  let arg17 : BitVec 32 := Scf.iv c0_i32_3 c1_i32 k0_t2
  let c32_i32 : BitVec 32 := 32#32
  let v24 : BitVec 32 := Scalar.muli arg17 c32_i32
  let v25 : BitVec 32 := v24
  let v481 : BitVec 32 := Scalar.addi v25 c0_i32_326
  let v482 : Index := Scalar.indexCast v481
  let c0_328 : Index := 0#32
  ![0, v482.toNat, 0]
def k0_off9 (k0_t2 : Fin k0_t2_loop.trips) (c0_i32_665 : BitVec 32) : Fin 2 → Nat :=
  let c128_666 : Index := 128#32
  let c0_i32_3 : BitVec 32 := 0#32
  let c1_i32 : BitVec 32 := 1#32
  let arg17 : BitVec 32 := Scf.iv c0_i32_3 c1_i32 k0_t2
  let c512_i32 : BitVec 32 := 512#32
  let v22 : BitVec 32 := Scalar.muli arg17 c512_i32
  let v23 : BitVec 32 := v22
  let v977 : BitVec 32 := Scalar.addi v23 c0_i32_665
  let v978 : Index := Scalar.indexCast v977
  ![128, v978.toNat]
def k0_off10 (k0_t2 : Fin k0_t2_loop.trips) (c0_i32_667 : BitVec 32) : Fin 3 → Nat :=
  let c1_668 : Index := 1#32
  let c0_i32_3 : BitVec 32 := 0#32
  let c1_i32 : BitVec 32 := 1#32
  let arg17 : BitVec 32 := Scf.iv c0_i32_3 c1_i32 k0_t2
  let c32_i32 : BitVec 32 := 32#32
  let v24 : BitVec 32 := Scalar.muli arg17 c32_i32
  let v25 : BitVec 32 := v24
  let v980 : BitVec 32 := Scalar.addi v25 c0_i32_667
  let v981 : Index := Scalar.indexCast v980
  let c0_669 : Index := 0#32
  ![1, v981.toNat, 0]
def k0_mult12 (k0_t2 : Fin k0_t2_loop.trips) : BitVec 32 :=
  let c0_i32_3 : BitVec 32 := 0#32
  let c1_i32 : BitVec 32 := 1#32
  let arg17 : BitVec 32 := Scf.iv c0_i32_3 c1_i32 k0_t2
  let c128_i32_2752 : BitVec 32 := 128#32
  let v4045 : BitVec 32 := Scalar.muli arg17 c128_i32_2752
  v4045
def k0_off11 (k0_t2 : Fin k0_t2_loop.trips) : Fin 2 → Nat :=
  let c0_2753 : Index := 0#32
  let c0_i32_3 : BitVec 32 := 0#32
  let c1_i32 : BitVec 32 := 1#32
  let arg17 : BitVec 32 := Scf.iv c0_i32_3 c1_i32 k0_t2
  let c128_i32_2752 : BitVec 32 := 128#32
  let v4045 : BitVec 32 := Scalar.muli arg17 c128_i32_2752
  let v4046 : BitVec 32 := v4045
  let v4047 : Index := Scalar.indexCast v4046
  ![0, v4047.toNat]
def k0_mult13 (k0_t2 : Fin k0_t2_loop.trips) : BitVec 32 :=
  let c0_i32_3 : BitVec 32 := 0#32
  let c1_i32 : BitVec 32 := 1#32
  let arg17 : BitVec 32 := Scf.iv c0_i32_3 c1_i32 k0_t2
  let c128_i32_2754 : BitVec 32 := 128#32
  let v4052 : BitVec 32 := Scalar.muli arg17 c128_i32_2754
  v4052
def k0_off12 (k0_t2 : Fin k0_t2_loop.trips) : Fin 2 → Nat :=
  let c128_2755 : Index := 128#32
  let c0_i32_3 : BitVec 32 := 0#32
  let c1_i32 : BitVec 32 := 1#32
  let arg17 : BitVec 32 := Scf.iv c0_i32_3 c1_i32 k0_t2
  let c128_i32_2754 : BitVec 32 := 128#32
  let v4052 : BitVec 32 := Scalar.muli arg17 c128_i32_2754
  let v4053 : BitVec 32 := v4052
  let v4054 : Index := Scalar.indexCast v4053
  ![128, v4054.toNat]
def k0_mult14 (i : grid0.Coords) (k0_t2 : Fin k0_t2_loop.trips) : BitVec 32 :=
  let arg1 : BitVec 32 := BitVec.ofNat 32 (i 1).val
  let c4096_i32 : BitVec 32 := 4096#32
  let v4056 : BitVec 32 := Scalar.muli arg1 c4096_i32
  let c0_i32_3 : BitVec 32 := 0#32
  let c1_i32 : BitVec 32 := 1#32
  let arg17 : BitVec 32 := Scf.iv c0_i32_3 c1_i32 k0_t2
  let c1024_i32_2756 : BitVec 32 := 1024#32
  let v4057 : BitVec 32 := Scalar.muli arg17 c1024_i32_2756
  let v4058 : BitVec 32 := Scalar.addi v4056 v4057
  v4058
def k0_off13 (i : grid0.Coords) (k0_t2 : Fin k0_t2_loop.trips) : Fin 2 → Nat :=
  let c0_2759 : Index := 0#32
  let arg1 : BitVec 32 := BitVec.ofNat 32 (i 1).val
  let c4096_i32 : BitVec 32 := 4096#32
  let v4056 : BitVec 32 := Scalar.muli arg1 c4096_i32
  let c0_i32_3 : BitVec 32 := 0#32
  let c1_i32 : BitVec 32 := 1#32
  let arg17 : BitVec 32 := Scf.iv c0_i32_3 c1_i32 k0_t2
  let c1024_i32_2756 : BitVec 32 := 1024#32
  let v4057 : BitVec 32 := Scalar.muli arg17 c1024_i32_2756
  let v4058 : BitVec 32 := Scalar.addi v4056 v4057
  let v4059 : BitVec 32 := v4058
  let v4061 : Index := Scalar.indexCast v4059
  ![0, v4061.toNat]
def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S1x128x16384 : Shape := ⟨3, ![1, 128, 16384]⟩
abbrev S3072x16384 : Shape := ⟨2, ![3072, 16384]⟩
abbrev S254 : Shape := ⟨1, ![254]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S128x16384 : Shape := ⟨2, ![128, 16384]⟩
abbrev S128x512x32 : Shape := ⟨3, ![128, 512, 32]⟩
abbrev S128x512 : Shape := ⟨2, ![128, 512]⟩
abbrev S128x512x1 : Shape := ⟨3, ![128, 512, 1]⟩
abbrev S1x1x254 : Shape := ⟨3, ![1, 1, 254]⟩
abbrev S128x512x254 : Shape := ⟨3, ![128, 512, 254]⟩
abbrev S128x8192x2 : Shape := ⟨3, ![128, 8192, 2]⟩
abbrev S128x8192x1 : Shape := ⟨3, ![128, 8192, 1]⟩
abbrev S128x8192 : Shape := ⟨2, ![128, 8192]⟩
abbrev S128x2048x8 : Shape := ⟨3, ![128, 2048, 8]⟩
abbrev S8 : Shape := ⟨1, ![8]⟩
abbrev S1x1x8 : Shape := ⟨3, ![1, 1, 8]⟩
abbrev S128x2048 : Shape := ⟨2, ![128, 2048]⟩
abbrev S3072x512x32 : Shape := ⟨3, ![3072, 512, 32]⟩
abbrev S3072x512 : Shape := ⟨2, ![3072, 512]⟩
abbrev S3072x512x1 : Shape := ⟨3, ![3072, 512, 1]⟩
abbrev S3072x512x254 : Shape := ⟨3, ![3072, 512, 254]⟩
abbrev S3072x8192x2 : Shape := ⟨3, ![3072, 8192, 2]⟩
abbrev S3072x8192x1 : Shape := ⟨3, ![3072, 8192, 1]⟩
abbrev S3072x8192 : Shape := ⟨2, ![3072, 8192]⟩
abbrev S3072x2048x8 : Shape := ⟨3, ![3072, 2048, 8]⟩
abbrev S3072x2048 : Shape := ⟨2, ![3072, 2048]⟩
abbrev S128x512x16 : Shape := ⟨3, ![128, 512, 16]⟩
abbrev S3072x512x16 : Shape := ⟨3, ![3072, 512, 16]⟩
abbrev S128x3072 : Shape := ⟨2, ![128, 3072]⟩

abbrev nBuf : Space → Nat
  | .hbm => 634
  | .vmem => 0
  | .smem => 0
  | _ => 0

abbrev hbmTy0_0 (i : Nat) : BufTy := match i % 128 with
  | 0 => ⟨S1x128x16384, .bf16⟩
  | 1 => ⟨S3072x16384, .bf16⟩
  | 2 => ⟨S254, .f32⟩
  | 3 => ⟨S254, .f32⟩
  | 4 => ⟨S254, .f32⟩
  | 5 => ⟨S254, .f32⟩
  | 6 => ⟨S254, .f32⟩
  | 7 => ⟨S254, .f32⟩
  | 8 => ⟨S254, .f32⟩
  | 9 => ⟨S254, .f32⟩
  | 10 => ⟨S32, .i32⟩
  | 11 => ⟨S32x1, .i32⟩
  | 12 => ⟨S1x32, .i32⟩
  | 13 => ⟨S32x32, .i32⟩
  | 14 => ⟨S32x32, .i32⟩
  | 15 => ⟨S32x32, .i32⟩
  | 16 => ⟨S32x32, .i32⟩
  | 17 => ⟨S_, .i32⟩
  | 18 => ⟨S32x32, .i32⟩
  | 19 => ⟨S32x32, .i32⟩
  | 20 => ⟨S_, .i32⟩
  | 21 => ⟨S32x32, .i32⟩
  | 22 => ⟨S32x32, .i1⟩
  | 23 => ⟨S_, .f32⟩
  | 24 => ⟨S_, .f32⟩
  | 25 => ⟨S32x32, .f32⟩
  | 26 => ⟨S32x32, .f32⟩
  | 27 => ⟨S32x32, .f32⟩
  | 28 => ⟨S32x32, .bf16⟩
  | 29 => ⟨S128x16384, .bf16⟩
  | 30 => ⟨S128x512x32, .bf16⟩
  | 31 => ⟨S128x512x32, .f32⟩
  | 32 => ⟨S_, .f32⟩
  | 33 => ⟨S_, .f32⟩
  | 34 => ⟨S128x512x32, .f32⟩
  | 35 => ⟨S128x512x32, .f32⟩
  | 36 => ⟨S128x512x32, .f32⟩
  | 37 => ⟨S_, .f32⟩
  | 38 => ⟨S128x512, .f32⟩
  | 39 => ⟨S128x512x1, .f32⟩
  | 40 => ⟨S_, .f32⟩
  | 41 => ⟨S128x512x1, .f32⟩
  | 42 => ⟨S128x512x1, .f32⟩
  | 43 => ⟨S128x512x1, .f32⟩
  | 44 => ⟨S_, .f32⟩
  | 45 => ⟨S128x512x1, .f32⟩
  | 46 => ⟨S128x512x1, .f32⟩
  | 47 => ⟨S_, .f32⟩
  | 48 => ⟨S128x512x1, .f32⟩
  | 49 => ⟨S128x512x1, .f32⟩
  | 50 => ⟨S_, .f32⟩
  | 51 => ⟨S128x512x1, .f32⟩
  | 52 => ⟨S128x512x1, .i1⟩
  | 53 => ⟨S1x1x254, .f32⟩
  | 54 => ⟨S128x512x254, .f32⟩
  | 55 => ⟨S128x512x254, .f32⟩
  | 56 => ⟨S128x512x254, .i1⟩
  | 57 => ⟨S128x512x254, .i32⟩
  | 58 => ⟨S_, .i32⟩
  | 59 => ⟨S128x512, .i32⟩
  | 60 => ⟨S128x512x1, .i32⟩
  | 61 => ⟨S_, .i32⟩
  | 62 => ⟨S128x512x1, .i32⟩
  | 63 => ⟨S128x512x1, .i32⟩
  | 64 => ⟨S_, .i32⟩
  | 65 => ⟨S_, .i32⟩
  | 66 => ⟨S128x512x1, .i32⟩
  | 67 => ⟨S128x512x1, .i32⟩
  | 68 => ⟨S128x512, .i32⟩
  | 69 => ⟨S_, .i32⟩
  | 70 => ⟨S128x512, .i32⟩
  | 71 => ⟨S128x512, .i32⟩
  | 72 => ⟨S128x512, .i8⟩
  | 73 => ⟨S128x512x1, .i32⟩
  | 74 => ⟨S254, .i32⟩
  | 75 => ⟨S_, .i32⟩
  | 76 => ⟨S254, .i32⟩
  | 77 => ⟨S254, .i32⟩
  | 78 => ⟨S1x1x254, .i32⟩
  | 79 => ⟨S128x512x254, .i32⟩
  | 80 => ⟨S128x512x254, .i32⟩
  | 81 => ⟨S128x512x254, .i1⟩
  | 82 => ⟨S_, .f32⟩
  | 83 => ⟨S_, .f32⟩
  | 84 => ⟨S128x512x254, .f32⟩
  | 85 => ⟨S128x512x254, .f32⟩
  | 86 => ⟨S128x512x254, .f32⟩
  | 87 => ⟨S_, .f32⟩
  | 88 => ⟨S128x512, .f32⟩
  | 89 => ⟨S128x512x1, .f32⟩
  | 90 => ⟨S128x512x32, .f32⟩
  | 91 => ⟨S128x512x32, .f32⟩
  | 92 => ⟨S128x512x32, .f32⟩
  | 93 => ⟨S254, .i32⟩
  | 94 => ⟨S_, .i32⟩
  | 95 => ⟨S254, .i32⟩
  | 96 => ⟨S254, .i32⟩
  | 97 => ⟨S1x1x254, .i32⟩
  | 98 => ⟨S128x512x254, .i32⟩
  | 99 => ⟨S128x512x254, .i32⟩
  | 100 => ⟨S128x512x254, .i1⟩
  | 101 => ⟨S_, .f32⟩
  | 102 => ⟨S_, .f32⟩
  | 103 => ⟨S128x512x254, .f32⟩
  | 104 => ⟨S128x512x254, .f32⟩
  | 105 => ⟨S128x512x254, .f32⟩
  | 106 => ⟨S_, .f32⟩
  | 107 => ⟨S128x512, .f32⟩
  | 108 => ⟨S128x512x1, .f32⟩
  | 109 => ⟨S_, .f32⟩
  | 110 => ⟨S128x512x1, .f32⟩
  | 111 => ⟨S128x512x1, .f32⟩
  | 112 => ⟨S128x512x32, .f32⟩
  | 113 => ⟨S128x512x32, .i1⟩
  | 114 => ⟨S_, .f32⟩
  | 115 => ⟨S_, .f32⟩
  | 116 => ⟨S_, .f32⟩
  | 117 => ⟨S128x512x32, .f32⟩
  | 118 => ⟨S128x512x32, .f32⟩
  | 119 => ⟨S_, .f32⟩
  | 120 => ⟨S128x512x32, .f32⟩
  | 121 => ⟨S128x512x32, .f32⟩
  | 122 => ⟨S128x512x32, .f32⟩
  | 123 => ⟨S_, .f32⟩
  | 124 => ⟨S128x512x32, .f32⟩
  | 125 => ⟨S128x512x32, .i1⟩
  | 126 => ⟨S_, .f32⟩
  | 127 => ⟨S128x512x32, .f32⟩
  | _ => ⟨S1x128x16384, .bf16⟩

abbrev hbmTy0_1 (i : Nat) : BufTy := match i % 128 with
  | 0 => ⟨S128x512x32, .i1⟩
  | 1 => ⟨S_, .f32⟩
  | 2 => ⟨S_, .f32⟩
  | 3 => ⟨S128x512x32, .f32⟩
  | 4 => ⟨S128x512x32, .f32⟩
  | 5 => ⟨S128x512x32, .f32⟩
  | 6 => ⟨S_, .f32⟩
  | 7 => ⟨S128x512x32, .f32⟩
  | 8 => ⟨S128x512x32, .f32⟩
  | 9 => ⟨S128x512x32, .f32⟩
  | 10 => ⟨S128x512x32, .f32⟩
  | 11 => ⟨S128x512x32, .f32⟩
  | 12 => ⟨S_, .f32⟩
  | 13 => ⟨S128x512x32, .f32⟩
  | 14 => ⟨S128x512x32, .f32⟩
  | 15 => ⟨S128x512x32, .f32⟩
  | 16 => ⟨S128x512x32, .f32⟩
  | 17 => ⟨S128x512x32, .f32⟩
  | 18 => ⟨S128x512x32, .f32⟩
  | 19 => ⟨S128x512x32, .f32⟩
  | 20 => ⟨S_, .f32⟩
  | 21 => ⟨S128x512x32, .f32⟩
  | 22 => ⟨S128x512x32, .i1⟩
  | 23 => ⟨S_, .f32⟩
  | 24 => ⟨S128x512x32, .f32⟩
  | 25 => ⟨S128x512x32, .f32⟩
  | 26 => ⟨S_, .f32⟩
  | 27 => ⟨S128x512x32, .f32⟩
  | 28 => ⟨S128x512x32, .i1⟩
  | 29 => ⟨S_, .f32⟩
  | 30 => ⟨S128x512x32, .f32⟩
  | 31 => ⟨S128x512x32, .f32⟩
  | 32 => ⟨S_, .f32⟩
  | 33 => ⟨S128x512x32, .f32⟩
  | 34 => ⟨S128x512x32, .f32⟩
  | 35 => ⟨S_, .f32⟩
  | 36 => ⟨S128x512x32, .f32⟩
  | 37 => ⟨S128x512x32, .f32⟩
  | 38 => ⟨S128x512x32, .f32⟩
  | 39 => ⟨S128x512x32, .f32⟩
  | 40 => ⟨S128x512x32, .i32⟩
  | 41 => ⟨S_, .f32⟩
  | 42 => ⟨S128x512x32, .f32⟩
  | 43 => ⟨S128x512x32, .i1⟩
  | 44 => ⟨S_, .i32⟩
  | 45 => ⟨S_, .i32⟩
  | 46 => ⟨S128x512x32, .i32⟩
  | 47 => ⟨S128x512x32, .i32⟩
  | 48 => ⟨S128x512x32, .i32⟩
  | 49 => ⟨S128x512x32, .i32⟩
  | 50 => ⟨S128x512x32, .i32⟩
  | 51 => ⟨S128x8192x2, .i32⟩
  | 52 => ⟨S128x8192x1, .i32⟩
  | 53 => ⟨S128x8192, .i32⟩
  | 54 => ⟨S128x8192x1, .i32⟩
  | 55 => ⟨S128x8192, .i32⟩
  | 56 => ⟨S_, .i32⟩
  | 57 => ⟨S128x8192, .i32⟩
  | 58 => ⟨S128x8192, .i32⟩
  | 59 => ⟨S128x8192, .i32⟩
  | 60 => ⟨S128x8192, .i8⟩
  | 61 => ⟨S128x2048x8, .i1⟩
  | 62 => ⟨S128x2048x8, .i32⟩
  | 63 => ⟨S8, .i32⟩
  | 64 => ⟨S1x1x8, .i32⟩
  | 65 => ⟨S128x2048x8, .i32⟩
  | 66 => ⟨S128x2048x8, .i32⟩
  | 67 => ⟨S_, .i32⟩
  | 68 => ⟨S128x2048, .i32⟩
  | 69 => ⟨S128x2048, .i8⟩
  | 70 => ⟨S3072x512x32, .bf16⟩
  | 71 => ⟨S3072x512x32, .f32⟩
  | 72 => ⟨S_, .f32⟩
  | 73 => ⟨S_, .f32⟩
  | 74 => ⟨S3072x512x32, .f32⟩
  | 75 => ⟨S3072x512x32, .f32⟩
  | 76 => ⟨S3072x512x32, .f32⟩
  | 77 => ⟨S_, .f32⟩
  | 78 => ⟨S3072x512, .f32⟩
  | 79 => ⟨S3072x512x1, .f32⟩
  | 80 => ⟨S_, .f32⟩
  | 81 => ⟨S3072x512x1, .f32⟩
  | 82 => ⟨S3072x512x1, .f32⟩
  | 83 => ⟨S3072x512x1, .f32⟩
  | 84 => ⟨S_, .f32⟩
  | 85 => ⟨S3072x512x1, .f32⟩
  | 86 => ⟨S3072x512x1, .f32⟩
  | 87 => ⟨S_, .f32⟩
  | 88 => ⟨S3072x512x1, .f32⟩
  | 89 => ⟨S3072x512x1, .f32⟩
  | 90 => ⟨S_, .f32⟩
  | 91 => ⟨S3072x512x1, .f32⟩
  | 92 => ⟨S3072x512x1, .i1⟩
  | 93 => ⟨S1x1x254, .f32⟩
  | 94 => ⟨S3072x512x254, .f32⟩
  | 95 => ⟨S3072x512x254, .f32⟩
  | 96 => ⟨S3072x512x254, .i1⟩
  | 97 => ⟨S3072x512x254, .i32⟩
  | 98 => ⟨S_, .i32⟩
  | 99 => ⟨S3072x512, .i32⟩
  | 100 => ⟨S3072x512x1, .i32⟩
  | 101 => ⟨S_, .i32⟩
  | 102 => ⟨S3072x512x1, .i32⟩
  | 103 => ⟨S3072x512x1, .i32⟩
  | 104 => ⟨S_, .i32⟩
  | 105 => ⟨S_, .i32⟩
  | 106 => ⟨S3072x512x1, .i32⟩
  | 107 => ⟨S3072x512x1, .i32⟩
  | 108 => ⟨S3072x512, .i32⟩
  | 109 => ⟨S_, .i32⟩
  | 110 => ⟨S3072x512, .i32⟩
  | 111 => ⟨S3072x512, .i32⟩
  | 112 => ⟨S3072x512, .i8⟩
  | 113 => ⟨S3072x512x1, .i32⟩
  | 114 => ⟨S254, .i32⟩
  | 115 => ⟨S_, .i32⟩
  | 116 => ⟨S254, .i32⟩
  | 117 => ⟨S254, .i32⟩
  | 118 => ⟨S1x1x254, .i32⟩
  | 119 => ⟨S3072x512x254, .i32⟩
  | 120 => ⟨S3072x512x254, .i32⟩
  | 121 => ⟨S3072x512x254, .i1⟩
  | 122 => ⟨S_, .f32⟩
  | 123 => ⟨S_, .f32⟩
  | 124 => ⟨S3072x512x254, .f32⟩
  | 125 => ⟨S3072x512x254, .f32⟩
  | 126 => ⟨S3072x512x254, .f32⟩
  | 127 => ⟨S_, .f32⟩
  | _ => ⟨S1x128x16384, .bf16⟩

abbrev hbmTy0_2 (i : Nat) : BufTy := match i % 128 with
  | 0 => ⟨S3072x512, .f32⟩
  | 1 => ⟨S3072x512x1, .f32⟩
  | 2 => ⟨S3072x512x32, .f32⟩
  | 3 => ⟨S3072x512x32, .f32⟩
  | 4 => ⟨S3072x512x32, .f32⟩
  | 5 => ⟨S254, .i32⟩
  | 6 => ⟨S_, .i32⟩
  | 7 => ⟨S254, .i32⟩
  | 8 => ⟨S254, .i32⟩
  | 9 => ⟨S1x1x254, .i32⟩
  | 10 => ⟨S3072x512x254, .i32⟩
  | 11 => ⟨S3072x512x254, .i32⟩
  | 12 => ⟨S3072x512x254, .i1⟩
  | 13 => ⟨S_, .f32⟩
  | 14 => ⟨S_, .f32⟩
  | 15 => ⟨S3072x512x254, .f32⟩
  | 16 => ⟨S3072x512x254, .f32⟩
  | 17 => ⟨S3072x512x254, .f32⟩
  | 18 => ⟨S_, .f32⟩
  | 19 => ⟨S3072x512, .f32⟩
  | 20 => ⟨S3072x512x1, .f32⟩
  | 21 => ⟨S_, .f32⟩
  | 22 => ⟨S3072x512x1, .f32⟩
  | 23 => ⟨S3072x512x1, .f32⟩
  | 24 => ⟨S3072x512x32, .f32⟩
  | 25 => ⟨S3072x512x32, .i1⟩
  | 26 => ⟨S_, .f32⟩
  | 27 => ⟨S_, .f32⟩
  | 28 => ⟨S_, .f32⟩
  | 29 => ⟨S3072x512x32, .f32⟩
  | 30 => ⟨S3072x512x32, .f32⟩
  | 31 => ⟨S_, .f32⟩
  | 32 => ⟨S3072x512x32, .f32⟩
  | 33 => ⟨S3072x512x32, .f32⟩
  | 34 => ⟨S3072x512x32, .f32⟩
  | 35 => ⟨S_, .f32⟩
  | 36 => ⟨S3072x512x32, .f32⟩
  | 37 => ⟨S3072x512x32, .i1⟩
  | 38 => ⟨S_, .f32⟩
  | 39 => ⟨S3072x512x32, .f32⟩
  | 40 => ⟨S3072x512x32, .i1⟩
  | 41 => ⟨S_, .f32⟩
  | 42 => ⟨S_, .f32⟩
  | 43 => ⟨S3072x512x32, .f32⟩
  | 44 => ⟨S3072x512x32, .f32⟩
  | 45 => ⟨S3072x512x32, .f32⟩
  | 46 => ⟨S_, .f32⟩
  | 47 => ⟨S3072x512x32, .f32⟩
  | 48 => ⟨S3072x512x32, .f32⟩
  | 49 => ⟨S3072x512x32, .f32⟩
  | 50 => ⟨S3072x512x32, .f32⟩
  | 51 => ⟨S3072x512x32, .f32⟩
  | 52 => ⟨S_, .f32⟩
  | 53 => ⟨S3072x512x32, .f32⟩
  | 54 => ⟨S3072x512x32, .f32⟩
  | 55 => ⟨S3072x512x32, .f32⟩
  | 56 => ⟨S3072x512x32, .f32⟩
  | 57 => ⟨S3072x512x32, .f32⟩
  | 58 => ⟨S3072x512x32, .f32⟩
  | 59 => ⟨S3072x512x32, .f32⟩
  | 60 => ⟨S_, .f32⟩
  | 61 => ⟨S3072x512x32, .f32⟩
  | 62 => ⟨S3072x512x32, .i1⟩
  | 63 => ⟨S_, .f32⟩
  | 64 => ⟨S3072x512x32, .f32⟩
  | 65 => ⟨S3072x512x32, .f32⟩
  | 66 => ⟨S_, .f32⟩
  | 67 => ⟨S3072x512x32, .f32⟩
  | 68 => ⟨S3072x512x32, .i1⟩
  | 69 => ⟨S_, .f32⟩
  | 70 => ⟨S3072x512x32, .f32⟩
  | 71 => ⟨S3072x512x32, .f32⟩
  | 72 => ⟨S_, .f32⟩
  | 73 => ⟨S3072x512x32, .f32⟩
  | 74 => ⟨S3072x512x32, .f32⟩
  | 75 => ⟨S_, .f32⟩
  | 76 => ⟨S3072x512x32, .f32⟩
  | 77 => ⟨S3072x512x32, .f32⟩
  | 78 => ⟨S3072x512x32, .f32⟩
  | 79 => ⟨S3072x512x32, .f32⟩
  | 80 => ⟨S3072x512x32, .i32⟩
  | 81 => ⟨S_, .f32⟩
  | 82 => ⟨S3072x512x32, .f32⟩
  | 83 => ⟨S3072x512x32, .i1⟩
  | 84 => ⟨S_, .i32⟩
  | 85 => ⟨S_, .i32⟩
  | 86 => ⟨S3072x512x32, .i32⟩
  | 87 => ⟨S3072x512x32, .i32⟩
  | 88 => ⟨S3072x512x32, .i32⟩
  | 89 => ⟨S3072x512x32, .i32⟩
  | 90 => ⟨S3072x512x32, .i32⟩
  | 91 => ⟨S3072x8192x2, .i32⟩
  | 92 => ⟨S3072x8192x1, .i32⟩
  | 93 => ⟨S3072x8192, .i32⟩
  | 94 => ⟨S3072x8192x1, .i32⟩
  | 95 => ⟨S3072x8192, .i32⟩
  | 96 => ⟨S_, .i32⟩
  | 97 => ⟨S3072x8192, .i32⟩
  | 98 => ⟨S3072x8192, .i32⟩
  | 99 => ⟨S3072x8192, .i32⟩
  | 100 => ⟨S3072x8192, .i8⟩
  | 101 => ⟨S3072x2048x8, .i1⟩
  | 102 => ⟨S3072x2048x8, .i32⟩
  | 103 => ⟨S8, .i32⟩
  | 104 => ⟨S1x1x8, .i32⟩
  | 105 => ⟨S3072x2048x8, .i32⟩
  | 106 => ⟨S3072x2048x8, .i32⟩
  | 107 => ⟨S_, .i32⟩
  | 108 => ⟨S3072x2048, .i32⟩
  | 109 => ⟨S3072x2048, .i8⟩
  | 110 => ⟨S128x512x16, .i8⟩
  | 111 => ⟨S128x512x16, .i32⟩
  | 112 => ⟨S3072x512x16, .i8⟩
  | 113 => ⟨S3072x512x16, .i32⟩
  | 114 => ⟨S128x512, .i32⟩
  | 115 => ⟨S128x512x1, .i32⟩
  | 116 => ⟨S_, .i32⟩
  | 117 => ⟨S128x512x1, .i32⟩
  | 118 => ⟨S128x512x1, .i32⟩
  | 119 => ⟨S254, .i32⟩
  | 120 => ⟨S_, .i32⟩
  | 121 => ⟨S254, .i32⟩
  | 122 => ⟨S254, .i32⟩
  | 123 => ⟨S1x1x254, .i32⟩
  | 124 => ⟨S128x512x254, .i32⟩
  | 125 => ⟨S128x512x254, .i32⟩
  | 126 => ⟨S128x512x254, .i1⟩
  | 127 => ⟨S_, .f32⟩
  | _ => ⟨S1x128x16384, .bf16⟩

abbrev hbmTy0_3 (i : Nat) : BufTy := match i % 128 with
  | 0 => ⟨S_, .f32⟩
  | 1 => ⟨S128x512x254, .f32⟩
  | 2 => ⟨S128x512x254, .f32⟩
  | 3 => ⟨S128x512x254, .f32⟩
  | 4 => ⟨S_, .f32⟩
  | 5 => ⟨S128x512, .f32⟩
  | 6 => ⟨S128x512x1, .f32⟩
  | 7 => ⟨S128x512x1, .bf16⟩
  | 8 => ⟨S3072x512, .i32⟩
  | 9 => ⟨S3072x512x1, .i32⟩
  | 10 => ⟨S_, .i32⟩
  | 11 => ⟨S3072x512x1, .i32⟩
  | 12 => ⟨S3072x512x1, .i32⟩
  | 13 => ⟨S254, .i32⟩
  | 14 => ⟨S_, .i32⟩
  | 15 => ⟨S254, .i32⟩
  | 16 => ⟨S254, .i32⟩
  | 17 => ⟨S1x1x254, .i32⟩
  | 18 => ⟨S3072x512x254, .i32⟩
  | 19 => ⟨S3072x512x254, .i32⟩
  | 20 => ⟨S3072x512x254, .i1⟩
  | 21 => ⟨S_, .f32⟩
  | 22 => ⟨S_, .f32⟩
  | 23 => ⟨S3072x512x254, .f32⟩
  | 24 => ⟨S3072x512x254, .f32⟩
  | 25 => ⟨S3072x512x254, .f32⟩
  | 26 => ⟨S_, .f32⟩
  | 27 => ⟨S3072x512, .f32⟩
  | 28 => ⟨S3072x512x1, .f32⟩
  | 29 => ⟨S3072x512x1, .bf16⟩
  | 30 => ⟨S_, .i32⟩
  | 31 => ⟨S128x512x16, .i32⟩
  | 32 => ⟨S128x512x16, .i32⟩
  | 33 => ⟨S_, .i32⟩
  | 34 => ⟨S128x512x16, .i32⟩
  | 35 => ⟨S128x512x16, .i32⟩
  | 36 => ⟨S_, .i32⟩
  | 37 => ⟨S128x512x16, .i32⟩
  | 38 => ⟨S128x512x16, .i1⟩
  | 39 => ⟨S_, .i32⟩
  | 40 => ⟨S128x512x16, .i32⟩
  | 41 => ⟨S128x512x16, .i32⟩
  | 42 => ⟨S_, .i32⟩
  | 43 => ⟨S128x512x16, .i32⟩
  | 44 => ⟨S128x512x16, .i1⟩
  | 45 => ⟨S_, .i32⟩
  | 46 => ⟨S128x512x16, .i32⟩
  | 47 => ⟨S128x512x16, .i32⟩
  | 48 => ⟨S_, .i32⟩
  | 49 => ⟨S128x512x16, .i32⟩
  | 50 => ⟨S128x512x16, .i1⟩
  | 51 => ⟨S_, .i32⟩
  | 52 => ⟨S128x512x16, .i32⟩
  | 53 => ⟨S128x512x16, .i32⟩
  | 54 => ⟨S_, .i32⟩
  | 55 => ⟨S128x512x16, .i32⟩
  | 56 => ⟨S128x512x16, .i1⟩
  | 57 => ⟨S_, .bf16⟩
  | 58 => ⟨S_, .bf16⟩
  | 59 => ⟨S128x512x16, .bf16⟩
  | 60 => ⟨S128x512x16, .bf16⟩
  | 61 => ⟨S128x512x16, .bf16⟩
  | 62 => ⟨S_, .bf16⟩
  | 63 => ⟨S_, .bf16⟩
  | 64 => ⟨S128x512x16, .bf16⟩
  | 65 => ⟨S128x512x16, .bf16⟩
  | 66 => ⟨S128x512x16, .bf16⟩
  | 67 => ⟨S128x512x16, .bf16⟩
  | 68 => ⟨S_, .bf16⟩
  | 69 => ⟨S_, .bf16⟩
  | 70 => ⟨S128x512x16, .bf16⟩
  | 71 => ⟨S128x512x16, .bf16⟩
  | 72 => ⟨S128x512x16, .bf16⟩
  | 73 => ⟨S_, .bf16⟩
  | 74 => ⟨S_, .bf16⟩
  | 75 => ⟨S128x512x16, .bf16⟩
  | 76 => ⟨S128x512x16, .bf16⟩
  | 77 => ⟨S128x512x16, .bf16⟩
  | 78 => ⟨S128x512x16, .bf16⟩
  | 79 => ⟨S128x512x16, .bf16⟩
  | 80 => ⟨S128x512x16, .bf16⟩
  | 81 => ⟨S128x512x16, .bf16⟩
  | 82 => ⟨S128x512x16, .bf16⟩
  | 83 => ⟨S128x512x16, .bf16⟩
  | 84 => ⟨S_, .i32⟩
  | 85 => ⟨S128x512x16, .i32⟩
  | 86 => ⟨S128x512x16, .i32⟩
  | 87 => ⟨S_, .i32⟩
  | 88 => ⟨S128x512x16, .i32⟩
  | 89 => ⟨S128x512x16, .i32⟩
  | 90 => ⟨S_, .i32⟩
  | 91 => ⟨S128x512x16, .i32⟩
  | 92 => ⟨S128x512x16, .i1⟩
  | 93 => ⟨S_, .i32⟩
  | 94 => ⟨S128x512x16, .i32⟩
  | 95 => ⟨S128x512x16, .i32⟩
  | 96 => ⟨S_, .i32⟩
  | 97 => ⟨S128x512x16, .i32⟩
  | 98 => ⟨S128x512x16, .i1⟩
  | 99 => ⟨S_, .i32⟩
  | 100 => ⟨S128x512x16, .i32⟩
  | 101 => ⟨S128x512x16, .i32⟩
  | 102 => ⟨S_, .i32⟩
  | 103 => ⟨S128x512x16, .i32⟩
  | 104 => ⟨S128x512x16, .i1⟩
  | 105 => ⟨S_, .i32⟩
  | 106 => ⟨S128x512x16, .i32⟩
  | 107 => ⟨S128x512x16, .i32⟩
  | 108 => ⟨S_, .i32⟩
  | 109 => ⟨S128x512x16, .i32⟩
  | 110 => ⟨S128x512x16, .i1⟩
  | 111 => ⟨S_, .bf16⟩
  | 112 => ⟨S_, .bf16⟩
  | 113 => ⟨S128x512x16, .bf16⟩
  | 114 => ⟨S128x512x16, .bf16⟩
  | 115 => ⟨S128x512x16, .bf16⟩
  | 116 => ⟨S_, .bf16⟩
  | 117 => ⟨S_, .bf16⟩
  | 118 => ⟨S128x512x16, .bf16⟩
  | 119 => ⟨S128x512x16, .bf16⟩
  | 120 => ⟨S128x512x16, .bf16⟩
  | 121 => ⟨S128x512x16, .bf16⟩
  | 122 => ⟨S_, .bf16⟩
  | 123 => ⟨S_, .bf16⟩
  | 124 => ⟨S128x512x16, .bf16⟩
  | 125 => ⟨S128x512x16, .bf16⟩
  | 126 => ⟨S128x512x16, .bf16⟩
  | 127 => ⟨S_, .bf16⟩
  | _ => ⟨S1x128x16384, .bf16⟩

abbrev hbmTy0_4 (i : Nat) : BufTy := match i % 128 with
  | 0 => ⟨S_, .bf16⟩
  | 1 => ⟨S128x512x16, .bf16⟩
  | 2 => ⟨S128x512x16, .bf16⟩
  | 3 => ⟨S128x512x16, .bf16⟩
  | 4 => ⟨S128x512x16, .bf16⟩
  | 5 => ⟨S128x512x16, .bf16⟩
  | 6 => ⟨S128x512x16, .bf16⟩
  | 7 => ⟨S128x512x16, .bf16⟩
  | 8 => ⟨S128x512x16, .bf16⟩
  | 9 => ⟨S128x512x16, .bf16⟩
  | 10 => ⟨S_, .i32⟩
  | 11 => ⟨S3072x512x16, .i32⟩
  | 12 => ⟨S3072x512x16, .i32⟩
  | 13 => ⟨S_, .i32⟩
  | 14 => ⟨S3072x512x16, .i32⟩
  | 15 => ⟨S3072x512x16, .i32⟩
  | 16 => ⟨S_, .i32⟩
  | 17 => ⟨S3072x512x16, .i32⟩
  | 18 => ⟨S3072x512x16, .i1⟩
  | 19 => ⟨S_, .i32⟩
  | 20 => ⟨S3072x512x16, .i32⟩
  | 21 => ⟨S3072x512x16, .i32⟩
  | 22 => ⟨S_, .i32⟩
  | 23 => ⟨S3072x512x16, .i32⟩
  | 24 => ⟨S3072x512x16, .i1⟩
  | 25 => ⟨S_, .i32⟩
  | 26 => ⟨S3072x512x16, .i32⟩
  | 27 => ⟨S3072x512x16, .i32⟩
  | 28 => ⟨S_, .i32⟩
  | 29 => ⟨S3072x512x16, .i32⟩
  | 30 => ⟨S3072x512x16, .i1⟩
  | 31 => ⟨S_, .i32⟩
  | 32 => ⟨S3072x512x16, .i32⟩
  | 33 => ⟨S3072x512x16, .i32⟩
  | 34 => ⟨S_, .i32⟩
  | 35 => ⟨S3072x512x16, .i32⟩
  | 36 => ⟨S3072x512x16, .i1⟩
  | 37 => ⟨S_, .bf16⟩
  | 38 => ⟨S_, .bf16⟩
  | 39 => ⟨S3072x512x16, .bf16⟩
  | 40 => ⟨S3072x512x16, .bf16⟩
  | 41 => ⟨S3072x512x16, .bf16⟩
  | 42 => ⟨S_, .bf16⟩
  | 43 => ⟨S_, .bf16⟩
  | 44 => ⟨S3072x512x16, .bf16⟩
  | 45 => ⟨S3072x512x16, .bf16⟩
  | 46 => ⟨S3072x512x16, .bf16⟩
  | 47 => ⟨S3072x512x16, .bf16⟩
  | 48 => ⟨S_, .bf16⟩
  | 49 => ⟨S_, .bf16⟩
  | 50 => ⟨S3072x512x16, .bf16⟩
  | 51 => ⟨S3072x512x16, .bf16⟩
  | 52 => ⟨S3072x512x16, .bf16⟩
  | 53 => ⟨S_, .bf16⟩
  | 54 => ⟨S_, .bf16⟩
  | 55 => ⟨S3072x512x16, .bf16⟩
  | 56 => ⟨S3072x512x16, .bf16⟩
  | 57 => ⟨S3072x512x16, .bf16⟩
  | 58 => ⟨S3072x512x16, .bf16⟩
  | 59 => ⟨S3072x512x16, .bf16⟩
  | 60 => ⟨S3072x512x16, .bf16⟩
  | 61 => ⟨S3072x512x16, .bf16⟩
  | 62 => ⟨S3072x512x16, .bf16⟩
  | 63 => ⟨S3072x512x16, .bf16⟩
  | 64 => ⟨S_, .i32⟩
  | 65 => ⟨S3072x512x16, .i32⟩
  | 66 => ⟨S3072x512x16, .i32⟩
  | 67 => ⟨S_, .i32⟩
  | 68 => ⟨S3072x512x16, .i32⟩
  | 69 => ⟨S3072x512x16, .i32⟩
  | 70 => ⟨S_, .i32⟩
  | 71 => ⟨S3072x512x16, .i32⟩
  | 72 => ⟨S3072x512x16, .i1⟩
  | 73 => ⟨S_, .i32⟩
  | 74 => ⟨S3072x512x16, .i32⟩
  | 75 => ⟨S3072x512x16, .i32⟩
  | 76 => ⟨S_, .i32⟩
  | 77 => ⟨S3072x512x16, .i32⟩
  | 78 => ⟨S3072x512x16, .i1⟩
  | 79 => ⟨S_, .i32⟩
  | 80 => ⟨S3072x512x16, .i32⟩
  | 81 => ⟨S3072x512x16, .i32⟩
  | 82 => ⟨S_, .i32⟩
  | 83 => ⟨S3072x512x16, .i32⟩
  | 84 => ⟨S3072x512x16, .i1⟩
  | 85 => ⟨S_, .i32⟩
  | 86 => ⟨S3072x512x16, .i32⟩
  | 87 => ⟨S3072x512x16, .i32⟩
  | 88 => ⟨S_, .i32⟩
  | 89 => ⟨S3072x512x16, .i32⟩
  | 90 => ⟨S3072x512x16, .i1⟩
  | 91 => ⟨S_, .bf16⟩
  | 92 => ⟨S_, .bf16⟩
  | 93 => ⟨S3072x512x16, .bf16⟩
  | 94 => ⟨S3072x512x16, .bf16⟩
  | 95 => ⟨S3072x512x16, .bf16⟩
  | 96 => ⟨S_, .bf16⟩
  | 97 => ⟨S_, .bf16⟩
  | 98 => ⟨S3072x512x16, .bf16⟩
  | 99 => ⟨S3072x512x16, .bf16⟩
  | 100 => ⟨S3072x512x16, .bf16⟩
  | 101 => ⟨S3072x512x16, .bf16⟩
  | 102 => ⟨S_, .bf16⟩
  | 103 => ⟨S_, .bf16⟩
  | 104 => ⟨S3072x512x16, .bf16⟩
  | 105 => ⟨S3072x512x16, .bf16⟩
  | 106 => ⟨S3072x512x16, .bf16⟩
  | 107 => ⟨S_, .bf16⟩
  | 108 => ⟨S_, .bf16⟩
  | 109 => ⟨S3072x512x16, .bf16⟩
  | 110 => ⟨S3072x512x16, .bf16⟩
  | 111 => ⟨S3072x512x16, .bf16⟩
  | 112 => ⟨S3072x512x16, .bf16⟩
  | 113 => ⟨S3072x512x16, .bf16⟩
  | 114 => ⟨S3072x512x16, .bf16⟩
  | 115 => ⟨S3072x512x16, .bf16⟩
  | 116 => ⟨S3072x512x16, .bf16⟩
  | 117 => ⟨S3072x512x16, .bf16⟩
  | 118 => ⟨S128x3072, .f32⟩
  | 119 => ⟨S128x3072, .f32⟩
  | 120 => ⟨S128x3072, .f32⟩
  | 121 => ⟨S128x3072, .bf16⟩
  | _ => ⟨S1x128x16384, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x128x16384, .bf16⟩

abbrev bufTy : (tb : Table) → Fin (tcTables nBuf tb) → BufTy
  | .hbm, ⟨i, _⟩ => hbmTy i
  | _, _ => ⟨S1x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_7 : Ref sig .tc := ⟨.hbm, 20, rfl⟩
abbrev main_v9 : Ref sig .tc := ⟨.hbm, 21, rfl⟩
abbrev main_v10 : Ref sig .tc := ⟨.hbm, 22, rfl⟩
abbrev main_cst_8 : Ref sig .tc := ⟨.hbm, 23, rfl⟩
abbrev main_cst_9 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_10 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_11 : Ref sig .tc := ⟨.hbm, 37, rfl⟩
abbrev main_v20 : Ref sig .tc := ⟨.hbm, 38, rfl⟩
abbrev main_v21 : Ref sig .tc := ⟨.hbm, 39, rfl⟩
abbrev main_cst_12 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_13 : Ref sig .tc := ⟨.hbm, 44, rfl⟩
abbrev main_v25 : Ref sig .tc := ⟨.hbm, 45, rfl⟩
abbrev main_v26 : Ref sig .tc := ⟨.hbm, 46, rfl⟩
abbrev main_cst_14 : Ref sig .tc := ⟨.hbm, 47, rfl⟩
abbrev main_v27 : Ref sig .tc := ⟨.hbm, 48, rfl⟩
abbrev main_v28 : Ref sig .tc := ⟨.hbm, 49, rfl⟩
abbrev main_cst_15 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_16 : Ref sig .tc := ⟨.hbm, 58, rfl⟩
abbrev main_v36 : Ref sig .tc := ⟨.hbm, 59, rfl⟩
abbrev main_v37 : Ref sig .tc := ⟨.hbm, 60, rfl⟩
abbrev main_c_17 : Ref sig .tc := ⟨.hbm, 61, rfl⟩
abbrev main_v38 : Ref sig .tc := ⟨.hbm, 62, rfl⟩
abbrev main_v39 : Ref sig .tc := ⟨.hbm, 63, rfl⟩
abbrev main_c_18 : Ref sig .tc := ⟨.hbm, 64, rfl⟩
abbrev main_call1_v0 : Ref sig .tc := ⟨.hbm, 65, rfl⟩
abbrev main_call1_v1 : Ref sig .tc := ⟨.hbm, 66, rfl⟩
abbrev main_v40 : Ref sig .tc := ⟨.hbm, 67, rfl⟩
abbrev main_v41 : Ref sig .tc := ⟨.hbm, 68, rfl⟩
abbrev main_c_19 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_20 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_21 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v53 : Ref sig .tc := ⟨.hbm, 86, rfl⟩
abbrev main_cst_22 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_23 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_24 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v66 : Ref sig .tc := ⟨.hbm, 105, rfl⟩
abbrev main_cst_25 : Ref sig .tc := ⟨.hbm, 106, rfl⟩
abbrev main_v67 : Ref sig .tc := ⟨.hbm, 107, rfl⟩
abbrev main_v68 : Ref sig .tc := ⟨.hbm, 108, rfl⟩
abbrev main_cst_26 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_27 : Ref sig .tc := ⟨.hbm, 114, rfl⟩
abbrev main_cst_28 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_v73 : Ref sig .tc := ⟨.hbm, 121, rfl⟩
abbrev main_v74 : Ref sig .tc := ⟨.hbm, 122, rfl⟩
abbrev main_cst_29 : Ref sig .tc := ⟨.hbm, 123, rfl⟩
abbrev main_v75 : Ref sig .tc := ⟨.hbm, 124, rfl⟩
abbrev main_v76 : Ref sig .tc := ⟨.hbm, 125, rfl⟩
abbrev main_cst_30 : Ref sig .tc := ⟨.hbm, 126, rfl⟩
abbrev main_v77 : Ref sig .tc := ⟨.hbm, 127, rfl⟩
abbrev main_v78 : Ref sig .tc := ⟨.hbm, 128, rfl⟩
abbrev main_cst_31 : Ref sig .tc := ⟨.hbm, 129, rfl⟩
abbrev main_cst_32 : Ref sig .tc := ⟨.hbm, 130, rfl⟩
abbrev main_call5_v0 : Ref sig .tc := ⟨.hbm, 131, rfl⟩
abbrev main_call5_v1 : Ref sig .tc := ⟨.hbm, 132, rfl⟩
abbrev main_v79 : Ref sig .tc := ⟨.hbm, 133, rfl⟩
abbrev main_cst_33 : Ref sig .tc := ⟨.hbm, 134, rfl⟩
abbrev main_call6_v0 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_34 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_35 : Ref sig .tc := ⟨.hbm, 148, rfl⟩
abbrev main_v91 : Ref sig .tc := ⟨.hbm, 149, rfl⟩
abbrev main_v92 : Ref sig .tc := ⟨.hbm, 150, rfl⟩
abbrev main_cst_36 : Ref sig .tc := ⟨.hbm, 151, rfl⟩
abbrev main_v93 : Ref sig .tc := ⟨.hbm, 152, rfl⟩
abbrev main_v94 : Ref sig .tc := ⟨.hbm, 153, rfl⟩
abbrev main_cst_37 : Ref sig .tc := ⟨.hbm, 154, rfl⟩
abbrev main_v95 : Ref sig .tc := ⟨.hbm, 155, rfl⟩
abbrev main_v96 : Ref sig .tc := ⟨.hbm, 156, rfl⟩
abbrev main_cst_38 : Ref sig .tc := ⟨.hbm, 157, rfl⟩
abbrev main_v97 : Ref sig .tc := ⟨.hbm, 158, rfl⟩
abbrev main_v98 : Ref sig .tc := ⟨.hbm, 159, rfl⟩
abbrev main_cst_39 : Ref sig .tc := ⟨.hbm, 160, rfl⟩
abbrev main_v99 : Ref sig .tc := ⟨.hbm, 161, rfl⟩
abbrev main_v100 : Ref sig .tc := ⟨.hbm, 162, rfl⟩
abbrev main_cst_40 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_41 : Ref sig .tc := ⟨.hbm, 169, rfl⟩
abbrev main_v106 : Ref sig .tc := ⟨.hbm, 170, rfl⟩
abbrev main_v107 : Ref sig .tc := ⟨.hbm, 171, rfl⟩
abbrev main_c_42 : Ref sig .tc := ⟨.hbm, 172, rfl⟩
abbrev main_c_43 : Ref sig .tc := ⟨.hbm, 173, rfl⟩
abbrev main_call10_v0 : Ref sig .tc := ⟨.hbm, 174, rfl⟩
abbrev main_call10_v1 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_44 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_c_45 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_cst_46 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_47 : Ref sig .tc := ⟨.hbm, 205, rfl⟩
abbrev main_v134 : Ref sig .tc := ⟨.hbm, 206, rfl⟩
abbrev main_v135 : Ref sig .tc := ⟨.hbm, 207, rfl⟩
abbrev main_cst_48 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_49 : Ref sig .tc := ⟨.hbm, 212, rfl⟩
abbrev main_v139 : Ref sig .tc := ⟨.hbm, 213, rfl⟩
abbrev main_v140 : Ref sig .tc := ⟨.hbm, 214, rfl⟩
abbrev main_cst_50 : Ref sig .tc := ⟨.hbm, 215, rfl⟩
abbrev main_v141 : Ref sig .tc := ⟨.hbm, 216, rfl⟩
abbrev main_v142 : Ref sig .tc := ⟨.hbm, 217, rfl⟩
abbrev main_cst_51 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_c_52 : Ref sig .tc := ⟨.hbm, 226, rfl⟩
abbrev main_v150 : Ref sig .tc := ⟨.hbm, 227, rfl⟩
abbrev main_v151 : Ref sig .tc := ⟨.hbm, 228, rfl⟩
abbrev main_c_53 : Ref sig .tc := ⟨.hbm, 229, rfl⟩
abbrev main_v152 : Ref sig .tc := ⟨.hbm, 230, rfl⟩
abbrev main_v153 : Ref sig .tc := ⟨.hbm, 231, rfl⟩
abbrev main_c_54 : Ref sig .tc := ⟨.hbm, 232, rfl⟩
abbrev main_call11_v0 : Ref sig .tc := ⟨.hbm, 233, rfl⟩
abbrev main_call11_v1 : Ref sig .tc := ⟨.hbm, 234, rfl⟩
abbrev main_v154 : Ref sig .tc := ⟨.hbm, 235, rfl⟩
abbrev main_v155 : Ref sig .tc := ⟨.hbm, 236, rfl⟩
abbrev main_c_55 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_c_56 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_cst_57 : Ref sig .tc := ⟨.hbm, 250, rfl⟩
abbrev main_call12_v0 : Ref sig .tc := ⟨.hbm, 251, rfl⟩
abbrev main_call12_v1 : Ref sig .tc := ⟨.hbm, 252, rfl⟩
abbrev main_call12_v2 : Ref sig .tc := ⟨.hbm, 253, rfl⟩
abbrev main_v167 : Ref sig .tc := ⟨.hbm, 254, rfl⟩
abbrev main_cst_58 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_c_59 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_cst_60 : Ref sig .tc := ⟨.hbm, 269, rfl⟩
abbrev main_call13_v0 : Ref sig .tc := ⟨.hbm, 270, rfl⟩
abbrev main_call13_v1 : Ref sig .tc := ⟨.hbm, 271, rfl⟩
abbrev main_call13_v2 : Ref sig .tc := ⟨.hbm, 272, rfl⟩
abbrev main_v180 : Ref sig .tc := ⟨.hbm, 273, rfl⟩
abbrev main_cst_61 : Ref sig .tc := ⟨.hbm, 274, rfl⟩
abbrev main_v181 : Ref sig .tc := ⟨.hbm, 275, rfl⟩
abbrev main_v182 : Ref sig .tc := ⟨.hbm, 276, rfl⟩
abbrev main_cst_62 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_cst_63 : Ref sig .tc := ⟨.hbm, 282, rfl⟩
abbrev main_cst_64 : Ref sig .tc := ⟨.hbm, 283, rfl⟩
abbrev main_call14_v0 : Ref sig .tc := ⟨.hbm, 284, rfl⟩
abbrev main_call14_v1 : Ref sig .tc := ⟨.hbm, 285, rfl⟩
abbrev main_call14_v2 : Ref sig .tc := ⟨.hbm, 286, rfl⟩
abbrev main_call14_v3 : Ref sig .tc := ⟨.hbm, 287, rfl⟩
abbrev main_call14_v4 : Ref sig .tc := ⟨.hbm, 288, rfl⟩
abbrev main_v187 : Ref sig .tc := ⟨.hbm, 289, rfl⟩
abbrev main_v188 : Ref sig .tc := ⟨.hbm, 290, rfl⟩
abbrev main_cst_65 : Ref sig .tc := ⟨.hbm, 291, rfl⟩
abbrev main_v189 : Ref sig .tc := ⟨.hbm, 292, rfl⟩
abbrev main_v190 : Ref sig .tc := ⟨.hbm, 293, rfl⟩
abbrev main_cst_66 : Ref sig .tc := ⟨.hbm, 294, rfl⟩
abbrev main_v191 : Ref sig .tc := ⟨.hbm, 295, rfl⟩
abbrev main_v192 : Ref sig .tc := ⟨.hbm, 296, rfl⟩
abbrev main_cst_67 : Ref sig .tc := ⟨.hbm, 297, rfl⟩
abbrev main_cst_68 : Ref sig .tc := ⟨.hbm, 298, rfl⟩
abbrev main_call15_v0 : Ref sig .tc := ⟨.hbm, 299, rfl⟩
abbrev main_call15_v1 : Ref sig .tc := ⟨.hbm, 300, rfl⟩
abbrev main_v193 : Ref sig .tc := ⟨.hbm, 301, rfl⟩
abbrev main_cst_69 : Ref sig .tc := ⟨.hbm, 302, rfl⟩
abbrev main_call16_v0 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_cst_70 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_cst_71 : Ref sig .tc := ⟨.hbm, 316, rfl⟩
abbrev main_v205 : Ref sig .tc := ⟨.hbm, 317, rfl⟩
abbrev main_v206 : Ref sig .tc := ⟨.hbm, 318, rfl⟩
abbrev main_cst_72 : Ref sig .tc := ⟨.hbm, 319, rfl⟩
abbrev main_v207 : Ref sig .tc := ⟨.hbm, 320, rfl⟩
abbrev main_v208 : Ref sig .tc := ⟨.hbm, 321, rfl⟩
abbrev main_cst_73 : Ref sig .tc := ⟨.hbm, 322, rfl⟩
abbrev main_v209 : Ref sig .tc := ⟨.hbm, 323, rfl⟩
abbrev main_v210 : Ref sig .tc := ⟨.hbm, 324, rfl⟩
abbrev main_cst_74 : Ref sig .tc := ⟨.hbm, 325, rfl⟩
abbrev main_v211 : Ref sig .tc := ⟨.hbm, 326, rfl⟩
abbrev main_v212 : Ref sig .tc := ⟨.hbm, 327, rfl⟩
abbrev main_cst_75 : Ref sig .tc := ⟨.hbm, 328, rfl⟩
abbrev main_v213 : Ref sig .tc := ⟨.hbm, 329, rfl⟩
abbrev main_v214 : Ref sig .tc := ⟨.hbm, 330, rfl⟩
abbrev main_cst_76 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_cst_77 : Ref sig .tc := ⟨.hbm, 337, rfl⟩
abbrev main_v220 : Ref sig .tc := ⟨.hbm, 338, rfl⟩
abbrev main_v221 : Ref sig .tc := ⟨.hbm, 339, rfl⟩
abbrev main_c_78 : Ref sig .tc := ⟨.hbm, 340, rfl⟩
abbrev main_c_79 : Ref sig .tc := ⟨.hbm, 341, rfl⟩
abbrev main_call20_v0 : Ref sig .tc := ⟨.hbm, 342, rfl⟩
abbrev main_call20_v1 : Ref sig .tc := ⟨.hbm, 343, rfl⟩
abbrev main_v222 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_c_80 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_c_81 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_c_82 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_c_83 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_cst_84 : Ref sig .tc := ⟨.hbm, 383, rfl⟩
abbrev main_call21_v0 : Ref sig .tc := ⟨.hbm, 384, rfl⟩
abbrev main_call21_v1 : Ref sig .tc := ⟨.hbm, 385, rfl⟩
abbrev main_call21_v2 : Ref sig .tc := ⟨.hbm, 386, rfl⟩
abbrev main_v257 : Ref sig .tc := ⟨.hbm, 387, rfl⟩
abbrev main_cst_85 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_v261 : Ref sig .tc := ⟨.hbm, 392, rfl⟩
abbrev main_v262 : Ref sig .tc := ⟨.hbm, 393, rfl⟩
abbrev main_c_86 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_c_87 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_cst_88 : Ref sig .tc := ⟨.hbm, 405, rfl⟩
abbrev main_call22_v0 : Ref sig .tc := ⟨.hbm, 406, rfl⟩
abbrev main_call22_v1 : Ref sig .tc := ⟨.hbm, 407, rfl⟩
abbrev main_call22_v2 : Ref sig .tc := ⟨.hbm, 408, rfl⟩
abbrev main_v272 : Ref sig .tc := ⟨.hbm, 409, rfl⟩
abbrev main_cst_89 : Ref sig .tc := ⟨.hbm, 410, rfl⟩
abbrev main_v273 : Ref sig .tc := ⟨.hbm, 411, rfl⟩
abbrev main_v274 : Ref sig .tc := ⟨.hbm, 412, rfl⟩
abbrev main_v275 : Ref sig .tc := ⟨.hbm, 413, rfl⟩
abbrev main_c_90 : Ref sig .tc := ⟨.hbm, 414, rfl⟩
abbrev main_v276 : Ref sig .tc := ⟨.hbm, 415, rfl⟩
abbrev main_v277 : Ref sig .tc := ⟨.hbm, 416, rfl⟩
abbrev main_c_91 : Ref sig .tc := ⟨.hbm, 417, rfl⟩
abbrev main_v278 : Ref sig .tc := ⟨.hbm, 418, rfl⟩
abbrev main_v279 : Ref sig .tc := ⟨.hbm, 419, rfl⟩
abbrev main_c_92 : Ref sig .tc := ⟨.hbm, 420, rfl⟩
abbrev main_v280 : Ref sig .tc := ⟨.hbm, 421, rfl⟩
abbrev main_v281 : Ref sig .tc := ⟨.hbm, 422, rfl⟩
abbrev main_c_93 : Ref sig .tc := ⟨.hbm, 423, rfl⟩
abbrev main_v282 : Ref sig .tc := ⟨.hbm, 424, rfl⟩
abbrev main_v283 : Ref sig .tc := ⟨.hbm, 425, rfl⟩
abbrev main_c_94 : Ref sig .tc := ⟨.hbm, 426, rfl⟩
abbrev main_v284 : Ref sig .tc := ⟨.hbm, 427, rfl⟩
abbrev main_v285 : Ref sig .tc := ⟨.hbm, 428, rfl⟩
abbrev main_c_95 : Ref sig .tc := ⟨.hbm, 429, rfl⟩
abbrev main_v286 : Ref sig .tc := ⟨.hbm, 430, rfl⟩
abbrev main_v287 : Ref sig .tc := ⟨.hbm, 431, rfl⟩
abbrev main_c_96 : Ref sig .tc := ⟨.hbm, 432, rfl⟩
abbrev main_v288 : Ref sig .tc := ⟨.hbm, 433, rfl⟩
abbrev main_v289 : Ref sig .tc := ⟨.hbm, 434, rfl⟩
abbrev main_c_97 : Ref sig .tc := ⟨.hbm, 435, rfl⟩
abbrev main_v290 : Ref sig .tc := ⟨.hbm, 436, rfl⟩
abbrev main_v291 : Ref sig .tc := ⟨.hbm, 437, rfl⟩
abbrev main_c_98 : Ref sig .tc := ⟨.hbm, 438, rfl⟩
abbrev main_v292 : Ref sig .tc := ⟨.hbm, 439, rfl⟩
abbrev main_v293 : Ref sig .tc := ⟨.hbm, 440, rfl⟩
abbrev main_cst_99 : Ref sig .tc := ⟨.hbm, 441, rfl⟩
abbrev main_cst_100 : Ref sig .tc := ⟨.hbm, 442, rfl⟩
abbrev main_call23_v0 : Ref sig .tc := ⟨.hbm, 443, rfl⟩
abbrev main_call23_v1 : Ref sig .tc := ⟨.hbm, 444, rfl⟩
abbrev main_v294 : Ref sig .tc := ⟨.hbm, 445, rfl⟩
abbrev main_cst_101 : Ref sig .tc := ⟨.hbm, 446, rfl⟩
abbrev main_cst_102 : Ref sig .tc := ⟨.hbm, 447, rfl⟩
abbrev main_call24_v0 : Ref sig .tc := ⟨.hbm, 448, rfl⟩
abbrev main_call24_v1 : Ref sig .tc := ⟨.hbm, 449, rfl⟩
abbrev main_v295 : Ref sig .tc := ⟨.hbm, 450, rfl⟩
abbrev main_v296 : Ref sig .tc := ⟨.hbm, 451, rfl⟩
abbrev main_cst_103 : Ref sig .tc := ⟨.hbm, 452, rfl⟩
abbrev main_cst_104 : Ref sig .tc := ⟨.hbm, 453, rfl⟩
abbrev main_call26_v0 : Ref sig .tc := ⟨.hbm, 454, rfl⟩
abbrev main_call26_v1 : Ref sig .tc := ⟨.hbm, 455, rfl⟩
abbrev main_v297 : Ref sig .tc := ⟨.hbm, 456, rfl⟩
abbrev main_cst_105 : Ref sig .tc := ⟨.hbm, 457, rfl⟩
abbrev main_cst_106 : Ref sig .tc := ⟨.hbm, 458, rfl⟩
abbrev main_call27_v0 : Ref sig .tc := ⟨.hbm, 459, rfl⟩
abbrev main_call27_v1 : Ref sig .tc := ⟨.hbm, 460, rfl⟩
abbrev main_v298 : Ref sig .tc := ⟨.hbm, 461, rfl⟩
abbrev main_v299 : Ref sig .tc := ⟨.hbm, 462, rfl⟩
abbrev main_v300 : Ref sig .tc := ⟨.hbm, 463, rfl⟩
abbrev main_v301 : Ref sig .tc := ⟨.hbm, 464, rfl⟩
abbrev main_v302 : Ref sig .tc := ⟨.hbm, 465, rfl⟩
abbrev main_v303 : Ref sig .tc := ⟨.hbm, 466, rfl⟩
abbrev main_v304 : Ref sig .tc := ⟨.hbm, 467, rfl⟩
abbrev main_c_107 : Ref sig .tc := ⟨.hbm, 468, rfl⟩
abbrev main_v305 : Ref sig .tc := ⟨.hbm, 469, rfl⟩
abbrev main_v306 : Ref sig .tc := ⟨.hbm, 470, rfl⟩
abbrev main_c_108 : Ref sig .tc := ⟨.hbm, 471, rfl⟩
abbrev main_v307 : Ref sig .tc := ⟨.hbm, 472, rfl⟩
abbrev main_v308 : Ref sig .tc := ⟨.hbm, 473, rfl⟩
abbrev main_c_109 : Ref sig .tc := ⟨.hbm, 474, rfl⟩
abbrev main_v309 : Ref sig .tc := ⟨.hbm, 475, rfl⟩
abbrev main_v310 : Ref sig .tc := ⟨.hbm, 476, rfl⟩
abbrev main_c_110 : Ref sig .tc := ⟨.hbm, 477, rfl⟩
abbrev main_v311 : Ref sig .tc := ⟨.hbm, 478, rfl⟩
abbrev main_v312 : Ref sig .tc := ⟨.hbm, 479, rfl⟩
abbrev main_c_111 : Ref sig .tc := ⟨.hbm, 480, rfl⟩
abbrev main_v313 : Ref sig .tc := ⟨.hbm, 481, rfl⟩
abbrev main_v314 : Ref sig .tc := ⟨.hbm, 482, rfl⟩
abbrev main_c_112 : Ref sig .tc := ⟨.hbm, 483, rfl⟩
abbrev main_v315 : Ref sig .tc := ⟨.hbm, 484, rfl⟩
abbrev main_v316 : Ref sig .tc := ⟨.hbm, 485, rfl⟩
abbrev main_c_113 : Ref sig .tc := ⟨.hbm, 486, rfl⟩
abbrev main_v317 : Ref sig .tc := ⟨.hbm, 487, rfl⟩
abbrev main_v318 : Ref sig .tc := ⟨.hbm, 488, rfl⟩
abbrev main_c_114 : Ref sig .tc := ⟨.hbm, 489, rfl⟩
abbrev main_v319 : Ref sig .tc := ⟨.hbm, 490, rfl⟩
abbrev main_v320 : Ref sig .tc := ⟨.hbm, 491, rfl⟩
abbrev main_c_115 : Ref sig .tc := ⟨.hbm, 492, rfl⟩
abbrev main_v321 : Ref sig .tc := ⟨.hbm, 493, rfl⟩
abbrev main_v322 : Ref sig .tc := ⟨.hbm, 494, rfl⟩
abbrev main_cst_116 : Ref sig .tc := ⟨.hbm, 495, rfl⟩
abbrev main_cst_117 : Ref sig .tc := ⟨.hbm, 496, rfl⟩
abbrev main_call31_v0 : Ref sig .tc := ⟨.hbm, 497, rfl⟩
abbrev main_call31_v1 : Ref sig .tc := ⟨.hbm, 498, rfl⟩
abbrev main_v323 : Ref sig .tc := ⟨.hbm, 499, rfl⟩
abbrev main_cst_118 : Ref sig .tc := ⟨.hbm, 500, rfl⟩
abbrev main_cst_119 : Ref sig .tc := ⟨.hbm, 501, rfl⟩
abbrev main_call32_v0 : Ref sig .tc := ⟨.hbm, 502, rfl⟩
abbrev main_call32_v1 : Ref sig .tc := ⟨.hbm, 503, rfl⟩
abbrev main_v324 : Ref sig .tc := ⟨.hbm, 504, rfl⟩
abbrev main_v325 : Ref sig .tc := ⟨.hbm, 505, rfl⟩
abbrev main_cst_120 : Ref sig .tc := ⟨.hbm, 506, rfl⟩
abbrev main_cst_121 : Ref sig .tc := ⟨.hbm, 507, rfl⟩
abbrev main_call34_v0 : Ref sig .tc := ⟨.hbm, 508, rfl⟩
abbrev main_call34_v1 : Ref sig .tc := ⟨.hbm, 509, rfl⟩
abbrev main_v326 : Ref sig .tc := ⟨.hbm, 510, rfl⟩
abbrev main_cst_122 : Ref sig .tc := ⟨.hbm, 511, rfl⟩
abbrev main_cst_123 : Ref sig .tc := ⟨.hbm, 512, rfl⟩
abbrev main_call35_v0 : Ref sig .tc := ⟨.hbm, 513, rfl⟩
abbrev main_call35_v1 : Ref sig .tc := ⟨.hbm, 514, rfl⟩
abbrev main_v327 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_v331 : Ref sig .tc := ⟨.hbm, 519, rfl⟩
abbrev main_v332 : Ref sig .tc := ⟨.hbm, 520, rfl⟩
abbrev main_v333 : Ref sig .tc := ⟨.hbm, 521, rfl⟩
abbrev main_c_124 : Ref sig .tc := ⟨.hbm, 522, rfl⟩
abbrev main_v334 : Ref sig .tc := ⟨.hbm, 523, rfl⟩
abbrev main_v335 : Ref sig .tc := ⟨.hbm, 524, rfl⟩
abbrev main_c_125 : Ref sig .tc := ⟨.hbm, 525, rfl⟩
abbrev main_v336 : Ref sig .tc := ⟨.hbm, 526, rfl⟩
abbrev main_v337 : Ref sig .tc := ⟨.hbm, 527, rfl⟩
abbrev main_c_126 : Ref sig .tc := ⟨.hbm, 528, rfl⟩
abbrev main_v338 : Ref sig .tc := ⟨.hbm, 529, rfl⟩
abbrev main_v339 : Ref sig .tc := ⟨.hbm, 530, rfl⟩
abbrev main_c_127 : Ref sig .tc := ⟨.hbm, 531, rfl⟩
abbrev main_v340 : Ref sig .tc := ⟨.hbm, 532, rfl⟩
abbrev main_v341 : Ref sig .tc := ⟨.hbm, 533, rfl⟩
abbrev main_c_128 : Ref sig .tc := ⟨.hbm, 534, rfl⟩
abbrev main_v342 : Ref sig .tc := ⟨.hbm, 535, rfl⟩
abbrev main_v343 : Ref sig .tc := ⟨.hbm, 536, rfl⟩
abbrev main_c_129 : Ref sig .tc := ⟨.hbm, 537, rfl⟩
abbrev main_v344 : Ref sig .tc := ⟨.hbm, 538, rfl⟩
abbrev main_v345 : Ref sig .tc := ⟨.hbm, 539, rfl⟩
abbrev main_c_130 : Ref sig .tc := ⟨.hbm, 540, rfl⟩
abbrev main_v346 : Ref sig .tc := ⟨.hbm, 541, rfl⟩
abbrev main_v347 : Ref sig .tc := ⟨.hbm, 542, rfl⟩
abbrev main_c_131 : Ref sig .tc := ⟨.hbm, 543, rfl⟩
abbrev main_v348 : Ref sig .tc := ⟨.hbm, 544, rfl⟩
abbrev main_v349 : Ref sig .tc := ⟨.hbm, 545, rfl⟩
abbrev main_c_132 : Ref sig .tc := ⟨.hbm, 546, rfl⟩
abbrev main_v350 : Ref sig .tc := ⟨.hbm, 547, rfl⟩
abbrev main_v351 : Ref sig .tc := ⟨.hbm, 548, rfl⟩
abbrev main_cst_133 : Ref sig .tc := ⟨.hbm, 549, rfl⟩
abbrev main_cst_134 : Ref sig .tc := ⟨.hbm, 550, rfl⟩
abbrev main_call39_v0 : Ref sig .tc := ⟨.hbm, 551, rfl⟩
abbrev main_call39_v1 : Ref sig .tc := ⟨.hbm, 552, rfl⟩
abbrev main_v352 : Ref sig .tc := ⟨.hbm, 553, rfl⟩
abbrev main_cst_135 : Ref sig .tc := ⟨.hbm, 554, rfl⟩
abbrev main_cst_136 : Ref sig .tc := ⟨.hbm, 555, rfl⟩
abbrev main_call40_v0 : Ref sig .tc := ⟨.hbm, 556, rfl⟩
abbrev main_call40_v1 : Ref sig .tc := ⟨.hbm, 557, rfl⟩
abbrev main_v353 : Ref sig .tc := ⟨.hbm, 558, rfl⟩
abbrev main_v354 : Ref sig .tc := ⟨.hbm, 559, rfl⟩
abbrev main_cst_137 : Ref sig .tc := ⟨.hbm, 560, rfl⟩
abbrev main_cst_138 : Ref sig .tc := ⟨.hbm, 561, rfl⟩
abbrev main_call42_v0 : Ref sig .tc := ⟨.hbm, 562, rfl⟩
abbrev main_call42_v1 : Ref sig .tc := ⟨.hbm, 563, rfl⟩
abbrev main_v355 : Ref sig .tc := ⟨.hbm, 564, rfl⟩
abbrev main_cst_139 : Ref sig .tc := ⟨.hbm, 565, rfl⟩
abbrev main_cst_140 : Ref sig .tc := ⟨.hbm, 566, rfl⟩
abbrev main_call43_v0 : Ref sig .tc := ⟨.hbm, 567, rfl⟩
abbrev main_call43_v1 : Ref sig .tc := ⟨.hbm, 568, rfl⟩
abbrev main_v356 : Ref sig .tc := ⟨.hbm, 569, rfl⟩
abbrev main_v357 : Ref sig .tc := ⟨.hbm, 570, rfl⟩
abbrev main_v358 : Ref sig .tc := ⟨.hbm, 571, rfl⟩
abbrev main_v359 : Ref sig .tc := ⟨.hbm, 572, rfl⟩
abbrev main_v360 : Ref sig .tc := ⟨.hbm, 573, rfl⟩
abbrev main_v361 : Ref sig .tc := ⟨.hbm, 574, rfl⟩
abbrev main_v362 : Ref sig .tc := ⟨.hbm, 575, rfl⟩
abbrev main_c_141 : Ref sig .tc := ⟨.hbm, 576, rfl⟩
abbrev main_v363 : Ref sig .tc := ⟨.hbm, 577, rfl⟩
abbrev main_v364 : Ref sig .tc := ⟨.hbm, 578, rfl⟩
abbrev main_c_142 : Ref sig .tc := ⟨.hbm, 579, rfl⟩
abbrev main_v365 : Ref sig .tc := ⟨.hbm, 580, rfl⟩
abbrev main_v366 : Ref sig .tc := ⟨.hbm, 581, rfl⟩
abbrev main_c_143 : Ref sig .tc := ⟨.hbm, 582, rfl⟩
abbrev main_v367 : Ref sig .tc := ⟨.hbm, 583, rfl⟩
abbrev main_v368 : Ref sig .tc := ⟨.hbm, 584, rfl⟩
abbrev main_c_144 : Ref sig .tc := ⟨.hbm, 585, rfl⟩
abbrev main_v369 : Ref sig .tc := ⟨.hbm, 586, rfl⟩
abbrev main_v370 : Ref sig .tc := ⟨.hbm, 587, rfl⟩
abbrev main_c_145 : Ref sig .tc := ⟨.hbm, 588, rfl⟩
abbrev main_v371 : Ref sig .tc := ⟨.hbm, 589, rfl⟩
abbrev main_v372 : Ref sig .tc := ⟨.hbm, 590, rfl⟩
abbrev main_c_146 : Ref sig .tc := ⟨.hbm, 591, rfl⟩
abbrev main_v373 : Ref sig .tc := ⟨.hbm, 592, rfl⟩
abbrev main_v374 : Ref sig .tc := ⟨.hbm, 593, rfl⟩
abbrev main_c_147 : Ref sig .tc := ⟨.hbm, 594, rfl⟩
abbrev main_v375 : Ref sig .tc := ⟨.hbm, 595, rfl⟩
abbrev main_v376 : Ref sig .tc := ⟨.hbm, 596, rfl⟩
abbrev main_c_148 : Ref sig .tc := ⟨.hbm, 597, rfl⟩
abbrev main_v377 : Ref sig .tc := ⟨.hbm, 598, rfl⟩
abbrev main_v378 : Ref sig .tc := ⟨.hbm, 599, rfl⟩
abbrev main_c_149 : Ref sig .tc := ⟨.hbm, 600, rfl⟩
abbrev main_v379 : Ref sig .tc := ⟨.hbm, 601, rfl⟩
abbrev main_v380 : Ref sig .tc := ⟨.hbm, 602, rfl⟩
abbrev main_cst_150 : Ref sig .tc := ⟨.hbm, 603, rfl⟩
abbrev main_cst_151 : Ref sig .tc := ⟨.hbm, 604, rfl⟩
abbrev main_call47_v0 : Ref sig .tc := ⟨.hbm, 605, rfl⟩
abbrev main_call47_v1 : Ref sig .tc := ⟨.hbm, 606, rfl⟩
abbrev main_v381 : Ref sig .tc := ⟨.hbm, 607, rfl⟩
abbrev main_cst_152 : Ref sig .tc := ⟨.hbm, 608, rfl⟩
abbrev main_cst_153 : Ref sig .tc := ⟨.hbm, 609, rfl⟩
abbrev main_call48_v0 : Ref sig .tc := ⟨.hbm, 610, rfl⟩
abbrev main_call48_v1 : Ref sig .tc := ⟨.hbm, 611, rfl⟩
abbrev main_v382 : Ref sig .tc := ⟨.hbm, 612, rfl⟩
abbrev main_v383 : Ref sig .tc := ⟨.hbm, 613, rfl⟩
abbrev main_cst_154 : Ref sig .tc := ⟨.hbm, 614, rfl⟩
abbrev main_cst_155 : Ref sig .tc := ⟨.hbm, 615, rfl⟩
abbrev main_call50_v0 : Ref sig .tc := ⟨.hbm, 616, rfl⟩
abbrev main_call50_v1 : Ref sig .tc := ⟨.hbm, 617, rfl⟩
abbrev main_v384 : Ref sig .tc := ⟨.hbm, 618, rfl⟩
abbrev main_cst_156 : Ref sig .tc := ⟨.hbm, 619, rfl⟩
abbrev main_cst_157 : Ref sig .tc := ⟨.hbm, 620, rfl⟩
abbrev main_call51_v0 : Ref sig .tc := ⟨.hbm, 621, rfl⟩
abbrev main_call51_v1 : Ref sig .tc := ⟨.hbm, 622, rfl⟩
abbrev main_v385 : Ref sig .tc := ⟨.hbm, 623, rfl⟩
abbrev main_v386 : Ref sig .tc := ⟨.hbm, 624, rfl⟩
abbrev main_v387 : Ref sig .tc := ⟨.hbm, 625, rfl⟩
abbrev main_v388 : Ref sig .tc := ⟨.hbm, 626, rfl⟩
abbrev main_v389 : Ref sig .tc := ⟨.hbm, 627, rfl⟩
abbrev main_v390 : Ref sig .tc := ⟨.hbm, 628, rfl⟩
abbrev main_v391 : Ref sig .tc := ⟨.hbm, 629, rfl⟩
abbrev main_v392 : Ref sig .tc := ⟨.hbm, 630, rfl⟩
abbrev main_v393 : Ref sig .tc := ⟨.hbm, 631, rfl⟩
abbrev main_v394 : Ref sig .tc := ⟨.hbm, 632, rfl⟩
abbrev main_v395 : Ref sig .tc := ⟨.hbm, 633, rfl⟩

abbrev nD : Nat := 1
abbrev τ : Topo := Topo.v7x

variable {F : FTy → Type} [FloatOps F]
-- ==== Proof.K.Tile.lean ====
module

public import proofs.«01_k».proof.Proof.Gen.Kernel

/-! # One tile of the quantiser

The body quantises a 256 × 128 tile of rotated values at a time: eight blocks of 32 rows. This file
names the values such a tile computes and writes the tile as one program over the two scratch
arrays, generic in the scratch slot `s`. The trips of the two loops are these programs in a row. -/

@[expose] public section
set_option maxRecDepth 16384

noncomputable section

namespace Cert.Kernel.Tile

open Cert.Kernel Cert.Kernel.Gen
open Idealize.ShloMosaic Idealize.ShloMosaic.TcCoe
open Idealize.SL Idealize.SL.Sem

variable {F : FTy → Type} [FloatOps F]

/-- The sums of squares of each run of four rows eight apart. -/
def partSum (r4 : FVec F S256x128 .f32) : FVec F S64x128 .f32 :=
  shapeCast S64x128 (multiReduction .add [1] S8x8x128
    (shapeCast S8x4x8x128 (mulf r4 r4) shapeCasts_S256x128_S8x4x8x128) 0x00000000#32
    reduces_S8x4x8x128_S8x8x128 (.inl rfl) rfl) shapeCasts_S8x8x128_S64x128

/-- The root mean square of each block, from the eight partial sums. -/
def rms (a0 a1 a2 a3 a4 a5 a6 a7 : FVec F S8x128 .f32) : FVec F S8x128 .f32 :=
  sqrt (mulf (addf (addf (addf (addf (addf (addf (addf a0 a1) a2) a3) a4) a5) a6) a7)
    (broadcast S8x128 (Scalar.ofBits .f32 0x3C800000#32)))

/-- The amplitude each block is scaled by, before it is rounded down to a power of two. -/
def amp (r : FVec F S8x128 .f32) : FVec F S8x128 .f32 :=
  mulf (mulf (broadcast S8x128 (Scalar.ofBits .f32 0x403AE148#32)) r)
    (broadcast S8x128 (Scalar.ofBits .f32 0x3E2AAAAB#32))

/-- The float whose exponent field is `e` and whose other bits are zero. -/
def powBits (e : IVec S8x128 32) : FVec F S8x128 .f32 :=
  bitcastToFloat .f32 (shli e (broadcast S8x128 23#32))

/-- One step of the search for the exponent field: keep the bit if the amplitude reaches it. -/
def search1 (a : FVec F S8x128 .f32) (b : BitVec 32) (e : IVec S8x128 32) : IVec S8x128 32 :=
  select (cmpf .oge a (powBits (addi e (broadcast S8x128 b)))) (addi e (broadcast S8x128 b)) e

/-- The exponent field of the amplitude, bit by bit. -/
def search (a : FVec F S8x128 .f32) : IVec S8x128 32 :=
  search1 a 1#32 (search1 a 2#32 (search1 a 4#32 (search1 a 8#32 (search1 a 16#32 (search1 a 32#32
    (search1 a 64#32 (search1 a 128#32 (broadcast S8x128 0#32))))))))

/-- The scale code of each block: the exponent field, 127 for a block of zeros. -/
def code (r : FVec F S8x128 .f32) : IVec S8x128 32 :=
  select (cmpf .oeq r (broadcast S8x128 (Scalar.ofBits .f32 0x00000000#32)))
    (broadcast S8x128 127#32) (search (amp r))

/-- The multiplier of a block: the inverse of its scale times the rotation's leftover factor. -/
def row0 (e : IVec S8x128 32) : FVec F S8x128 .f32 :=
  mulf (powBits (subi (broadcast S8x128 254#32) e))
    (broadcast S8x128 (Scalar.ofBits .f32 0x3F3504F3#32))

/-- The square above which a value of the block is clipped. -/
def row1 (e : IVec S8x128 32) : FVec F S8x128 .f32 :=
  mulf (mulf (powBits e) (powBits e)) (broadcast S8x128 (Scalar.ofBits .f32 0x42900000#32))

/-- A row of the scratch as the store takes it. -/
def up (x : FVec F S8x128 .f32) : FVec F S1x8x128 .f32 :=
  shapeCast S1x8x128 x shapeCasts_S8x128_S1x8x128

/-- A row read back from the scratch, spread over the 32 rows of its block. -/
def spread (x : FVec F S1x1x128 .f32) : FVec F S32x128 .f32 :=
  broadcastTo S32x128 (shapeCast S1x128 x shapeCasts_S1x1x128_S1x128) broadcasts_S1x128_S32x128

/-- The scale row read back, spread over its block and rounded to bf16. -/
def spreadP (x : FVec F S1x1x128 .f32) : FVec F S32x128 .bf16 :=
  truncf .bf16 (broadcastTo S32x128 (shapeCast S1x128 (shapeCast S1x128 x
    shapeCasts_S1x1x128_S1x128) shapeCasts_S1x128_S1x128) broadcasts_S1x128_S32x128)
    bitsLt_bf16_f32

/-- One threshold of the four-bit code. -/
def step1 (c : IVec S256x128 1) (n : IVec S256x128 32) : IVec S256x128 32 :=
  addi n (select c (broadcast S256x128 1#32) (broadcast S256x128 0#32))

/-- The four-bit code of each value: the sign bit and the count of thresholds passed. -/
def toE2m1 (v : FVec F S256x128 .f32) : IVec S256x128 32 :=
  step1 (cmpf .ogt (absf v) (broadcast S256x128 (Scalar.ofBits .f32 0x40A00000#32)))
  (step1 (cmpf .oge (absf v) (broadcast S256x128 (Scalar.ofBits .f32 0x40600000#32)))
  (step1 (cmpf .ogt (absf v) (broadcast S256x128 (Scalar.ofBits .f32 0x40200000#32)))
  (step1 (cmpf .oge (absf v) (broadcast S256x128 (Scalar.ofBits .f32 0x3FE00000#32)))
  (step1 (cmpf .ogt (absf v) (broadcast S256x128 (Scalar.ofBits .f32 0x3FA00000#32)))
  (step1 (cmpf .oge (absf v) (broadcast S256x128 (Scalar.ofBits .f32 0x3F400000#32)))
  (step1 (cmpf .ogt (absf v) (broadcast S256x128 (Scalar.ofBits .f32 0x3E800000#32)))
    (select (cmpf .olt v (broadcast S256x128 (Scalar.ofBits .f32 0x00000000#32)))
      (broadcast S256x128 8#32) (broadcast S256x128 0#32))))))))

/-- The magnitude a code stands for. -/
def magE2m1 (f : FVec F S256x128 .f32) (n : IVec S256x128 32) : FVec F S256x128 .f32 :=
  select (cmpi .slt n (broadcast S256x128 4#32))
    (mulf f (broadcast S256x128 (Scalar.ofBits .f32 0x3F000000#32)))
    (select (cmpi .slt n (broadcast S256x128 6#32))
      (subf f (broadcast S256x128 (Scalar.ofBits .f32 0x40000000#32)))
      (subf (mulf f (broadcast S256x128 (Scalar.ofBits .f32 0x40000000#32)))
        (broadcast S256x128 (Scalar.ofBits .f32 0x41000000#32))))

/-- The value a code stands for. -/
def fromE2m1 (q : IVec S256x128 32) : FVec F S256x128 .bf16 :=
  truncf .bf16 (select (cmpi .sge q (broadcast S256x128 8#32))
    (subf (broadcast S256x128 (Scalar.ofBits .f32 0x00000000#32))
      (magE2m1 (sitofp .f32 (andi q (broadcast S256x128 7#32))) (andi q (broadcast S256x128 7#32))))
    (magE2m1 (sitofp .f32 (andi q (broadcast S256x128 7#32)))
      (andi q (broadcast S256x128 7#32)))) bitsLt_bf16_f32

/-- Eight four-bit codes to a word. -/
def pack4 (q : IVec S256x128 32) : IVec S32x128 32 :=
  multiReductionI .add [1] S32x128
    (shli (shapeCast S32x8x128 q shapeCasts_S256x128_S32x8x128)
      (muli (broadcast S32x8x128 4#32) (iota .tc S32x8x128 32 [1] iota_S32x8x128_d1_w32)))
    0#32 reduces_S32x8x128_S32x128 rfl

/-- Clear the sign bit of the codes whose magnitude is zero. -/
def clearNeg0 (w : IVec S32x128 32) : IVec S32x128 32 :=
  andi w (ori (addi (andi w (broadcast S32x128 2004318071#32)) (broadcast S32x128 2004318071#32))
    (broadcast S32x128 2004318071#32))

/-- The bytes of the codes of a tile, one row of the operand to a row. -/
def codeBytes (q : IVec S256x128 32) : IVec S128x128 8 :=
  transpose S128x128 [1, 0] (bitcast S128x128 8 (clearNeg0 (pack4 q))
    bitcasts_S32x128_w32_S128x128_w8) transposes_S128x128_p1_0_S128x128

/-- A word for each eight rows to a nibble for each row, keeping the two low bits. -/
def nib32 (w : IVec S32x128 32) : IVec S256x128 32 :=
  andi (shapeCast S256x128 (andi (shrui (broadcastTo S32x8x128 (shapeCast S32x1x128
    (shapeCast S32x1x128 w shapeCasts_S32x128_S32x1x128) shapeCasts_S32x1x128_S32x1x128)
    broadcasts_S32x1x128_S32x8x128) (muli (broadcast S32x8x128 4#32)
      (iota .tc S32x8x128 32 [1] iota_S32x8x128_d1_w32))) (broadcast S32x8x128 15#32))
    shapeCasts_S32x8x128_S256x128) (broadcast S256x128 3#32)

/-- Sixteen two-bit codes to a word, keeping the even bits. -/
def pack2a (n : IVec S256x128 32) : IVec S16x128 32 :=
  andi (multiReductionI .add [1] S16x128
    (shli (shapeCast S16x16x128 n shapeCasts_S256x128_S16x16x128)
      (muli (broadcast S16x16x128 2#32) (iota .tc S16x16x128 32 [1] iota_S16x16x128_d1_w32)))
    0#32 reduces_S16x16x128_S16x128 rfl) (broadcast S16x128 1431655765#32)

/-- Fold a word onto itself shifted by one. -/
def fold1 (w : IVec S16x128 32) : IVec S16x128 32 := ori w (shrui w (broadcast S16x128 1#32))

/-- A word for each sixteen rows to a nibble for each two rows, keeping the two low bits. -/
def nib16 (w : IVec S16x128 32) : IVec S128x128 32 :=
  andi (shapeCast S128x128 (andi (shrui (broadcastTo S16x8x128 (shapeCast S16x1x128
    (shapeCast S16x1x128 w shapeCasts_S16x128_S16x1x128) shapeCasts_S16x1x128_S16x1x128)
    broadcasts_S16x1x128_S16x8x128) (muli (broadcast S16x8x128 4#32)
      (iota .tc S16x8x128 32 [1] iota_S16x8x128_d1_w32))) (broadcast S16x8x128 15#32))
    shapeCasts_S16x8x128_S128x128) (broadcast S128x128 3#32)

/-- Sixteen two-bit codes to a word. -/
def pack2b (n : IVec S128x128 32) : IVec S8x128 32 :=
  multiReductionI .add [1] S8x128
    (shli (shapeCast S8x16x128 n shapeCasts_S128x128_S8x16x128)
      (muli (broadcast S8x16x128 2#32) (iota .tc S8x16x128 32 [1] iota_S8x16x128_d1_w32)))
    0#32 reduces_S8x16x128_S8x128 rfl

/-- The mask words of a tile: a bit for each row, set where the value is not clipped. -/
def maskWord (d : FVec F S256x128 .f32) : IVec S8x128 32 :=
  xori (pack2b (nib16 (fold1 (pack2a (nib32 (shrui (pack4 (toE2m1 d))
    (broadcast S32x128 3#32))))))) (constantI S8x128 32 4294967295#32)

/-- The dequantised tile: the value each code stands for, times the scale. -/
def deqOf (q : IVec S256x128 32) (p : FVec F S256x128 .bf16) : FVec F S256x128 .bf16 :=
  mulf (fromE2m1 q) p

/-- The codes as the store into the scratch of scale codes takes them. -/
def upI (e : IVec S8x128 32) : IVec S1x8x128 32 := shapeCast S1x8x128 e shapeCasts_S8x128_S1x8x128

/-- What a tile computes. -/
structure Out (F : FTy → Type) where
  /-- the scale codes -/
  e : IVec S8x128 32
  /-- the scaled values -/
  v : FVec F S256x128 .f32
  /-- how far the square of each value is below the clipping bound -/
  d : FVec F S256x128 .f32
  /-- the scales -/
  p : FVec F S256x128 .bf16

/-- What a tile computes, from the rows read back from the scratch. -/
def outOf (r4 : FVec F S256x128 .f32) (e : IVec S8x128 32)
    (x0 y0 z0 : FVec F S1x1x128 .f32) (x1 y1 z1 : FVec F S1x1x128 .f32) (x2 y2 z2 : FVec F S1x1x128 .f32) (x3 y3 z3 : FVec F S1x1x128 .f32) (x4 y4 z4 : FVec F S1x1x128 .f32) (x5 y5 z5 : FVec F S1x1x128 .f32) (x6 y6 z6 : FVec F S1x1x128 .f32) (x7 y7 z7 : FVec F S1x1x128 .f32) : Out F where
  e := e
  v := concatenate S256x128 0 [⟨S32x128, mulf (extractStridedSlice S32x128 ![0, 0] r4 slices_S256x128_o0_0_S32x128) (spread x0)⟩, ⟨S32x128, mulf (extractStridedSlice S32x128 ![32, 0] r4 slices_S256x128_o32_0_S32x128) (spread x1)⟩, ⟨S32x128, mulf (extractStridedSlice S32x128 ![64, 0] r4 slices_S256x128_o64_0_S32x128) (spread x2)⟩, ⟨S32x128, mulf (extractStridedSlice S32x128 ![96, 0] r4 slices_S256x128_o96_0_S32x128) (spread x3)⟩, ⟨S32x128, mulf (extractStridedSlice S32x128 ![128, 0] r4 slices_S256x128_o128_0_S32x128) (spread x4)⟩, ⟨S32x128, mulf (extractStridedSlice S32x128 ![160, 0] r4 slices_S256x128_o160_0_S32x128) (spread x5)⟩, ⟨S32x128, mulf (extractStridedSlice S32x128 ![192, 0] r4 slices_S256x128_o192_0_S32x128) (spread x6)⟩, ⟨S32x128, mulf (extractStridedSlice S32x128 ![224, 0] r4 slices_S256x128_o224_0_S32x128) (spread x7)⟩] concatenates_S32x128_S32x128_S32x128_S32x128_S32x128_S32x128_S32x128_S32x128_S256x128_d0
  d := concatenate S256x128 0 [⟨S32x128, subf (spread y0) (extractStridedSlice S32x128 ![0, 0] (mulf r4 r4) slices_S256x128_o0_0_S32x128)⟩, ⟨S32x128, subf (spread y1) (extractStridedSlice S32x128 ![32, 0] (mulf r4 r4) slices_S256x128_o32_0_S32x128)⟩, ⟨S32x128, subf (spread y2) (extractStridedSlice S32x128 ![64, 0] (mulf r4 r4) slices_S256x128_o64_0_S32x128)⟩, ⟨S32x128, subf (spread y3) (extractStridedSlice S32x128 ![96, 0] (mulf r4 r4) slices_S256x128_o96_0_S32x128)⟩, ⟨S32x128, subf (spread y4) (extractStridedSlice S32x128 ![128, 0] (mulf r4 r4) slices_S256x128_o128_0_S32x128)⟩, ⟨S32x128, subf (spread y5) (extractStridedSlice S32x128 ![160, 0] (mulf r4 r4) slices_S256x128_o160_0_S32x128)⟩, ⟨S32x128, subf (spread y6) (extractStridedSlice S32x128 ![192, 0] (mulf r4 r4) slices_S256x128_o192_0_S32x128)⟩, ⟨S32x128, subf (spread y7) (extractStridedSlice S32x128 ![224, 0] (mulf r4 r4) slices_S256x128_o224_0_S32x128)⟩] concatenates_S32x128_S32x128_S32x128_S32x128_S32x128_S32x128_S32x128_S32x128_S256x128_d0
  p := concatenate S256x128 0 [⟨S32x128, spreadP z0⟩, ⟨S32x128, spreadP z1⟩, ⟨S32x128, spreadP z2⟩, ⟨S32x128, spreadP z3⟩, ⟨S32x128, spreadP z4⟩, ⟨S32x128, spreadP z5⟩, ⟨S32x128, spreadP z6⟩, ⟨S32x128, spreadP z7⟩] concatenates_S32x128_S32x128_S32x128_S32x128_S32x128_S32x128_S32x128_S32x128_S256x128_d0

/-- The rectangle of slot `s` of the partial sums. -/
abbrev slot14 (s : ℕ) (h : ∀ a, (![s, 0, 0] : Fin 3 → ℕ) a + S1x64x128.size a ≤ S8x64x128.size a) :
    Rect S8x64x128 := Rect.unit (s := S8x64x128) ![s, 0, 0] S1x64x128.size h

/-- Slot `s` of the partial sums. -/
abbrev sub14 (arg14 : Memref sig .tc .vmem S8x64x128 .f32) (s : ℕ)
    (h : ∀ a, (![s, 0, 0] : Fin 3 → ℕ) a + S1x64x128.size a ≤ S8x64x128.size a) :
    Memref sig .tc .vmem S64x128 .f32 :=
  (arg14.slice (slot14 s h) (fun _ => rfl)).squeeze S64x128 squeezes_S1x64x128_S64x128

/-- Slot `s` of the rows. -/
abbrev sub15 (arg15 : Memref sig .tc .vmem S8x3x8x128 .f32) (s : ℕ)
    (h : ∀ a, (![s, 0, 0, 0] : Fin 4 → ℕ) a + S1x3x8x128.size a ≤ S8x3x8x128.size a) :
    Memref sig .tc .vmem S3x8x128 .f32 :=
  (arg15.slice (Rect.unit (s := S8x3x8x128) ![s, 0, 0, 0] S1x3x8x128.size h)
    (fun _ => rfl)).squeeze S3x8x128 squeezes_S1x3x8x128_S3x8x128

/-- The tile as a program over the two scratch arrays. -/
def tile (arg14 : Memref sig .tc .vmem S8x64x128 .f32) (arg15 : Memref sig .tc .vmem S8x3x8x128 .f32)
    (s : ℕ) (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) : Prog (TpuEff nD τ sig (Elt F) Λ₀ .tc) (Out F) := do
  let _ : Vec F S1x64x128 .f32 ← Prog.lift (.load arg14 (slot14 s h14).toLoadRect (View.loadsAt_vmem h_S1x64x128))
  Prog.lift (.store arg14 (slot14 s h14) (shapeCast S1x64x128 (partSum r4) shapeCasts_S64x128_S1x64x128) Finset.univ (View.stores_vmem_bits_univ h_S1x64x128 rfl) (.inl rfl))
  let a0 : Vec F S8x128 .f32 ← Prog.lift (.load (sub14 arg14 s h14) (⟨![0, 0], S8x128.size, ![8, 1], inb_S64x128_S8x128_0_0_s_8_1⟩ : LoadRect S64x128) (View.loadsAt_vmem h_S8x128))
  let a1 : Vec F S8x128 .f32 ← Prog.lift (.load (sub14 arg14 s h14) (⟨![1, 0], S8x128.size, ![8, 1], inb_S64x128_S8x128_1_0_s_8_1⟩ : LoadRect S64x128) (View.loadsAt_vmem h_S8x128))
  let a2 : Vec F S8x128 .f32 ← Prog.lift (.load (sub14 arg14 s h14) (⟨![2, 0], S8x128.size, ![8, 1], inb_S64x128_S8x128_2_0_s_8_1⟩ : LoadRect S64x128) (View.loadsAt_vmem h_S8x128))
  let a3 : Vec F S8x128 .f32 ← Prog.lift (.load (sub14 arg14 s h14) (⟨![3, 0], S8x128.size, ![8, 1], inb_S64x128_S8x128_3_0_s_8_1⟩ : LoadRect S64x128) (View.loadsAt_vmem h_S8x128))
  let a4 : Vec F S8x128 .f32 ← Prog.lift (.load (sub14 arg14 s h14) (⟨![4, 0], S8x128.size, ![8, 1], inb_S64x128_S8x128_4_0_s_8_1⟩ : LoadRect S64x128) (View.loadsAt_vmem h_S8x128))
  let a5 : Vec F S8x128 .f32 ← Prog.lift (.load (sub14 arg14 s h14) (⟨![5, 0], S8x128.size, ![8, 1], inb_S64x128_S8x128_5_0_s_8_1⟩ : LoadRect S64x128) (View.loadsAt_vmem h_S8x128))
  let a6 : Vec F S8x128 .f32 ← Prog.lift (.load (sub14 arg14 s h14) (⟨![6, 0], S8x128.size, ![8, 1], inb_S64x128_S8x128_6_0_s_8_1⟩ : LoadRect S64x128) (View.loadsAt_vmem h_S8x128))
  let a7 : Vec F S8x128 .f32 ← Prog.lift (.load (sub14 arg14 s h14) (⟨![7, 0], S8x128.size, ![8, 1], inb_S64x128_S8x128_7_0_s_8_1⟩ : LoadRect S64x128) (View.loadsAt_vmem h_S8x128))
  let e := code (rms a0 a1 a2 a3 a4 a5 a6 a7)
  let _ : Vec F S1x8x128 .f32 ← Prog.lift (.load (sub15 arg15 s h15) (Rect.unit (s := S3x8x128) ![0, 0, 0] S1x8x128.size inb_S3x8x128_S1x8x128_0_0_0).toLoadRect (View.loadsAt_vmem h_S1x8x128))
  Prog.lift (.store (sub15 arg15 s h15) (Rect.unit (s := S3x8x128) ![0, 0, 0] S1x8x128.size inb_S3x8x128_S1x8x128_0_0_0) (up (row0 e)) Finset.univ (View.stores_vmem_bits_univ h_S1x8x128 rfl) (.inl rfl))
  let _ : Vec F S1x8x128 .f32 ← Prog.lift (.load (sub15 arg15 s h15) (Rect.unit (s := S3x8x128) ![1, 0, 0] S1x8x128.size inb_S3x8x128_S1x8x128_1_0_0).toLoadRect (View.loadsAt_vmem h_S1x8x128))
  Prog.lift (.store (sub15 arg15 s h15) (Rect.unit (s := S3x8x128) ![1, 0, 0] S1x8x128.size inb_S3x8x128_S1x8x128_1_0_0) (up (row1 e)) Finset.univ (View.stores_vmem_bits_univ h_S1x8x128 rfl) (.inl rfl))
  let _ : Vec F S1x8x128 .f32 ← Prog.lift (.load (sub15 arg15 s h15) (Rect.unit (s := S3x8x128) ![2, 0, 0] S1x8x128.size inb_S3x8x128_S1x8x128_2_0_0).toLoadRect (View.loadsAt_vmem h_S1x8x128))
  Prog.lift (.store (sub15 arg15 s h15) (Rect.unit (s := S3x8x128) ![2, 0, 0] S1x8x128.size inb_S3x8x128_S1x8x128_2_0_0) (up (powBits e)) Finset.univ (View.stores_vmem_bits_univ h_S1x8x128 rfl) (.inl rfl))
  let x0 : Vec F S1x1x128 .f32 ← Prog.lift (.load (sub15 arg15 s h15) (Rect.unit (s := S3x8x128) ![0, 0, 0] S1x1x128.size inb_S3x8x128_S1x1x128_0_0_0).toLoadRect (View.loadsAt_vmem h_S1x1x128))
  let y0 : Vec F S1x1x128 .f32 ← Prog.lift (.load (sub15 arg15 s h15) (Rect.unit (s := S3x8x128) ![1, 0, 0] S1x1x128.size inb_S3x8x128_S1x1x128_1_0_0).toLoadRect (View.loadsAt_vmem h_S1x1x128))
  let z0 : Vec F S1x1x128 .f32 ← Prog.lift (.load (sub15 arg15 s h15) (Rect.unit (s := S3x8x128) ![2, 0, 0] S1x1x128.size inb_S3x8x128_S1x1x128_2_0_0).toLoadRect (View.loadsAt_vmem h_S1x1x128))
  let x1 : Vec F S1x1x128 .f32 ← Prog.lift (.load (sub15 arg15 s h15) (Rect.unit (s := S3x8x128) ![0, 1, 0] S1x1x128.size inb_S3x8x128_S1x1x128_0_1_0).toLoadRect (View.loadsAt_vmem h_S1x1x128))
  let y1 : Vec F S1x1x128 .f32 ← Prog.lift (.load (sub15 arg15 s h15) (Rect.unit (s := S3x8x128) ![1, 1, 0] S1x1x128.size inb_S3x8x128_S1x1x128_1_1_0).toLoadRect (View.loadsAt_vmem h_S1x1x128))
  let z1 : Vec F S1x1x128 .f32 ← Prog.lift (.load (sub15 arg15 s h15) (Rect.unit (s := S3x8x128) ![2, 1, 0] S1x1x128.size inb_S3x8x128_S1x1x128_2_1_0).toLoadRect (View.loadsAt_vmem h_S1x1x128))
  let x2 : Vec F S1x1x128 .f32 ← Prog.lift (.load (sub15 arg15 s h15) (Rect.unit (s := S3x8x128) ![0, 2, 0] S1x1x128.size inb_S3x8x128_S1x1x128_0_2_0).toLoadRect (View.loadsAt_vmem h_S1x1x128))
  let y2 : Vec F S1x1x128 .f32 ← Prog.lift (.load (sub15 arg15 s h15) (Rect.unit (s := S3x8x128) ![1, 2, 0] S1x1x128.size inb_S3x8x128_S1x1x128_1_2_0).toLoadRect (View.loadsAt_vmem h_S1x1x128))
  let z2 : Vec F S1x1x128 .f32 ← Prog.lift (.load (sub15 arg15 s h15) (Rect.unit (s := S3x8x128) ![2, 2, 0] S1x1x128.size inb_S3x8x128_S1x1x128_2_2_0).toLoadRect (View.loadsAt_vmem h_S1x1x128))
  let x3 : Vec F S1x1x128 .f32 ← Prog.lift (.load (sub15 arg15 s h15) (Rect.unit (s := S3x8x128) ![0, 3, 0] S1x1x128.size inb_S3x8x128_S1x1x128_0_3_0).toLoadRect (View.loadsAt_vmem h_S1x1x128))
  let y3 : Vec F S1x1x128 .f32 ← Prog.lift (.load (sub15 arg15 s h15) (Rect.unit (s := S3x8x128) ![1, 3, 0] S1x1x128.size inb_S3x8x128_S1x1x128_1_3_0).toLoadRect (View.loadsAt_vmem h_S1x1x128))
  let z3 : Vec F S1x1x128 .f32 ← Prog.lift (.load (sub15 arg15 s h15) (Rect.unit (s := S3x8x128) ![2, 3, 0] S1x1x128.size inb_S3x8x128_S1x1x128_2_3_0).toLoadRect (View.loadsAt_vmem h_S1x1x128))
  let x4 : Vec F S1x1x128 .f32 ← Prog.lift (.load (sub15 arg15 s h15) (Rect.unit (s := S3x8x128) ![0, 4, 0] S1x1x128.size inb_S3x8x128_S1x1x128_0_4_0).toLoadRect (View.loadsAt_vmem h_S1x1x128))
  let y4 : Vec F S1x1x128 .f32 ← Prog.lift (.load (sub15 arg15 s h15) (Rect.unit (s := S3x8x128) ![1, 4, 0] S1x1x128.size inb_S3x8x128_S1x1x128_1_4_0).toLoadRect (View.loadsAt_vmem h_S1x1x128))
  let z4 : Vec F S1x1x128 .f32 ← Prog.lift (.load (sub15 arg15 s h15) (Rect.unit (s := S3x8x128) ![2, 4, 0] S1x1x128.size inb_S3x8x128_S1x1x128_2_4_0).toLoadRect (View.loadsAt_vmem h_S1x1x128))
  let x5 : Vec F S1x1x128 .f32 ← Prog.lift (.load (sub15 arg15 s h15) (Rect.unit (s := S3x8x128) ![0, 5, 0] S1x1x128.size inb_S3x8x128_S1x1x128_0_5_0).toLoadRect (View.loadsAt_vmem h_S1x1x128))
  let y5 : Vec F S1x1x128 .f32 ← Prog.lift (.load (sub15 arg15 s h15) (Rect.unit (s := S3x8x128) ![1, 5, 0] S1x1x128.size inb_S3x8x128_S1x1x128_1_5_0).toLoadRect (View.loadsAt_vmem h_S1x1x128))
  let z5 : Vec F S1x1x128 .f32 ← Prog.lift (.load (sub15 arg15 s h15) (Rect.unit (s := S3x8x128) ![2, 5, 0] S1x1x128.size inb_S3x8x128_S1x1x128_2_5_0).toLoadRect (View.loadsAt_vmem h_S1x1x128))
  let x6 : Vec F S1x1x128 .f32 ← Prog.lift (.load (sub15 arg15 s h15) (Rect.unit (s := S3x8x128) ![0, 6, 0] S1x1x128.size inb_S3x8x128_S1x1x128_0_6_0).toLoadRect (View.loadsAt_vmem h_S1x1x128))
  let y6 : Vec F S1x1x128 .f32 ← Prog.lift (.load (sub15 arg15 s h15) (Rect.unit (s := S3x8x128) ![1, 6, 0] S1x1x128.size inb_S3x8x128_S1x1x128_1_6_0).toLoadRect (View.loadsAt_vmem h_S1x1x128))
  let z6 : Vec F S1x1x128 .f32 ← Prog.lift (.load (sub15 arg15 s h15) (Rect.unit (s := S3x8x128) ![2, 6, 0] S1x1x128.size inb_S3x8x128_S1x1x128_2_6_0).toLoadRect (View.loadsAt_vmem h_S1x1x128))
  let x7 : Vec F S1x1x128 .f32 ← Prog.lift (.load (sub15 arg15 s h15) (Rect.unit (s := S3x8x128) ![0, 7, 0] S1x1x128.size inb_S3x8x128_S1x1x128_0_7_0).toLoadRect (View.loadsAt_vmem h_S1x1x128))
  let y7 : Vec F S1x1x128 .f32 ← Prog.lift (.load (sub15 arg15 s h15) (Rect.unit (s := S3x8x128) ![1, 7, 0] S1x1x128.size inb_S3x8x128_S1x1x128_1_7_0).toLoadRect (View.loadsAt_vmem h_S1x1x128))
  let z7 : Vec F S1x1x128 .f32 ← Prog.lift (.load (sub15 arg15 s h15) (Rect.unit (s := S3x8x128) ![2, 7, 0] S1x1x128.size inb_S3x8x128_S1x1x128_2_7_0).toLoadRect (View.loadsAt_vmem h_S1x1x128))
  pure (outOf r4 e x0 y0 z0 x1 y1 z1 x2 y2 z2 x3 y3 z3 x4 y4 z4 x5 y5 z5 x6 y6 z6 x7 y7 z7)

end Cert.Kernel.Tile
-- ==== Proof.K.TileRun.lean ====
module

public import proofs.«01_k».proof.Proof.K.Tile
public import Idealize.ShloMosaic.Lib.Tactic
public import Idealize.ShloMosaic.Lib.Pipeline.Kit
public import Idealize.ShloMosaic.Lib.ValueIdxCore
public import Idealize.ShloMosaic.Lib.WritesUnit
public import Idealize.ShloMosaic.Lib.Pipeline.Value

/-! # Running a tile

From the two scratch arrays held whole a tile runs to the value `tileOut` of the rotated tile, and
hands the two scratch arrays back. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the program logic: the pipeline's own, nothing beside it. -/
abbrev UU (nD : Nat) (τ : Topo) : Type := UR sig nD τ

local notation "𝕄" => MT nD τ sig Unit (Elt F) ℕ (UU nD τ) ℕ

/-- The contents of a memref's buffer on core `c`. -/
abbrev Bf (c : Dev nD) {sp : Space} {S : Shape} {e : EltTy} (M : Memref sig .tc sp S e) : Type :=
  Buf (Elt F) (M.view.loc (c : Thread nD τ))

/-- A memref's buffer held whole at `f`. -/
abbrev pt (c : Dev nD) {sp : Space} {S : Shape} {e : EltTy} (M : Memref sig .tc sp S e)
    (f : Bf (F := F) c M) : sProp 𝕄 := M.view.loc (c : Thread nD τ) ↦{fullShare} f

/-- The partial sums at the rows a load reads. -/
def partRow (lr : LoadRect S64x128) (P : FVec F S64x128 .f32) : lr.shape.Idx → F .f32 :=
  fun x => P (lr.idx x)

/-- Row `b` of eight. -/
def rowOf (b : Fin 8) (x : FVec F S8x128 .f32) : FVec F S1x1x128 .f32 := fun y => x (ix2 b (y 2))

/-- The scale codes of a rotated tile. -/
def codeOf (r4 : FVec F S256x128 .f32) : IVec S8x128 32 :=
  code (rms
    (partRow ⟨![0, 0], S8x128.size, ![8, 1], inb_S64x128_S8x128_0_0_s_8_1⟩ (partSum r4))
    (partRow ⟨![1, 0], S8x128.size, ![8, 1], inb_S64x128_S8x128_1_0_s_8_1⟩ (partSum r4))
    (partRow ⟨![2, 0], S8x128.size, ![8, 1], inb_S64x128_S8x128_2_0_s_8_1⟩ (partSum r4))
    (partRow ⟨![3, 0], S8x128.size, ![8, 1], inb_S64x128_S8x128_3_0_s_8_1⟩ (partSum r4))
    (partRow ⟨![4, 0], S8x128.size, ![8, 1], inb_S64x128_S8x128_4_0_s_8_1⟩ (partSum r4))
    (partRow ⟨![5, 0], S8x128.size, ![8, 1], inb_S64x128_S8x128_5_0_s_8_1⟩ (partSum r4))
    (partRow ⟨![6, 0], S8x128.size, ![8, 1], inb_S64x128_S8x128_6_0_s_8_1⟩ (partSum r4))
    (partRow ⟨![7, 0], S8x128.size, ![8, 1], inb_S64x128_S8x128_7_0_s_8_1⟩ (partSum r4)))

/-- What a tile computes from the rotated values. -/
def tileOut (r4 : FVec F S256x128 .f32) : Out F :=
  outOf r4 (codeOf r4)
    (rowOf ⟨0, by decide⟩ (row0 (codeOf r4))) (rowOf ⟨0, by decide⟩ (row1 (codeOf r4)))
    (rowOf ⟨0, by decide⟩ (powBits (codeOf r4)))
    (rowOf ⟨1, by decide⟩ (row0 (codeOf r4))) (rowOf ⟨1, by decide⟩ (row1 (codeOf r4)))
    (rowOf ⟨1, by decide⟩ (powBits (codeOf r4)))
    (rowOf ⟨2, by decide⟩ (row0 (codeOf r4))) (rowOf ⟨2, by decide⟩ (row1 (codeOf r4)))
    (rowOf ⟨2, by decide⟩ (powBits (codeOf r4)))
    (rowOf ⟨3, by decide⟩ (row0 (codeOf r4))) (rowOf ⟨3, by decide⟩ (row1 (codeOf r4)))
    (rowOf ⟨3, by decide⟩ (powBits (codeOf r4)))
    (rowOf ⟨4, by decide⟩ (row0 (codeOf r4))) (rowOf ⟨4, by decide⟩ (row1 (codeOf r4)))
    (rowOf ⟨4, by decide⟩ (powBits (codeOf r4)))
    (rowOf ⟨5, by decide⟩ (row0 (codeOf r4))) (rowOf ⟨5, by decide⟩ (row1 (codeOf r4)))
    (rowOf ⟨5, by decide⟩ (powBits (codeOf r4)))
    (rowOf ⟨6, by decide⟩ (row0 (codeOf r4))) (rowOf ⟨6, by decide⟩ (row1 (codeOf r4)))
    (rowOf ⟨6, by decide⟩ (powBits (codeOf r4)))
    (rowOf ⟨7, by decide⟩ (row0 (codeOf r4))) (rowOf ⟨7, by decide⟩ (row1 (codeOf r4)))
    (rowOf ⟨7, by decide⟩ (powBits (codeOf r4)))

theorem read_part (arg14 : Memref sig .tc .vmem S8x64x128 .f32) (s : ℕ)
    (h14 : ∀ a, (![s, 0, 0] : Fin 3 → ℕ) a + S1x64x128.size a ≤ S8x64x128.size a)
    (P : FVec F S64x128 .f32) (f : arg14.view.ty.Contents (Elt F)) (lr : LoadRect S64x128) :
    View.readAt (Elt F) (sub14 arg14 s h14).view lr
      (arg14.view.writes (Elt F) f [⟨slot14 s h14, shapeCast S1x64x128 P shapeCasts_S64x128_S1x64x128⟩])
      = partRow lr P := by
  funext x
  rw [View.readAt_apply]
  show View.read (Elt F) arg14.view _ ((slot14 s h14).emb (Shape.reshapeEquiv _ (lr.idx x))) = _
  rw [View.read_writes_cons_emb]
  show P (Shape.reshapeEquiv _ (Shape.reshapeEquiv _ (lr.idx x))) = _
  rw [Shape.reshapeEquiv_reshapeEquiv, Shape.reshapeEquiv_self]
  rfl

section Rows

variable (v : View sig .tc .vmem S3x8x128 .f32) (f : v.ty.Contents (Elt F))
  (w0 w1 w2 : FVec F S8x128 .f32)

/-- Where row `j` of the three goes. -/
abbrev place (j : Fin 3) (h : ∀ a, (![j.val, 0, 0] : Fin 3 → ℕ) a + S1x8x128.size a ≤ S3x8x128.size a) :
    Rect S3x8x128 := Rect.unit (s := S3x8x128) ![j.val, 0, 0] S1x8x128.size h

/-- The three rows as the tile stores them, the last one first. -/
abbrev three : List (View.Piece (Elt F) S3x8x128 .f32) :=
  [⟨place 2 inb_S3x8x128_S1x8x128_2_0_0, up w2⟩, ⟨place 1 inb_S3x8x128_S1x8x128_1_0_0, up w1⟩,
    ⟨place 0 inb_S3x8x128_S1x8x128_0_0_0, up w0⟩]

theorem up_apply (x : FVec F S8x128 .f32) (b : Fin 8) (l : Fin 128) :
    up x (ix3 0 b l) = x (ix2 b l) :=
  (shapeCast_addUnit_apply ![8, 128] x shapeCasts_S8x128_S1x8x128 (ix3 0 b l)).trans
    (congrArg x (by funext a; match a with | ⟨0, _⟩ => rfl | ⟨1, _⟩ => rfl))

theorem read_row0 (b : ℕ) (hb : b < 8) (h : ∀ a, (![0, b, 0] : Fin 3 → ℕ) a + S1x1x128.size a ≤ S3x8x128.size a) :
    v.readAt (Elt F) (Rect.unit (s := S3x8x128) ![0, b, 0] S1x1x128.size h).toLoadRect
      (v.writes (Elt F) f (three w0 w1 w2)) = rowOf ⟨b, hb⟩ w0 := by
  funext x
  have h0 : (x 0).val < 1 := (x 0).isLt
  have h1 : (x 1).val < 1 := (x 1).isLt
  rw [View.readAt_apply]
  rw [View.read_writes_cons_unit_of_not_mem v f _ _ _ _ rfl 0
    (Or.inl (show 0 + 1 * (x 0).val < 2 by omega))]
  rw [View.read_writes_cons_unit_of_not_mem v f _ _ _ _ rfl 0
    (Or.inl (show 0 + 1 * (x 0).val < 1 by omega))]
  refine (View.read_writes_cons_unit_of_mem v f _ _ _ _ (ix3 0 ⟨b, hb⟩ (x 2)) rfl ?_).trans
    (up_apply w0 ⟨b, hb⟩ (x 2))
  intro a
  match a with
  | ⟨0, _⟩ => show 0 + 1 * (x 0).val = 0 + 0; omega
  | ⟨1, _⟩ => show b + 1 * (x 1).val = 0 + b; omega
  | ⟨2, _⟩ => show 0 + 1 * (x 2).val = 0 + (x 2).val; omega

theorem read_row1 (b : ℕ) (hb : b < 8) (h : ∀ a, (![1, b, 0] : Fin 3 → ℕ) a + S1x1x128.size a ≤ S3x8x128.size a) :
    v.readAt (Elt F) (Rect.unit (s := S3x8x128) ![1, b, 0] S1x1x128.size h).toLoadRect
      (v.writes (Elt F) f (three w0 w1 w2)) = rowOf ⟨b, hb⟩ w1 := by
  funext x
  have h0 : (x 0).val < 1 := (x 0).isLt
  have h1 : (x 1).val < 1 := (x 1).isLt
  rw [View.readAt_apply]
  rw [View.read_writes_cons_unit_of_not_mem v f _ _ _ _ rfl 0
    (Or.inl (show 1 + 1 * (x 0).val < 2 by omega))]
  refine (View.read_writes_cons_unit_of_mem v f _ _ _ _ (ix3 0 ⟨b, hb⟩ (x 2)) rfl ?_).trans
    (up_apply w1 ⟨b, hb⟩ (x 2))
  intro a
  match a with
  | ⟨0, _⟩ => show 1 + 1 * (x 0).val = 1 + 0; omega
  | ⟨1, _⟩ => show b + 1 * (x 1).val = 0 + b; omega
  | ⟨2, _⟩ => show 0 + 1 * (x 2).val = 0 + (x 2).val; omega

theorem read_row2 (b : ℕ) (hb : b < 8) (h : ∀ a, (![2, b, 0] : Fin 3 → ℕ) a + S1x1x128.size a ≤ S3x8x128.size a) :
    v.readAt (Elt F) (Rect.unit (s := S3x8x128) ![2, b, 0] S1x1x128.size h).toLoadRect
      (v.writes (Elt F) f (three w0 w1 w2)) = rowOf ⟨b, hb⟩ w2 := by
  funext x
  have h0 : (x 0).val < 1 := (x 0).isLt
  have h1 : (x 1).val < 1 := (x 1).isLt
  rw [View.readAt_apply]
  refine (View.read_writes_cons_unit_of_mem v f _ _ _ _ (ix3 0 ⟨b, hb⟩ (x 2)) rfl ?_).trans
    (up_apply w2 ⟨b, hb⟩ (x 2))
  intro a
  match a with
  | ⟨0, _⟩ => show 2 + 1 * (x 0).val = 2 + 0; omega
  | ⟨1, _⟩ => show b + 1 * (x 1).val = 0 + b; omega
  | ⟨2, _⟩ => show 0 + 1 * (x 2).val = 0 + (x 2).val; omega

end Rows

set_option maxHeartbeats 4000000 in
/-- A tile runs to `tileOut` and hands its scratch back. -/
theorem tile_run (c : Dev nD) (arg14 : Memref sig .tc .vmem S8x64x128 .f32) (harg14 : arg14.IsWhole)
    (arg15 : Memref sig .tc .vmem S8x3x8x128 .f32) (harg15 : arg15.IsWhole) (s : ℕ)
    (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) (f14 : Bf (F := F) c arg14) (f15 : Bf (F := F) c arg15)
    (Q : Out F → sProp 𝕄) :
    iprop(pt c arg14 f14 ∗ pt c arg15 f15 ∗
      (iprop((∃ f, pt c arg14 f) ∗ (∃ f, pt c arg15 f)) -∗ Q (tileOut r4)))
    ⊢ wp frame (wpE (defs₀ (F := F)) Variants.none c none) Set.univ (tile arg14 arg15 s h14 h15 r4) Q := by
  iintro ⟨H14, H15, Hk⟩
  unfold tile
  sl_exec
  have he : tile_run.sl.e c arg14 s h14 r4 f14 = codeOf r4 := by
    unfold tile_run.sl.e codeOf
    rw [show tile_run.sl.a0 c arg14 s h14 r4 f14 = _ from read_part arg14 s h14 (partSum r4) f14 _]
    rw [show tile_run.sl.a1 c arg14 s h14 r4 f14 = _ from read_part arg14 s h14 (partSum r4) f14 _]
    rw [show tile_run.sl.a2 c arg14 s h14 r4 f14 = _ from read_part arg14 s h14 (partSum r4) f14 _]
    rw [show tile_run.sl.a3 c arg14 s h14 r4 f14 = _ from read_part arg14 s h14 (partSum r4) f14 _]
    rw [show tile_run.sl.a4 c arg14 s h14 r4 f14 = _ from read_part arg14 s h14 (partSum r4) f14 _]
    rw [show tile_run.sl.a5 c arg14 s h14 r4 f14 = _ from read_part arg14 s h14 (partSum r4) f14 _]
    rw [show tile_run.sl.a6 c arg14 s h14 r4 f14 = _ from read_part arg14 s h14 (partSum r4) f14 _]
    rw [show tile_run.sl.a7 c arg14 s h14 r4 f14 = _ from read_part arg14 s h14 (partSum r4) f14 _]
  have ex0 : tile_run.sl.x0 c arg14 arg15 s h14 h15 r4 f14 f15 = rowOf ⟨0, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 0 (by decide) _
  have ey0 : tile_run.sl.y0 c arg14 arg15 s h14 h15 r4 f14 f15 = rowOf ⟨0, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 0 (by decide) _
  have ez0 : tile_run.sl.z0 c arg14 arg15 s h14 h15 r4 f14 f15 = rowOf ⟨0, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 0 (by decide) _
  have ex1 : tile_run.sl.x1 c arg14 arg15 s h14 h15 r4 f14 f15 = rowOf ⟨1, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 1 (by decide) _
  have ey1 : tile_run.sl.y1 c arg14 arg15 s h14 h15 r4 f14 f15 = rowOf ⟨1, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 1 (by decide) _
  have ez1 : tile_run.sl.z1 c arg14 arg15 s h14 h15 r4 f14 f15 = rowOf ⟨1, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 1 (by decide) _
  have ex2 : tile_run.sl.x2 c arg14 arg15 s h14 h15 r4 f14 f15 = rowOf ⟨2, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 2 (by decide) _
  have ey2 : tile_run.sl.y2 c arg14 arg15 s h14 h15 r4 f14 f15 = rowOf ⟨2, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 2 (by decide) _
  have ez2 : tile_run.sl.z2 c arg14 arg15 s h14 h15 r4 f14 f15 = rowOf ⟨2, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 2 (by decide) _
  have ex3 : tile_run.sl.x3 c arg14 arg15 s h14 h15 r4 f14 f15 = rowOf ⟨3, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 3 (by decide) _
  have ey3 : tile_run.sl.y3 c arg14 arg15 s h14 h15 r4 f14 f15 = rowOf ⟨3, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 3 (by decide) _
  have ez3 : tile_run.sl.z3 c arg14 arg15 s h14 h15 r4 f14 f15 = rowOf ⟨3, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 3 (by decide) _
  have ex4 : tile_run.sl.x4 c arg14 arg15 s h14 h15 r4 f14 f15 = rowOf ⟨4, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 4 (by decide) _
  have ey4 : tile_run.sl.y4 c arg14 arg15 s h14 h15 r4 f14 f15 = rowOf ⟨4, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 4 (by decide) _
  have ez4 : tile_run.sl.z4 c arg14 arg15 s h14 h15 r4 f14 f15 = rowOf ⟨4, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 4 (by decide) _
  have ex5 : tile_run.sl.x5 c arg14 arg15 s h14 h15 r4 f14 f15 = rowOf ⟨5, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 5 (by decide) _
  have ey5 : tile_run.sl.y5 c arg14 arg15 s h14 h15 r4 f14 f15 = rowOf ⟨5, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 5 (by decide) _
  have ez5 : tile_run.sl.z5 c arg14 arg15 s h14 h15 r4 f14 f15 = rowOf ⟨5, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 5 (by decide) _
  have ex6 : tile_run.sl.x6 c arg14 arg15 s h14 h15 r4 f14 f15 = rowOf ⟨6, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 6 (by decide) _
  have ey6 : tile_run.sl.y6 c arg14 arg15 s h14 h15 r4 f14 f15 = rowOf ⟨6, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 6 (by decide) _
  have ez6 : tile_run.sl.z6 c arg14 arg15 s h14 h15 r4 f14 f15 = rowOf ⟨6, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 6 (by decide) _
  have ex7 : tile_run.sl.x7 c arg14 arg15 s h14 h15 r4 f14 f15 = rowOf ⟨7, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 7 (by decide) _
  have ey7 : tile_run.sl.y7 c arg14 arg15 s h14 h15 r4 f14 f15 = rowOf ⟨7, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 7 (by decide) _
  have ez7 : tile_run.sl.z7 c arg14 arg15 s h14 h15 r4 f14 f15 = rowOf ⟨7, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 7 (by decide) _
  have hv : outOf r4 (tile_run.sl.e c arg14 s h14 r4 f14)
    (tile_run.sl.x0 c arg14 arg15 s h14 h15 r4 f14 f15) (tile_run.sl.y0 c arg14 arg15 s h14 h15 r4 f14 f15) (tile_run.sl.z0 c arg14 arg15 s h14 h15 r4 f14 f15)
    (tile_run.sl.x1 c arg14 arg15 s h14 h15 r4 f14 f15) (tile_run.sl.y1 c arg14 arg15 s h14 h15 r4 f14 f15) (tile_run.sl.z1 c arg14 arg15 s h14 h15 r4 f14 f15)
    (tile_run.sl.x2 c arg14 arg15 s h14 h15 r4 f14 f15) (tile_run.sl.y2 c arg14 arg15 s h14 h15 r4 f14 f15) (tile_run.sl.z2 c arg14 arg15 s h14 h15 r4 f14 f15)
    (tile_run.sl.x3 c arg14 arg15 s h14 h15 r4 f14 f15) (tile_run.sl.y3 c arg14 arg15 s h14 h15 r4 f14 f15) (tile_run.sl.z3 c arg14 arg15 s h14 h15 r4 f14 f15)
    (tile_run.sl.x4 c arg14 arg15 s h14 h15 r4 f14 f15) (tile_run.sl.y4 c arg14 arg15 s h14 h15 r4 f14 f15) (tile_run.sl.z4 c arg14 arg15 s h14 h15 r4 f14 f15)
    (tile_run.sl.x5 c arg14 arg15 s h14 h15 r4 f14 f15) (tile_run.sl.y5 c arg14 arg15 s h14 h15 r4 f14 f15) (tile_run.sl.z5 c arg14 arg15 s h14 h15 r4 f14 f15)
    (tile_run.sl.x6 c arg14 arg15 s h14 h15 r4 f14 f15) (tile_run.sl.y6 c arg14 arg15 s h14 h15 r4 f14 f15) (tile_run.sl.z6 c arg14 arg15 s h14 h15 r4 f14 f15)
    (tile_run.sl.x7 c arg14 arg15 s h14 h15 r4 f14 f15) (tile_run.sl.y7 c arg14 arg15 s h14 h15 r4 f14 f15) (tile_run.sl.z7 c arg14 arg15 s h14 h15 r4 f14 f15)
    = tileOut r4 := by
    rw [he, ex0, ey0, ez0, ex1, ey1, ez1, ex2, ey2, ez2, ex3, ey3, ez3, ex4, ey4, ez4, ex5, ey5, ez5, ex6, ey6, ez6, ex7, ey7, ez7]
    rfl
  rw [hv]
  sl_step
  iapply Hk
  isplitl [H14]; · iexists _; iexact H14
  iexists _; iexact H15

end Cert.Kernel.Tile
-- ==== Proof.K.Trips.lean ====
module

public import proofs.«01_k».proof.Proof.K.Tile
public import proofs.«01_k».proof.Proof.Gen.Kernel.Skeleton
public import Idealize.ShloMosaic.Lib.Pipeline.Regions

/-! # The trips of the two loops

A trip of the loop over the left operand quantises four tiles; a trip of the loop over the right
operand quantises eight, and adds their product with the left operand to the accumulator. Here each
trip is written with `tile`, and shown to be the printed trip. -/

@[expose] public section
set_option maxRecDepth 16384

noncomputable section

namespace Cert.Kernel.Tile

open Cert.Kernel Cert.Kernel.Gen
open Idealize.ShloMosaic Idealize.ShloMosaic.TcCoe Idealize.ShloMosaic.Tactic
open Idealize.SL Idealize.SL.Sem

variable {F : FTy → Type} [FloatOps F]

/-- A tile of the left operand, rotated. -/
def rotX (h : FVec F S256x256 .bf16) (x : FVec F S128x256 .bf16) : FVec F S256x128 .f32 :=
  matmul dot_S256x256_S128x256_S256x128_1_1_0_0_n_n none
    h (shapeCast S128x256 x shapeCasts_S128x256_S128x256) (constant S256x128 .f32 0x00000000#32)

/-- Two tiles of the right operand, rotated. -/
def rotW (h w : FVec F S256x256 .bf16) : FVec F S256x256 .f32 :=
  matmul dot_S256x256_S256x256_S256x256_1_1_0_0_n_n none
    h w (constant S256x256 .f32 0x00000000#32)

/-- The first of the two tiles. -/
def half0 (r : FVec F S256x256 .f32) : FVec F S256x128 .f32 :=
  extractStridedSlice S256x128 ![0, 0] r slices_S256x256_o0_0_S256x128

/-- The second of the two tiles. -/
def half1 (r : FVec F S256x256 .f32) : FVec F S256x128 .f32 :=
  extractStridedSlice S256x128 ![0, 128] r slices_S256x256_o0_128_S256x128

/-- The mask bytes of four tiles, one row of the operand to a row. -/
def maskBytes (m0 m1 m2 m3 : IVec S8x128 32) : IVec S128x128 8 :=
  transpose S128x128 [1, 0] (bitcast S128x128 8 (concatenate S32x128 0
    [⟨S8x128, m0⟩, ⟨S8x128, m1⟩, ⟨S8x128, m2⟩, ⟨S8x128, m3⟩]
    concatenates_S8x128_S8x128_S8x128_S8x128_S32x128_d0) bitcasts_S32x128_w32_S128x128_w8)
    transposes_S128x128_p1_0_S128x128

/-- The dequantised tile with one row of the left operand to a row. -/
def deqX (t : Out F) : FVec F S128x256 .bf16 :=
  shapeCast S128x256 (transpose S128x256 [1, 0] (deqOf (toE2m1 t.v) t.p)
    transposes_S256x128_p1_0_S128x256) shapeCasts_S128x256_S128x256

/-- The two dequantised tiles side by side. -/
def deqW (t t' : Out F) : FVec F S256x256 .bf16 :=
  concatenate S256x256 1 [⟨S256x128, deqOf (toE2m1 t.v) t.p⟩, ⟨S256x128, deqOf (toE2m1 t'.v) t'.p⟩]
    concatenates_S256x128_S256x128_S256x256_d1

/-- The accumulator after one group of columns. -/
def accStep (d0 d1 d2 d3 : FVec F S256x256 .bf16) (acc : FVec F S128x256 .f32)
    (xq : FVec F S128x1024 .bf16) : FVec F S128x256 .f32 :=
  shapeCast S128x256 (addf acc (matmul dot_S128x1024_S1024x256_S128x256_1_0_0_1_n_n none xq
    (concatenate S1024x256 0 [⟨S256x256, d0⟩, ⟨S256x256, d1⟩, ⟨S256x256, d2⟩, ⟨S256x256, d3⟩]
      concatenates_S256x256_S256x256_S256x256_S256x256_S1024x256_d0)
    (constant S128x256 .f32 0x00000000#32))) shapeCasts_S128x256_S128x256

/-- A trip of the loop over the left operand. -/
def tripX (i : grid0.Coords) (arg2 : Memref sig .tc .vmem S256x256 .bf16) (harg2 : arg2.IsWhole) (arg3 : Memref sig .tc .vmem S128x4096 .bf16) (harg3 : arg3.IsWhole) (arg6 : Memref sig .tc .vmem S128x512 .i8) (harg6 : arg6.IsWhole) (arg8 : Memref sig .tc .vmem S128x2048 .i8) (harg8 : arg8.IsWhole) (arg12 : Memref sig .tc .vmem S128x16384 .bf16) (harg12 : arg12.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1) (k : Fin k0_t1_loop.trips) : Prog (TpuEff nD τ sig (Elt F) Λ₀ .tc) Unit := do
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 0#32) S128x256.size (k0_off1_inb i k hi 0)).toLoadRect (View.loadsAt_vmem h_S128x256))
  let t0 ← tile arg14 arg15 0 inb_S8x64x128_S1x64x128_0_0_0 inb_S8x3x8x128_S1x3x8x128_0_0_0_0 (rotX hm xm)
  let _ : Vec F S128x128 .i8 ← Prog.lift (.load arg8 (Rect.unit (s := S128x2048) (k0_off2 k 0#32) S128x128.size (k0_off2_inb i k hi 0)).toLoadRect (View.loadsAt_vmem h_S128x128))
  Prog.lift (.store arg8 (Rect.unit (s := S128x2048) (k0_off2 k 0#32) S128x128.size (k0_off2_inb i k hi 0)) (codeBytes (toE2m1 t0.v)) Finset.univ (View.stores_vmem h_S128x128 (harg8.storeExact_slice rfl _ (k0_off2_packedi8 i k hi 0)) (fun _ => rfl)) (.inl rfl))
  let _ : Vec F S1x8x128 .i32 ← Prog.lift (.load arg16 (Rect.unit (s := S2x128x128) (k0_off3 k 0#32) S1x8x128.size (k0_off3_inb i k hi 0)).toLoadRect (View.loadsAt_vmem h_S1x8x128))
  Prog.lift (.store arg16 (Rect.unit (s := S2x128x128) (k0_off3 k 0#32) S1x8x128.size (k0_off3_inb i k hi 0)) (upI t0.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 256#32) S128x256.size (k0_off1_inb i k hi 1)).toLoadRect (View.loadsAt_vmem h_S128x256))
  let t1 ← tile arg14 arg15 2 inb_S8x64x128_S1x64x128_2_0_0 inb_S8x3x8x128_S1x3x8x128_2_0_0_0 (rotX hm xm)
  let _ : Vec F S128x128 .i8 ← Prog.lift (.load arg8 (Rect.unit (s := S128x2048) (k0_off2 k 128#32) S128x128.size (k0_off2_inb i k hi 1)).toLoadRect (View.loadsAt_vmem h_S128x128))
  Prog.lift (.store arg8 (Rect.unit (s := S128x2048) (k0_off2 k 128#32) S128x128.size (k0_off2_inb i k hi 1)) (codeBytes (toE2m1 t1.v)) Finset.univ (View.stores_vmem h_S128x128 (harg8.storeExact_slice rfl _ (k0_off2_packedi8 i k hi 1)) (fun _ => rfl)) (.inl rfl))
  let _ : Vec F S1x8x128 .i32 ← Prog.lift (.load arg16 (Rect.unit (s := S2x128x128) (k0_off3 k 8#32) S1x8x128.size (k0_off3_inb i k hi 1)).toLoadRect (View.loadsAt_vmem h_S1x8x128))
  Prog.lift (.store arg16 (Rect.unit (s := S2x128x128) (k0_off3 k 8#32) S1x8x128.size (k0_off3_inb i k hi 1)) (upI t1.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 512#32) S128x256.size (k0_off1_inb i k hi 2)).toLoadRect (View.loadsAt_vmem h_S128x256))
  let t2 ← tile arg14 arg15 4 inb_S8x64x128_S1x64x128_4_0_0 inb_S8x3x8x128_S1x3x8x128_4_0_0_0 (rotX hm xm)
  let _ : Vec F S128x128 .i8 ← Prog.lift (.load arg8 (Rect.unit (s := S128x2048) (k0_off2 k 256#32) S128x128.size (k0_off2_inb i k hi 2)).toLoadRect (View.loadsAt_vmem h_S128x128))
  Prog.lift (.store arg8 (Rect.unit (s := S128x2048) (k0_off2 k 256#32) S128x128.size (k0_off2_inb i k hi 2)) (codeBytes (toE2m1 t2.v)) Finset.univ (View.stores_vmem h_S128x128 (harg8.storeExact_slice rfl _ (k0_off2_packedi8 i k hi 2)) (fun _ => rfl)) (.inl rfl))
  let _ : Vec F S1x8x128 .i32 ← Prog.lift (.load arg16 (Rect.unit (s := S2x128x128) (k0_off3 k 16#32) S1x8x128.size (k0_off3_inb i k hi 2)).toLoadRect (View.loadsAt_vmem h_S1x8x128))
  Prog.lift (.store arg16 (Rect.unit (s := S2x128x128) (k0_off3 k 16#32) S1x8x128.size (k0_off3_inb i k hi 2)) (upI t2.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 768#32) S128x256.size (k0_off1_inb i k hi 3)).toLoadRect (View.loadsAt_vmem h_S128x256))
  let t3 ← tile arg14 arg15 6 inb_S8x64x128_S1x64x128_6_0_0 inb_S8x3x8x128_S1x3x8x128_6_0_0_0 (rotX hm xm)
  let _ : Vec F S128x128 .i8 ← Prog.lift (.load arg8 (Rect.unit (s := S128x2048) (k0_off2 k 384#32) S128x128.size (k0_off2_inb i k hi 3)).toLoadRect (View.loadsAt_vmem h_S128x128))
  Prog.lift (.store arg8 (Rect.unit (s := S128x2048) (k0_off2 k 384#32) S128x128.size (k0_off2_inb i k hi 3)) (codeBytes (toE2m1 t3.v)) Finset.univ (View.stores_vmem h_S128x128 (harg8.storeExact_slice rfl _ (k0_off2_packedi8 i k hi 3)) (fun _ => rfl)) (.inl rfl))
  let _ : Vec F S1x8x128 .i32 ← Prog.lift (.load arg16 (Rect.unit (s := S2x128x128) (k0_off3 k 24#32) S1x8x128.size (k0_off3_inb i k hi 3)).toLoadRect (View.loadsAt_vmem h_S1x8x128))
  Prog.lift (.store arg16 (Rect.unit (s := S2x128x128) (k0_off3 k 24#32) S1x8x128.size (k0_off3_inb i k hi 3)) (upI t3.e) Finset.univ (View.stores_vmem_bits_univ h_S1x8x128 rfl) (.inl rfl))
  let _ : Vec F S128x128 .i8 ← Prog.lift (.load arg6 (Rect.unit (s := S128x512) (k0_off4 k) S128x128.size (k0_off4_inb i k hi)).toLoadRect (View.loadsAt_vmem h_S128x128))
  Prog.lift (.store arg6 (Rect.unit (s := S128x512) (k0_off4 k) S128x128.size (k0_off4_inb i k hi)) (maskBytes (maskWord t0.d) (maskWord t1.d) (maskWord t2.d) (maskWord t3.d)) Finset.univ (View.stores_vmem h_S128x128 (harg6.storeExact_slice rfl _ (k0_off4_packedi8 i k hi)) (fun _ => rfl)) (.inl rfl))
  let _ : Vec F S128x256 .bf16 ← Prog.lift (.load arg12 (Rect.unit (s := S128x16384) (k0_off5 i k 0#32) S128x256.size (k0_off5_inb i k hi 0)).toLoadRect (View.loadsAt_vmem h_S128x256))
  Prog.lift (.store arg12 (Rect.unit (s := S128x16384) (k0_off5 i k 0#32) S128x256.size (k0_off5_inb i k hi 0)) (deqX t0) Finset.univ (View.stores_vmem h_S128x256 (harg12.storeExact_slice rfl _ (k0_off5_packedbf16 i k hi 0)) (fun _ => rfl)) (.inl rfl))
  let _ : Vec F S128x256 .bf16 ← Prog.lift (.load arg12 (Rect.unit (s := S128x16384) (k0_off5 i k 256#32) S128x256.size (k0_off5_inb i k hi 1)).toLoadRect (View.loadsAt_vmem h_S128x256))
  Prog.lift (.store arg12 (Rect.unit (s := S128x16384) (k0_off5 i k 256#32) S128x256.size (k0_off5_inb i k hi 1)) (deqX t1) Finset.univ (View.stores_vmem h_S128x256 (harg12.storeExact_slice rfl _ (k0_off5_packedbf16 i k hi 1)) (fun _ => rfl)) (.inl rfl))
  let _ : Vec F S128x256 .bf16 ← Prog.lift (.load arg12 (Rect.unit (s := S128x16384) (k0_off5 i k 512#32) S128x256.size (k0_off5_inb i k hi 2)).toLoadRect (View.loadsAt_vmem h_S128x256))
  Prog.lift (.store arg12 (Rect.unit (s := S128x16384) (k0_off5 i k 512#32) S128x256.size (k0_off5_inb i k hi 2)) (deqX t2) Finset.univ (View.stores_vmem h_S128x256 (harg12.storeExact_slice rfl _ (k0_off5_packedbf16 i k hi 2)) (fun _ => rfl)) (.inl rfl))
  let _ : Vec F S128x256 .bf16 ← Prog.lift (.load arg12 (Rect.unit (s := S128x16384) (k0_off5 i k 768#32) S128x256.size (k0_off5_inb i k hi 3)).toLoadRect (View.loadsAt_vmem h_S128x256))
  Prog.lift (.store arg12 (Rect.unit (s := S128x16384) (k0_off5 i k 768#32) S128x256.size (k0_off5_inb i k hi 3)) (deqX t3) Finset.univ (View.stores_vmem h_S128x256 (harg12.storeExact_slice rfl _ (k0_off5_packedbf16 i k hi 3)) (fun _ => rfl)) (.inl rfl))
  pure ()

/-- A trip of the loop over the right operand. -/
def tripW (i : grid0.Coords) (arg2 : Memref sig .tc .vmem S256x256 .bf16) (harg2 : arg2.IsWhole) (arg4 : Memref sig .tc .vmem S256x4096 .bf16) (harg4 : arg4.IsWhole) (arg7 : Memref sig .tc .vmem S256x512 .i8) (harg7 : arg7.IsWhole) (arg10 : Memref sig .tc .vmem S256x2048 .i8) (harg10 : arg10.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (k : Fin k0_t2_loop.trips) : Prog (TpuEff nD τ sig (Elt F) Λ₀ .tc) Unit := do
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 0#32) S256x256.size (k0_off6_inb k 0)).toLoadRect (View.loadsAt_vmem h_S256x256))
  let t0 ← tile arg14 arg15 0 inb_S8x64x128_S1x64x128_0_0_0 inb_S8x3x8x128_S1x3x8x128_0_0_0_0 (half0 (rotW hm wm))
  let _ : Vec F S128x128 .i8 ← Prog.lift (.load arg10 (Rect.unit (s := S256x2048) (k0_off7 k 0#32) S128x128.size (k0_off7_inb k 0)).toLoadRect (View.loadsAt_vmem h_S128x128))
  Prog.lift (.store arg10 (Rect.unit (s := S256x2048) (k0_off7 k 0#32) S128x128.size (k0_off7_inb k 0)) (codeBytes (toE2m1 t0.v)) Finset.univ (View.stores_vmem h_S128x128 (harg10.storeExact_slice rfl _ (k0_off7_packedi8 k 0)) (fun _ => rfl)) (.inl rfl))
  let _ : Vec F S1x8x128 .i32 ← Prog.lift (.load arg16 (Rect.unit (s := S2x128x128) (k0_off8 k 0#32) S1x8x128.size (k0_off8_inb k 0)).toLoadRect (View.loadsAt_vmem h_S1x8x128))
  Prog.lift (.store arg16 (Rect.unit (s := S2x128x128) (k0_off8 k 0#32) S1x8x128.size (k0_off8_inb k 0)) (upI t0.e) Finset.univ (View.stores_vmem_bits_univ h_S1x8x128 rfl) (.inl rfl))
  let u0 ← tile arg14 arg15 1 inb_S8x64x128_S1x64x128_1_0_0 inb_S8x3x8x128_S1x3x8x128_1_0_0_0 (half1 (rotW hm wm))
  let _ : Vec F S128x128 .i8 ← Prog.lift (.load arg10 (Rect.unit (s := S256x2048) (k0_off9 k 0#32) S128x128.size (k0_off9_inb k 0)).toLoadRect (View.loadsAt_vmem h_S128x128))
  Prog.lift (.store arg10 (Rect.unit (s := S256x2048) (k0_off9 k 0#32) S128x128.size (k0_off9_inb k 0)) (codeBytes (toE2m1 u0.v)) Finset.univ (View.stores_vmem h_S128x128 (harg10.storeExact_slice rfl _ (k0_off9_packedi8 k 0)) (fun _ => rfl)) (.inl rfl))
  let _ : Vec F S1x8x128 .i32 ← Prog.lift (.load arg16 (Rect.unit (s := S2x128x128) (k0_off10 k 0#32) S1x8x128.size (k0_off10_inb k 0)).toLoadRect (View.loadsAt_vmem h_S1x8x128))
  Prog.lift (.store arg16 (Rect.unit (s := S2x128x128) (k0_off10 k 0#32) S1x8x128.size (k0_off10_inb k 0)) (upI u0.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 256#32) S256x256.size (k0_off6_inb k 1)).toLoadRect (View.loadsAt_vmem h_S256x256))
  let t1 ← tile arg14 arg15 2 inb_S8x64x128_S1x64x128_2_0_0 inb_S8x3x8x128_S1x3x8x128_2_0_0_0 (half0 (rotW hm wm))
  let _ : Vec F S128x128 .i8 ← Prog.lift (.load arg10 (Rect.unit (s := S256x2048) (k0_off7 k 128#32) S128x128.size (k0_off7_inb k 1)).toLoadRect (View.loadsAt_vmem h_S128x128))
  Prog.lift (.store arg10 (Rect.unit (s := S256x2048) (k0_off7 k 128#32) S128x128.size (k0_off7_inb k 1)) (codeBytes (toE2m1 t1.v)) Finset.univ (View.stores_vmem h_S128x128 (harg10.storeExact_slice rfl _ (k0_off7_packedi8 k 1)) (fun _ => rfl)) (.inl rfl))
  let _ : Vec F S1x8x128 .i32 ← Prog.lift (.load arg16 (Rect.unit (s := S2x128x128) (k0_off8 k 8#32) S1x8x128.size (k0_off8_inb k 1)).toLoadRect (View.loadsAt_vmem h_S1x8x128))
  Prog.lift (.store arg16 (Rect.unit (s := S2x128x128) (k0_off8 k 8#32) S1x8x128.size (k0_off8_inb k 1)) (upI t1.e) Finset.univ (View.stores_vmem_bits_univ h_S1x8x128 rfl) (.inl rfl))
  let u1 ← tile arg14 arg15 3 inb_S8x64x128_S1x64x128_3_0_0 inb_S8x3x8x128_S1x3x8x128_3_0_0_0 (half1 (rotW hm wm))
  let _ : Vec F S128x128 .i8 ← Prog.lift (.load arg10 (Rect.unit (s := S256x2048) (k0_off9 k 128#32) S128x128.size (k0_off9_inb k 1)).toLoadRect (View.loadsAt_vmem h_S128x128))
  Prog.lift (.store arg10 (Rect.unit (s := S256x2048) (k0_off9 k 128#32) S128x128.size (k0_off9_inb k 1)) (codeBytes (toE2m1 u1.v)) Finset.univ (View.stores_vmem h_S128x128 (harg10.storeExact_slice rfl _ (k0_off9_packedi8 k 1)) (fun _ => rfl)) (.inl rfl))
  let _ : Vec F S1x8x128 .i32 ← Prog.lift (.load arg16 (Rect.unit (s := S2x128x128) (k0_off10 k 8#32) S1x8x128.size (k0_off10_inb k 1)).toLoadRect (View.loadsAt_vmem h_S1x8x128))
  Prog.lift (.store arg16 (Rect.unit (s := S2x128x128) (k0_off10 k 8#32) S1x8x128.size (k0_off10_inb k 1)) (upI u1.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 512#32) S256x256.size (k0_off6_inb k 2)).toLoadRect (View.loadsAt_vmem h_S256x256))
  let t2 ← tile arg14 arg15 4 inb_S8x64x128_S1x64x128_4_0_0 inb_S8x3x8x128_S1x3x8x128_4_0_0_0 (half0 (rotW hm wm))
  let _ : Vec F S128x128 .i8 ← Prog.lift (.load arg10 (Rect.unit (s := S256x2048) (k0_off7 k 256#32) S128x128.size (k0_off7_inb k 2)).toLoadRect (View.loadsAt_vmem h_S128x128))
  Prog.lift (.store arg10 (Rect.unit (s := S256x2048) (k0_off7 k 256#32) S128x128.size (k0_off7_inb k 2)) (codeBytes (toE2m1 t2.v)) Finset.univ (View.stores_vmem h_S128x128 (harg10.storeExact_slice rfl _ (k0_off7_packedi8 k 2)) (fun _ => rfl)) (.inl rfl))
  let _ : Vec F S1x8x128 .i32 ← Prog.lift (.load arg16 (Rect.unit (s := S2x128x128) (k0_off8 k 16#32) S1x8x128.size (k0_off8_inb k 2)).toLoadRect (View.loadsAt_vmem h_S1x8x128))
  Prog.lift (.store arg16 (Rect.unit (s := S2x128x128) (k0_off8 k 16#32) S1x8x128.size (k0_off8_inb k 2)) (upI t2.e) Finset.univ (View.stores_vmem_bits_univ h_S1x8x128 rfl) (.inl rfl))
  let u2 ← tile arg14 arg15 5 inb_S8x64x128_S1x64x128_5_0_0 inb_S8x3x8x128_S1x3x8x128_5_0_0_0 (half1 (rotW hm wm))
  let _ : Vec F S128x128 .i8 ← Prog.lift (.load arg10 (Rect.unit (s := S256x2048) (k0_off9 k 256#32) S128x128.size (k0_off9_inb k 2)).toLoadRect (View.loadsAt_vmem h_S128x128))
  Prog.lift (.store arg10 (Rect.unit (s := S256x2048) (k0_off9 k 256#32) S128x128.size (k0_off9_inb k 2)) (codeBytes (toE2m1 u2.v)) Finset.univ (View.stores_vmem h_S128x128 (harg10.storeExact_slice rfl _ (k0_off9_packedi8 k 2)) (fun _ => rfl)) (.inl rfl))
  let _ : Vec F S1x8x128 .i32 ← Prog.lift (.load arg16 (Rect.unit (s := S2x128x128) (k0_off10 k 16#32) S1x8x128.size (k0_off10_inb k 2)).toLoadRect (View.loadsAt_vmem h_S1x8x128))
  Prog.lift (.store arg16 (Rect.unit (s := S2x128x128) (k0_off10 k 16#32) S1x8x128.size (k0_off10_inb k 2)) (upI u2.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 768#32) S256x256.size (k0_off6_inb k 3)).toLoadRect (View.loadsAt_vmem h_S256x256))
  let t3 ← tile arg14 arg15 6 inb_S8x64x128_S1x64x128_6_0_0 inb_S8x3x8x128_S1x3x8x128_6_0_0_0 (half0 (rotW hm wm))
  let _ : Vec F S128x128 .i8 ← Prog.lift (.load arg10 (Rect.unit (s := S256x2048) (k0_off7 k 384#32) S128x128.size (k0_off7_inb k 3)).toLoadRect (View.loadsAt_vmem h_S128x128))
  Prog.lift (.store arg10 (Rect.unit (s := S256x2048) (k0_off7 k 384#32) S128x128.size (k0_off7_inb k 3)) (codeBytes (toE2m1 t3.v)) Finset.univ (View.stores_vmem h_S128x128 (harg10.storeExact_slice rfl _ (k0_off7_packedi8 k 3)) (fun _ => rfl)) (.inl rfl))
  let _ : Vec F S1x8x128 .i32 ← Prog.lift (.load arg16 (Rect.unit (s := S2x128x128) (k0_off8 k 24#32) S1x8x128.size (k0_off8_inb k 3)).toLoadRect (View.loadsAt_vmem h_S1x8x128))
  Prog.lift (.store arg16 (Rect.unit (s := S2x128x128) (k0_off8 k 24#32) S1x8x128.size (k0_off8_inb k 3)) (upI t3.e) Finset.univ (View.stores_vmem_bits_univ h_S1x8x128 rfl) (.inl rfl))
  let u3 ← tile arg14 arg15 7 inb_S8x64x128_S1x64x128_7_0_0 inb_S8x3x8x128_S1x3x8x128_7_0_0_0 (half1 (rotW hm wm))
  let _ : Vec F S128x128 .i8 ← Prog.lift (.load arg10 (Rect.unit (s := S256x2048) (k0_off9 k 384#32) S128x128.size (k0_off9_inb k 3)).toLoadRect (View.loadsAt_vmem h_S128x128))
  Prog.lift (.store arg10 (Rect.unit (s := S256x2048) (k0_off9 k 384#32) S128x128.size (k0_off9_inb k 3)) (codeBytes (toE2m1 u3.v)) Finset.univ (View.stores_vmem h_S128x128 (harg10.storeExact_slice rfl _ (k0_off9_packedi8 k 3)) (fun _ => rfl)) (.inl rfl))
  let _ : Vec F S1x8x128 .i32 ← Prog.lift (.load arg16 (Rect.unit (s := S2x128x128) (k0_off10 k 24#32) S1x8x128.size (k0_off10_inb k 3)).toLoadRect (View.loadsAt_vmem h_S1x8x128))
  Prog.lift (.store arg16 (Rect.unit (s := S2x128x128) (k0_off10 k 24#32) S1x8x128.size (k0_off10_inb k 3)) (upI u3.e) Finset.univ (View.stores_vmem_bits_univ h_S1x8x128 rfl) (.inl rfl))
  let _ : Vec F S128x128 .i8 ← Prog.lift (.load arg7 (Rect.unit (s := S256x512) (k0_off11 k) S128x128.size (k0_off11_inb k)).toLoadRect (View.loadsAt_vmem h_S128x128))
  Prog.lift (.store arg7 (Rect.unit (s := S256x512) (k0_off11 k) S128x128.size (k0_off11_inb k)) (maskBytes (maskWord t0.d) (maskWord t1.d) (maskWord t2.d) (maskWord t3.d)) Finset.univ (View.stores_vmem h_S128x128 (harg7.storeExact_slice rfl _ (k0_off11_packedi8 k)) (fun _ => rfl)) (.inl rfl))
  let _ : Vec F S128x128 .i8 ← Prog.lift (.load arg7 (Rect.unit (s := S256x512) (k0_off12 k) S128x128.size (k0_off12_inb k)).toLoadRect (View.loadsAt_vmem h_S128x128))
  Prog.lift (.store arg7 (Rect.unit (s := S256x512) (k0_off12 k) S128x128.size (k0_off12_inb k)) (maskBytes (maskWord u0.d) (maskWord u1.d) (maskWord u2.d) (maskWord u3.d)) Finset.univ (View.stores_vmem h_S128x128 (harg7.storeExact_slice rfl _ (k0_off12_packedi8 k)) (fun _ => rfl)) (.inl rfl))
  let acc : Vec F S128x256 .f32 ← Prog.lift (.load arg13 (Rect.unit (s := S128x256) ![0, 0] S128x256.size inb_S128x256_S128x256_0_0).toLoadRect (View.loadsAt_vmem h_S128x256))
  let xq : Vec F S128x1024 .bf16 ← Prog.lift (.load arg12 (Rect.unit (s := S128x16384) (k0_off13 i k) S128x1024.size (k0_off13_inb i k)).toLoadRect (View.loadsAt_vmem h_S128x1024))
  let _ : Vec F S128x256 .f32 ← Prog.lift (.load arg13 (Rect.unit (s := S128x256) ![0, 0] S128x256.size inb_S128x256_S128x256_0_0).toLoadRect (View.loadsAt_vmem h_S128x256))
  Prog.lift (.store arg13 (Rect.unit (s := S128x256) ![0, 0] S128x256.size inb_S128x256_S128x256_0_0) (accStep (deqW t0 u0) (deqW t1 u1) (deqW t2 u2) (deqW t3 u3) acc xq) Finset.univ (View.stores_vmem_bits_univ h_S128x256 rfl) (.inl rfl))
  pure ()

/-- The printed trip over the left operand is `tripX`. -/
theorem k0_t1_body_eq (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1) (arg1 : BitVec 32) (k : Fin k0_t1_loop.trips) (acc : Unit) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hi k acc = tripX i arg2 harg2 arg3 harg3 arg6 harg6 arg8 harg8 arg12 harg12 arg14 harg14 arg15 harg15 arg16 harg16 hi k := by chain_rfl

/-- The printed trip over the right operand is `tripW`. -/
theorem k0_t2_body_eq (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (k : Fin k0_t2_loop.trips) (acc : Unit) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc = tripW i arg2 harg2 arg4 harg4 arg7 harg7 arg10 harg10 arg12 harg12 arg13 harg13 arg14 harg14 arg15 harg15 arg16 harg16 k := by chain_rfl

end Cert.Kernel.Tile
-- ==== Proof.K.Spec.lean ====
module

public import proofs.«01_k».proof.Proof.K.TileRun
public import proofs.«01_k».proof.Proof.K.Trips

/-! # What the two loops leave

The arrays the body writes, as functions of the operand blocks it reads: `h` the rotation, `x` and
`w` the blocks of the left and the right operand. The columns of a block fall into tiles of 256. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Spec

variable (h : FVec F S256x256 .bf16) (x : FVec F S128x4096 .bf16) (w : FVec F S256x4096 .bf16)

/-- The 256 columns of tile `t` of the left operand. -/
def xcols (t : ℕ) : FVec F S128x256 .bf16 := fun y =>
  x (ix2 (y 0) ⟨(256 * t + (y 1).val) % 4096, Nat.mod_lt _ (by decide)⟩)

/-- The 256 columns of tile `t` of the right operand. -/
def wcols (t : ℕ) : FVec F S256x256 .bf16 := fun y =>
  w (ix2 (y 0) ⟨(256 * t + (y 1).val) % 4096, Nat.mod_lt _ (by decide)⟩)

/-- Tile `t` of the left operand. -/
def tX (t : ℕ) : Out F := tileOut (rotX h (xcols x t))

/-- Tile `t` of the right operand: the first 128 rows (`hf = 0`) or the last. -/
def tW (t hf : ℕ) : Out F :=
  tileOut (if hf = 0 then half0 (rotW h (wcols w t)) else half1 (rotW h (wcols w t)))

/-- A number modulo 128, as a coordinate. -/
def m128 (n : ℕ) : Fin 128 := ⟨n % 128, Nat.mod_lt _ (by decide)⟩

/-- The codes of the left operand. -/
def codesX : IVec S128x2048 8 := fun y =>
  codeBytes (toE2m1 (tX h x ((y 1).val / 128)).v) (ix2 (y 0) (m128 (y 1).val))

/-- The codes of the right operand. -/
def codesW : IVec S256x2048 8 := fun y =>
  codeBytes (toE2m1 (tW h w ((y 1).val / 128) ((y 0).val / 128)).v)
    (ix2 (m128 (y 0).val) (m128 (y 1).val))

/-- The mask of the left operand. -/
def maskX : IVec S128x512 8 := fun y =>
  maskBytes (maskWord (tX h x (4 * ((y 1).val / 128))).d)
    (maskWord (tX h x (4 * ((y 1).val / 128) + 1)).d)
    (maskWord (tX h x (4 * ((y 1).val / 128) + 2)).d)
    (maskWord (tX h x (4 * ((y 1).val / 128) + 3)).d) (ix2 (y 0) (m128 (y 1).val))

/-- The mask of the right operand. -/
def maskW : IVec S256x512 8 := fun y =>
  maskBytes (maskWord (tW h w (4 * ((y 1).val / 128)) ((y 0).val / 128)).d)
    (maskWord (tW h w (4 * ((y 1).val / 128) + 1) ((y 0).val / 128)).d)
    (maskWord (tW h w (4 * ((y 1).val / 128) + 2) ((y 0).val / 128)).d)
    (maskWord (tW h w (4 * ((y 1).val / 128) + 3) ((y 0).val / 128)).d)
    (ix2 (m128 (y 0).val) (m128 (y 1).val))

/-- A number modulo 8, as a coordinate. -/
def m8 (n : ℕ) : Fin 8 := ⟨n % 8, Nat.mod_lt _ (by decide)⟩

/-- The scratch of scale codes after the loop over the left operand: plane 0 only. -/
def scaleX : IVec S2x128x128 32 := fun y =>
  (tX h x ((y 1).val / 8)).e (ix2 (m8 (y 1).val) (y 2))

/-- The scratch of scale codes after the loop over the right operand. -/
def scaleW : IVec S2x128x128 32 := fun y =>
  (tW h w ((y 1).val / 8) (y 0).val).e (ix2 (m8 (y 1).val) (y 2))

/-- A number modulo 256, as a coordinate. -/
def m256 (n : ℕ) : Fin 256 := ⟨n % 256, Nat.mod_lt _ (by decide)⟩

/-- The dequantised left operand block. -/
def deqXs : FVec F S128x4096 .bf16 := fun y =>
  deqX (tX h x ((y 1).val / 256)) (ix2 (y 0) (m256 (y 1).val))

/-- 1024 columns of the dequantised left operand, from column `o`. -/
def xqcols (q : FVec F S128x16384 .bf16) (o : ℕ) : FVec F S128x1024 .bf16 := fun y =>
  q (ix2 (y 0) ⟨(o + (y 1).val) % 16384, Nat.mod_lt _ (by decide)⟩)

/-- The accumulator after `n` groups of columns of a block, the left operand's columns from `o`. -/
def accAt (q : FVec F S128x16384 .bf16) (o : ℕ) (a : FVec F S128x256 .f32) : ℕ → FVec F S128x256 .f32
  | 0 => a
  | n + 1 => accStep (deqW (tW h w (4 * n) 0) (tW h w (4 * n) 1))
      (deqW (tW h w (4 * n + 1) 0) (tW h w (4 * n + 1) 1))
      (deqW (tW h w (4 * n + 2) 0) (tW h w (4 * n + 2) 1))
      (deqW (tW h w (4 * n + 3) 0) (tW h w (4 * n + 3) 1)) (accAt q o a n) (xqcols q (o + 1024 * n))

end Spec

section Reads

variable {κ : Kind} {sp : Space} {S : Shape} {e : EltTy} (v : View sig κ sp S e)

/-- A list of writes that agree with `G`, over contents that agree with `G` where `P` holds, agrees
with `G` where `P` holds or a piece lies. -/
theorem read_agree (f : v.ty.Contents (Elt F)) (L : List (View.Piece (Elt F) S e)) (G : S.Idx → Elt F e)
    (P : S.Idx → Prop) (hG : ∀ p ∈ L, ∀ x : p.1.shape.Idx, p.2 x = G (p.1.emb x))
    (hf : ∀ y, P y → v.read (Elt F) f y = G y) (y : S.Idx) (hy : P y ∨ ∃ p ∈ L, y ∈ p.1.set) :
    v.read (Elt F) (v.writes (Elt F) f L) y = G y := by
  by_cases hc : ∃ p ∈ L, y ∈ p.1.set
  · exact View.read_writes_apply_of_pieces v f G L hG y hc
  · rw [View.read_writes_apply_of_forall_not_mem]
    · exact hf y (hy.resolve_right hc)
    · intro p hp hm
      exact hc ⟨p, hp, hm⟩

theorem mem_unit_set {off size : Fin S.rank → ℕ} (inb : ∀ a, off a + size a ≤ S.size a) (y : S.Idx)
    (h : ∀ a, off a ≤ (y a).val ∧ (y a).val < off a + size a) :
    y ∈ (Rect.unit (s := S) off size inb).set := by
  rw [LoadRect.mem_set]
  intro a
  refine ⟨(y a).val - off a, ?_, ?_⟩
  · show (y a).val - off a < size a
    have := h a; omega
  · show (y a).val = off a + 1 * ((y a).val - off a)
    have := h a; omega

end Reads

end Cert.Kernel.Tile
-- ==== Proof.K.Steps.lean ====
module

public import proofs.«01_k».proof.Proof.K.Spec

/-! # Running a trip

What one trip of each loop does to the arrays it writes, in the terms of the specification. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A tile at the head of a program: the program goes on from the tile's value. -/
theorem tile_bind (c : Dev nD) (arg14 : Memref sig .tc .vmem S8x64x128 .f32) (harg14 : arg14.IsWhole)
    (arg15 : Memref sig .tc .vmem S8x3x8x128 .f32) (harg15 : arg15.IsWhole) (s : ℕ)
    (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) (f14 : Bf (F := F) c arg14) (f15 : Bf (F := F) c arg15)
    (K : Out F → Prog (TpuEff nD τ sig (Elt F) Λ₀ .tc) Unit) (Q : Unit → sProp 𝕄) :
    iprop(pt c arg14 f14 ∗ pt c arg15 f15 ∗ (iprop((∃ f, pt c arg14 f) ∗ (∃ f, pt c arg15 f)) -∗
      wp frame (wpE (defs₀ (F := F)) Variants.none c none) Set.univ (K (tileOut r4)) Q))
    ⊢ wp frame (wpE (defs₀ (F := F)) Variants.none c none) Set.univ
        (tile arg14 arg15 s h14 h15 r4 >>= K) Q := by
  rw [wp_bind]
  exact tile_run c arg14 harg14 arg15 harg15 s h14 h15 r4 f14 f15
    (fun a => wp frame (wpE (defs₀ (F := F)) Variants.none c none) Set.univ (K a) Q)

section Loads

variable {κ : Kind} {sp : Space}

theorem load_full {S : Shape} {e : EltTy} (v : View sig κ sp S e) (f : v.ty.Contents (Elt F))
    (off : Fin S.rank → ℕ) (hoff : ∀ a, off a = 0) (inb : ∀ a, off a + S.size a ≤ S.size a) :
    v.readAt (Elt F) (Rect.unit (s := S) off S.size inb).toLoadRect f = v.read (Elt F) f := by
  funext y
  rw [View.readAt_apply]
  refine congrArg (v.read (Elt F) f) (funext fun a => Fin.ext ?_)
  show off a + 1 * (y a).val = (y a).val
  rw [hoff a]; omega

theorem load_x (v : View sig κ sp S128x4096 .bf16) (f : v.ty.Contents (Elt F)) (t : ℕ) (ht : t < 16)
    (off : Fin 2 → ℕ) (hoff : off = ![0, 256 * t]) (inb : ∀ a, off a + S128x256.size a ≤ S128x4096.size a) :
    v.readAt (Elt F) (Rect.unit (s := S128x4096) off S128x256.size inb).toLoadRect f
      = xcols (v.read (Elt F) f) t := by
  subst hoff
  funext y
  rw [View.readAt_apply]
  refine congrArg (v.read (Elt F) f) (funext fun a => Fin.ext ?_)
  have h1 : (y 1).val < 256 := (y 1).isLt
  match a with
  | ⟨0, _⟩ => show 0 + 1 * (y 0).val = (y 0).val; omega
  | ⟨1, _⟩ => show 256 * t + 1 * (y 1).val = (256 * t + (y 1).val) % 4096; omega

theorem load_w (v : View sig κ sp S256x4096 .bf16) (f : v.ty.Contents (Elt F)) (t : ℕ) (ht : t < 16)
    (off : Fin 2 → ℕ) (hoff : off = ![0, 256 * t]) (inb : ∀ a, off a + S256x256.size a ≤ S256x4096.size a) :
    v.readAt (Elt F) (Rect.unit (s := S256x4096) off S256x256.size inb).toLoadRect f
      = wcols (v.read (Elt F) f) t := by
  subst hoff
  funext y
  rw [View.readAt_apply]
  refine congrArg (v.read (Elt F) f) (funext fun a => Fin.ext ?_)
  have h1 : (y 1).val < 256 := (y 1).isLt
  match a with
  | ⟨0, _⟩ => show 0 + 1 * (y 0).val = (y 0).val; omega
  | ⟨1, _⟩ => show 256 * t + 1 * (y 1).val = (256 * t + (y 1).val) % 4096; omega

theorem load_xq (v : View sig κ sp S128x16384 .bf16) (f : v.ty.Contents (Elt F)) (o : ℕ)
    (ho : o + 1024 ≤ 16384) (off : Fin 2 → ℕ) (hoff : off = ![0, o])
    (inb : ∀ a, off a + S128x1024.size a ≤ S128x16384.size a) :
    v.readAt (Elt F) (Rect.unit (s := S128x16384) off S128x1024.size inb).toLoadRect f
      = xqcols (v.read (Elt F) f) o := by
  subst hoff
  funext y
  rw [View.readAt_apply]
  refine congrArg (v.read (Elt F) f) (funext fun a => Fin.ext ?_)
  have h1 : (y 1).val < 1024 := (y 1).isLt
  match a with
  | ⟨0, _⟩ => show 0 + 1 * (y 0).val = (y 0).val; omega
  | ⟨1, _⟩ => show o + 1 * (y 1).val = (o + (y 1).val) % 16384; omega

end Loads

section At

variable (h : FVec F S256x256 .bf16) (x : FVec F S128x4096 .bf16) (w : FVec F S256x4096 .bf16)

theorem codesW_at (y : S256x2048.Idx) (t hf : ℕ) (z : S128x128.Idx)
    (h0 : (y 0).val = 128 * hf + (z 0).val) (h1 : (y 1).val = 128 * t + (z 1).val) :
    codesW h w y = codeBytes (toE2m1 (tW h w t hf).v) z := by
  have hz0 : (z 0).val < 128 := (z 0).isLt
  have hz1 : (z 1).val < 128 := (z 1).isLt
  unfold codesW
  rw [show (y 1).val / 128 = t by omega, show (y 0).val / 128 = hf by omega]
  refine congrArg _ (funext fun a => Fin.ext ?_)
  match a with
  | ⟨0, _⟩ => show (y 0).val % 128 = (z 0).val; omega
  | ⟨1, _⟩ => show (y 1).val % 128 = (z 1).val; omega

theorem maskW_at (y : S256x512.Idx) (t hf : ℕ) (z : S128x128.Idx)
    (h0 : (y 0).val = 128 * hf + (z 0).val) (h1 : (y 1).val = 128 * t + (z 1).val) :
    maskW h w y = maskBytes (maskWord (tW h w (4 * t) hf).d) (maskWord (tW h w (4 * t + 1) hf).d)
      (maskWord (tW h w (4 * t + 2) hf).d) (maskWord (tW h w (4 * t + 3) hf).d) z := by
  have hz0 : (z 0).val < 128 := (z 0).isLt
  have hz1 : (z 1).val < 128 := (z 1).isLt
  unfold maskW
  rw [show (y 1).val / 128 = t by omega, show (y 0).val / 128 = hf by omega]
  refine congrArg _ (funext fun a => Fin.ext ?_)
  match a with
  | ⟨0, _⟩ => show (y 0).val % 128 = (z 0).val; omega
  | ⟨1, _⟩ => show (y 1).val % 128 = (z 1).val; omega

theorem upI_apply (e : IVec S8x128 32) (z : S1x8x128.Idx) : upI e z = e (ix2 (z 1) (z 2)) := by
  have hz : z = (ix3 0 (z 1) (z 2) : S1x8x128.Idx) := by
    funext a
    match a with
    | ⟨0, _⟩ => exact Fin.ext (by have : (z 0).val < 1 := (z 0).isLt; show (z 0).val = 0; omega)
    | ⟨1, _⟩ => rfl
    | ⟨2, _⟩ => rfl
  rw [hz]
  exact (shapeCast_addUnit_apply ![8, 128] e shapeCasts_S8x128_S1x8x128 (ix3 0 (z 1) (z 2))).trans
    (congrArg e (by funext a; match a with | ⟨0, _⟩ => rfl | ⟨1, _⟩ => rfl))

theorem scaleW_at (y : S2x128x128.Idx) (t hf : ℕ) (z : S1x8x128.Idx)
    (h0 : (y 0).val = hf + (z 0).val) (h1 : (y 1).val = 8 * t + (z 1).val) (h2 : (y 2).val = (z 2).val) :
    scaleW h w y = upI (tW h w t hf).e z := by
  have hz0 : (z 0).val < 1 := (z 0).isLt
  have hz1 : (z 1).val < 8 := (z 1).isLt
  rw [upI_apply]
  unfold scaleW
  rw [show (y 1).val / 8 = t by omega, show (y 0).val = hf by omega]
  refine congrArg _ (funext fun a => Fin.ext ?_)
  match a with
  | ⟨0, _⟩ => show (y 1).val % 8 = (z 1).val; omega
  | ⟨1, _⟩ => exact h2

theorem codesX_at (y : S128x2048.Idx) (t : ℕ) (z : S128x128.Idx)
    (h0 : (y 0).val = (z 0).val) (h1 : (y 1).val = 128 * t + (z 1).val) :
    codesX h x y = codeBytes (toE2m1 (tX h x t).v) z := by
  have hz1 : (z 1).val < 128 := (z 1).isLt
  unfold codesX
  rw [show (y 1).val / 128 = t by omega]
  refine congrArg _ (funext fun a => Fin.ext ?_)
  match a with
  | ⟨0, _⟩ => exact h0
  | ⟨1, _⟩ => show (y 1).val % 128 = (z 1).val; omega

theorem maskX_at (y : S128x512.Idx) (t : ℕ) (z : S128x128.Idx)
    (h0 : (y 0).val = (z 0).val) (h1 : (y 1).val = 128 * t + (z 1).val) :
    maskX h x y = maskBytes (maskWord (tX h x (4 * t)).d) (maskWord (tX h x (4 * t + 1)).d)
      (maskWord (tX h x (4 * t + 2)).d) (maskWord (tX h x (4 * t + 3)).d) z := by
  have hz1 : (z 1).val < 128 := (z 1).isLt
  unfold maskX
  rw [show (y 1).val / 128 = t by omega]
  refine congrArg _ (funext fun a => Fin.ext ?_)
  match a with
  | ⟨0, _⟩ => exact h0
  | ⟨1, _⟩ => show (y 1).val % 128 = (z 1).val; omega

theorem scaleX_at (y : S2x128x128.Idx) (t : ℕ) (z : S1x8x128.Idx)
    (h1 : (y 1).val = 8 * t + (z 1).val) (h2 : (y 2).val = (z 2).val) :
    scaleX h x y = upI (tX h x t).e z := by
  have hz1 : (z 1).val < 8 := (z 1).isLt
  rw [upI_apply]
  unfold scaleX
  rw [show (y 1).val / 8 = t by omega]
  refine congrArg _ (funext fun a => Fin.ext ?_)
  match a with
  | ⟨0, _⟩ => show (y 1).val % 8 = (z 1).val; omega
  | ⟨1, _⟩ => exact h2

theorem deqXs_at (y : S128x4096.Idx) (t : ℕ) (z : S128x256.Idx)
    (h0 : (y 0).val = (z 0).val) (h1 : (y 1).val = 256 * t + (z 1).val) :
    deqXs h x y = deqX (tX h x t) z := by
  have hz1 : (z 1).val < 256 := (z 1).isLt
  unfold deqXs
  rw [show (y 1).val / 256 = t by omega]
  refine congrArg _ (funext fun a => Fin.ext ?_)
  match a with
  | ⟨0, _⟩ => exact h0
  | ⟨1, _⟩ => show (y 1).val % 256 = (z 1).val; omega

end At

section Steps

variable {κ : Kind} {sp : Space} (h : FVec F S256x256 .bf16) (x : FVec F S128x4096 .bf16)
  (w : FVec F S256x4096 .bf16)

/-- The codes a trip over the right operand stores. -/
def piecesCW (k : Fin k0_t2_loop.trips) : List (View.Piece (Elt F) S256x2048 .i8) := [
  ⟨Rect.unit (s := S256x2048) (k0_off9 k 384#32) S128x128.size (k0_off9_inb k 3), codeBytes (toE2m1 (tW h w (4 * k.val + 3) 1).v)⟩,
  ⟨Rect.unit (s := S256x2048) (k0_off7 k 384#32) S128x128.size (k0_off7_inb k 3), codeBytes (toE2m1 (tW h w (4 * k.val + 3) 0).v)⟩,
  ⟨Rect.unit (s := S256x2048) (k0_off9 k 256#32) S128x128.size (k0_off9_inb k 2), codeBytes (toE2m1 (tW h w (4 * k.val + 2) 1).v)⟩,
  ⟨Rect.unit (s := S256x2048) (k0_off7 k 256#32) S128x128.size (k0_off7_inb k 2), codeBytes (toE2m1 (tW h w (4 * k.val + 2) 0).v)⟩,
  ⟨Rect.unit (s := S256x2048) (k0_off9 k 128#32) S128x128.size (k0_off9_inb k 1), codeBytes (toE2m1 (tW h w (4 * k.val + 1) 1).v)⟩,
  ⟨Rect.unit (s := S256x2048) (k0_off7 k 128#32) S128x128.size (k0_off7_inb k 1), codeBytes (toE2m1 (tW h w (4 * k.val + 1) 0).v)⟩,
  ⟨Rect.unit (s := S256x2048) (k0_off9 k 0#32) S128x128.size (k0_off9_inb k 0), codeBytes (toE2m1 (tW h w (4 * k.val) 1).v)⟩,
  ⟨Rect.unit (s := S256x2048) (k0_off7 k 0#32) S128x128.size (k0_off7_inb k 0), codeBytes (toE2m1 (tW h w (4 * k.val) 0).v)⟩]

theorem stepCW (k : Fin k0_t2_loop.trips) (v : View sig κ sp S256x2048 .i8) (f : v.ty.Contents (Elt F))
    (hf : ∀ y : (S256x2048).Idx, (y 1).val < 512 * k.val → v.read (Elt F) f y = codesW h w y) (y : (S256x2048).Idx) (hy : (y 1).val < 512 * (k.val + 1)) :
    v.read (Elt F) (v.writes (Elt F) f (piecesCW h w k)) y = codesW h w y := by
  have hk : k.val < 4 := lt_of_lt_of_eq k.isLt (by decide)
  refine read_agree v f _ (codesW h w) (fun y => (y 1).val < 512 * k.val) ?_ hf y ?_
  · unfold piecesCW
    simp only [List.forall_mem_cons, List.not_mem_nil, false_imp_iff, implies_true, and_true]
    refine ⟨?_, ?_, ?_, ?_, ?_, ?_, ?_, ?_⟩
    · intro z
      have e0 := congrFun (k0_off9_eq k 3) 0
      have e1 := congrFun (k0_off9_eq k 3) 1
      exact (codesW_at h w _ (4 * k.val + 3) 1 z (by show k0_off9 k 384#32 0 + 1 * (z 0).val = _; refine (congrArg (· + 1 * (z 0).val) e0).trans ?_; show 128 + 1 * (z 0).val = _; omega)
        (by show k0_off9 k 384#32 1 + 1 * (z 1).val = _; refine (congrArg (· + 1 * (z 1).val) e1).trans ?_; show 512 * k.val + 128 * 3 + 1 * (z 1).val = _; omega)).symm
    · intro z
      have e0 := congrFun (k0_off7_eq k 3) 0
      have e1 := congrFun (k0_off7_eq k 3) 1
      exact (codesW_at h w _ (4 * k.val + 3) 0 z (by show k0_off7 k 384#32 0 + 1 * (z 0).val = _; refine (congrArg (· + 1 * (z 0).val) e0).trans ?_; show 0 + 1 * (z 0).val = _; omega)
        (by show k0_off7 k 384#32 1 + 1 * (z 1).val = _; refine (congrArg (· + 1 * (z 1).val) e1).trans ?_; show 512 * k.val + 128 * 3 + 1 * (z 1).val = _; omega)).symm
    · intro z
      have e0 := congrFun (k0_off9_eq k 2) 0
      have e1 := congrFun (k0_off9_eq k 2) 1
      exact (codesW_at h w _ (4 * k.val + 2) 1 z (by show k0_off9 k 256#32 0 + 1 * (z 0).val = _; refine (congrArg (· + 1 * (z 0).val) e0).trans ?_; show 128 + 1 * (z 0).val = _; omega)
        (by show k0_off9 k 256#32 1 + 1 * (z 1).val = _; refine (congrArg (· + 1 * (z 1).val) e1).trans ?_; show 512 * k.val + 128 * 2 + 1 * (z 1).val = _; omega)).symm
    · intro z
      have e0 := congrFun (k0_off7_eq k 2) 0
      have e1 := congrFun (k0_off7_eq k 2) 1
      exact (codesW_at h w _ (4 * k.val + 2) 0 z (by show k0_off7 k 256#32 0 + 1 * (z 0).val = _; refine (congrArg (· + 1 * (z 0).val) e0).trans ?_; show 0 + 1 * (z 0).val = _; omega)
        (by show k0_off7 k 256#32 1 + 1 * (z 1).val = _; refine (congrArg (· + 1 * (z 1).val) e1).trans ?_; show 512 * k.val + 128 * 2 + 1 * (z 1).val = _; omega)).symm
    · intro z
      have e0 := congrFun (k0_off9_eq k 1) 0
      have e1 := congrFun (k0_off9_eq k 1) 1
      exact (codesW_at h w _ (4 * k.val + 1) 1 z (by show k0_off9 k 128#32 0 + 1 * (z 0).val = _; refine (congrArg (· + 1 * (z 0).val) e0).trans ?_; show 128 + 1 * (z 0).val = _; omega)
        (by show k0_off9 k 128#32 1 + 1 * (z 1).val = _; refine (congrArg (· + 1 * (z 1).val) e1).trans ?_; show 512 * k.val + 128 * 1 + 1 * (z 1).val = _; omega)).symm
    · intro z
      have e0 := congrFun (k0_off7_eq k 1) 0
      have e1 := congrFun (k0_off7_eq k 1) 1
      exact (codesW_at h w _ (4 * k.val + 1) 0 z (by show k0_off7 k 128#32 0 + 1 * (z 0).val = _; refine (congrArg (· + 1 * (z 0).val) e0).trans ?_; show 0 + 1 * (z 0).val = _; omega)
        (by show k0_off7 k 128#32 1 + 1 * (z 1).val = _; refine (congrArg (· + 1 * (z 1).val) e1).trans ?_; show 512 * k.val + 128 * 1 + 1 * (z 1).val = _; omega)).symm
    · intro z
      have e0 := congrFun (k0_off9_eq k 0) 0
      have e1 := congrFun (k0_off9_eq k 0) 1
      exact (codesW_at h w _ (4 * k.val) 1 z (by show k0_off9 k 0#32 0 + 1 * (z 0).val = _; refine (congrArg (· + 1 * (z 0).val) e0).trans ?_; show 128 + 1 * (z 0).val = _; omega)
        (by show k0_off9 k 0#32 1 + 1 * (z 1).val = _; refine (congrArg (· + 1 * (z 1).val) e1).trans ?_; show 512 * k.val + 128 * 0 + 1 * (z 1).val = _; omega)).symm
    · intro z
      have e0 := congrFun (k0_off7_eq k 0) 0
      have e1 := congrFun (k0_off7_eq k 0) 1
      exact (codesW_at h w _ (4 * k.val) 0 z (by show k0_off7 k 0#32 0 + 1 * (z 0).val = _; refine (congrArg (· + 1 * (z 0).val) e0).trans ?_; show 0 + 1 * (z 0).val = _; omega)
        (by show k0_off7 k 0#32 1 + 1 * (z 1).val = _; refine (congrArg (· + 1 * (z 1).val) e1).trans ?_; show 512 * k.val + 128 * 0 + 1 * (z 1).val = _; omega)).symm
  · have y0 := (y 0).isLt
    have y1 := (y 1).isLt
    by_cases hp : (y 1).val < 512 * k.val
    · exact Or.inl hp
    refine Or.inr ?_
    unfold piecesCW
    have hr : (y 1).val / 128 = 4 * k.val ∨ (y 1).val / 128 = 4 * k.val + 1 ∨ (y 1).val / 128 = 4 * k.val + 2 ∨ (y 1).val / 128 = 4 * k.val + 3 := by omega
    have hh : (y 0).val / 128 = 0 ∨ (y 0).val / 128 = 1 := by change (y 0).val < 256 at y0; omega
    rcases hr with hr | hr | hr | hr
    · rcases hh with hh | hh
      · refine ⟨_, List.mem_of_getElem? (i := 7) rfl, mem_unit_set (k0_off7_inb k 0) y fun a => ?_⟩
        rw [show k0_off7 k 0#32 = _ from k0_off7_eq k 0]
        match a with
        | ⟨0, _⟩ => show 0 ≤ (y 0).val ∧ (y 0).val < 0 + 128; change (y 0).val < 256 at y0; omega
        | ⟨1, _⟩ => show 512 * k.val + 128 * 0 ≤ (y 1).val ∧ (y 1).val < 512 * k.val + 128 * 0 + 128; omega
      · refine ⟨_, List.mem_of_getElem? (i := 6) rfl, mem_unit_set (k0_off9_inb k 0) y fun a => ?_⟩
        rw [show k0_off9 k 0#32 = _ from k0_off9_eq k 0]
        match a with
        | ⟨0, _⟩ => show 128 ≤ (y 0).val ∧ (y 0).val < 128 + 128; change (y 0).val < 256 at y0; omega
        | ⟨1, _⟩ => show 512 * k.val + 128 * 0 ≤ (y 1).val ∧ (y 1).val < 512 * k.val + 128 * 0 + 128; omega
    · rcases hh with hh | hh
      · refine ⟨_, List.mem_of_getElem? (i := 5) rfl, mem_unit_set (k0_off7_inb k 1) y fun a => ?_⟩
        rw [show k0_off7 k 128#32 = _ from k0_off7_eq k 1]
        match a with
        | ⟨0, _⟩ => show 0 ≤ (y 0).val ∧ (y 0).val < 0 + 128; change (y 0).val < 256 at y0; omega
        | ⟨1, _⟩ => show 512 * k.val + 128 * 1 ≤ (y 1).val ∧ (y 1).val < 512 * k.val + 128 * 1 + 128; omega
      · refine ⟨_, List.mem_of_getElem? (i := 4) rfl, mem_unit_set (k0_off9_inb k 1) y fun a => ?_⟩
        rw [show k0_off9 k 128#32 = _ from k0_off9_eq k 1]
        match a with
        | ⟨0, _⟩ => show 128 ≤ (y 0).val ∧ (y 0).val < 128 + 128; change (y 0).val < 256 at y0; omega
        | ⟨1, _⟩ => show 512 * k.val + 128 * 1 ≤ (y 1).val ∧ (y 1).val < 512 * k.val + 128 * 1 + 128; omega
    · rcases hh with hh | hh
      · refine ⟨_, List.mem_of_getElem? (i := 3) rfl, mem_unit_set (k0_off7_inb k 2) y fun a => ?_⟩
        rw [show k0_off7 k 256#32 = _ from k0_off7_eq k 2]
        match a with
        | ⟨0, _⟩ => show 0 ≤ (y 0).val ∧ (y 0).val < 0 + 128; change (y 0).val < 256 at y0; omega
        | ⟨1, _⟩ => show 512 * k.val + 128 * 2 ≤ (y 1).val ∧ (y 1).val < 512 * k.val + 128 * 2 + 128; omega
      · refine ⟨_, List.mem_of_getElem? (i := 2) rfl, mem_unit_set (k0_off9_inb k 2) y fun a => ?_⟩
        rw [show k0_off9 k 256#32 = _ from k0_off9_eq k 2]
        match a with
        | ⟨0, _⟩ => show 128 ≤ (y 0).val ∧ (y 0).val < 128 + 128; change (y 0).val < 256 at y0; omega
        | ⟨1, _⟩ => show 512 * k.val + 128 * 2 ≤ (y 1).val ∧ (y 1).val < 512 * k.val + 128 * 2 + 128; omega
    · rcases hh with hh | hh
      · refine ⟨_, List.mem_of_getElem? (i := 1) rfl, mem_unit_set (k0_off7_inb k 3) y fun a => ?_⟩
        rw [show k0_off7 k 384#32 = _ from k0_off7_eq k 3]
        match a with
        | ⟨0, _⟩ => show 0 ≤ (y 0).val ∧ (y 0).val < 0 + 128; change (y 0).val < 256 at y0; omega
        | ⟨1, _⟩ => show 512 * k.val + 128 * 3 ≤ (y 1).val ∧ (y 1).val < 512 * k.val + 128 * 3 + 128; omega
      · refine ⟨_, List.mem_of_getElem? (i := 0) rfl, mem_unit_set (k0_off9_inb k 3) y fun a => ?_⟩
        rw [show k0_off9 k 384#32 = _ from k0_off9_eq k 3]
        match a with
        | ⟨0, _⟩ => show 128 ≤ (y 0).val ∧ (y 0).val < 128 + 128; change (y 0).val < 256 at y0; omega
        | ⟨1, _⟩ => show 512 * k.val + 128 * 3 ≤ (y 1).val ∧ (y 1).val < 512 * k.val + 128 * 3 + 128; omega

/-- The masks a trip over the right operand stores. -/
def piecesMW (k : Fin k0_t2_loop.trips) : List (View.Piece (Elt F) S256x512 .i8) := [
  ⟨Rect.unit (s := S256x512) (k0_off12 k) S128x128.size (k0_off12_inb k), maskBytes (maskWord (tW h w (4 * k.val) 1).d) (maskWord (tW h w (4 * k.val + 1) 1).d) (maskWord (tW h w (4 * k.val + 2) 1).d) (maskWord (tW h w (4 * k.val + 3) 1).d)⟩,
  ⟨Rect.unit (s := S256x512) (k0_off11 k) S128x128.size (k0_off11_inb k), maskBytes (maskWord (tW h w (4 * k.val) 0).d) (maskWord (tW h w (4 * k.val + 1) 0).d) (maskWord (tW h w (4 * k.val + 2) 0).d) (maskWord (tW h w (4 * k.val + 3) 0).d)⟩]

theorem stepMW (k : Fin k0_t2_loop.trips) (v : View sig κ sp S256x512 .i8) (f : v.ty.Contents (Elt F))
    (hf : ∀ y : (S256x512).Idx, (y 1).val < 128 * k.val → v.read (Elt F) f y = maskW h w y) (y : (S256x512).Idx) (hy : (y 1).val < 128 * (k.val + 1)) :
    v.read (Elt F) (v.writes (Elt F) f (piecesMW h w k)) y = maskW h w y := by
  have hk : k.val < 4 := lt_of_lt_of_eq k.isLt (by decide)
  refine read_agree v f _ (maskW h w) (fun y => (y 1).val < 128 * k.val) ?_ hf y ?_
  · unfold piecesMW
    simp only [List.forall_mem_cons, List.not_mem_nil, false_imp_iff, implies_true, and_true]
    refine ⟨?_, ?_⟩
    · intro z
      have e0 := congrFun (k0_off12_eq k) 0
      have e1 := congrFun (k0_off12_eq k) 1
      exact (maskW_at h w _ k.val 1 z (by show k0_off12 k 0 + 1 * (z 0).val = _; rw [e0]; show 128 + 1 * (z 0).val = _; omega)
        (by show k0_off12 k 1 + 1 * (z 1).val = _; rw [e1]; show 128 * k.val + 1 * (z 1).val = _; omega)).symm
    · intro z
      have e0 := congrFun (k0_off11_eq k) 0
      have e1 := congrFun (k0_off11_eq k) 1
      exact (maskW_at h w _ k.val 0 z (by show k0_off11 k 0 + 1 * (z 0).val = _; rw [e0]; show 0 + 1 * (z 0).val = _; omega)
        (by show k0_off11 k 1 + 1 * (z 1).val = _; rw [e1]; show 128 * k.val + 1 * (z 1).val = _; omega)).symm
  · have y0 := (y 0).isLt
    have y1 := (y 1).isLt
    by_cases hp : (y 1).val < 128 * k.val
    · exact Or.inl hp
    refine Or.inr ?_
    unfold piecesMW
    by_cases hh : (y 0).val < 128
    · refine ⟨_, List.mem_of_getElem? (i := 1) rfl, mem_unit_set (k0_off11_inb k) y fun a => ?_⟩
      rw [k0_off11_eq k]
      match a with
      | ⟨0, _⟩ => show 0 ≤ (y 0).val ∧ (y 0).val < 0 + 128; change (y 0).val < 256 at y0; omega
      | ⟨1, _⟩ => show 128 * k.val ≤ (y 1).val ∧ (y 1).val < 128 * k.val + 128; omega
    · refine ⟨_, List.mem_of_getElem? (i := 0) rfl, mem_unit_set (k0_off12_inb k) y fun a => ?_⟩
      rw [k0_off12_eq k]
      match a with
      | ⟨0, _⟩ => show 128 ≤ (y 0).val ∧ (y 0).val < 128 + 128; change (y 0).val < 256 at y0; omega
      | ⟨1, _⟩ => show 128 * k.val ≤ (y 1).val ∧ (y 1).val < 128 * k.val + 128; omega

/-- The scale codes a trip over the right operand stores. -/
def piecesSW (k : Fin k0_t2_loop.trips) : List (View.Piece (Elt F) S2x128x128 .i32) := [
  ⟨Rect.unit (s := S2x128x128) (k0_off10 k 24#32) S1x8x128.size (k0_off10_inb k 3), upI (tW h w (4 * k.val + 3) 1).e⟩,
  ⟨Rect.unit (s := S2x128x128) (k0_off8 k 24#32) S1x8x128.size (k0_off8_inb k 3), upI (tW h w (4 * k.val + 3) 0).e⟩,
  ⟨Rect.unit (s := S2x128x128) (k0_off10 k 16#32) S1x8x128.size (k0_off10_inb k 2), upI (tW h w (4 * k.val + 2) 1).e⟩,
  ⟨Rect.unit (s := S2x128x128) (k0_off8 k 16#32) S1x8x128.size (k0_off8_inb k 2), upI (tW h w (4 * k.val + 2) 0).e⟩,
  ⟨Rect.unit (s := S2x128x128) (k0_off10 k 8#32) S1x8x128.size (k0_off10_inb k 1), upI (tW h w (4 * k.val + 1) 1).e⟩,
  ⟨Rect.unit (s := S2x128x128) (k0_off8 k 8#32) S1x8x128.size (k0_off8_inb k 1), upI (tW h w (4 * k.val + 1) 0).e⟩,
  ⟨Rect.unit (s := S2x128x128) (k0_off10 k 0#32) S1x8x128.size (k0_off10_inb k 0), upI (tW h w (4 * k.val) 1).e⟩,
  ⟨Rect.unit (s := S2x128x128) (k0_off8 k 0#32) S1x8x128.size (k0_off8_inb k 0), upI (tW h w (4 * k.val) 0).e⟩]

theorem stepSW (k : Fin k0_t2_loop.trips) (v : View sig κ sp S2x128x128 .i32) (f : v.ty.Contents (Elt F))
    (hf : ∀ y : (S2x128x128).Idx, (y 1).val < 32 * k.val → v.read (Elt F) f y = scaleW h w y) (y : (S2x128x128).Idx) (hy : (y 1).val < 32 * (k.val + 1)) :
    v.read (Elt F) (v.writes (Elt F) f (piecesSW h w k)) y = scaleW h w y := by
  have hk : k.val < 4 := lt_of_lt_of_eq k.isLt (by decide)
  refine read_agree v f _ (scaleW h w) (fun y => (y 1).val < 32 * k.val) ?_ hf y ?_
  · unfold piecesSW
    simp only [List.forall_mem_cons, List.not_mem_nil, false_imp_iff, implies_true, and_true]
    refine ⟨?_, ?_, ?_, ?_, ?_, ?_, ?_, ?_⟩
    · intro z
      have e0 := congrFun (k0_off10_eq k 3) 0
      have e1 := congrFun (k0_off10_eq k 3) 1
      have e2 := congrFun (k0_off10_eq k 3) 2
      exact (scaleW_at h w _ (4 * k.val + 3) 1 z (by show k0_off10 k 24#32 0 + 1 * (z 0).val = _; refine (congrArg (· + 1 * (z 0).val) e0).trans ?_; show 1 + 1 * (z 0).val = _; omega)
        (by show k0_off10 k 24#32 1 + 1 * (z 1).val = _; refine (congrArg (· + 1 * (z 1).val) e1).trans ?_; show 32 * k.val + 8 * 3 + 1 * (z 1).val = _; omega)
        (by show k0_off10 k 24#32 2 + 1 * (z 2).val = _; refine (congrArg (· + 1 * (z 2).val) e2).trans ?_; show 0 + 1 * (z 2).val = _; omega)).symm
    · intro z
      have e0 := congrFun (k0_off8_eq k 3) 0
      have e1 := congrFun (k0_off8_eq k 3) 1
      have e2 := congrFun (k0_off8_eq k 3) 2
      exact (scaleW_at h w _ (4 * k.val + 3) 0 z (by show k0_off8 k 24#32 0 + 1 * (z 0).val = _; refine (congrArg (· + 1 * (z 0).val) e0).trans ?_; show 0 + 1 * (z 0).val = _; omega)
        (by show k0_off8 k 24#32 1 + 1 * (z 1).val = _; refine (congrArg (· + 1 * (z 1).val) e1).trans ?_; show 32 * k.val + 8 * 3 + 1 * (z 1).val = _; omega)
        (by show k0_off8 k 24#32 2 + 1 * (z 2).val = _; refine (congrArg (· + 1 * (z 2).val) e2).trans ?_; show 0 + 1 * (z 2).val = _; omega)).symm
    · intro z
      have e0 := congrFun (k0_off10_eq k 2) 0
      have e1 := congrFun (k0_off10_eq k 2) 1
      have e2 := congrFun (k0_off10_eq k 2) 2
      exact (scaleW_at h w _ (4 * k.val + 2) 1 z (by show k0_off10 k 16#32 0 + 1 * (z 0).val = _; refine (congrArg (· + 1 * (z 0).val) e0).trans ?_; show 1 + 1 * (z 0).val = _; omega)
        (by show k0_off10 k 16#32 1 + 1 * (z 1).val = _; refine (congrArg (· + 1 * (z 1).val) e1).trans ?_; show 32 * k.val + 8 * 2 + 1 * (z 1).val = _; omega)
        (by show k0_off10 k 16#32 2 + 1 * (z 2).val = _; refine (congrArg (· + 1 * (z 2).val) e2).trans ?_; show 0 + 1 * (z 2).val = _; omega)).symm
    · intro z
      have e0 := congrFun (k0_off8_eq k 2) 0
      have e1 := congrFun (k0_off8_eq k 2) 1
      have e2 := congrFun (k0_off8_eq k 2) 2
      exact (scaleW_at h w _ (4 * k.val + 2) 0 z (by show k0_off8 k 16#32 0 + 1 * (z 0).val = _; refine (congrArg (· + 1 * (z 0).val) e0).trans ?_; show 0 + 1 * (z 0).val = _; omega)
        (by show k0_off8 k 16#32 1 + 1 * (z 1).val = _; refine (congrArg (· + 1 * (z 1).val) e1).trans ?_; show 32 * k.val + 8 * 2 + 1 * (z 1).val = _; omega)
        (by show k0_off8 k 16#32 2 + 1 * (z 2).val = _; refine (congrArg (· + 1 * (z 2).val) e2).trans ?_; show 0 + 1 * (z 2).val = _; omega)).symm
    · intro z
      have e0 := congrFun (k0_off10_eq k 1) 0
      have e1 := congrFun (k0_off10_eq k 1) 1
      have e2 := congrFun (k0_off10_eq k 1) 2
      exact (scaleW_at h w _ (4 * k.val + 1) 1 z (by show k0_off10 k 8#32 0 + 1 * (z 0).val = _; refine (congrArg (· + 1 * (z 0).val) e0).trans ?_; show 1 + 1 * (z 0).val = _; omega)
        (by show k0_off10 k 8#32 1 + 1 * (z 1).val = _; refine (congrArg (· + 1 * (z 1).val) e1).trans ?_; show 32 * k.val + 8 * 1 + 1 * (z 1).val = _; omega)
        (by show k0_off10 k 8#32 2 + 1 * (z 2).val = _; refine (congrArg (· + 1 * (z 2).val) e2).trans ?_; show 0 + 1 * (z 2).val = _; omega)).symm
    · intro z
      have e0 := congrFun (k0_off8_eq k 1) 0
      have e1 := congrFun (k0_off8_eq k 1) 1
      have e2 := congrFun (k0_off8_eq k 1) 2
      exact (scaleW_at h w _ (4 * k.val + 1) 0 z (by show k0_off8 k 8#32 0 + 1 * (z 0).val = _; refine (congrArg (· + 1 * (z 0).val) e0).trans ?_; show 0 + 1 * (z 0).val = _; omega)
        (by show k0_off8 k 8#32 1 + 1 * (z 1).val = _; refine (congrArg (· + 1 * (z 1).val) e1).trans ?_; show 32 * k.val + 8 * 1 + 1 * (z 1).val = _; omega)
        (by show k0_off8 k 8#32 2 + 1 * (z 2).val = _; refine (congrArg (· + 1 * (z 2).val) e2).trans ?_; show 0 + 1 * (z 2).val = _; omega)).symm
    · intro z
      have e0 := congrFun (k0_off10_eq k 0) 0
      have e1 := congrFun (k0_off10_eq k 0) 1
      have e2 := congrFun (k0_off10_eq k 0) 2
      exact (scaleW_at h w _ (4 * k.val) 1 z (by show k0_off10 k 0#32 0 + 1 * (z 0).val = _; refine (congrArg (· + 1 * (z 0).val) e0).trans ?_; show 1 + 1 * (z 0).val = _; omega)
        (by show k0_off10 k 0#32 1 + 1 * (z 1).val = _; refine (congrArg (· + 1 * (z 1).val) e1).trans ?_; show 32 * k.val + 8 * 0 + 1 * (z 1).val = _; omega)
        (by show k0_off10 k 0#32 2 + 1 * (z 2).val = _; refine (congrArg (· + 1 * (z 2).val) e2).trans ?_; show 0 + 1 * (z 2).val = _; omega)).symm
    · intro z
      have e0 := congrFun (k0_off8_eq k 0) 0
      have e1 := congrFun (k0_off8_eq k 0) 1
      have e2 := congrFun (k0_off8_eq k 0) 2
      exact (scaleW_at h w _ (4 * k.val) 0 z (by show k0_off8 k 0#32 0 + 1 * (z 0).val = _; refine (congrArg (· + 1 * (z 0).val) e0).trans ?_; show 0 + 1 * (z 0).val = _; omega)
        (by show k0_off8 k 0#32 1 + 1 * (z 1).val = _; refine (congrArg (· + 1 * (z 1).val) e1).trans ?_; show 32 * k.val + 8 * 0 + 1 * (z 1).val = _; omega)
        (by show k0_off8 k 0#32 2 + 1 * (z 2).val = _; refine (congrArg (· + 1 * (z 2).val) e2).trans ?_; show 0 + 1 * (z 2).val = _; omega)).symm
  · have y0 := (y 0).isLt
    have y1 := (y 1).isLt
    have y2 := (y 2).isLt
    by_cases hp : (y 1).val < 32 * k.val
    · exact Or.inl hp
    refine Or.inr ?_
    unfold piecesSW
    have hr : (y 1).val / 8 = 4 * k.val ∨ (y 1).val / 8 = 4 * k.val + 1 ∨ (y 1).val / 8 = 4 * k.val + 2 ∨ (y 1).val / 8 = 4 * k.val + 3 := by omega
    have hh : (y 0).val = 0 ∨ (y 0).val = 1 := by change (y 0).val < 2 at y0; omega
    rcases hr with hr | hr | hr | hr
    · rcases hh with hh | hh
      · refine ⟨_, List.mem_of_getElem? (i := 7) rfl, mem_unit_set (k0_off8_inb k 0) y fun a => ?_⟩
        rw [show k0_off8 k 0#32 = _ from k0_off8_eq k 0]
        match a with
        | ⟨0, _⟩ => show 0 ≤ (y 0).val ∧ (y 0).val < 0 + 1; omega
        | ⟨1, _⟩ => show 32 * k.val + 8 * 0 ≤ (y 1).val ∧ (y 1).val < 32 * k.val + 8 * 0 + 8; omega
        | ⟨2, _⟩ => show 0 ≤ (y 2).val ∧ (y 2).val < 0 + 128; change (y 2).val < 128 at y2; omega
      · refine ⟨_, List.mem_of_getElem? (i := 6) rfl, mem_unit_set (k0_off10_inb k 0) y fun a => ?_⟩
        rw [show k0_off10 k 0#32 = _ from k0_off10_eq k 0]
        match a with
        | ⟨0, _⟩ => show 1 ≤ (y 0).val ∧ (y 0).val < 1 + 1; omega
        | ⟨1, _⟩ => show 32 * k.val + 8 * 0 ≤ (y 1).val ∧ (y 1).val < 32 * k.val + 8 * 0 + 8; omega
        | ⟨2, _⟩ => show 0 ≤ (y 2).val ∧ (y 2).val < 0 + 128; change (y 2).val < 128 at y2; omega
    · rcases hh with hh | hh
      · refine ⟨_, List.mem_of_getElem? (i := 5) rfl, mem_unit_set (k0_off8_inb k 1) y fun a => ?_⟩
        rw [show k0_off8 k 8#32 = _ from k0_off8_eq k 1]
        match a with
        | ⟨0, _⟩ => show 0 ≤ (y 0).val ∧ (y 0).val < 0 + 1; omega
        | ⟨1, _⟩ => show 32 * k.val + 8 * 1 ≤ (y 1).val ∧ (y 1).val < 32 * k.val + 8 * 1 + 8; omega
        | ⟨2, _⟩ => show 0 ≤ (y 2).val ∧ (y 2).val < 0 + 128; change (y 2).val < 128 at y2; omega
      · refine ⟨_, List.mem_of_getElem? (i := 4) rfl, mem_unit_set (k0_off10_inb k 1) y fun a => ?_⟩
        rw [show k0_off10 k 8#32 = _ from k0_off10_eq k 1]
        match a with
        | ⟨0, _⟩ => show 1 ≤ (y 0).val ∧ (y 0).val < 1 + 1; omega
        | ⟨1, _⟩ => show 32 * k.val + 8 * 1 ≤ (y 1).val ∧ (y 1).val < 32 * k.val + 8 * 1 + 8; omega
        | ⟨2, _⟩ => show 0 ≤ (y 2).val ∧ (y 2).val < 0 + 128; change (y 2).val < 128 at y2; omega
    · rcases hh with hh | hh
      · refine ⟨_, List.mem_of_getElem? (i := 3) rfl, mem_unit_set (k0_off8_inb k 2) y fun a => ?_⟩
        rw [show k0_off8 k 16#32 = _ from k0_off8_eq k 2]
        match a with
        | ⟨0, _⟩ => show 0 ≤ (y 0).val ∧ (y 0).val < 0 + 1; omega
        | ⟨1, _⟩ => show 32 * k.val + 8 * 2 ≤ (y 1).val ∧ (y 1).val < 32 * k.val + 8 * 2 + 8; omega
        | ⟨2, _⟩ => show 0 ≤ (y 2).val ∧ (y 2).val < 0 + 128; change (y 2).val < 128 at y2; omega
      · refine ⟨_, List.mem_of_getElem? (i := 2) rfl, mem_unit_set (k0_off10_inb k 2) y fun a => ?_⟩
        rw [show k0_off10 k 16#32 = _ from k0_off10_eq k 2]
        match a with
        | ⟨0, _⟩ => show 1 ≤ (y 0).val ∧ (y 0).val < 1 + 1; omega
        | ⟨1, _⟩ => show 32 * k.val + 8 * 2 ≤ (y 1).val ∧ (y 1).val < 32 * k.val + 8 * 2 + 8; omega
        | ⟨2, _⟩ => show 0 ≤ (y 2).val ∧ (y 2).val < 0 + 128; change (y 2).val < 128 at y2; omega
    · rcases hh with hh | hh
      · refine ⟨_, List.mem_of_getElem? (i := 1) rfl, mem_unit_set (k0_off8_inb k 3) y fun a => ?_⟩
        rw [show k0_off8 k 24#32 = _ from k0_off8_eq k 3]
        match a with
        | ⟨0, _⟩ => show 0 ≤ (y 0).val ∧ (y 0).val < 0 + 1; omega
        | ⟨1, _⟩ => show 32 * k.val + 8 * 3 ≤ (y 1).val ∧ (y 1).val < 32 * k.val + 8 * 3 + 8; omega
        | ⟨2, _⟩ => show 0 ≤ (y 2).val ∧ (y 2).val < 0 + 128; change (y 2).val < 128 at y2; omega
      · refine ⟨_, List.mem_of_getElem? (i := 0) rfl, mem_unit_set (k0_off10_inb k 3) y fun a => ?_⟩
        rw [show k0_off10 k 24#32 = _ from k0_off10_eq k 3]
        match a with
        | ⟨0, _⟩ => show 1 ≤ (y 0).val ∧ (y 0).val < 1 + 1; omega
        | ⟨1, _⟩ => show 32 * k.val + 8 * 3 ≤ (y 1).val ∧ (y 1).val < 32 * k.val + 8 * 3 + 8; omega
        | ⟨2, _⟩ => show 0 ≤ (y 2).val ∧ (y 2).val < 0 + 128; change (y 2).val < 128 at y2; omega

/-- The codes a trip over the left operand stores. -/
def piecesCX (i : grid0.Coords) (hi : k0_cond1 i = 1#1) (k : Fin k0_t1_loop.trips) : List (View.Piece (Elt F) S128x2048 .i8) := [
  ⟨Rect.unit (s := S128x2048) (k0_off2 k 384#32) S128x128.size (k0_off2_inb i k hi 3), codeBytes (toE2m1 (tX h x (4 * k.val + 3)).v)⟩,
  ⟨Rect.unit (s := S128x2048) (k0_off2 k 256#32) S128x128.size (k0_off2_inb i k hi 2), codeBytes (toE2m1 (tX h x (4 * k.val + 2)).v)⟩,
  ⟨Rect.unit (s := S128x2048) (k0_off2 k 128#32) S128x128.size (k0_off2_inb i k hi 1), codeBytes (toE2m1 (tX h x (4 * k.val + 1)).v)⟩,
  ⟨Rect.unit (s := S128x2048) (k0_off2 k 0#32) S128x128.size (k0_off2_inb i k hi 0), codeBytes (toE2m1 (tX h x (4 * k.val)).v)⟩]

theorem stepCX (i : grid0.Coords) (hi : k0_cond1 i = 1#1) (k : Fin k0_t1_loop.trips) (v : View sig κ sp S128x2048 .i8) (f : v.ty.Contents (Elt F))
    (hf : ∀ y : (S128x2048).Idx, (y 1).val < 512 * k.val → v.read (Elt F) f y = codesX h x y) (y : (S128x2048).Idx) (hy : (y 1).val < 512 * (k.val + 1)) :
    v.read (Elt F) (v.writes (Elt F) f (piecesCX h x i hi k)) y = codesX h x y := by
  have hk : k.val < 4 := lt_of_lt_of_eq k.isLt (by decide)
  refine read_agree v f _ (codesX h x) (fun y => (y 1).val < 512 * k.val) ?_ hf y ?_
  · unfold piecesCX
    simp only [List.forall_mem_cons, List.not_mem_nil, false_imp_iff, implies_true, and_true]
    refine ⟨?_, ?_, ?_, ?_⟩
    · intro z
      have e0 := congrFun (k0_off2_eq k 3) 0
      have e1 := congrFun (k0_off2_eq k 3) 1
      exact (codesX_at h x _ (4 * k.val + 3) z (by show k0_off2 k 384#32 0 + 1 * (z 0).val = _; refine (congrArg (· + 1 * (z 0).val) e0).trans ?_; show 0 + 1 * (z 0).val = _; omega)
        (by show k0_off2 k 384#32 1 + 1 * (z 1).val = _; refine (congrArg (· + 1 * (z 1).val) e1).trans ?_; show 512 * k.val + 128 * 3 + 1 * (z 1).val = _; omega)).symm
    · intro z
      have e0 := congrFun (k0_off2_eq k 2) 0
      have e1 := congrFun (k0_off2_eq k 2) 1
      exact (codesX_at h x _ (4 * k.val + 2) z (by show k0_off2 k 256#32 0 + 1 * (z 0).val = _; refine (congrArg (· + 1 * (z 0).val) e0).trans ?_; show 0 + 1 * (z 0).val = _; omega)
        (by show k0_off2 k 256#32 1 + 1 * (z 1).val = _; refine (congrArg (· + 1 * (z 1).val) e1).trans ?_; show 512 * k.val + 128 * 2 + 1 * (z 1).val = _; omega)).symm
    · intro z
      have e0 := congrFun (k0_off2_eq k 1) 0
      have e1 := congrFun (k0_off2_eq k 1) 1
      exact (codesX_at h x _ (4 * k.val + 1) z (by show k0_off2 k 128#32 0 + 1 * (z 0).val = _; refine (congrArg (· + 1 * (z 0).val) e0).trans ?_; show 0 + 1 * (z 0).val = _; omega)
        (by show k0_off2 k 128#32 1 + 1 * (z 1).val = _; refine (congrArg (· + 1 * (z 1).val) e1).trans ?_; show 512 * k.val + 128 * 1 + 1 * (z 1).val = _; omega)).symm
    · intro z
      have e0 := congrFun (k0_off2_eq k 0) 0
      have e1 := congrFun (k0_off2_eq k 0) 1
      exact (codesX_at h x _ (4 * k.val) z (by show k0_off2 k 0#32 0 + 1 * (z 0).val = _; refine (congrArg (· + 1 * (z 0).val) e0).trans ?_; show 0 + 1 * (z 0).val = _; omega)
        (by show k0_off2 k 0#32 1 + 1 * (z 1).val = _; refine (congrArg (· + 1 * (z 1).val) e1).trans ?_; show 512 * k.val + 128 * 0 + 1 * (z 1).val = _; omega)).symm
  · have y0 := (y 0).isLt
    have y1 := (y 1).isLt
    by_cases hp : (y 1).val < 512 * k.val
    · exact Or.inl hp
    refine Or.inr ?_
    unfold piecesCX
    have hr : (y 1).val / 128 = 4 * k.val ∨ (y 1).val / 128 = 4 * k.val + 1 ∨ (y 1).val / 128 = 4 * k.val + 2 ∨ (y 1).val / 128 = 4 * k.val + 3 := by omega
    rcases hr with hr | hr | hr | hr
    · refine ⟨_, List.mem_of_getElem? (i := 3) rfl, mem_unit_set (k0_off2_inb i k hi 0) y fun a => ?_⟩
      rw [show k0_off2 k 0#32 = _ from k0_off2_eq k 0]
      match a with
      | ⟨0, _⟩ => show 0 ≤ (y 0).val ∧ (y 0).val < 0 + 128; change (y 0).val < 128 at y0; omega
      | ⟨1, _⟩ => show 512 * k.val + 128 * 0 ≤ (y 1).val ∧ (y 1).val < 512 * k.val + 128 * 0 + 128; omega
    · refine ⟨_, List.mem_of_getElem? (i := 2) rfl, mem_unit_set (k0_off2_inb i k hi 1) y fun a => ?_⟩
      rw [show k0_off2 k 128#32 = _ from k0_off2_eq k 1]
      match a with
      | ⟨0, _⟩ => show 0 ≤ (y 0).val ∧ (y 0).val < 0 + 128; change (y 0).val < 128 at y0; omega
      | ⟨1, _⟩ => show 512 * k.val + 128 * 1 ≤ (y 1).val ∧ (y 1).val < 512 * k.val + 128 * 1 + 128; omega
    · refine ⟨_, List.mem_of_getElem? (i := 1) rfl, mem_unit_set (k0_off2_inb i k hi 2) y fun a => ?_⟩
      rw [show k0_off2 k 256#32 = _ from k0_off2_eq k 2]
      match a with
      | ⟨0, _⟩ => show 0 ≤ (y 0).val ∧ (y 0).val < 0 + 128; change (y 0).val < 128 at y0; omega
      | ⟨1, _⟩ => show 512 * k.val + 128 * 2 ≤ (y 1).val ∧ (y 1).val < 512 * k.val + 128 * 2 + 128; omega
    · refine ⟨_, List.mem_of_getElem? (i := 0) rfl, mem_unit_set (k0_off2_inb i k hi 3) y fun a => ?_⟩
      rw [show k0_off2 k 384#32 = _ from k0_off2_eq k 3]
      match a with
      | ⟨0, _⟩ => show 0 ≤ (y 0).val ∧ (y 0).val < 0 + 128; change (y 0).val < 128 at y0; omega
      | ⟨1, _⟩ => show 512 * k.val + 128 * 3 ≤ (y 1).val ∧ (y 1).val < 512 * k.val + 128 * 3 + 128; omega

/-- The masks a trip over the left operand stores. -/
def piecesMX (i : grid0.Coords) (hi : k0_cond1 i = 1#1) (k : Fin k0_t1_loop.trips) : List (View.Piece (Elt F) S128x512 .i8) := [
  ⟨Rect.unit (s := S128x512) (k0_off4 k) S128x128.size (k0_off4_inb i k hi), maskBytes (maskWord (tX h x (4 * k.val)).d) (maskWord (tX h x (4 * k.val + 1)).d) (maskWord (tX h x (4 * k.val + 2)).d) (maskWord (tX h x (4 * k.val + 3)).d)⟩]

theorem stepMX (i : grid0.Coords) (hi : k0_cond1 i = 1#1) (k : Fin k0_t1_loop.trips) (v : View sig κ sp S128x512 .i8) (f : v.ty.Contents (Elt F))
    (hf : ∀ y : (S128x512).Idx, (y 1).val < 128 * k.val → v.read (Elt F) f y = maskX h x y) (y : (S128x512).Idx) (hy : (y 1).val < 128 * (k.val + 1)) :
    v.read (Elt F) (v.writes (Elt F) f (piecesMX h x i hi k)) y = maskX h x y := by
  have hk : k.val < 4 := lt_of_lt_of_eq k.isLt (by decide)
  refine read_agree v f _ (maskX h x) (fun y => (y 1).val < 128 * k.val) ?_ hf y ?_
  · unfold piecesMX
    simp only [List.forall_mem_cons, List.not_mem_nil, false_imp_iff, implies_true, and_true]
    skip
    · intro z
      have e0 := congrFun (k0_off4_eq k) 0
      have e1 := congrFun (k0_off4_eq k) 1
      exact (maskX_at h x _ k.val z (by show k0_off4 k 0 + 1 * (z 0).val = _; rw [e0]; show 0 + 1 * (z 0).val = _; omega)
        (by show k0_off4 k 1 + 1 * (z 1).val = _; rw [e1]; show 128 * k.val + 1 * (z 1).val = _; omega)).symm
  · have y0 := (y 0).isLt
    have y1 := (y 1).isLt
    by_cases hp : (y 1).val < 128 * k.val
    · exact Or.inl hp
    refine Or.inr ?_
    unfold piecesMX
    refine ⟨_, List.mem_of_getElem? (i := 0) rfl, mem_unit_set (k0_off4_inb i k hi) y fun a => ?_⟩
    rw [k0_off4_eq k]
    match a with
    | ⟨0, _⟩ => show 0 ≤ (y 0).val ∧ (y 0).val < 0 + 128; change (y 0).val < 128 at y0; omega
    | ⟨1, _⟩ => show 128 * k.val ≤ (y 1).val ∧ (y 1).val < 128 * k.val + 128; omega

/-- The scale codes a trip over the left operand stores. -/
def piecesSX (i : grid0.Coords) (hi : k0_cond1 i = 1#1) (k : Fin k0_t1_loop.trips) : List (View.Piece (Elt F) S2x128x128 .i32) := [
  ⟨Rect.unit (s := S2x128x128) (k0_off3 k 24#32) S1x8x128.size (k0_off3_inb i k hi 3), upI (tX h x (4 * k.val + 3)).e⟩,
  ⟨Rect.unit (s := S2x128x128) (k0_off3 k 16#32) S1x8x128.size (k0_off3_inb i k hi 2), upI (tX h x (4 * k.val + 2)).e⟩,
  ⟨Rect.unit (s := S2x128x128) (k0_off3 k 8#32) S1x8x128.size (k0_off3_inb i k hi 1), upI (tX h x (4 * k.val + 1)).e⟩,
  ⟨Rect.unit (s := S2x128x128) (k0_off3 k 0#32) S1x8x128.size (k0_off3_inb i k hi 0), upI (tX h x (4 * k.val)).e⟩]

theorem stepSX (i : grid0.Coords) (hi : k0_cond1 i = 1#1) (k : Fin k0_t1_loop.trips) (v : View sig κ sp S2x128x128 .i32) (f : v.ty.Contents (Elt F))
    (hf : ∀ y : (S2x128x128).Idx, (y 0).val < 1 ∧ (y 1).val < 32 * k.val → v.read (Elt F) f y = scaleX h x y) (y : (S2x128x128).Idx) (hy : (y 0).val < 1 ∧ (y 1).val < 32 * (k.val + 1)) :
    v.read (Elt F) (v.writes (Elt F) f (piecesSX h x i hi k)) y = scaleX h x y := by
  have hk : k.val < 4 := lt_of_lt_of_eq k.isLt (by decide)
  refine read_agree v f _ (scaleX h x) (fun y => (y 0).val < 1 ∧ (y 1).val < 32 * k.val) ?_ hf y ?_
  · unfold piecesSX
    simp only [List.forall_mem_cons, List.not_mem_nil, false_imp_iff, implies_true, and_true]
    refine ⟨?_, ?_, ?_, ?_⟩
    · intro z
      have e0 := congrFun (k0_off3_eq k 3) 0
      have e1 := congrFun (k0_off3_eq k 3) 1
      have e2 := congrFun (k0_off3_eq k 3) 2
      exact (scaleX_at h x _ (4 * k.val + 3) z (by show k0_off3 k 24#32 1 + 1 * (z 1).val = _; refine (congrArg (· + 1 * (z 1).val) e1).trans ?_; show 32 * k.val + 8 * 3 + 1 * (z 1).val = _; omega)
        (by show k0_off3 k 24#32 2 + 1 * (z 2).val = _; refine (congrArg (· + 1 * (z 2).val) e2).trans ?_; show 0 + 1 * (z 2).val = _; omega)).symm
    · intro z
      have e0 := congrFun (k0_off3_eq k 2) 0
      have e1 := congrFun (k0_off3_eq k 2) 1
      have e2 := congrFun (k0_off3_eq k 2) 2
      exact (scaleX_at h x _ (4 * k.val + 2) z (by show k0_off3 k 16#32 1 + 1 * (z 1).val = _; refine (congrArg (· + 1 * (z 1).val) e1).trans ?_; show 32 * k.val + 8 * 2 + 1 * (z 1).val = _; omega)
        (by show k0_off3 k 16#32 2 + 1 * (z 2).val = _; refine (congrArg (· + 1 * (z 2).val) e2).trans ?_; show 0 + 1 * (z 2).val = _; omega)).symm
    · intro z
      have e0 := congrFun (k0_off3_eq k 1) 0
      have e1 := congrFun (k0_off3_eq k 1) 1
      have e2 := congrFun (k0_off3_eq k 1) 2
      exact (scaleX_at h x _ (4 * k.val + 1) z (by show k0_off3 k 8#32 1 + 1 * (z 1).val = _; refine (congrArg (· + 1 * (z 1).val) e1).trans ?_; show 32 * k.val + 8 * 1 + 1 * (z 1).val = _; omega)
        (by show k0_off3 k 8#32 2 + 1 * (z 2).val = _; refine (congrArg (· + 1 * (z 2).val) e2).trans ?_; show 0 + 1 * (z 2).val = _; omega)).symm
    · intro z
      have e0 := congrFun (k0_off3_eq k 0) 0
      have e1 := congrFun (k0_off3_eq k 0) 1
      have e2 := congrFun (k0_off3_eq k 0) 2
      exact (scaleX_at h x _ (4 * k.val) z (by show k0_off3 k 0#32 1 + 1 * (z 1).val = _; refine (congrArg (· + 1 * (z 1).val) e1).trans ?_; show 32 * k.val + 8 * 0 + 1 * (z 1).val = _; omega)
        (by show k0_off3 k 0#32 2 + 1 * (z 2).val = _; refine (congrArg (· + 1 * (z 2).val) e2).trans ?_; show 0 + 1 * (z 2).val = _; omega)).symm
  · have y0 := (y 0).isLt
    have y1 := (y 1).isLt
    have y2 := (y 2).isLt
    by_cases hp : (y 1).val < 32 * k.val
    · exact Or.inl ⟨hy.1, hp⟩
    refine Or.inr ?_
    unfold piecesSX
    have hr : (y 1).val / 8 = 4 * k.val ∨ (y 1).val / 8 = 4 * k.val + 1 ∨ (y 1).val / 8 = 4 * k.val + 2 ∨ (y 1).val / 8 = 4 * k.val + 3 := by omega
    rcases hr with hr | hr | hr | hr
    · refine ⟨_, List.mem_of_getElem? (i := 3) rfl, mem_unit_set (k0_off3_inb i k hi 0) y fun a => ?_⟩
      rw [show k0_off3 k 0#32 = _ from k0_off3_eq k 0]
      match a with
      | ⟨0, _⟩ => show 0 ≤ (y 0).val ∧ (y 0).val < 0 + 1; exact ⟨Nat.zero_le _, hy.1⟩
      | ⟨1, _⟩ => show 32 * k.val + 8 * 0 ≤ (y 1).val ∧ (y 1).val < 32 * k.val + 8 * 0 + 8; omega
      | ⟨2, _⟩ => show 0 ≤ (y 2).val ∧ (y 2).val < 0 + 128; change (y 2).val < 128 at y2; omega
    · refine ⟨_, List.mem_of_getElem? (i := 2) rfl, mem_unit_set (k0_off3_inb i k hi 1) y fun a => ?_⟩
      rw [show k0_off3 k 8#32 = _ from k0_off3_eq k 1]
      match a with
      | ⟨0, _⟩ => show 0 ≤ (y 0).val ∧ (y 0).val < 0 + 1; exact ⟨Nat.zero_le _, hy.1⟩
      | ⟨1, _⟩ => show 32 * k.val + 8 * 1 ≤ (y 1).val ∧ (y 1).val < 32 * k.val + 8 * 1 + 8; omega
      | ⟨2, _⟩ => show 0 ≤ (y 2).val ∧ (y 2).val < 0 + 128; change (y 2).val < 128 at y2; omega
    · refine ⟨_, List.mem_of_getElem? (i := 1) rfl, mem_unit_set (k0_off3_inb i k hi 2) y fun a => ?_⟩
      rw [show k0_off3 k 16#32 = _ from k0_off3_eq k 2]
      match a with
      | ⟨0, _⟩ => show 0 ≤ (y 0).val ∧ (y 0).val < 0 + 1; exact ⟨Nat.zero_le _, hy.1⟩
      | ⟨1, _⟩ => show 32 * k.val + 8 * 2 ≤ (y 1).val ∧ (y 1).val < 32 * k.val + 8 * 2 + 8; omega
      | ⟨2, _⟩ => show 0 ≤ (y 2).val ∧ (y 2).val < 0 + 128; change (y 2).val < 128 at y2; omega
    · refine ⟨_, List.mem_of_getElem? (i := 0) rfl, mem_unit_set (k0_off3_inb i k hi 3) y fun a => ?_⟩
      rw [show k0_off3 k 24#32 = _ from k0_off3_eq k 3]
      match a with
      | ⟨0, _⟩ => show 0 ≤ (y 0).val ∧ (y 0).val < 0 + 1; exact ⟨Nat.zero_le _, hy.1⟩
      | ⟨1, _⟩ => show 32 * k.val + 8 * 3 ≤ (y 1).val ∧ (y 1).val < 32 * k.val + 8 * 3 + 8; omega
      | ⟨2, _⟩ => show 0 ≤ (y 2).val ∧ (y 2).val < 0 + 128; change (y 2).val < 128 at y2; omega

/-- The dequantised columns a trip over the left operand stores. -/
def piecesQ (i : grid0.Coords) (hi : k0_cond1 i = 1#1) (k : Fin k0_t1_loop.trips) :
    List (View.Piece (Elt F) S128x16384 .bf16) := [
  ⟨Rect.unit (s := S128x16384) (k0_off5 i k 768#32) S128x256.size (k0_off5_inb i k hi 3), deqX (tX h x (4 * k.val + 3))⟩,
  ⟨Rect.unit (s := S128x16384) (k0_off5 i k 512#32) S128x256.size (k0_off5_inb i k hi 2), deqX (tX h x (4 * k.val + 2))⟩,
  ⟨Rect.unit (s := S128x16384) (k0_off5 i k 256#32) S128x256.size (k0_off5_inb i k hi 1), deqX (tX h x (4 * k.val + 1))⟩,
  ⟨Rect.unit (s := S128x16384) (k0_off5 i k 0#32) S128x256.size (k0_off5_inb i k hi 0), deqX (tX h x (4 * k.val))⟩]

theorem stepQ (i : grid0.Coords) (hi : k0_cond1 i = 1#1) (k : Fin k0_t1_loop.trips)
    (v : View sig κ sp S128x16384 .bf16) (f : v.ty.Contents (Elt F)) (G : FVec F S128x16384 .bf16)
    (hq : ∀ (y : S128x16384.Idx) (z : S128x4096.Idx), (y 0).val = (z 0).val →
      (y 1).val = 4096 * (i 1).val + (z 1).val → G y = deqXs h x z)
    (hf : ∀ y : S128x16384.Idx, (y 1).val < 4096 * (i 1).val + 1024 * k.val → v.read (Elt F) f y = G y)
    (y : S128x16384.Idx) (hy : (y 1).val < 4096 * (i 1).val + 1024 * (k.val + 1)) :
    v.read (Elt F) (v.writes (Elt F) f (piecesQ h x i hi k)) y = G y := by
  have hk : k.val < 4 := lt_of_lt_of_eq k.isLt (by decide)
  have at_ : ∀ (y : S128x16384.Idx) (r : ℕ) (hr : r < 4) (z : S128x256.Idx), (y 0).val = (z 0).val →
      (y 1).val = 4096 * (i 1).val + 1024 * k.val + 256 * r + (z 1).val →
      G y = deqX (tX h x (4 * k.val + r)) z := by
    intro y r hr z h0 h1
    have hz1 : (z 1).val < 256 := (z 1).isLt
    rw [hq y (ix2 (z 0) ⟨1024 * k.val + 256 * r + (z 1).val, by omega⟩) h0
      (by show (y 1).val = 4096 * (i 1).val + (1024 * k.val + 256 * r + (z 1).val); omega)]
    exact deqXs_at h x _ _ z rfl (by show 1024 * k.val + 256 * r + (z 1).val = _; omega)
  refine read_agree v f _ G (fun y => (y 1).val < 4096 * (i 1).val + 1024 * k.val) ?_ hf y ?_
  · unfold piecesQ
    simp only [List.forall_mem_cons, List.not_mem_nil, false_imp_iff, implies_true, and_true]
    refine ⟨?_, ?_, ?_, ?_⟩
    · intro z
      have e0 := congrFun (k0_off5_eq i k 3) 0
      have e1 := congrFun (k0_off5_eq i k 3) 1
      exact (at_ _ 3 (by decide) z
        (by show k0_off5 i k 768#32 0 + 1 * (z 0).val = _; refine (congrArg (· + 1 * (z 0).val) e0).trans ?_; show 0 + 1 * (z 0).val = _; omega)
        (by show k0_off5 i k 768#32 1 + 1 * (z 1).val = _; refine (congrArg (· + 1 * (z 1).val) e1).trans ?_; show 4096 * (i 1).val + 1024 * k.val + 256 * 3 + 1 * (z 1).val = _; omega)).symm
    · intro z
      have e0 := congrFun (k0_off5_eq i k 2) 0
      have e1 := congrFun (k0_off5_eq i k 2) 1
      exact (at_ _ 2 (by decide) z
        (by show k0_off5 i k 512#32 0 + 1 * (z 0).val = _; refine (congrArg (· + 1 * (z 0).val) e0).trans ?_; show 0 + 1 * (z 0).val = _; omega)
        (by show k0_off5 i k 512#32 1 + 1 * (z 1).val = _; refine (congrArg (· + 1 * (z 1).val) e1).trans ?_; show 4096 * (i 1).val + 1024 * k.val + 256 * 2 + 1 * (z 1).val = _; omega)).symm
    · intro z
      have e0 := congrFun (k0_off5_eq i k 1) 0
      have e1 := congrFun (k0_off5_eq i k 1) 1
      exact (at_ _ 1 (by decide) z
        (by show k0_off5 i k 256#32 0 + 1 * (z 0).val = _; refine (congrArg (· + 1 * (z 0).val) e0).trans ?_; show 0 + 1 * (z 0).val = _; omega)
        (by show k0_off5 i k 256#32 1 + 1 * (z 1).val = _; refine (congrArg (· + 1 * (z 1).val) e1).trans ?_; show 4096 * (i 1).val + 1024 * k.val + 256 * 1 + 1 * (z 1).val = _; omega)).symm
    · intro z
      have e0 := congrFun (k0_off5_eq i k 0) 0
      have e1 := congrFun (k0_off5_eq i k 0) 1
      exact (at_ _ 0 (by decide) z
        (by show k0_off5 i k 0#32 0 + 1 * (z 0).val = _; refine (congrArg (· + 1 * (z 0).val) e0).trans ?_; show 0 + 1 * (z 0).val = _; omega)
        (by show k0_off5 i k 0#32 1 + 1 * (z 1).val = _; refine (congrArg (· + 1 * (z 1).val) e1).trans ?_; show 4096 * (i 1).val + 1024 * k.val + 256 * 0 + 1 * (z 1).val = _; omega)).symm
  · have y0 := (y 0).isLt
    change (y 0).val < 128 at y0
    by_cases hp : (y 1).val < 4096 * (i 1).val + 1024 * k.val
    · exact Or.inl hp
    refine Or.inr ?_
    unfold piecesQ
    have hr : (y 1).val / 256 = 16 * (i 1).val + 4 * k.val ∨ (y 1).val / 256 = 16 * (i 1).val + 4 * k.val + 1
      ∨ (y 1).val / 256 = 16 * (i 1).val + 4 * k.val + 2 ∨ (y 1).val / 256 = 16 * (i 1).val + 4 * k.val + 3 := by omega
    rcases hr with hr | hr | hr | hr
    · refine ⟨_, List.mem_of_getElem? (i := 3) rfl, mem_unit_set (k0_off5_inb i k hi 0) y fun a => ?_⟩
      rw [show k0_off5 i k 0#32 = _ from k0_off5_eq i k 0]
      match a with
      | ⟨0, _⟩ => show 0 ≤ (y 0).val ∧ (y 0).val < 0 + 128; omega
      | ⟨1, _⟩ => show 4096 * (i 1).val + 1024 * k.val + 256 * 0 ≤ (y 1).val ∧ (y 1).val < 4096 * (i 1).val + 1024 * k.val + 256 * 0 + 256; omega
    · refine ⟨_, List.mem_of_getElem? (i := 2) rfl, mem_unit_set (k0_off5_inb i k hi 1) y fun a => ?_⟩
      rw [show k0_off5 i k 256#32 = _ from k0_off5_eq i k 1]
      match a with
      | ⟨0, _⟩ => show 0 ≤ (y 0).val ∧ (y 0).val < 0 + 128; omega
      | ⟨1, _⟩ => show 4096 * (i 1).val + 1024 * k.val + 256 * 1 ≤ (y 1).val ∧ (y 1).val < 4096 * (i 1).val + 1024 * k.val + 256 * 1 + 256; omega
    · refine ⟨_, List.mem_of_getElem? (i := 1) rfl, mem_unit_set (k0_off5_inb i k hi 2) y fun a => ?_⟩
      rw [show k0_off5 i k 512#32 = _ from k0_off5_eq i k 2]
      match a with
      | ⟨0, _⟩ => show 0 ≤ (y 0).val ∧ (y 0).val < 0 + 128; omega
      | ⟨1, _⟩ => show 4096 * (i 1).val + 1024 * k.val + 256 * 2 ≤ (y 1).val ∧ (y 1).val < 4096 * (i 1).val + 1024 * k.val + 256 * 2 + 256; omega
    · refine ⟨_, List.mem_of_getElem? (i := 0) rfl, mem_unit_set (k0_off5_inb i k hi 3) y fun a => ?_⟩
      rw [show k0_off5 i k 768#32 = _ from k0_off5_eq i k 3]
      match a with
      | ⟨0, _⟩ => show 0 ≤ (y 0).val ∧ (y 0).val < 0 + 128; omega
      | ⟨1, _⟩ => show 4096 * (i 1).val + 1024 * k.val + 256 * 3 ≤ (y 1).val ∧ (y 1).val < 4096 * (i 1).val + 1024 * k.val + 256 * 3 + 256; omega

end Steps

end Cert.Kernel.Tile
-- ==== Proof.K.LoopRun.lean ====
module

public import proofs.«01_k».proof.Proof.K.Steps
public import Idealize.ShloMosaic.Lib.VecWindow

/-! # Running the two loops

The invariant of each loop: the columns of the tiles done so far hold what the specification says. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section W

variable (c : Dev nD) (i : grid0.Coords) (arg2 : Memref sig .tc .vmem S256x256 .bf16) (harg2 : arg2.IsWhole) (arg4 : Memref sig .tc .vmem S256x4096 .bf16) (harg4 : arg4.IsWhole) (arg7 : Memref sig .tc .vmem S256x512 .i8) (harg7 : arg7.IsWhole) (arg10 : Memref sig .tc .vmem S256x2048 .i8) (harg10 : arg10.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)
  (h : FVec F S256x256 .bf16) (w : FVec F S256x4096 .bf16) (q : FVec F S128x16384 .bf16) (a : FVec F S128x256 .f32)

/-- The columns taken from `o` are the same of two operands that agree before column `o + 1024`. -/
theorem xqcols_congr {p q : FVec F S128x16384 .bf16} (o : ℕ) (ho : o + 1024 ≤ 16384)
    (hpq : ∀ y : S128x16384.Idx, (y 1).val < o + 1024 → p y = q y) : xqcols p o = xqcols q o := by
  funext y
  have hy : (y 1).val < 1024 := (y 1).isLt
  unfold xqcols
  refine hpq _ ?_
  show (o + (y 1).val) % 16384 < _
  rw [Nat.mod_eq_of_lt (by omega)]
  omega

/-- Before trip `k` of the loop over the right operand. -/
def invW (f2 : Bf (F := F) c arg2) (f4 : Bf (F := F) c arg4) (f12 : Bf (F := F) c arg12) (k : ℕ) : sProp 𝕄 :=
  iprop(∃ f7, ∃ f10, ∃ f13, ∃ f14, ∃ f15, ∃ f16,
    pt c arg2 f2 ∗ pt c arg4 f4 ∗ pt c arg7 f7 ∗ pt c arg10 f10 ∗ pt c arg12 f12 ∗ pt c arg13 f13
    ∗ pt c arg14 f14 ∗ pt c arg15 f15 ∗ pt c arg16 f16
    ∗ ⌜(∀ y : S256x512.Idx, (y 1).val < 128 * k → arg7.view.read (Elt F) f7 y = maskW h w y)
      ∧ (∀ y : S256x2048.Idx, (y 1).val < 512 * k → arg10.view.read (Elt F) f10 y = codesW h w y)
      ∧ arg13.view.read (Elt F) f13 = accAt h w q (4096 * (i 1).val) a k
      ∧ (∀ y : S2x128x128.Idx, (y 1).val < 32 * k → arg16.view.read (Elt F) f16 y = scaleW h w y)⌝)

set_option maxHeartbeats 4000000 in
theorem tripW_inv (f2 : Bf (F := F) c arg2) (f4 : Bf (F := F) c arg4) (f12 : Bf (F := F) c arg12)
    (hh : arg2.view.read (Elt F) f2 = h) (hw : arg4.view.read (Elt F) f4 = w)
    (hq : ∀ y : S128x16384.Idx, (y 1).val < 4096 * (i 1).val + 4096 → arg12.view.read (Elt F) f12 y = q y)
    (k : Fin k0_t2_loop.trips) :
    invW c i arg2 arg4 arg7 arg10 arg12 arg13 arg14 arg15 arg16 h w q a f2 f4 f12 k.val
    ⊢ wp frame (wpE (defs₀ (F := F)) Variants.none c none) Set.univ (tripW i arg2 harg2 arg4 harg4 arg7 harg7 arg10 harg10 arg12 harg12 arg13 harg13 arg14 harg14 arg15 harg15 arg16 harg16 k)
        (fun _ => invW c i arg2 arg4 arg7 arg10 arg12 arg13 arg14 arg15 arg16 h w q a f2 f4 f12 (k.val + 1)) := by
  have hk : k.val < 4 := lt_of_lt_of_eq k.isLt (by decide)
  have hi1 : (i 1).val < 4 := (i 1).isLt
  have l2 := (load_full arg2.view f2 ![0, 0] (fun a => by fin_cases a <;> rfl) inb_S256x256_S256x256_0_0).trans hh
  have l4 : ∀ r : Fin 4, arg4.view.readAt (Elt F) (Rect.unit (s := S256x4096) (k0_off6 k (BitVec.ofNat 32 (256 * r.val))) S256x256.size (k0_off6_inb k r)).toLoadRect f4 = wcols w (4 * k.val + r.val) := fun r =>
    (load_w arg4.view f4 (4 * k.val + r.val) (by omega) _
      ((k0_off6_eq k r).trans (by rw [show 1024 * k.val + 256 * r.val = 256 * (4 * k.val + r.val) by omega])) _).trans (by rw [hw])
  have l40 : arg4.view.readAt (Elt F) (Rect.unit (s := S256x4096) (k0_off6 k 0#32) S256x256.size (k0_off6_inb k 0)).toLoadRect f4 = wcols w (4 * k.val) := l4 0
  have l41 : arg4.view.readAt (Elt F) (Rect.unit (s := S256x4096) (k0_off6 k 256#32) S256x256.size (k0_off6_inb k 1)).toLoadRect f4 = wcols w (4 * k.val + 1) := l4 1
  have l42 : arg4.view.readAt (Elt F) (Rect.unit (s := S256x4096) (k0_off6 k 512#32) S256x256.size (k0_off6_inb k 2)).toLoadRect f4 = wcols w (4 * k.val + 2) := l4 2
  have l43 : arg4.view.readAt (Elt F) (Rect.unit (s := S256x4096) (k0_off6 k 768#32) S256x256.size (k0_off6_inb k 3)).toLoadRect f4 = wcols w (4 * k.val + 3) := l4 3
  have l12 : arg12.view.readAt (Elt F) (Rect.unit (s := S128x16384) (k0_off13 i k) S128x1024.size (k0_off13_inb i k)).toLoadRect f12 = xqcols q (4096 * (i 1).val + 1024 * k.val) :=
    (load_xq arg12.view f12 _ (by omega) _ (k0_off13_eq i k) _).trans (xqcols_congr _ (by omega) fun y hy => hq y (by omega))
  have hrun := tile_bind (F := F) c arg14 harg14 arg15 harg15
  unfold invW
  iintro ⟨%f7, %f10, %f13, %f14, %f15, %f16, H2, H4, H7, H10, H12, H13, H14, H15, H16, %hp⟩
  obtain ⟨p7, p10, p13, p16⟩ := hp
  have l13 := (load_full arg13.view f13 ![0, 0] (fun a => by fin_cases a <;> rfl) inb_S128x256_S128x256_0_0).trans p13
  unfold tripW
  generalize tile (F := F) arg14 arg15 = T at hrun ⊢
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  simp only [l2, l40, l41,
    l42, l43, l12, l13]
  clear hrun
  sl_step
  iexists _; iexists _; iexists _; iexists _; iexists _; iexists _
  isplitl [H2]; · iexact H2
  isplitl [H4]; · iexact H4
  isplitl [H7]; · iexact H7
  isplitl [H10]; · iexact H10
  isplitl [H12]; · iexact H12
  isplitl [H13]; · iexact H13
  isplitl [H14]; · iexact H14
  isplitl [H15]; · iexact H15
  isplitl [H16]; · iexact H16
  ipureintro
  refine ⟨fun y hy => stepMW h w k arg7.view f7 p7 y hy, fun y hy => stepCW h w k arg10.view f10 p10 y hy, ?_,
    fun y hy => stepSW h w k arg16.view f16 p16 y hy⟩
  exact View.read_writes_full arg13.view f13 inb_S128x256_S128x256_0_0 _ _

end W

section X

variable (c : Dev nD) (i : grid0.Coords) (arg2 : Memref sig .tc .vmem S256x256 .bf16) (harg2 : arg2.IsWhole) (arg3 : Memref sig .tc .vmem S128x4096 .bf16) (harg3 : arg3.IsWhole) (arg6 : Memref sig .tc .vmem S128x512 .i8) (harg6 : arg6.IsWhole) (arg8 : Memref sig .tc .vmem S128x2048 .i8) (harg8 : arg8.IsWhole) (arg12 : Memref sig .tc .vmem S128x16384 .bf16) (harg12 : arg12.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1)
  (h : FVec F S256x256 .bf16) (x : FVec F S128x4096 .bf16) (G : FVec F S128x16384 .bf16)

/-- Before trip `k` of the loop over the left operand. -/
def invX (f2 : Bf (F := F) c arg2) (f3 : Bf (F := F) c arg3) (k : ℕ) : sProp 𝕄 :=
  iprop(∃ f6, ∃ f8, ∃ f12, ∃ f14, ∃ f15, ∃ f16,
    pt c arg2 f2 ∗ pt c arg3 f3 ∗ pt c arg6 f6 ∗ pt c arg8 f8 ∗ pt c arg12 f12
    ∗ pt c arg14 f14 ∗ pt c arg15 f15 ∗ pt c arg16 f16
    ∗ ⌜(∀ y : S128x512.Idx, (y 1).val < 128 * k → arg6.view.read (Elt F) f6 y = maskX h x y)
      ∧ (∀ y : S128x2048.Idx, (y 1).val < 512 * k → arg8.view.read (Elt F) f8 y = codesX h x y)
      ∧ (∀ y : S128x16384.Idx, (y 1).val < 4096 * (i 1).val + 1024 * k → arg12.view.read (Elt F) f12 y = G y)
      ∧ (∀ y : S2x128x128.Idx, (y 0).val < 1 ∧ (y 1).val < 32 * k → arg16.view.read (Elt F) f16 y = scaleX h x y)⌝)

set_option maxHeartbeats 4000000 in
theorem tripX_inv (f2 : Bf (F := F) c arg2) (f3 : Bf (F := F) c arg3)
    (hh : arg2.view.read (Elt F) f2 = h) (hx : arg3.view.read (Elt F) f3 = x)
    (hq : ∀ (y : S128x16384.Idx) (z : S128x4096.Idx), (y 0).val = (z 0).val →
      (y 1).val = 4096 * (i 1).val + (z 1).val → G y = deqXs h x z) (k : Fin k0_t1_loop.trips) :
    invX c i arg2 arg3 arg6 arg8 arg12 arg14 arg15 arg16 h x G f2 f3 k.val
    ⊢ wp frame (wpE (defs₀ (F := F)) Variants.none c none) Set.univ (tripX i arg2 harg2 arg3 harg3 arg6 harg6 arg8 harg8 arg12 harg12 arg14 harg14 arg15 harg15 arg16 harg16 hi k)
        (fun _ => invX c i arg2 arg3 arg6 arg8 arg12 arg14 arg15 arg16 h x G f2 f3 (k.val + 1)) := by
  have hk : k.val < 4 := lt_of_lt_of_eq k.isLt (by decide)
  have l2 := (load_full arg2.view f2 ![0, 0] (fun a => by fin_cases a <;> rfl) inb_S256x256_S256x256_0_0).trans hh
  have l4 : ∀ r : Fin 4, arg3.view.readAt (Elt F) (Rect.unit (s := S128x4096) (k0_off1 k (BitVec.ofNat 32 (256 * r.val))) S128x256.size (k0_off1_inb i k hi r)).toLoadRect f3 = xcols x (4 * k.val + r.val) := fun r =>
    (load_x arg3.view f3 (4 * k.val + r.val) (by omega) _
      ((k0_off1_eq k r).trans (by rw [show 1024 * k.val + 256 * r.val = 256 * (4 * k.val + r.val) by omega])) _).trans (by rw [hx])
  have l40 : arg3.view.readAt (Elt F) (Rect.unit (s := S128x4096) (k0_off1 k 0#32) S128x256.size (k0_off1_inb i k hi 0)).toLoadRect f3 = xcols x (4 * k.val) := l4 0
  have l41 : arg3.view.readAt (Elt F) (Rect.unit (s := S128x4096) (k0_off1 k 256#32) S128x256.size (k0_off1_inb i k hi 1)).toLoadRect f3 = xcols x (4 * k.val + 1) := l4 1
  have l42 : arg3.view.readAt (Elt F) (Rect.unit (s := S128x4096) (k0_off1 k 512#32) S128x256.size (k0_off1_inb i k hi 2)).toLoadRect f3 = xcols x (4 * k.val + 2) := l4 2
  have l43 : arg3.view.readAt (Elt F) (Rect.unit (s := S128x4096) (k0_off1 k 768#32) S128x256.size (k0_off1_inb i k hi 3)).toLoadRect f3 = xcols x (4 * k.val + 3) := l4 3
  have hrun := tile_bind (F := F) c arg14 harg14 arg15 harg15
  unfold invX
  iintro ⟨%f6, %f8, %f12, %f14, %f15, %f16, H2, H3, H6, H8, H12, H14, H15, H16, %hp⟩
  obtain ⟨p6, p8, p12, p16⟩ := hp
  unfold tripX
  generalize tile (F := F) arg14 arg15 = T at hrun ⊢
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  simp only [l2, l40, l41,
    l42, l43]
  clear hrun
  sl_step
  iexists _; iexists _; iexists _; iexists _; iexists _; iexists _
  isplitl [H2]; · iexact H2
  isplitl [H3]; · iexact H3
  isplitl [H6]; · iexact H6
  isplitl [H8]; · iexact H8
  isplitl [H12]; · iexact H12
  isplitl [H14]; · iexact H14
  isplitl [H15]; · iexact H15
  isplitl [H16]; · iexact H16
  ipureintro
  exact ⟨fun y hy => stepMX h x i hi k arg6.view f6 p6 y hy, fun y hy => stepCX h x i hi k arg8.view f8 p8 y hy,
    fun y hy => stepQ h x i hi k arg12.view f12 G hq p12 y hy,
    fun y hy => stepSX h x i hi k arg16.view f16 p16 y hy⟩

end X

end Cert.Kernel.Tile
-- ==== Proof.K.Body.lean ====
module

public import proofs.«01_k».proof.Proof.K.LoopRun
public import Idealize.ShloMosaic.Lib.Pipeline.Regions

/-! # Running the body

The body in four parts — the left operand's loop, the clearing of the accumulator, the right operand's loop, the
result's store — and what each leaves. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Parts

variable (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)

/-- The left operand's part of the body. -/
def partX : Prog (TpuEff nD τ sig (Elt F) Λ₀ .tc) PUnit := do
  let arg1 : BitVec 32 := BitVec.ofNat 32 (i 1).val
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h1)
    let v21 : Vec F S1x128x128 .i32 ← Prog.lift (.load arg16 (Rect.unit (s := S2x128x128) ![0, 0, 0] S1x128x128.size inb_S2x128x128_S1x128x128_0_0_0).toLoadRect (View.loadsAt_vmem h_S1x128x128))
    let v25 : Vec F S128x128 .i8 ← Prog.lift (.load arg9 (Rect.unit (s := S128x128) ![0, 0] S128x128.size inb_S128x128_S128x128_0_0).toLoadRect (View.loadsAt_vmem h_S128x128))
    Prog.lift (.store arg9 (Rect.unit (s := S128x128) ![0, 0] S128x128.size inb_S128x128_S128x128_0_0) (k0_pay3 v21) Finset.univ (View.stores_vmem h_S128x128 (harg9.storeExact_slice rfl _ packedi8_S128x128_S128x128_0_0) (fun _ => rfl)) (.inl rfl))
    pure ⟨⟩
  else do
    pure ⟨⟩

/-- The clearing of the accumulator. -/
def partZ : Prog (TpuEff nD τ sig (Elt F) Λ₀ .tc) PUnit := do
  let arg1 : BitVec 32 := BitVec.ofNat 32 (i 1).val
  let v3 : BitVec 1 := Scalar.cmpi .eq arg1 0#32
  let v4 : BitVec 32 := Scalar.extui v3
  let v5 : BitVec 1 := Scalar.cmpi .ne v4 0#32
  if k0_h2 : v5 = 1#1 then do
    let v21 : Vec F S128x256 .f32 ← Prog.lift (.load arg13 (Rect.unit (s := S128x256) ![0, 0] S128x256.size inb_S128x256_S128x256_0_0).toLoadRect (View.loadsAt_vmem h_S128x256))
    Prog.lift (.store arg13 (Rect.unit (s := S128x256) ![0, 0] S128x256.size inb_S128x256_S128x256_0_0) (k0_pay4 (F := F)) Finset.univ (View.stores_vmem_bits_univ h_S128x256 rfl) (.inl rfl))
    pure ⟨⟩
  else do
    pure ⟨⟩

/-- The right operand's part of the body. -/
def partW : Prog (TpuEff nD τ sig (Elt F) Λ₀ .tc) PUnit := do
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16)
  let v7 : Vec F S1x128x128 .i32 ← Prog.lift (.load arg16 (Rect.unit (s := S2x128x128) ![0, 0, 0] S1x128x128.size inb_S2x128x128_S1x128x128_0_0_0).toLoadRect (View.loadsAt_vmem h_S1x128x128))
  let v11 : Vec F S128x128 .i8 ← Prog.lift (.load arg11 (Rect.unit (s := S256x128) ![0, 0] S128x128.size inb_S256x128_S128x128_0_0).toLoadRect (View.loadsAt_vmem h_S128x128))
  Prog.lift (.store arg11 (Rect.unit (s := S256x128) ![0, 0] S128x128.size inb_S256x128_S128x128_0_0) (k0_pay7 v7) Finset.univ (View.stores_vmem h_S128x128 (harg11.storeExact_slice rfl _ packedi8_S256x128_S128x128_0_0) (fun _ => rfl)) (.inl rfl))
  let v12 : Vec F S1x128x128 .i32 ← Prog.lift (.load arg16 (Rect.unit (s := S2x128x128) ![1, 0, 0] S1x128x128.size inb_S2x128x128_S1x128x128_1_0_0).toLoadRect (View.loadsAt_vmem h_S1x128x128))
  let v16 : Vec F S128x128 .i8 ← Prog.lift (.load arg11 (Rect.unit (s := S256x128) ![128, 0] S128x128.size inb_S256x128_S128x128_128_0).toLoadRect (View.loadsAt_vmem h_S128x128))
  Prog.lift (.store arg11 (Rect.unit (s := S256x128) ![128, 0] S128x128.size inb_S256x128_S128x128_128_0) (k0_pay8 v12) Finset.univ (View.stores_vmem h_S128x128 (harg11.storeExact_slice rfl _ packedi8_S256x128_S128x128_128_0) (fun _ => rfl)) (.inl rfl))
  pure ⟨⟩

/-- The store of the result. -/
def partY : Prog (TpuEff nD τ sig (Elt F) Λ₀ .tc) PUnit := do
  if k0_h3 : k0_cond3 i = 1#1 then do
    let v20 : Vec F S128x256 .f32 ← Prog.lift (.load arg13 (Rect.unit (s := S128x256) ![0, 0] S128x256.size inb_S128x256_S128x256_0_0).toLoadRect (View.loadsAt_vmem h_S128x256))
    let v22 : Vec F S128x256 .bf16 ← Prog.lift (.load arg5 (Rect.unit (s := S128x256) ![0, 0] S128x256.size inb_S128x256_S128x256_0_0).toLoadRect (View.loadsAt_vmem h_S128x256))
    Prog.lift (.store arg5 (Rect.unit (s := S128x256) ![0, 0] S128x256.size inb_S128x256_S128x256_0_0) (k0_pay9 v20) Finset.univ (View.stores_vmem h_S128x256 (harg5.storeExact_slice rfl _ packedbf16_S128x256_S128x256_0_0) (fun _ => rfl)) (.inl rfl))
    pure ⟨⟩
  else do
    pure ⟨⟩

set_option maxHeartbeats 1000000 in
/-- The body is its four parts in order. -/
theorem body_parts : cc0_mxfp4_linear i arg2 harg2 arg3 harg3 arg4 harg4 arg5 harg5 arg6 harg6 arg7 harg7 arg8 harg8 arg9 harg9 arg10 harg10 arg11 harg11 arg12 harg12 arg13 harg13 arg14 harg14 arg15 harg15 arg16 harg16
    = (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => partZ (F := F) i arg13 >>= fun _ => partW (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ =>
        partY (F := F) i arg5 harg5 arg13 >>= fun _ => pure ⟨⟩) := by
  rw [cc0_mxfp4_linear_eq_skeleton]
  unfold cc0_mxfp4_linear_skel partX partZ partW partY
  by_cases h1 : k0_cond1 i = 1#1 <;>
  by_cases h2 : Scalar.cmpi .ne (Scalar.extui (Scalar.cmpi .eq (BitVec.ofNat 32 (i 1).val) 0#32) : BitVec 32) 0#32 = 1#1 <;>
  by_cases h3 : k0_cond3 i = 1#1 <;>
  simp only [h1, h2, h3, dite_true, dite_false, bind_assoc, pure_bind]

end Parts

end Cert.Kernel.Tile

end
-- ==== Proof.K.BodyRun.lean ====
module

public import proofs.«01_k».proof.Proof.K.Body

/-! # What the parts of the body leave -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- One plane of scale words. -/
def plane (e : IVec S2x128x128 32) (p : ℕ) (hp : p < 2) : IVec S1x128x128 32 := fun z => e (ix3 ⟨p, hp⟩ (z 1) (z 2))

theorem load_plane {κ : Kind} {sp : Space} (v : View sig κ sp S2x128x128 .i32) (f : v.ty.Contents (Elt F))
    (p : ℕ) (hp : p < 2) (off : Fin 3 → ℕ) (hoff : off = ![p, 0, 0])
    (inb : ∀ a, off a + S1x128x128.size a ≤ S2x128x128.size a) (e : IVec S2x128x128 32)
    (he : ∀ y : S2x128x128.Idx, (y 0).val = p → v.read (Elt F) f y = e y) :
    v.readAt (Elt F) (Rect.unit (s := S2x128x128) off S1x128x128.size inb).toLoadRect f = plane e p hp := by
  subst hoff
  funext y
  rw [View.readAt_apply]
  have h0 : (y 0).val < 1 := (y 0).isLt
  refine (he _ ?_).trans (congrArg e (funext fun a => Fin.ext ?_))
  · simp [Rect.unit]; omega
  · fin_cases a <;> simp [Rect.unit] <;> first | omega | rfl

/-- The left operand's scale bytes. -/
def bytesX (h : FVec F S256x256 .bf16) (x : FVec F S128x4096 .bf16) : IVec S128x128 8 :=
  k0_pay3 (F := F) (plane (scaleX h x) 0 (by decide))

/-- The right operand's scale bytes. -/
def bytesW (h : FVec F S256x256 .bf16) (w : FVec F S256x4096 .bf16) : IVec S256x128 8 := fun y =>
  if (y 0).val < 128 then k0_pay7 (F := F) (plane (scaleW h w) 0 (by decide)) (ix2 (m128 (y 0).val) (y 1))
  else k0_pay8 (F := F) (plane (scaleW h w) 1 (by decide)) (ix2 (m128 (y 0).val) (y 1))

/-- Two half blocks of bytes written one above the other. -/
theorem read_bytesW {κ : Kind} {sp : Space} (v : View sig κ sp S256x128 .i8) (f : v.ty.Contents (Elt F))
    (h : FVec F S256x256 .bf16) (w : FVec F S256x4096 .bf16) :
    v.read (Elt F) (v.writes (Elt F) f
      [⟨Rect.unit (s := S256x128) ![128, 0] S128x128.size inb_S256x128_S128x128_128_0, k0_pay8 (F := F) (plane (scaleW h w) 1 (by decide))⟩,
       ⟨Rect.unit (s := S256x128) ![0, 0] S128x128.size inb_S256x128_S128x128_0_0, k0_pay7 (F := F) (plane (scaleW h w) 0 (by decide))⟩]) = bytesW h w := by
  funext y
  have hy0 : (y 0).val < 256 := (y 0).isLt
  have hy1 : (y 1).val < 128 := (y 1).isLt
  refine View.read_writes_apply_of_pieces v f (bytesW h w) _ ?_ y ?_
  · simp only [List.forall_mem_cons, List.not_mem_nil, false_imp_iff, implies_true, and_true]
    refine ⟨?_, ?_⟩
    · intro z
      have hz0 : (z 0).val < 128 := (z 0).isLt
      have hz1 : (z 1).val < 128 := (z 1).isLt
      unfold bytesW
      rw [if_neg (by show ¬ 128 + 1 * (z 0).val < 128; omega)]
      refine congrArg _ (funext fun a => Fin.ext ?_)
      fin_cases a
      · show (z 0).val = (128 + 1 * (z 0).val) % 128
        omega
      · show (z 1).val = 0 + 1 * (z 1).val
        omega
    · intro z
      have hz0 : (z 0).val < 128 := (z 0).isLt
      have hz1 : (z 1).val < 128 := (z 1).isLt
      unfold bytesW
      rw [if_pos (by show 0 + 1 * (z 0).val < 128; omega)]
      refine congrArg _ (funext fun a => Fin.ext ?_)
      fin_cases a
      · show (z 0).val = (0 + 1 * (z 0).val) % 128
        omega
      · show (z 1).val = 0 + 1 * (z 1).val
        omega
  · rcases Nat.lt_or_ge (y 0).val 128 with hlt | hge
    · refine ⟨_, List.mem_cons_of_mem _ (List.mem_cons_self ..), mem_unit_set inb_S256x128_S128x128_0_0 y fun a => ?_⟩
      fin_cases a
      · show 0 ≤ (y 0).val ∧ (y 0).val < 0 + 128; omega
      · show 0 ≤ (y 1).val ∧ (y 1).val < 0 + 128; omega
    · refine ⟨_, List.mem_cons_self .., mem_unit_set inb_S256x128_S128x128_128_0 y fun a => ?_⟩
      fin_cases a
      · show 128 ≤ (y 0).val ∧ (y 0).val < 128 + 128; omega
      · show 0 ≤ (y 1).val ∧ (y 1).val < 0 + 128; omega

section Parts

variable (c : Dev nD) (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)
  (h : FVec F S256x256 .bf16)

set_option maxHeartbeats 2000000 in
theorem partX_run (x : FVec F S128x4096 .bf16) (G : FVec F S128x16384 .bf16) (hi : k0_cond1 i = 1#1)
    (hG : ∀ (y : S128x16384.Idx) (z : S128x4096.Idx), (y 0).val = (z 0).val → (y 1).val = 4096 * (i 1).val + (z 1).val → G y = deqXs h x z)
    (f2 : Bf (F := F) c arg2) (f3 : Bf (F := F) c arg3) (f12 : Bf (F := F) c arg12)
    (hh : arg2.view.read (Elt F) f2 = h) (hx : arg3.view.read (Elt F) f3 = x)
    (h12 : ∀ y : S128x16384.Idx, (y 1).val < 4096 * (i 1).val → arg12.view.read (Elt F) f12 y = G y)
    (K : PUnit → sProp 𝕄) :
    iprop(pt c arg2 f2 ∗ pt c arg3 f3 ∗ (∃ f, pt (F := F) c arg6 f) ∗ (∃ f, pt (F := F) c arg8 f) ∗ (∃ f, pt (F := F) c arg9 f) ∗ pt c arg12 f12
        ∗ (∃ f, pt (F := F) c arg14 f) ∗ (∃ f, pt (F := F) c arg15 f) ∗ (∃ f, pt (F := F) c arg16 f)
        ∗ (∀ f6 f8 f9 f12 f14 f15 f16, iprop(pt c arg2 f2 ∗ pt c arg3 f3 ∗ pt c arg6 f6 ∗ pt c arg8 f8 ∗ pt c arg9 f9 ∗ pt c arg12 f12
            ∗ pt c arg14 f14 ∗ pt c arg15 f15 ∗ pt c arg16 f16
            ∗ ⌜arg6.view.read (Elt F) f6 = maskX h x ∧ arg8.view.read (Elt F) f8 = codesX h x ∧ arg9.view.read (Elt F) f9 = bytesX h x
              ∧ (∀ y : S128x16384.Idx, (y 1).val < 4096 * (i 1).val + 4096 → arg12.view.read (Elt F) f12 y = G y)⌝) -∗ K ⟨⟩))
    ⊢ wp frame (wpE (defs₀ (F := F)) Variants.none c none) Set.univ (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  sl_unfold [partX]
  rw [dif_pos hi]
  iintro ⟨H2, H3, ⟨%f6, H6⟩, ⟨%f8, H8⟩, ⟨%f9, H9⟩, H12, ⟨%f14, H14⟩, ⟨%f15, H15⟩, ⟨%f16, H16⟩, HK⟩
  sl_for (fun k _ => invX c i arg2 arg3 arg6 arg8 arg12 arg14 arg15 arg16 h x G f2 f3 k) $$ [H2 H3 H6 H8 H12 H14 H15 H16]
  case region =>
    intro k acc
    have hr := tripX_inv c i arg2 harg2 arg3 harg3 arg6 harg6 arg8 harg8 arg12 harg12 arg14 harg14 arg15 harg15 arg16 harg16 hi h x G f2 f3 hh hx hG k
    rw [← k0_t1_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 hi (BitVec.ofNat 32 (i 1).val) k acc] at hr
    exact hr
  · unfold invX
    iexists f6, f8, f12, f14, f15, f16
    isplitl [H2]; · iexact H2
    isplitl [H3]; · iexact H3
    isplitl [H6]; · iexact H6
    isplitl [H8]; · iexact H8
    isplitl [H12]; · iexact H12
    isplitl [H14]; · iexact H14
    isplitl [H15]; · iexact H15
    isplitl [H16]; · iexact H16
    ipureintro
    exact ⟨fun y hy => absurd hy (by omega), fun y hy => absurd hy (by omega), fun y hy => h12 y (by omega), fun y hy => absurd hy.2 (by omega)⟩
  iintro %acc HI
  unfold invX
  icases HI with ⟨%f6, %f8, %f12, %f14, %f15, %f16, H2, H3, H6, H8, H12, H14, H15, H16, %hI⟩
  have ht : Scf.trips k0_t1_loop.lb k0_t1_loop.ub k0_t1_loop.st = 4 := by decide
  rw [ht] at hI
  obtain ⟨hI6, hI8, hI12, hI16⟩ := hI
  have l16 := load_plane arg16.view f16 0 (by decide) ![0, 0, 0] rfl inb_S2x128x128_S1x128x128_0_0_0 (scaleX h x)
    fun y hy => hI16 y ⟨by omega, lt_of_lt_of_le (y 1).isLt (by decide)⟩
  sl_exec
  simp only [l16]
  sl_step
  iapply HK $$ %f6 %f8 %_ %f12 %f14 %f15 %f16
  isplitl [H2]; · iexact H2
  isplitl [H3]; · iexact H3
  isplitl [H6]; · iexact H6
  isplitl [H8]; · iexact H8
  isplitl [H9]; · iexact H9
  isplitl [H12]; · iexact H12
  isplitl [H14]; · iexact H14
  isplitl [H15]; · iexact H15
  isplitl [H16]; · iexact H16
  ipureintro
  refine ⟨funext fun y => hI6 y (lt_of_lt_of_le (y 1).isLt (by decide)), funext fun y => hI8 y (lt_of_lt_of_le (y 1).isLt (by decide)), ?_, fun y hy => hI12 y (by omega)⟩
  exact View.read_writes_full arg9.view f9 inb_S128x128_S128x128_0_0 _ []

theorem partX_skip (hi : ¬ k0_cond1 i = 1#1) : partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = pure ⟨⟩ := by
  unfold partX
  rw [dif_neg hi]

/-- Clearing the accumulator: at the first column block it is zero, elsewhere what it was. -/
theorem partZ_run (f13 : Bf (F := F) c arg13) (K : PUnit → sProp 𝕄) :
    iprop(pt c arg13 f13 ∗ (∀ g, iprop(pt c arg13 g ∗ ⌜arg13.view.read (Elt F) g
        = (if (i 1).val = 0 then k0_pay4 (F := F) else arg13.view.read (Elt F) f13)⌝) -∗ K ⟨⟩))
    ⊢ wp frame (wpE (defs₀ (F := F)) Variants.none c none) Set.univ (partZ (F := F) i arg13) K := by
  have h4 : ∀ j : Fin 4, (Scalar.cmpi .ne (Scalar.extui (Scalar.cmpi .eq (BitVec.ofNat 32 j.val) 0#32) : BitVec 32) 0#32 = 1#1) ↔ j.val = 0 := by decide
  have hi := h4 (i 1)
  sl_unfold [partZ]
  by_cases h2 : Scalar.cmpi .ne (Scalar.extui (Scalar.cmpi .eq (BitVec.ofNat 32 (i 1).val) 0#32) : BitVec 32) 0#32 = 1#1
  · rw [if_pos (hi.mp h2)]
    iintro ⟨H13, HK⟩
    sl_exec
    sl_step
    iapply HK $$ %_
    isplitl [H13]; · iexact H13
    ipureintro
    exact View.read_writes_full arg13.view f13 inb_S128x256_S128x256_0_0 _ []
  · rw [if_neg (fun h => h2 (hi.mpr h))]
    iintro ⟨H13, HK⟩
    sl_exec
    sl_step
    iapply HK $$ %_
    isplitl [H13]; · iexact H13
    ipureintro
    rfl

/-- The store of the result: at the last column block the rounded accumulator, elsewhere what was there. -/
theorem partY_run (f5 : Bf (F := F) c arg5) (f13 : Bf (F := F) c arg13) (K : PUnit → sProp 𝕄) :
    iprop(pt c arg5 f5 ∗ pt c arg13 f13 ∗ (∀ g, iprop(pt c arg5 g ∗ pt c arg13 f13 ∗ ⌜arg5.view.read (Elt F) g
        = (if k0_cond3 i = 1#1 then k0_pay9 (arg13.view.read (Elt F) f13) else arg5.view.read (Elt F) f5)⌝) -∗ K ⟨⟩))
    ⊢ wp frame (wpE (defs₀ (F := F)) Variants.none c none) Set.univ (partY (F := F) i arg5 harg5 arg13) K := by
  have l13 := load_full arg13.view f13 ![0, 0] (fun a => by fin_cases a <;> rfl) inb_S128x256_S128x256_0_0
  sl_unfold [partY]
  by_cases h2 : k0_cond3 i = 1#1
  · rw [if_pos h2]
    iintro ⟨H5, H13, HK⟩
    sl_exec
    sl_step
    iapply HK $$ %_
    isplitl [H5]; · iexact H5
    isplitl [H13]; · iexact H13
    ipureintro
    rw [View.read_writes_full arg5.view f5 inb_S128x256_S128x256_0_0 _ []]
  · rw [if_neg h2]
    iintro ⟨H5, H13, HK⟩
    sl_exec
    sl_step
    iapply HK $$ %_
    isplitl [H5]; · iexact H5
    isplitl [H13]; · iexact H13
    ipureintro
    rfl

set_option maxHeartbeats 2000000 in
theorem partW_run (w : FVec F S256x4096 .bf16) (q : FVec F S128x16384 .bf16) (a : FVec F S128x256 .f32)
    (f2 : Bf (F := F) c arg2) (f4 : Bf (F := F) c arg4) (f12 : Bf (F := F) c arg12) (f13 : Bf (F := F) c arg13)
    (hh : arg2.view.read (Elt F) f2 = h) (hw : arg4.view.read (Elt F) f4 = w)
    (hq : ∀ y : S128x16384.Idx, (y 1).val < 4096 * (i 1).val + 4096 → arg12.view.read (Elt F) f12 y = q y)
    (h13 : arg13.view.read (Elt F) f13 = a)
    (K : PUnit → sProp 𝕄) :
    iprop(pt c arg2 f2 ∗ pt c arg4 f4 ∗ (∃ f, pt (F := F) c arg7 f) ∗ (∃ f, pt (F := F) c arg10 f) ∗ (∃ f, pt (F := F) c arg11 f) ∗ pt c arg12 f12
        ∗ pt c arg13 f13 ∗ (∃ f, pt (F := F) c arg14 f) ∗ (∃ f, pt (F := F) c arg15 f) ∗ (∃ f, pt (F := F) c arg16 f)
        ∗ (∀ f7 f10 f11 f13 f14 f15 f16, iprop(pt c arg2 f2 ∗ pt c arg4 f4 ∗ pt c arg7 f7 ∗ pt c arg10 f10 ∗ pt c arg11 f11 ∗ pt c arg12 f12
            ∗ pt c arg13 f13 ∗ pt c arg14 f14 ∗ pt c arg15 f15 ∗ pt c arg16 f16
            ∗ ⌜arg7.view.read (Elt F) f7 = maskW h w ∧ arg10.view.read (Elt F) f10 = codesW h w ∧ arg11.view.read (Elt F) f11 = bytesW h w
              ∧ arg13.view.read (Elt F) f13 = accAt h w q (4096 * (i 1).val) a 4⌝) -∗ K ⟨⟩))
    ⊢ wp frame (wpE (defs₀ (F := F)) Variants.none c none) Set.univ (partW (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  sl_unfold [partW]
  iintro ⟨H2, H4, ⟨%f7, H7⟩, ⟨%f10, H10⟩, ⟨%f11, H11⟩, H12, H13, ⟨%f14, H14⟩, ⟨%f15, H15⟩, ⟨%f16, H16⟩, HK⟩
  sl_for (fun k _ => invW c i arg2 arg4 arg7 arg10 arg12 arg13 arg14 arg15 arg16 h w q a f2 f4 f12 k) $$ [H2 H4 H7 H10 H12 H13 H14 H15 H16]
  case region =>
    intro k acc
    have hr := tripW_inv c i arg2 harg2 arg4 harg4 arg7 harg7 arg10 harg10 arg12 harg12 arg13 harg13 arg14 harg14 arg15 harg15 arg16 harg16 h w q a f2 f4 f12 hh hw hq k
    rw [← k0_t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 k acc] at hr
    exact hr
  · unfold invW
    iexists f7, f10, f13, f14, f15, f16
    isplitl [H2]; · iexact H2
    isplitl [H4]; · iexact H4
    isplitl [H7]; · iexact H7
    isplitl [H10]; · iexact H10
    isplitl [H12]; · iexact H12
    isplitl [H13]; · iexact H13
    isplitl [H14]; · iexact H14
    isplitl [H15]; · iexact H15
    isplitl [H16]; · iexact H16
    ipureintro
    exact ⟨fun y hy => absurd hy (by omega), fun y hy => absurd hy (by omega), h13, fun y hy => absurd hy (by omega)⟩
  iintro %acc HI
  unfold invW
  icases HI with ⟨%f7, %f10, %f13, %f14, %f15, %f16, H2, H4, H7, H10, H12, H13, H14, H15, H16, %hI⟩
  have ht : Scf.trips k0_t2_loop.lb k0_t2_loop.ub k0_t2_loop.st = 4 := by decide
  rw [ht] at hI
  obtain ⟨hI7, hI10, hI13, hI16⟩ := hI
  have l16 := load_plane arg16.view f16 0 (by decide) ![0, 0, 0] rfl inb_S2x128x128_S1x128x128_0_0_0 (scaleW h w)
    fun y hy => hI16 y (lt_of_lt_of_le (y 1).isLt (by decide))
  have l16' := load_plane arg16.view f16 1 (by decide) ![1, 0, 0] rfl inb_S2x128x128_S1x128x128_1_0_0 (scaleW h w)
    fun y hy => hI16 y (lt_of_lt_of_le (y 1).isLt (by decide))
  sl_exec
  simp only [l16, l16']
  sl_step
  iapply HK $$ %f7 %f10 %_ %f13 %f14 %f15 %f16
  isplitl [H2]; · iexact H2
  isplitl [H4]; · iexact H4
  isplitl [H7]; · iexact H7
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  exact ⟨funext fun y => hI7 y (lt_of_lt_of_le (y 1).isLt (by decide)), funext fun y => hI10 y (lt_of_lt_of_le (y 1).isLt (by decide)),
    read_bytesW arg11.view f11 h w, hI13⟩

end Parts

end Cert.Kernel.Tile

end
-- ==== Proof.K.Launch.lean ====
module

public import proofs.«01_k».proof.Proof.K.BodyRun
public import proofs.«01_k».proof.Proof.Gen.Kernel.Frame
public import Idealize.ShloMosaic.Lib.Pipeline.FrameBody

/-! # The launch

What the body finds and leaves at each point, and the run of the whole program. -/

@[expose] public section
set_option maxRecDepth 16384

noncomputable section

namespace Cert.Kernel.Tile

open Cert.Kernel Cert.Kernel.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The grid's points -/

/-- Point `n`, reduced below the number of points. -/
def ptOf (n : ℕ) : Fin cfg0.N := ⟨n % 48, Nat.mod_lt _ (by decide)⟩

theorem coord0 : ∀ t : Fin cfg0.N, (k0_cond1 (grid0.coords t) = 1#1) ↔ t.val < 4 := by decide
theorem coord1 : ∀ t : Fin cfg0.N, ((grid0.coords t) 1).val = t.val % 4 := by decide
theorem coord3 : ∀ t : Fin cfg0.N, (k0_cond3 (grid0.coords t) = 1#1) ↔ t.val % 4 = 3 := by decide

theorem flush4 : ∀ t : Fin cfg0.N, (cfg0.win 4).flush t = decide (t.val < 3 ∨ t.val = 47) := by decide
theorem flush6 : ∀ t : Fin cfg0.N, (cfg0.win 6).flush t = decide (t.val < 3 ∨ t.val = 47) := by decide
theorem flush7 : ∀ t : Fin cfg0.N, (cfg0.win 7).flush t = decide (t.val < 3 ∨ t.val = 47) := by decide

/-! ## What each buffer holds -/

section Data

variable (c : Dev nD)

/-- The rotation's table, the left operand's and the right operand's block at a point. -/
def hB (t : Fin cfg0.N) : FVec F S256x256 .bf16 := iblk m c 0 t
def xB (t : Fin cfg0.N) : FVec F S128x4096 .bf16 := iblk m c 1 t
def wB (t : Fin cfg0.N) : FVec F S256x4096 .bf16 := iblk m c 2 t

/-- The dequantised left operand, all columns. -/
def gX : FVec F S128x16384 .bf16 := fun y =>
  deqXs (hB m c (ptOf ((y 1).val / 4096))) (xB m c (ptOf ((y 1).val / 4096)))
    (ix2 (y 0) ⟨(y 1).val % 4096, Nat.mod_lt _ (by decide)⟩)

/-- The accumulator of row block `r` after `n` column blocks. -/
def accRow (r : ℕ) : ℕ → FVec F S128x256 .f32
  | 0 => k0_pay4 (F := F)
  | n + 1 => accAt (hB m c (ptOf (4 * r + n))) (wB m c (ptOf (4 * r + n))) (gX m c) (4096 * n) (accRow r n) 4

/-- The point at which the left operand's results last written at `t` were computed. -/
def tx (t : Fin cfg0.N) : Fin cfg0.N := ptOf (min t.val 3)

/-- The scratch before point `n`. -/
def Scr (n : ℕ) : sProp 𝕄 :=
  iprop(∃ f12, ∃ f13, ∃ f14, ∃ f15, ∃ f16,
    pt (F := F) c (Memref.whole cc0_scratch0) f12 ∗ pt (F := F) c (Memref.whole cc0_scratch1) f13 ∗ pt (F := F) c (Memref.whole cc0_scratch2) f14
    ∗ pt (F := F) c (Memref.whole cc0_scratch3) f15 ∗ pt (F := F) c (Memref.whole cc0_scratch4) f16
    ∗ ⌜(∀ y : S128x16384.Idx, (y 1).val < 4096 * min n 4 → (Memref.whole cc0_scratch0).view.read (Elt F) f12 y = gX m c y)
      ∧ (n % 4 ≠ 0 → (Memref.whole cc0_scratch1).view.read (Elt F) f13 = accRow m c (n / 4) (n % 4))⌝)

end Data

/-- The proof data on core `c`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => k0_pay9 (accRow m c (t.val / 4) 4)
    | 4 => maskX (hB m c (tx t)) (xB m c (tx t))
    | 5 => maskW (hB m c t) (wB m c t)
    | 6 => codesX (hB m c (tx t)) (xB m c (tx t))
    | 7 => bytesX (hB m c (tx t)) (xB m c (tx t))
    | 8 => codesW (hB m c t) (wB m c t)
    | 9 => bytesW (hB m c t) (wB m c t)
    | ⟨_ + 10, h⟩ => absurd h (Nat.not_lt.2 (Nat.le_add_left _ _))
  Φ t := iprop(Scr m c t.val ∗ ∃ r, prngReg c r)
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats (F := F) m 0 c).before 0 t d = hB m c t :=
  before0_0_of m (dats m 0 c) (A_eq m c 0) (fun t => by dsimp only [dats]) t d

theorem before1 (c : Dev nD) (t : Fin cfg0.N) (d) : (dats (F := F) m 0 c).before 1 t d = xB m c t :=
  before0_1_of m (dats m 0 c) (A_eq m c 1) (fun t => by dsimp only [dats]) t d

theorem before2 (c : Dev nD) (t : Fin cfg0.N) (d) : (dats (F := F) m 0 c).before 2 t d = wB m c t :=
  before0_2_of m (dats m 0 c) (A_eq m c 2) (fun t => by dsimp only [dats]) t d

/-- An output buffer last written at point `p` and left alone since holds what was left there. -/
theorem before_since {c : Dev nD} {cfg : Pipeline.Cfg sig Λ₀} (dat : Dat τ (Elt F) Unit ℕ (UR sig nD τ) ℕ cfg c) (w : Fin cfg.W) (p : Fin cfg.N)
    (hf : ∀ t, (cfg.win w).fetch t = false) (hp : cfg.idle w (cfg.grid.coords p) = false) (d) (k : ℕ) :
    ∀ (hn : p.val + k + 1 < cfg.N) (hfl : ∀ t : Fin cfg.N, p.val ≤ t.val → t.val ≤ p.val + k → (cfg.win w).flush t = false)
      (hi : ∀ t : Fin cfg.N, p.val < t.val → t.val ≤ p.val + k → cfg.idle w (cfg.grid.coords t) = true),
      dat.before w ⟨p.val + k + 1, hn⟩ d = dat.kept w p d := by
  induction k with
  | zero =>
    intro hn hfl hi
    rw [dat.before_of_pos w _ (Nat.succ_ne_zero _) (hf _), if_neg (by rw [hfl _ (by simp) (by simp)]; exact Bool.false_ne_true)]
    unfold Dat.left
    have e : (⟨(⟨p.val + 0 + 1, hn⟩ : Fin cfg.N).val - 1, Nat.lt_of_le_of_lt (Nat.sub_le _ _) hn⟩ : Fin cfg.N) = p := Fin.ext (by simp)
    rw [e]
    simp only [hp]
  | succ k ih =>
    intro hn hfl hi
    rw [dat.before_of_pos w _ (Nat.succ_ne_zero _) (hf _), if_neg (by rw [hfl _ (by show p.val ≤ p.val + (k + 1) + 1 - 1; omega) (by show p.val + (k + 1) + 1 - 1 ≤ _; omega)]; exact Bool.false_ne_true)]
    unfold Dat.left
    have e : (⟨(⟨p.val + (k + 1) + 1, hn⟩ : Fin cfg.N).val - 1, Nat.lt_of_le_of_lt (Nat.sub_le _ _) hn⟩ : Fin cfg.N) = ⟨p.val + k + 1, by omega⟩ := rfl
    rw [e]
    have h1 := hi ⟨p.val + k + 1, by omega⟩ (by show p.val < p.val + k + 1; omega) (by show p.val + k + 1 ≤ _; omega)
    simp only [h1]
    exact ih _ (fun t h1 h2 => hfl t h1 (by omega)) (fun t h1 h2 => hi t h1 (by omega))

theorem idle4 : ∀ t : Fin cfg0.N, cfg0.idle 4 (cfg0.grid.coords t) = decide (4 ≤ t.val) := by decide
theorem fetch4 : ∀ t : Fin cfg0.N, (cfg0.win 4).fetch t = false := fun _ => rfl

theorem before4 (c : Dev nD) (t : Fin cfg0.N) (h4 : 4 ≤ t.val) (d) :
    (dats (F := F) m 0 c).before 4 t d = maskX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 4 (ptOf 3) fetch4 (by rw [idle4]; rfl) d (t.val - 4) _ ?_ ?_).trans rfl
  · intro u h1 h2
    have h1' : 3 % 48 ≤ u.val := h1
    have h2' : u.val ≤ 3 % 48 + (t.val - 4) := h2
    rw [flush4]
    exact decide_eq_false (by omega)
  · intro u h1 h2
    have h1' : 3 % 48 < u.val := h1
    rw [idle4]
    exact decide_eq_true (by omega)

theorem idle6 : ∀ t : Fin cfg0.N, cfg0.idle 6 (cfg0.grid.coords t) = decide (4 ≤ t.val) := by decide
theorem fetch6 : ∀ t : Fin cfg0.N, (cfg0.win 6).fetch t = false := fun _ => rfl

theorem before6 (c : Dev nD) (t : Fin cfg0.N) (h4 : 4 ≤ t.val) (d) :
    (dats (F := F) m 0 c).before 6 t d = codesX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 6 (ptOf 3) fetch6 (by rw [idle6]; rfl) d (t.val - 4) _ ?_ ?_).trans rfl
  · intro u h1 h2
    have h1' : 3 % 48 ≤ u.val := h1
    have h2' : u.val ≤ 3 % 48 + (t.val - 4) := h2
    rw [flush6]
    exact decide_eq_false (by omega)
  · intro u h1 h2
    have h1' : 3 % 48 < u.val := h1
    rw [idle6]
    exact decide_eq_true (by omega)

theorem idle7 : ∀ t : Fin cfg0.N, cfg0.idle 7 (cfg0.grid.coords t) = decide (4 ≤ t.val) := by decide
theorem fetch7 : ∀ t : Fin cfg0.N, (cfg0.win 7).fetch t = false := fun _ => rfl

theorem before7 (c : Dev nD) (t : Fin cfg0.N) (h4 : 4 ≤ t.val) (d) :
    (dats (F := F) m 0 c).before 7 t d = bytesX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 7 (ptOf 3) fetch7 (by rw [idle7]; rfl) d (t.val - 4) _ ?_ ?_).trans rfl
  · intro u h1 h2
    have h1' : 3 % 48 ≤ u.val := h1
    have h2' : u.val ≤ 3 % 48 + (t.val - 4) := h2
    rw [flush7]
    exact decide_eq_false (by omega)
  · intro u h1 h2
    have h1' : 3 % 48 < u.val := h1
    rw [idle7]
    exact decide_eq_true (by omega)

section PartX

variable (c : Dev nD) (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (h : FVec F S256x256 .bf16)

/-- The left operand's part of the body, run or skipped. -/
theorem partX_all (x : FVec F S128x4096 .bf16) (G : FVec F S128x16384 .bf16)
    (hG : k0_cond1 i = 1#1 → ∀ (y : S128x16384.Idx) (z : S128x4096.Idx), (y 0).val = (z 0).val → (y 1).val = 4096 * (i 1).val + (z 1).val → G y = deqXs h x z)
    (f2 : Bf (F := F) c arg2) (f3 : Bf (F := F) c arg3) (f6 : Bf (F := F) c arg6) (f8 : Bf (F := F) c arg8) (f9 : Bf (F := F) c arg9) (f12 : Bf (F := F) c arg12)
    (hh : arg2.view.read (Elt F) f2 = h) (hx : arg3.view.read (Elt F) f3 = x)
    (h12 : k0_cond1 i = 1#1 → ∀ y : S128x16384.Idx, (y 1).val < 4096 * (i 1).val → arg12.view.read (Elt F) f12 y = G y)
    (K : PUnit → sProp 𝕄) :
    iprop(pt c arg2 f2 ∗ pt c arg3 f3 ∗ pt c arg6 f6 ∗ pt c arg8 f8 ∗ pt c arg9 f9 ∗ pt c arg12 f12
        ∗ (∃ f, pt (F := F) c arg14 f) ∗ (∃ f, pt (F := F) c arg15 f) ∗ (∃ f, pt (F := F) c arg16 f)
        ∗ (∀ g6 g8 g9 g12 f14 f15 f16, iprop(pt c arg2 f2 ∗ pt c arg3 f3 ∗ pt c arg6 g6 ∗ pt c arg8 g8 ∗ pt c arg9 g9 ∗ pt c arg12 g12
            ∗ pt c arg14 f14 ∗ pt c arg15 f15 ∗ pt c arg16 f16
            ∗ ⌜(k0_cond1 i = 1#1 → arg6.view.read (Elt F) g6 = maskX h x ∧ arg8.view.read (Elt F) g8 = codesX h x ∧ arg9.view.read (Elt F) g9 = bytesX h x
              ∧ (∀ y : S128x16384.Idx, (y 1).val < 4096 * (i 1).val + 4096 → arg12.view.read (Elt F) g12 y = G y))
              ∧ (¬ k0_cond1 i = 1#1 → g6 = f6 ∧ g8 = f8 ∧ g9 = f9 ∧ g12 = f12)⌝) -∗ K ⟨⟩))
    ⊢ wp frame (wpE (defs₀ (F := F)) Variants.none c none) Set.univ (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hi : k0_cond1 i = 1#1
  · iintro ⟨H2, H3, H6, H8, H9, H12, H14, H15, H16, HK⟩
    iapply (partX_run c i arg2 harg2 arg3 harg3 arg4 harg4 arg5 harg5 arg6 harg6 arg7 harg7 arg8 harg8 arg9 harg9 arg10 harg10 arg11 harg11 arg12 harg12 arg13 harg13 arg14 harg14 arg15 harg15 arg16 harg16 h x G hi (hG hi) f2 f3 f12 hh hx (h12 hi) K)
    isplitl [H2]; · iexact H2
    isplitl [H3]; · iexact H3
    isplitl [H6]; · iexists _; iexact H6
    isplitl [H8]; · iexists _; iexact H8
    isplitl [H9]; · iexists _; iexact H9
    isplitl [H12]; · iexact H12
    isplitl [H14]; · iexact H14
    isplitl [H15]; · iexact H15
    isplitl [H16]; · iexact H16
    iintro %f6 %f8 %f9 %f12 %f14 %f15 %f16 ⟨H2, H3, H6, H8, H9, H12, H14, H15, H16, %hr⟩
    iapply HK $$ %f6 %f8 %f9 %f12 %f14 %f15 %f16
    isplitl [H2]; · iexact H2
    isplitl [H3]; · iexact H3
    isplitl [H6]; · iexact H6
    isplitl [H8]; · iexact H8
    isplitl [H9]; · iexact H9
    isplitl [H12]; · iexact H12
    isplitl [H14]; · iexact H14
    isplitl [H15]; · iexact H15
    isplitl [H16]; · iexact H16
    ipureintro
    exact ⟨fun _ => hr, fun h => absurd hi h⟩
  · rw [partX_skip i arg2 harg2 arg3 harg3 arg4 harg4 arg5 harg5 arg6 harg6 arg7 harg7 arg8 harg8 arg9 harg9 arg10 harg10 arg11 harg11 arg12 harg12 arg13 harg13 arg14 harg14 arg15 harg15 arg16 harg16 hi]
    iintro ⟨H2, H3, H6, H8, H9, H12, ⟨%f14, H14⟩, ⟨%f15, H15⟩, ⟨%f16, H16⟩, HK⟩
    sl_step
    iapply HK $$ %f6 %f8 %f9 %f12 %f14 %f15 %f16
    isplitl [H2]; · iexact H2
    isplitl [H3]; · iexact H3
    isplitl [H6]; · iexact H6
    isplitl [H8]; · iexact H8
    isplitl [H9]; · iexact H9
    isplitl [H12]; · iexact H12
    isplitl [H14]; · iexact H14
    isplitl [H15]; · iexact H15
    isplitl [H16]; · iexact H16
    ipureintro
    exact ⟨fun h => absurd h hi, fun _ => ⟨rfl, rfl, rfl, rfl⟩⟩

end PartX

/-- A buffer handed back: at what the body leaves there, or, where the body leaves it alone, at what it found. -/
theorem leaves_of {c : Dev nD} {cfg : Pipeline.Cfg sig Λ₀} (dat : Dat τ (Elt F) Unit ℕ (UR sig nD τ) ℕ cfg c) (w : Fin cfg.W) (t : Fin cfg.N)
    (X : (cfg.win w).block.Idx → Elt F (cfg.win w).elt) (h1 : cfg.idle w (cfg.grid.coords t) = false → X = dat.after w t)
    (h2 : cfg.idle w (cfg.grid.coords t) = true → (cfg.win w).flush t = true → X = dat.after w t)
    (h3 : cfg.idle w (cfg.grid.coords t) = true → ∃ d, X = dat.before w t d) :
    (owns (c : Thread nD τ) ((cfg.win w).stage (cfg.slots t w)) fullShare X : sProp 𝕄) ⊢ dat.leavesExact w t := by
  unfold Dat.leavesExact
  cases hi : cfg.idle w (cfg.grid.coords t)
  · rw [h1 hi]
  · cases hf : (cfg.win w).flush t
    · obtain ⟨d, rfl⟩ := h3 hi
      iintro H; iexists d; iexact H
    · rw [h2 hi hf]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- A whole memref owned is its buffer held whole. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt (F := F) c M f) := by
  unfold owns pt
  rw [hM.set_eq_univ]

theorem succ_row (c : Dev nD) (n : ℕ) (hn : n < 48) (a : FVec F S128x256 .f32)
    (ha : a = if n % 4 = 0 then k0_pay4 (F := F) else accRow m c (n / 4) (n % 4)) :
    accAt (hB m c (ptOf n)) (wB m c (ptOf n)) (gX m c) (4096 * (n % 4)) a 4 = accRow m c (n / 4) (n % 4 + 1) := by
  have e : a = accRow m c (n / 4) (n % 4) := by
    rw [ha]
    split
    · next h => rw [h]; rfl
    · rfl
  show _ = accAt (hB m c (ptOf (4 * (n / 4) + n % 4))) (wB m c (ptOf (4 * (n / 4) + n % 4))) (gX m c) (4096 * (n % 4)) (accRow m c (n / 4) (n % 4)) 4
  rw [Nat.div_add_mod, e]

theorem ptOf_val (t : Fin cfg0.N) : ptOf t.val = t :=
  Fin.ext (Nat.mod_eq_of_lt (lt_of_lt_of_eq t.isLt (by decide)))

theorem gX_at (c : Dev nD) (t : Fin cfg0.N) (ht : t.val < 4) (y : S128x16384.Idx) (z : S128x4096.Idx) (h0 : (y 0).val = (z 0).val)
    (h1 : (y 1).val = 4096 * (t.val % 4) + (z 1).val) : gX m c y = deqXs (hB m c t) (xB m c t) z := by
  have hz : (z 1).val < 4096 := (z 1).isLt
  unfold gX
  have e : ptOf ((y 1).val / 4096) = t := Fin.ext (by show (y 1).val / 4096 % 48 = t.val; omega)
  rw [e]
  refine congrArg _ (funext fun a => Fin.ext ?_)
  fin_cases a
  · exact h0
  · show (y 1).val % 4096 = (z 1).val
    omega

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have ht48 : t.val < 48 := lt_of_lt_of_eq t.isLt (by decide)
  have hc0 := coord0 t
  have hc1 := coord1 t
  have hc3 := coord3 t
  have hl3 : ∀ X, (((t.val % 4 = 3) → X = k0_pay9 (accRow m c (t.val / 4) 4)) ∧ (t.val % 4 ≠ 3 → ∃ d, X = (dats m 0 c).before 3 t d)) →
      (owns (c : Thread nD τ) (win0_3.stage (cfg0.slots t 3)) fullShare X : sProp 𝕄) ⊢ (dats m 0 c).leavesExact 3 t := fun X hX =>
    leaves_of (dats m 0 c) 3 t X
      (fun h => hX.1 (hc3.mp (by have h' : (!(k0_cond3 (grid0.coords t) == 1#1)) = false := h; simpa using h')))
      (fun _ h => hX.1 ((flush0_3 t).mp h))
      (fun h => hX.2 fun h' => by
        have h'' : (!(k0_cond3 (grid0.coords t) == 1#1)) = true := h
        rw [hc3.mpr h'] at h''
        exact absurd h'' (by decide))

  have hl4 : ∀ X, ((t.val < 4 → X = maskX (hB m c t) (xB m c t)) ∧ (4 ≤ t.val → ∃ d, X = (dats m 0 c).before 4 t d)) →
      (owns (c : Thread nD τ) (win0_4.stage (cfg0.slots t 4)) fullShare X : sProp 𝕄) ⊢ (dats m 0 c).leavesExact 4 t := fun X hX =>
    leaves_of (dats m 0 c) 4 t X
      (fun h => by
        rw [idle4] at h
        have h' : t.val < 4 := by have := of_decide_eq_false h; omega
        have e : tx t = t := Fin.ext (by show min t.val 3 % 48 = t.val; omega)
        rw [hX.1 h']
        dsimp only [dats]
        rw [e])
      (fun h _ => by
        rw [idle4] at h
        have h' : 4 ≤ t.val := of_decide_eq_true h
        have e : tx t = ptOf 3 := Fin.ext (by show min t.val 3 % 48 = 3 % 48; omega)
        obtain ⟨d, hd⟩ := hX.2 h'
        rw [hd, before4 m c t h' d]
        dsimp only [dats]
        rw [e])
      (fun h => by
        rw [idle4] at h
        exact hX.2 (of_decide_eq_true h))
  have hl6 : ∀ X, ((t.val < 4 → X = codesX (hB m c t) (xB m c t)) ∧ (4 ≤ t.val → ∃ d, X = (dats m 0 c).before 6 t d)) →
      (owns (c : Thread nD τ) (win0_6.stage (cfg0.slots t 6)) fullShare X : sProp 𝕄) ⊢ (dats m 0 c).leavesExact 6 t := fun X hX =>
    leaves_of (dats m 0 c) 6 t X
      (fun h => by
        rw [idle6] at h
        have h' : t.val < 4 := by have := of_decide_eq_false h; omega
        have e : tx t = t := Fin.ext (by show min t.val 3 % 48 = t.val; omega)
        rw [hX.1 h']
        dsimp only [dats]
        rw [e])
      (fun h _ => by
        rw [idle6] at h
        have h' : 4 ≤ t.val := of_decide_eq_true h
        have e : tx t = ptOf 3 := Fin.ext (by show min t.val 3 % 48 = 3 % 48; omega)
        obtain ⟨d, hd⟩ := hX.2 h'
        rw [hd, before6 m c t h' d]
        dsimp only [dats]
        rw [e])
      (fun h => by
        rw [idle6] at h
        exact hX.2 (of_decide_eq_true h))
  have hl7 : ∀ X, ((t.val < 4 → X = bytesX (hB m c t) (xB m c t)) ∧ (4 ≤ t.val → ∃ d, X = (dats m 0 c).before 7 t d)) →
      (owns (c : Thread nD τ) (win0_7.stage (cfg0.slots t 7)) fullShare X : sProp 𝕄) ⊢ (dats m 0 c).leavesExact 7 t := fun X hX =>
    leaves_of (dats m 0 c) 7 t X
      (fun h => by
        rw [idle7] at h
        have h' : t.val < 4 := by have := of_decide_eq_false h; omega
        have e : tx t = t := Fin.ext (by show min t.val 3 % 48 = t.val; omega)
        rw [hX.1 h']
        dsimp only [dats]
        rw [e])
      (fun h _ => by
        rw [idle7] at h
        have h' : 4 ≤ t.val := of_decide_eq_true h
        have e : tx t = ptOf 3 := Fin.ext (by show min t.val 3 % 48 = 3 % 48; omega)
        obtain ⟨d, hd⟩ := hX.2 h'
        rw [hd, before7 m c t h' d]
        dsimp only [dats]
        rw [e])
      (fun h => by
        rw [idle7] at h
        exact hX.2 (of_decide_eq_true h))
  have e0 : (dats m 0 c).Φ t.castSucc = iprop(Scr m c t.val ∗ ∃ r, prngReg c r) := by dsimp only [dats]; rfl
  have e1 : (dats m 0 c).Φ t.succ = iprop(Scr m c (t.val + 1) ∗ ∃ r, prngReg c r) := by dsimp only [dats]; rfl
  have e2 : (dats m 0 c).owesAt () t.succ = (dats m 0 c).owesAt () t.castSucc := rfl
  have lv : ∀ (w : Fin cfg0.W) (hi : cfg0.idle w (cfg0.grid.coords t) = false), (dats m 0 c).leavesExact w t
      = (owns (c : Thread nD τ) ((cfg0.win w).stage (cfg0.slots t w)) fullShare ((dats m 0 c).after w t) : sProp 𝕄) := fun w hi => by
    unfold Dat.leavesExact; rw [hi]
  unfold bodyPre bodyPost bodyAt0
  rw [body_parts, e0, e1, e2, lv 0 rfl, lv 1 rfl, lv 2 rfl, lv 5 rfl, lv 8 rfl, lv 9 rfl]
  simp only [wp_bind]
  have a0 : (dats m 0 c).after 0 t = hB m c t := by dsimp only [dats]; rfl
  have a1 : (dats m 0 c).after 1 t = xB m c t := by dsimp only [dats]; rfl
  have a2 : (dats m 0 c).after 2 t = wB m c t := by dsimp only [dats]; rfl
  have a5 : (dats m 0 c).after 5 t = maskW (hB m c t) (wB m c t) := by dsimp only [dats]
  have a8 : (dats m 0 c).after 8 t = codesW (hB m c t) (wB m c t) := by dsimp only [dats]
  have a9 : (dats m 0 c).after 9 t = bytesW (hB m c t) (wB m c t) := by dsimp only [dats]
  rw [a0, a1, a2, a5, a8, a9]
  unfold Scr
  simp only [before0, before1, before2]
  iintro ⟨⟨⟨%f12, %f13, %f14, %f15, %f16, H12, H13, H14, H15, H16, %hS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (Entails.of_eq (owns_pt (F := F) c (win0_0.stage (cfg0.slots t 0)) (hstage0_0 ((cfg0.slots t 0).cast nbuf0_0)) _)) $$ H0 with ⟨%g0, %r0, H0⟩
  icases (Entails.of_eq (owns_pt (F := F) c (win0_1.stage (cfg0.slots t 1)) (hstage0_1 ((cfg0.slots t 1).cast nbuf0_1)) _)) $$ H1 with ⟨%g1, %r1, H1⟩
  icases (Entails.of_eq (owns_pt (F := F) c (win0_2.stage (cfg0.slots t 2)) (hstage0_2 ((cfg0.slots t 2).cast nbuf0_2)) _)) $$ H2 with ⟨%g2, %r2, H2⟩
  icases (Entails.of_eq (owns_pt (F := F) c (win0_3.stage (cfg0.slots t 3)) (hstage0_3 ((cfg0.slots t 3).cast nbuf0_3)) _)) $$ H3 with ⟨%g3, %r3, H3⟩
  icases (Entails.of_eq (owns_pt (F := F) c (win0_4.stage (cfg0.slots t 4)) (hstage0_4 ((cfg0.slots t 4).cast nbuf0_4)) _)) $$ H4 with ⟨%g4, %r4, H4⟩
  icases (Entails.of_eq (owns_pt (F := F) c (win0_5.stage (cfg0.slots t 5)) (hstage0_5 ((cfg0.slots t 5).cast nbuf0_5)) _)) $$ H5 with ⟨%g5, %r5, H5⟩
  icases (Entails.of_eq (owns_pt (F := F) c (win0_6.stage (cfg0.slots t 6)) (hstage0_6 ((cfg0.slots t 6).cast nbuf0_6)) _)) $$ H6 with ⟨%g6, %r6, H6⟩
  icases (Entails.of_eq (owns_pt (F := F) c (win0_7.stage (cfg0.slots t 7)) (hstage0_7 ((cfg0.slots t 7).cast nbuf0_7)) _)) $$ H7 with ⟨%g7, %r7, H7⟩
  icases (Entails.of_eq (owns_pt (F := F) c (win0_8.stage (cfg0.slots t 8)) (hstage0_8 ((cfg0.slots t 8).cast nbuf0_8)) _)) $$ H8 with ⟨%g8, %r8, H8⟩
  icases (Entails.of_eq (owns_pt (F := F) c (win0_9.stage (cfg0.slots t 9)) (hstage0_9 ((cfg0.slots t 9).cast nbuf0_9)) _)) $$ H9 with ⟨%g9, %r9, H9⟩
  obtain ⟨hS12, hS13⟩ := hS
  iapply (partX_all c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (hB m c t) (xB m c t) (gX m c)
    (fun hi y z h0 h1 => gX_at m c t (hc0.mp hi) y z h0 (by rw [← hc1]; exact h1)) g0 g1 g4 g6 g7 f12 r0 r1
    (fun hi y hy => hS12 y (by have := hc0.mp hi; rw [hc1] at hy; omega)) _)
  isplitl [H0]; · iexact H0
  isplitl [H1]; · iexact H1
  isplitl [H4]; · iexact H4
  isplitl [H6]; · iexact H6
  isplitl [H7]; · iexact H7
  isplitl [H12]; · iexact H12
  isplitl [H14]; · iexists _; iexact H14
  isplitl [H15]; · iexists _; iexact H15
  isplitl [H16]; · iexists _; iexact H16
  iintro %k4 %k6 %k7 %k12 %k14 %k15 %k16 ⟨H0, H1, H4, H6, H7, H12, H14, H15, H16, %hX⟩
  have hq : ∀ y : S128x16384.Idx, (y 1).val < 4096 * min (t.val + 1) 4 → (Memref.whole cc0_scratch0).view.read (Elt F) k12 y = gX m c y := by
    intro y hy
    by_cases hi : k0_cond1 (grid0.coords t) = 1#1
    · have := hc0.mp hi
      exact (hX.1 hi).2.2.2 y (by rw [hc1]; omega)
    · have h4 : ¬ t.val < 4 := fun h => hi (hc0.mpr h)
      rw [(hX.2 hi).2.2.2]
      exact hS12 y (by omega)
  iapply (partZ_run c (grid0.coords t) (Memref.whole cc0_scratch1) f13 _)
  isplitl [H13]; · iexact H13
  iintro %k13 ⟨H13, %hZ⟩
  iapply (partW_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (hB m c t) (wB m c t) (gX m c) _ g0 g2 k12 k13 r0 r2
    (fun y hy => hq y (by rw [hc1] at hy; omega)) hZ _)
  isplitl [H0]; · iexact H0
  isplitl [H2]; · iexact H2
  isplitl [H5]; · iexists _; iexact H5
  isplitl [H8]; · iexists _; iexact H8
  isplitl [H9]; · iexists _; iexact H9
  isplitl [H12]; · iexact H12
  isplitl [H13]; · iexact H13
  isplitl [H14]; · iexists _; iexact H14
  isplitl [H15]; · iexists _; iexact H15
  isplitl [H16]; · iexists _; iexact H16
  iintro %p5 %p8 %p9 %p13 %p14 %p15 %p16 ⟨H0, H2, H5, H8, H9, H12, H13, H14, H15, H16, %hW⟩
  obtain ⟨hW5, hW8, hW9, hW13⟩ := hW
  have hacc : (Memref.whole cc0_scratch1).view.read (Elt F) p13 = accRow m c (t.val / 4) (t.val % 4 + 1) := by
    rw [hW13, hc1]
    have hs := succ_row m c t.val ht48
      (if t.val % 4 = 0 then k0_pay4 (F := F) else (Memref.whole cc0_scratch1).view.read (Elt F) f13) (by
        split
        · rfl
        · next h => exact hS13 h)
    rw [ptOf_val] at hs
    exact hs
  iapply (partY_run c (grid0.coords t) (win0_3.stage (cfg0.slots t 3)) (hstage0_3 ((cfg0.slots t 3).cast nbuf0_3)) (Memref.whole cc0_scratch1) g3 p13 _)
  isplitl [H3]; · iexact H3
  isplitl [H13]; · iexact H13
  iintro %p3 ⟨H3, H13, %hY⟩
  sl_step
  isplitl [H12 H13 H14 H15 H16 Hg]
  · isplitr [Hg]
    · iexists k12, p13, p14, p15, p16
      isplitl [H12]; · iexact H12
      isplitl [H13]; · iexact H13
      isplitl [H14]; · iexact H14
      isplitl [H15]; · iexact H15
      isplitl [H16]; · iexact H16
      ipureintro
      refine ⟨hq, fun hne => ?_⟩
      rw [hacc, show (t.val + 1) / 4 = t.val / 4 by omega, show (t.val + 1) % 4 = t.val % 4 + 1 by omega]
    · iexact Hg
  isplitl [HO]; · iexact HO
  isplitl [H0]
  · iapply (Entails.of_eq (owns_pt (F := F) c (win0_0.stage (cfg0.slots t 0)) (hstage0_0 ((cfg0.slots t 0).cast nbuf0_0)) _).symm)
    iexists g0
    isplitr; · ipureintro; exact r0
    iexact H0
  isplitl [H1]
  · iapply (Entails.of_eq (owns_pt (F := F) c (win0_1.stage (cfg0.slots t 1)) (hstage0_1 ((cfg0.slots t 1).cast nbuf0_1)) _).symm)
    iexists g1
    isplitr; · ipureintro; exact r1
    iexact H1
  isplitl [H2]
  · iapply (Entails.of_eq (owns_pt (F := F) c (win0_2.stage (cfg0.slots t 2)) (hstage0_2 ((cfg0.slots t 2).cast nbuf0_2)) _).symm)
    iexists g2
    isplitr; · ipureintro; exact r2
    iexact H2
  isplitl [H3]
  · iapply (hl3 ((win0_3.stage (cfg0.slots t 3)).view.read (Elt F) p3) ⟨fun h => by rw [hY, if_pos (hc3.mpr h), hacc, h], fun h => ⟨d3, by rw [hY, if_neg (fun h' => h (hc3.mp h'))]; exact r3⟩⟩)
    iapply (Entails.of_eq (owns_pt (F := F) c (win0_3.stage (cfg0.slots t 3)) (hstage0_3 ((cfg0.slots t 3).cast nbuf0_3)) _).symm)
    iexists p3
    isplitr; · ipureintro; exact rfl
    iexact H3
  isplitl [H4]
  · iapply (hl4 ((win0_4.stage (cfg0.slots t 4)).view.read (Elt F) k4) ⟨fun h => (hX.1 (hc0.mpr h)).1, fun h => ⟨d4, by rw [(hX.2 (fun h' => absurd (hc0.mp h') (by omega))).1]; exact r4⟩⟩)
    iapply (Entails.of_eq (owns_pt (F := F) c (win0_4.stage (cfg0.slots t 4)) (hstage0_4 ((cfg0.slots t 4).cast nbuf0_4)) _).symm)
    iexists k4
    isplitr; · ipureintro; exact rfl
    iexact H4
  isplitl [H5]
  · iapply (Entails.of_eq (owns_pt (F := F) c (win0_5.stage (cfg0.slots t 5)) (hstage0_5 ((cfg0.slots t 5).cast nbuf0_5)) _).symm)
    iexists p5
    isplitr; · ipureintro; exact hW5
    iexact H5
  isplitl [H6]
  · iapply (hl6 ((win0_6.stage (cfg0.slots t 6)).view.read (Elt F) k6) ⟨fun h => (hX.1 (hc0.mpr h)).2.1, fun h => ⟨d6, by rw [(hX.2 (fun h' => absurd (hc0.mp h') (by omega))).2.1]; exact r6⟩⟩)
    iapply (Entails.of_eq (owns_pt (F := F) c (win0_6.stage (cfg0.slots t 6)) (hstage0_6 ((cfg0.slots t 6).cast nbuf0_6)) _).symm)
    iexists k6
    isplitr; · ipureintro; exact rfl
    iexact H6
  isplitl [H7]
  · iapply (hl7 ((win0_7.stage (cfg0.slots t 7)).view.read (Elt F) k7) ⟨fun h => (hX.1 (hc0.mpr h)).2.2.1, fun h => ⟨d7, by rw [(hX.2 (fun h' => absurd (hc0.mp h') (by omega))).2.2.1]; exact r7⟩⟩)
    iapply (Entails.of_eq (owns_pt (F := F) c (win0_7.stage (cfg0.slots t 7)) (hstage0_7 ((cfg0.slots t 7).cast nbuf0_7)) _).symm)
    iexists k7
    isplitr; · ipureintro; exact rfl
    iexact H7
  isplitl [H8]
  · iapply (Entails.of_eq (owns_pt (F := F) c (win0_8.stage (cfg0.slots t 8)) (hstage0_8 ((cfg0.slots t 8).cast nbuf0_8)) _).symm)
    iexists p8
    isplitr; · ipureintro; exact hW8
    iexact H8
  · iapply (Entails.of_eq (owns_pt (F := F) c (win0_9.stage (cfg0.slots t 9)) (hstage0_9 ((cfg0.slots t 9).cast nbuf0_9)) _).symm)
    iexists p9
    isplitr; · ipureintro; exact hW9
    iexact H9

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch's contents before the first point and after the last. -/
theorem scr_in (c : Dev nD) : (Pipeline.ΦA (Val := Elt F) (U := UR sig nD τ) spec0 c : sProp 𝕄) ⊢ (dats m 0 c).Φ 0 := by
  have e0 : (dats m 0 c).Φ 0 = iprop(Scr m c 0 ∗ ∃ r, prngReg c r) := by dsimp only [dats]; rfl
  rw [e0]
  unfold Pipeline.ΦA Scr
  rw [scopedRest0_eq]
  iintro ⟨⟨⟨%f12, H12⟩, ⟨%f13, H13⟩, ⟨%f14, H14⟩, ⟨%f15, H15⟩, ⟨%f16, H16⟩⟩, Hg⟩
  isplitr [Hg]
  · iexists f12, f13, f14, f15, f16
    isplitl [H12]; · iexact H12
    isplitl [H13]; · iexact H13
    isplitl [H14]; · iexact H14
    isplitl [H15]; · iexact H15
    isplitl [H16]; · iexact H16
    ipureintro
    exact ⟨fun y hy => absurd hy (by omega), fun h => absurd rfl h⟩
  · iexact Hg

theorem scr_out (c : Dev nD) : (dats m 0 c).Φ (Fin.last cfg0.N) ⊢ (Pipeline.ΦA (Val := Elt F) (U := UR sig nD τ) spec0 c : sProp 𝕄) := by
  have e0 : (dats m 0 c).Φ (Fin.last cfg0.N) = iprop(Scr m c (Fin.last cfg0.N).val ∗ ∃ r, prngReg c r) := by dsimp only [dats]
  rw [e0]
  unfold Pipeline.ΦA Scr
  rw [scopedRest0_eq]
  iintro ⟨⟨%f12, %f13, %f14, %f15, %f16, H12, H13, H14, H15, H16, -⟩, Hg⟩
  isplitr [Hg]
  · isplitl [H12]; · iexists f12; iexact H12
    isplitl [H13]; · iexists f13; iexact H13
    isplitl [H14]; · iexists f14; iexact H14
    isplitl [H15]; · iexists f15; iexact H15
    iexists f16; iexact H16
  · iexact Hg

/-- The run of the program: every result array holds what the write-backs put there, every counter is at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scr_in m) (hout := scr_out m)

/-- The run with the arguments unchanged and every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c)))⟩, h.2⟩) (run_main m ρ)

end Cert.Kernel.Tile

end
-- ==== Proof.KI.Tile.lean ====
module

public import proofs.«01_k».proof.Proof.Gen.KernelIdeal

/-! # One tile of the quantiser

The body quantises a 256 × 128 tile of rotated values at a time: eight blocks of 32 rows. This file
names the values such a tile computes and writes the tile as one program over the two scratch
arrays, generic in the scratch slot `s`. The trips of the two loops are these programs in a row. -/

@[expose] public section
set_option maxRecDepth 16384

noncomputable section

namespace Cert.KernelIdeal.Tile

open Cert.KernelIdeal Cert.KernelIdeal.Gen
open Idealize.ShloMosaic Idealize.ShloMosaic.TcCoe
open Idealize.SL Idealize.SL.Sem

variable {F : FTy → Type} [FloatOps F] [Named F]

/-- The sums of squares of each run of four rows eight apart. -/
def partSum (r4 : FVec F S256x128 .f32) : FVec F S64x128 .f32 :=
  shapeCast S64x128 (multiReduction .add [1] S8x8x128
    (shapeCast S8x4x8x128 (mulf r4 r4) shapeCasts_S256x128_S8x4x8x128) 0x00000000#32
    reduces_S8x4x8x128_S8x8x128 (.inl rfl) rfl) shapeCasts_S8x8x128_S64x128

/-- The root mean square of each block, from the eight partial sums. -/
def rms (a0 a1 a2 a3 a4 a5 a6 a7 : FVec F S8x128 .f32) : FVec F S8x128 .f32 :=
  sqrt (mulf (addf (addf (addf (addf (addf (addf (addf a0 a1) a2) a3) a4) a5) a6) a7)
    (broadcast S8x128 (Scalar.ofBits .f32 0x3C800000#32)))

/-- The amplitude each block is scaled by, before it is rounded down to a power of two. -/
def amp (r : FVec F S8x128 .f32) : FVec F S8x128 .f32 :=
  mulf (mulf (broadcast S8x128 (Scalar.ofBits .f32 0x403AE148#32)) r)
    (broadcast S8x128 (Scalar.ofBits .f32 0x3E2AAAAB#32))

/-- The float whose exponent field is `e` and whose other bits are zero. -/
def powBits (e : IVec S8x128 32) : FVec F S8x128 .f32 :=
  bitcastToFloat .f32 (shli e (broadcast S8x128 23#32))

/-- One step of the search for the exponent field: keep the bit if the amplitude reaches it. -/
def search1 (a : FVec F S8x128 .f32) (b : BitVec 32) (e : IVec S8x128 32) : IVec S8x128 32 :=
  select (cmpf .oge a (powBits (addi e (broadcast S8x128 b)))) (addi e (broadcast S8x128 b)) e

/-- The exponent field of the amplitude, bit by bit. -/
def search (a : FVec F S8x128 .f32) : IVec S8x128 32 :=
  search1 a 1#32 (search1 a 2#32 (search1 a 4#32 (search1 a 8#32 (search1 a 16#32 (search1 a 32#32
    (search1 a 64#32 (search1 a 128#32 (broadcast S8x128 0#32))))))))

/-- The scale code of each block: the exponent field, 127 for a block of zeros. -/
def code (r : FVec F S8x128 .f32) : IVec S8x128 32 :=
  select (cmpf .oeq r (broadcast S8x128 (Scalar.ofBits .f32 0x00000000#32)))
    (broadcast S8x128 127#32) (search (amp r))

/-- The multiplier of a block: the inverse of its scale times the rotation's leftover factor. -/
def row0 (e : IVec S8x128 32) : FVec F S8x128 .f32 :=
  mulf (powBits (subi (broadcast S8x128 254#32) e))
    (broadcast S8x128 (Named.named κ "inv_sqrt_two" 0x3F3504F3#32))

/-- The square above which a value of the block is clipped. -/
def row1 (e : IVec S8x128 32) : FVec F S8x128 .f32 :=
  mulf (mulf (powBits e) (powBits e)) (broadcast S8x128 (Scalar.ofBits .f32 0x42900000#32))

/-- A row of the scratch as the store takes it. -/
def up (x : FVec F S8x128 .f32) : FVec F S1x8x128 .f32 :=
  shapeCast S1x8x128 x shapeCasts_S8x128_S1x8x128

/-- A row read back from the scratch, spread over the 32 rows of its block. -/
def spread (x : FVec F S1x1x128 .f32) : FVec F S32x128 .f32 :=
  broadcastTo S32x128 (shapeCast S1x128 x shapeCasts_S1x1x128_S1x128) broadcasts_S1x128_S32x128

/-- The scale row read back, spread over its block and rounded to bf16. -/
def spreadP (x : FVec F S1x1x128 .f32) : FVec F S32x128 .bf16 :=
  truncf .bf16 (broadcastTo S32x128 (shapeCast S1x128 (shapeCast S1x128 x
    shapeCasts_S1x1x128_S1x128) shapeCasts_S1x128_S1x128) broadcasts_S1x128_S32x128)
    bitsLt_bf16_f32

/-- One threshold of the four-bit code. -/
def step1 (c : IVec S256x128 1) (n : IVec S256x128 32) : IVec S256x128 32 :=
  addi n (select c (broadcast S256x128 1#32) (broadcast S256x128 0#32))

/-- The four-bit code of each value: the sign bit and the count of thresholds passed. -/
def toE2m1 (v : FVec F S256x128 .f32) : IVec S256x128 32 :=
  step1 (cmpf .ogt (absf v) (broadcast S256x128 (Scalar.ofBits .f32 0x40A00000#32)))
  (step1 (cmpf .oge (absf v) (broadcast S256x128 (Scalar.ofBits .f32 0x40600000#32)))
  (step1 (cmpf .ogt (absf v) (broadcast S256x128 (Scalar.ofBits .f32 0x40200000#32)))
  (step1 (cmpf .oge (absf v) (broadcast S256x128 (Scalar.ofBits .f32 0x3FE00000#32)))
  (step1 (cmpf .ogt (absf v) (broadcast S256x128 (Scalar.ofBits .f32 0x3FA00000#32)))
  (step1 (cmpf .oge (absf v) (broadcast S256x128 (Scalar.ofBits .f32 0x3F400000#32)))
  (step1 (cmpf .ogt (absf v) (broadcast S256x128 (Scalar.ofBits .f32 0x3E800000#32)))
    (select (cmpf .olt v (broadcast S256x128 (Scalar.ofBits .f32 0x00000000#32)))
      (broadcast S256x128 8#32) (broadcast S256x128 0#32))))))))

/-- The magnitude a code stands for. -/
def magE2m1 (f : FVec F S256x128 .f32) (n : IVec S256x128 32) : FVec F S256x128 .f32 :=
  select (cmpi .slt n (broadcast S256x128 4#32))
    (mulf f (broadcast S256x128 (Scalar.ofBits .f32 0x3F000000#32)))
    (select (cmpi .slt n (broadcast S256x128 6#32))
      (subf f (broadcast S256x128 (Scalar.ofBits .f32 0x40000000#32)))
      (subf (mulf f (broadcast S256x128 (Scalar.ofBits .f32 0x40000000#32)))
        (broadcast S256x128 (Scalar.ofBits .f32 0x41000000#32))))

/-- The value a code stands for. -/
def fromE2m1 (q : IVec S256x128 32) : FVec F S256x128 .bf16 :=
  truncf .bf16 (select (cmpi .sge q (broadcast S256x128 8#32))
    (subf (broadcast S256x128 (Scalar.ofBits .f32 0x00000000#32))
      (magE2m1 (sitofp .f32 (andi q (broadcast S256x128 7#32))) (andi q (broadcast S256x128 7#32))))
    (magE2m1 (sitofp .f32 (andi q (broadcast S256x128 7#32)))
      (andi q (broadcast S256x128 7#32)))) bitsLt_bf16_f32

/-- Eight four-bit codes to a word. -/
def pack4 (q : IVec S256x128 32) : IVec S32x128 32 :=
  multiReductionI .add [1] S32x128
    (shli (shapeCast S32x8x128 q shapeCasts_S256x128_S32x8x128)
      (muli (broadcast S32x8x128 4#32) (iota .tc S32x8x128 32 [1] iota_S32x8x128_d1_w32)))
    0#32 reduces_S32x8x128_S32x128 rfl

/-- Clear the sign bit of the codes whose magnitude is zero. -/
def clearNeg0 (w : IVec S32x128 32) : IVec S32x128 32 :=
  andi w (ori (addi (andi w (broadcast S32x128 2004318071#32)) (broadcast S32x128 2004318071#32))
    (broadcast S32x128 2004318071#32))

/-- The bytes of the codes of a tile, one row of the operand to a row. -/
def codeBytes (q : IVec S256x128 32) : IVec S128x128 8 :=
  transpose S128x128 [1, 0] (bitcast S128x128 8 (clearNeg0 (pack4 q))
    bitcasts_S32x128_w32_S128x128_w8) transposes_S128x128_p1_0_S128x128

/-- A word for each eight rows to a nibble for each row, keeping the two low bits. -/
def nib32 (w : IVec S32x128 32) : IVec S256x128 32 :=
  andi (shapeCast S256x128 (andi (shrui (broadcastTo S32x8x128 (shapeCast S32x1x128
    (shapeCast S32x1x128 w shapeCasts_S32x128_S32x1x128) shapeCasts_S32x1x128_S32x1x128)
    broadcasts_S32x1x128_S32x8x128) (muli (broadcast S32x8x128 4#32)
      (iota .tc S32x8x128 32 [1] iota_S32x8x128_d1_w32))) (broadcast S32x8x128 15#32))
    shapeCasts_S32x8x128_S256x128) (broadcast S256x128 3#32)

/-- Sixteen two-bit codes to a word, keeping the even bits. -/
def pack2a (n : IVec S256x128 32) : IVec S16x128 32 :=
  andi (multiReductionI .add [1] S16x128
    (shli (shapeCast S16x16x128 n shapeCasts_S256x128_S16x16x128)
      (muli (broadcast S16x16x128 2#32) (iota .tc S16x16x128 32 [1] iota_S16x16x128_d1_w32)))
    0#32 reduces_S16x16x128_S16x128 rfl) (broadcast S16x128 1431655765#32)

/-- Fold a word onto itself shifted by one. -/
def fold1 (w : IVec S16x128 32) : IVec S16x128 32 := ori w (shrui w (broadcast S16x128 1#32))

/-- A word for each sixteen rows to a nibble for each two rows, keeping the two low bits. -/
def nib16 (w : IVec S16x128 32) : IVec S128x128 32 :=
  andi (shapeCast S128x128 (andi (shrui (broadcastTo S16x8x128 (shapeCast S16x1x128
    (shapeCast S16x1x128 w shapeCasts_S16x128_S16x1x128) shapeCasts_S16x1x128_S16x1x128)
    broadcasts_S16x1x128_S16x8x128) (muli (broadcast S16x8x128 4#32)
      (iota .tc S16x8x128 32 [1] iota_S16x8x128_d1_w32))) (broadcast S16x8x128 15#32))
    shapeCasts_S16x8x128_S128x128) (broadcast S128x128 3#32)

/-- Sixteen two-bit codes to a word. -/
def pack2b (n : IVec S128x128 32) : IVec S8x128 32 :=
  multiReductionI .add [1] S8x128
    (shli (shapeCast S8x16x128 n shapeCasts_S128x128_S8x16x128)
      (muli (broadcast S8x16x128 2#32) (iota .tc S8x16x128 32 [1] iota_S8x16x128_d1_w32)))
    0#32 reduces_S8x16x128_S8x128 rfl

/-- The mask words of a tile: a bit for each row, set where the value is not clipped. -/
def maskWord (d : FVec F S256x128 .f32) : IVec S8x128 32 :=
  xori (pack2b (nib16 (fold1 (pack2a (nib32 (shrui (pack4 (toE2m1 d))
    (broadcast S32x128 3#32))))))) (constantI S8x128 32 4294967295#32)

/-- The dequantised tile: the value each code stands for, times the scale. -/
def deqOf (q : IVec S256x128 32) (p : FVec F S256x128 .bf16) : FVec F S256x128 .bf16 :=
  mulf (fromE2m1 q) p

/-- The codes as the store into the scratch of scale codes takes them. -/
def upI (e : IVec S8x128 32) : IVec S1x8x128 32 := shapeCast S1x8x128 e shapeCasts_S8x128_S1x8x128

/-- What a tile computes. -/
structure Out (F : FTy → Type) where
  /-- the scale codes -/
  e : IVec S8x128 32
  /-- the scaled values -/
  v : FVec F S256x128 .f32
  /-- how far the square of each value is below the clipping bound -/
  d : FVec F S256x128 .f32
  /-- the scales -/
  p : FVec F S256x128 .bf16

/-- What a tile computes, from the rows read back from the scratch. -/
def outOf (r4 : FVec F S256x128 .f32) (e : IVec S8x128 32)
    (x0 y0 z0 : FVec F S1x1x128 .f32) (x1 y1 z1 : FVec F S1x1x128 .f32) (x2 y2 z2 : FVec F S1x1x128 .f32) (x3 y3 z3 : FVec F S1x1x128 .f32) (x4 y4 z4 : FVec F S1x1x128 .f32) (x5 y5 z5 : FVec F S1x1x128 .f32) (x6 y6 z6 : FVec F S1x1x128 .f32) (x7 y7 z7 : FVec F S1x1x128 .f32) : Out F where
  e := e
  v := concatenate S256x128 0 [⟨S32x128, mulf (extractStridedSlice S32x128 ![0, 0] r4 slices_S256x128_o0_0_S32x128) (spread x0)⟩, ⟨S32x128, mulf (extractStridedSlice S32x128 ![32, 0] r4 slices_S256x128_o32_0_S32x128) (spread x1)⟩, ⟨S32x128, mulf (extractStridedSlice S32x128 ![64, 0] r4 slices_S256x128_o64_0_S32x128) (spread x2)⟩, ⟨S32x128, mulf (extractStridedSlice S32x128 ![96, 0] r4 slices_S256x128_o96_0_S32x128) (spread x3)⟩, ⟨S32x128, mulf (extractStridedSlice S32x128 ![128, 0] r4 slices_S256x128_o128_0_S32x128) (spread x4)⟩, ⟨S32x128, mulf (extractStridedSlice S32x128 ![160, 0] r4 slices_S256x128_o160_0_S32x128) (spread x5)⟩, ⟨S32x128, mulf (extractStridedSlice S32x128 ![192, 0] r4 slices_S256x128_o192_0_S32x128) (spread x6)⟩, ⟨S32x128, mulf (extractStridedSlice S32x128 ![224, 0] r4 slices_S256x128_o224_0_S32x128) (spread x7)⟩] concatenates_S32x128_S32x128_S32x128_S32x128_S32x128_S32x128_S32x128_S32x128_S256x128_d0
  d := concatenate S256x128 0 [⟨S32x128, subf (spread y0) (extractStridedSlice S32x128 ![0, 0] (mulf r4 r4) slices_S256x128_o0_0_S32x128)⟩, ⟨S32x128, subf (spread y1) (extractStridedSlice S32x128 ![32, 0] (mulf r4 r4) slices_S256x128_o32_0_S32x128)⟩, ⟨S32x128, subf (spread y2) (extractStridedSlice S32x128 ![64, 0] (mulf r4 r4) slices_S256x128_o64_0_S32x128)⟩, ⟨S32x128, subf (spread y3) (extractStridedSlice S32x128 ![96, 0] (mulf r4 r4) slices_S256x128_o96_0_S32x128)⟩, ⟨S32x128, subf (spread y4) (extractStridedSlice S32x128 ![128, 0] (mulf r4 r4) slices_S256x128_o128_0_S32x128)⟩, ⟨S32x128, subf (spread y5) (extractStridedSlice S32x128 ![160, 0] (mulf r4 r4) slices_S256x128_o160_0_S32x128)⟩, ⟨S32x128, subf (spread y6) (extractStridedSlice S32x128 ![192, 0] (mulf r4 r4) slices_S256x128_o192_0_S32x128)⟩, ⟨S32x128, subf (spread y7) (extractStridedSlice S32x128 ![224, 0] (mulf r4 r4) slices_S256x128_o224_0_S32x128)⟩] concatenates_S32x128_S32x128_S32x128_S32x128_S32x128_S32x128_S32x128_S32x128_S256x128_d0
  p := concatenate S256x128 0 [⟨S32x128, spreadP z0⟩, ⟨S32x128, spreadP z1⟩, ⟨S32x128, spreadP z2⟩, ⟨S32x128, spreadP z3⟩, ⟨S32x128, spreadP z4⟩, ⟨S32x128, spreadP z5⟩, ⟨S32x128, spreadP z6⟩, ⟨S32x128, spreadP z7⟩] concatenates_S32x128_S32x128_S32x128_S32x128_S32x128_S32x128_S32x128_S32x128_S256x128_d0

/-- The rectangle of slot `s` of the partial sums. -/
abbrev slot14 (s : ℕ) (h : ∀ a, (![s, 0, 0] : Fin 3 → ℕ) a + S1x64x128.size a ≤ S8x64x128.size a) :
    Rect S8x64x128 := Rect.unit (s := S8x64x128) ![s, 0, 0] S1x64x128.size h

/-- Slot `s` of the partial sums. -/
abbrev sub14 (arg14 : Memref sig .tc .vmem S8x64x128 .f32) (s : ℕ)
    (h : ∀ a, (![s, 0, 0] : Fin 3 → ℕ) a + S1x64x128.size a ≤ S8x64x128.size a) :
    Memref sig .tc .vmem S64x128 .f32 :=
  (arg14.slice (slot14 s h) (fun _ => rfl)).squeeze S64x128 squeezes_S1x64x128_S64x128

/-- Slot `s` of the rows. -/
abbrev sub15 (arg15 : Memref sig .tc .vmem S8x3x8x128 .f32) (s : ℕ)
    (h : ∀ a, (![s, 0, 0, 0] : Fin 4 → ℕ) a + S1x3x8x128.size a ≤ S8x3x8x128.size a) :
    Memref sig .tc .vmem S3x8x128 .f32 :=
  (arg15.slice (Rect.unit (s := S8x3x8x128) ![s, 0, 0, 0] S1x3x8x128.size h)
    (fun _ => rfl)).squeeze S3x8x128 squeezes_S1x3x8x128_S3x8x128

/-- The tile as a program over the two scratch arrays. -/
def tile (arg14 : Memref sig .tc .vmem S8x64x128 .f32) (arg15 : Memref sig .tc .vmem S8x3x8x128 .f32)
    (s : ℕ) (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) : Prog (TpuEff nD τ sig (Elt F) Λ₀ .tc) (Out F) := do
  let _ : Vec F S1x64x128 .f32 ← Prog.lift (.load arg14 (slot14 s h14).toLoadRect (View.loadsAt_vmem h_S1x64x128))
  Prog.lift (.store arg14 (slot14 s h14) (shapeCast S1x64x128 (partSum r4) shapeCasts_S64x128_S1x64x128) Finset.univ (View.stores_vmem_bits_univ h_S1x64x128 rfl) (.inl rfl))
  let a0 : Vec F S8x128 .f32 ← Prog.lift (.load (sub14 arg14 s h14) (⟨![0, 0], S8x128.size, ![8, 1], inb_S64x128_S8x128_0_0_s_8_1⟩ : LoadRect S64x128) (View.loadsAt_vmem h_S8x128))
  let a1 : Vec F S8x128 .f32 ← Prog.lift (.load (sub14 arg14 s h14) (⟨![1, 0], S8x128.size, ![8, 1], inb_S64x128_S8x128_1_0_s_8_1⟩ : LoadRect S64x128) (View.loadsAt_vmem h_S8x128))
  let a2 : Vec F S8x128 .f32 ← Prog.lift (.load (sub14 arg14 s h14) (⟨![2, 0], S8x128.size, ![8, 1], inb_S64x128_S8x128_2_0_s_8_1⟩ : LoadRect S64x128) (View.loadsAt_vmem h_S8x128))
  let a3 : Vec F S8x128 .f32 ← Prog.lift (.load (sub14 arg14 s h14) (⟨![3, 0], S8x128.size, ![8, 1], inb_S64x128_S8x128_3_0_s_8_1⟩ : LoadRect S64x128) (View.loadsAt_vmem h_S8x128))
  let a4 : Vec F S8x128 .f32 ← Prog.lift (.load (sub14 arg14 s h14) (⟨![4, 0], S8x128.size, ![8, 1], inb_S64x128_S8x128_4_0_s_8_1⟩ : LoadRect S64x128) (View.loadsAt_vmem h_S8x128))
  let a5 : Vec F S8x128 .f32 ← Prog.lift (.load (sub14 arg14 s h14) (⟨![5, 0], S8x128.size, ![8, 1], inb_S64x128_S8x128_5_0_s_8_1⟩ : LoadRect S64x128) (View.loadsAt_vmem h_S8x128))
  let a6 : Vec F S8x128 .f32 ← Prog.lift (.load (sub14 arg14 s h14) (⟨![6, 0], S8x128.size, ![8, 1], inb_S64x128_S8x128_6_0_s_8_1⟩ : LoadRect S64x128) (View.loadsAt_vmem h_S8x128))
  let a7 : Vec F S8x128 .f32 ← Prog.lift (.load (sub14 arg14 s h14) (⟨![7, 0], S8x128.size, ![8, 1], inb_S64x128_S8x128_7_0_s_8_1⟩ : LoadRect S64x128) (View.loadsAt_vmem h_S8x128))
  let e := code (rms a0 a1 a2 a3 a4 a5 a6 a7)
  let _ : Vec F S1x8x128 .f32 ← Prog.lift (.load (sub15 arg15 s h15) (Rect.unit (s := S3x8x128) ![0, 0, 0] S1x8x128.size inb_S3x8x128_S1x8x128_0_0_0).toLoadRect (View.loadsAt_vmem h_S1x8x128))
  Prog.lift (.store (sub15 arg15 s h15) (Rect.unit (s := S3x8x128) ![0, 0, 0] S1x8x128.size inb_S3x8x128_S1x8x128_0_0_0) (up (row0 e)) Finset.univ (View.stores_vmem_bits_univ h_S1x8x128 rfl) (.inl rfl))
  let _ : Vec F S1x8x128 .f32 ← Prog.lift (.load (sub15 arg15 s h15) (Rect.unit (s := S3x8x128) ![1, 0, 0] S1x8x128.size inb_S3x8x128_S1x8x128_1_0_0).toLoadRect (View.loadsAt_vmem h_S1x8x128))
  Prog.lift (.store (sub15 arg15 s h15) (Rect.unit (s := S3x8x128) ![1, 0, 0] S1x8x128.size inb_S3x8x128_S1x8x128_1_0_0) (up (row1 e)) Finset.univ (View.stores_vmem_bits_univ h_S1x8x128 rfl) (.inl rfl))
  let _ : Vec F S1x8x128 .f32 ← Prog.lift (.load (sub15 arg15 s h15) (Rect.unit (s := S3x8x128) ![2, 0, 0] S1x8x128.size inb_S3x8x128_S1x8x128_2_0_0).toLoadRect (View.loadsAt_vmem h_S1x8x128))
  Prog.lift (.store (sub15 arg15 s h15) (Rect.unit (s := S3x8x128) ![2, 0, 0] S1x8x128.size inb_S3x8x128_S1x8x128_2_0_0) (up (powBits e)) Finset.univ (View.stores_vmem_bits_univ h_S1x8x128 rfl) (.inl rfl))
  let x0 : Vec F S1x1x128 .f32 ← Prog.lift (.load (sub15 arg15 s h15) (Rect.unit (s := S3x8x128) ![0, 0, 0] S1x1x128.size inb_S3x8x128_S1x1x128_0_0_0).toLoadRect (View.loadsAt_vmem h_S1x1x128))
  let y0 : Vec F S1x1x128 .f32 ← Prog.lift (.load (sub15 arg15 s h15) (Rect.unit (s := S3x8x128) ![1, 0, 0] S1x1x128.size inb_S3x8x128_S1x1x128_1_0_0).toLoadRect (View.loadsAt_vmem h_S1x1x128))
  let z0 : Vec F S1x1x128 .f32 ← Prog.lift (.load (sub15 arg15 s h15) (Rect.unit (s := S3x8x128) ![2, 0, 0] S1x1x128.size inb_S3x8x128_S1x1x128_2_0_0).toLoadRect (View.loadsAt_vmem h_S1x1x128))
  let x1 : Vec F S1x1x128 .f32 ← Prog.lift (.load (sub15 arg15 s h15) (Rect.unit (s := S3x8x128) ![0, 1, 0] S1x1x128.size inb_S3x8x128_S1x1x128_0_1_0).toLoadRect (View.loadsAt_vmem h_S1x1x128))
  let y1 : Vec F S1x1x128 .f32 ← Prog.lift (.load (sub15 arg15 s h15) (Rect.unit (s := S3x8x128) ![1, 1, 0] S1x1x128.size inb_S3x8x128_S1x1x128_1_1_0).toLoadRect (View.loadsAt_vmem h_S1x1x128))
  let z1 : Vec F S1x1x128 .f32 ← Prog.lift (.load (sub15 arg15 s h15) (Rect.unit (s := S3x8x128) ![2, 1, 0] S1x1x128.size inb_S3x8x128_S1x1x128_2_1_0).toLoadRect (View.loadsAt_vmem h_S1x1x128))
  let x2 : Vec F S1x1x128 .f32 ← Prog.lift (.load (sub15 arg15 s h15) (Rect.unit (s := S3x8x128) ![0, 2, 0] S1x1x128.size inb_S3x8x128_S1x1x128_0_2_0).toLoadRect (View.loadsAt_vmem h_S1x1x128))
  let y2 : Vec F S1x1x128 .f32 ← Prog.lift (.load (sub15 arg15 s h15) (Rect.unit (s := S3x8x128) ![1, 2, 0] S1x1x128.size inb_S3x8x128_S1x1x128_1_2_0).toLoadRect (View.loadsAt_vmem h_S1x1x128))
  let z2 : Vec F S1x1x128 .f32 ← Prog.lift (.load (sub15 arg15 s h15) (Rect.unit (s := S3x8x128) ![2, 2, 0] S1x1x128.size inb_S3x8x128_S1x1x128_2_2_0).toLoadRect (View.loadsAt_vmem h_S1x1x128))
  let x3 : Vec F S1x1x128 .f32 ← Prog.lift (.load (sub15 arg15 s h15) (Rect.unit (s := S3x8x128) ![0, 3, 0] S1x1x128.size inb_S3x8x128_S1x1x128_0_3_0).toLoadRect (View.loadsAt_vmem h_S1x1x128))
  let y3 : Vec F S1x1x128 .f32 ← Prog.lift (.load (sub15 arg15 s h15) (Rect.unit (s := S3x8x128) ![1, 3, 0] S1x1x128.size inb_S3x8x128_S1x1x128_1_3_0).toLoadRect (View.loadsAt_vmem h_S1x1x128))
  let z3 : Vec F S1x1x128 .f32 ← Prog.lift (.load (sub15 arg15 s h15) (Rect.unit (s := S3x8x128) ![2, 3, 0] S1x1x128.size inb_S3x8x128_S1x1x128_2_3_0).toLoadRect (View.loadsAt_vmem h_S1x1x128))
  let x4 : Vec F S1x1x128 .f32 ← Prog.lift (.load (sub15 arg15 s h15) (Rect.unit (s := S3x8x128) ![0, 4, 0] S1x1x128.size inb_S3x8x128_S1x1x128_0_4_0).toLoadRect (View.loadsAt_vmem h_S1x1x128))
  let y4 : Vec F S1x1x128 .f32 ← Prog.lift (.load (sub15 arg15 s h15) (Rect.unit (s := S3x8x128) ![1, 4, 0] S1x1x128.size inb_S3x8x128_S1x1x128_1_4_0).toLoadRect (View.loadsAt_vmem h_S1x1x128))
  let z4 : Vec F S1x1x128 .f32 ← Prog.lift (.load (sub15 arg15 s h15) (Rect.unit (s := S3x8x128) ![2, 4, 0] S1x1x128.size inb_S3x8x128_S1x1x128_2_4_0).toLoadRect (View.loadsAt_vmem h_S1x1x128))
  let x5 : Vec F S1x1x128 .f32 ← Prog.lift (.load (sub15 arg15 s h15) (Rect.unit (s := S3x8x128) ![0, 5, 0] S1x1x128.size inb_S3x8x128_S1x1x128_0_5_0).toLoadRect (View.loadsAt_vmem h_S1x1x128))
  let y5 : Vec F S1x1x128 .f32 ← Prog.lift (.load (sub15 arg15 s h15) (Rect.unit (s := S3x8x128) ![1, 5, 0] S1x1x128.size inb_S3x8x128_S1x1x128_1_5_0).toLoadRect (View.loadsAt_vmem h_S1x1x128))
  let z5 : Vec F S1x1x128 .f32 ← Prog.lift (.load (sub15 arg15 s h15) (Rect.unit (s := S3x8x128) ![2, 5, 0] S1x1x128.size inb_S3x8x128_S1x1x128_2_5_0).toLoadRect (View.loadsAt_vmem h_S1x1x128))
  let x6 : Vec F S1x1x128 .f32 ← Prog.lift (.load (sub15 arg15 s h15) (Rect.unit (s := S3x8x128) ![0, 6, 0] S1x1x128.size inb_S3x8x128_S1x1x128_0_6_0).toLoadRect (View.loadsAt_vmem h_S1x1x128))
  let y6 : Vec F S1x1x128 .f32 ← Prog.lift (.load (sub15 arg15 s h15) (Rect.unit (s := S3x8x128) ![1, 6, 0] S1x1x128.size inb_S3x8x128_S1x1x128_1_6_0).toLoadRect (View.loadsAt_vmem h_S1x1x128))
  let z6 : Vec F S1x1x128 .f32 ← Prog.lift (.load (sub15 arg15 s h15) (Rect.unit (s := S3x8x128) ![2, 6, 0] S1x1x128.size inb_S3x8x128_S1x1x128_2_6_0).toLoadRect (View.loadsAt_vmem h_S1x1x128))
  let x7 : Vec F S1x1x128 .f32 ← Prog.lift (.load (sub15 arg15 s h15) (Rect.unit (s := S3x8x128) ![0, 7, 0] S1x1x128.size inb_S3x8x128_S1x1x128_0_7_0).toLoadRect (View.loadsAt_vmem h_S1x1x128))
  let y7 : Vec F S1x1x128 .f32 ← Prog.lift (.load (sub15 arg15 s h15) (Rect.unit (s := S3x8x128) ![1, 7, 0] S1x1x128.size inb_S3x8x128_S1x1x128_1_7_0).toLoadRect (View.loadsAt_vmem h_S1x1x128))
  let z7 : Vec F S1x1x128 .f32 ← Prog.lift (.load (sub15 arg15 s h15) (Rect.unit (s := S3x8x128) ![2, 7, 0] S1x1x128.size inb_S3x8x128_S1x1x128_2_7_0).toLoadRect (View.loadsAt_vmem h_S1x1x128))
  pure (outOf r4 e x0 y0 z0 x1 y1 z1 x2 y2 z2 x3 y3 z3 x4 y4 z4 x5 y5 z5 x6 y6 z6 x7 y7 z7)

end Cert.KernelIdeal.Tile
-- ==== Proof.KI.TileRun.lean ====
module

public import proofs.«01_k».proof.Proof.KI.Tile
public import Idealize.ShloMosaic.Lib.Tactic
public import Idealize.ShloMosaic.Lib.Pipeline.Kit
public import Idealize.ShloMosaic.Lib.ValueIdxCore
public import Idealize.ShloMosaic.Lib.WritesUnit
public import Idealize.ShloMosaic.Lib.Pipeline.Value

/-! # Running a tile

From the two scratch arrays held whole a tile runs to the value `tileOut` of the rotated tile, and
hands the two scratch arrays back. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The algebra of the program logic: the pipeline's own, nothing beside it. -/
abbrev UU (nD : Nat) (τ : Topo) : Type := UR sig nD τ

local notation "𝕄" => MT nD τ sig Unit (Elt F) ℕ (UU nD τ) ℕ

/-- The contents of a memref's buffer on core `c`. -/
abbrev Bf (c : Dev nD) {sp : Space} {S : Shape} {e : EltTy} (M : Memref sig .tc sp S e) : Type :=
  Buf (Elt F) (M.view.loc (c : Thread nD τ))

/-- A memref's buffer held whole at `f`. -/
abbrev pt (c : Dev nD) {sp : Space} {S : Shape} {e : EltTy} (M : Memref sig .tc sp S e)
    (f : Bf (F := F) c M) : sProp 𝕄 := M.view.loc (c : Thread nD τ) ↦{fullShare} f

/-- The partial sums at the rows a load reads. -/
def partRow (lr : LoadRect S64x128) (P : FVec F S64x128 .f32) : lr.shape.Idx → F .f32 :=
  fun x => P (lr.idx x)

/-- Row `b` of eight. -/
def rowOf (b : Fin 8) (x : FVec F S8x128 .f32) : FVec F S1x1x128 .f32 := fun y => x (ix2 b (y 2))

/-- The scale codes of a rotated tile. -/
def codeOf (r4 : FVec F S256x128 .f32) : IVec S8x128 32 :=
  code (rms
    (partRow ⟨![0, 0], S8x128.size, ![8, 1], inb_S64x128_S8x128_0_0_s_8_1⟩ (partSum r4))
    (partRow ⟨![1, 0], S8x128.size, ![8, 1], inb_S64x128_S8x128_1_0_s_8_1⟩ (partSum r4))
    (partRow ⟨![2, 0], S8x128.size, ![8, 1], inb_S64x128_S8x128_2_0_s_8_1⟩ (partSum r4))
    (partRow ⟨![3, 0], S8x128.size, ![8, 1], inb_S64x128_S8x128_3_0_s_8_1⟩ (partSum r4))
    (partRow ⟨![4, 0], S8x128.size, ![8, 1], inb_S64x128_S8x128_4_0_s_8_1⟩ (partSum r4))
    (partRow ⟨![5, 0], S8x128.size, ![8, 1], inb_S64x128_S8x128_5_0_s_8_1⟩ (partSum r4))
    (partRow ⟨![6, 0], S8x128.size, ![8, 1], inb_S64x128_S8x128_6_0_s_8_1⟩ (partSum r4))
    (partRow ⟨![7, 0], S8x128.size, ![8, 1], inb_S64x128_S8x128_7_0_s_8_1⟩ (partSum r4)))

/-- What a tile computes from the rotated values. -/
def tileOut (r4 : FVec F S256x128 .f32) : Out F :=
  outOf r4 (codeOf r4)
    (rowOf ⟨0, by decide⟩ (row0 (codeOf r4))) (rowOf ⟨0, by decide⟩ (row1 (codeOf r4)))
    (rowOf ⟨0, by decide⟩ (powBits (codeOf r4)))
    (rowOf ⟨1, by decide⟩ (row0 (codeOf r4))) (rowOf ⟨1, by decide⟩ (row1 (codeOf r4)))
    (rowOf ⟨1, by decide⟩ (powBits (codeOf r4)))
    (rowOf ⟨2, by decide⟩ (row0 (codeOf r4))) (rowOf ⟨2, by decide⟩ (row1 (codeOf r4)))
    (rowOf ⟨2, by decide⟩ (powBits (codeOf r4)))
    (rowOf ⟨3, by decide⟩ (row0 (codeOf r4))) (rowOf ⟨3, by decide⟩ (row1 (codeOf r4)))
    (rowOf ⟨3, by decide⟩ (powBits (codeOf r4)))
    (rowOf ⟨4, by decide⟩ (row0 (codeOf r4))) (rowOf ⟨4, by decide⟩ (row1 (codeOf r4)))
    (rowOf ⟨4, by decide⟩ (powBits (codeOf r4)))
    (rowOf ⟨5, by decide⟩ (row0 (codeOf r4))) (rowOf ⟨5, by decide⟩ (row1 (codeOf r4)))
    (rowOf ⟨5, by decide⟩ (powBits (codeOf r4)))
    (rowOf ⟨6, by decide⟩ (row0 (codeOf r4))) (rowOf ⟨6, by decide⟩ (row1 (codeOf r4)))
    (rowOf ⟨6, by decide⟩ (powBits (codeOf r4)))
    (rowOf ⟨7, by decide⟩ (row0 (codeOf r4))) (rowOf ⟨7, by decide⟩ (row1 (codeOf r4)))
    (rowOf ⟨7, by decide⟩ (powBits (codeOf r4)))

theorem read_part (arg14 : Memref sig .tc .vmem S8x64x128 .f32) (s : ℕ)
    (h14 : ∀ a, (![s, 0, 0] : Fin 3 → ℕ) a + S1x64x128.size a ≤ S8x64x128.size a)
    (P : FVec F S64x128 .f32) (f : arg14.view.ty.Contents (Elt F)) (lr : LoadRect S64x128) :
    View.readAt (Elt F) (sub14 arg14 s h14).view lr
      (arg14.view.writes (Elt F) f [⟨slot14 s h14, shapeCast S1x64x128 P shapeCasts_S64x128_S1x64x128⟩])
      = partRow lr P := by
  funext x
  rw [View.readAt_apply]
  show View.read (Elt F) arg14.view _ ((slot14 s h14).emb (Shape.reshapeEquiv _ (lr.idx x))) = _
  rw [View.read_writes_cons_emb]
  show P (Shape.reshapeEquiv _ (Shape.reshapeEquiv _ (lr.idx x))) = _
  rw [Shape.reshapeEquiv_reshapeEquiv, Shape.reshapeEquiv_self]
  rfl

section Rows

variable (v : View sig .tc .vmem S3x8x128 .f32) (f : v.ty.Contents (Elt F))
  (w0 w1 w2 : FVec F S8x128 .f32)

/-- Where row `j` of the three goes. -/
abbrev place (j : Fin 3) (h : ∀ a, (![j.val, 0, 0] : Fin 3 → ℕ) a + S1x8x128.size a ≤ S3x8x128.size a) :
    Rect S3x8x128 := Rect.unit (s := S3x8x128) ![j.val, 0, 0] S1x8x128.size h

/-- The three rows as the tile stores them, the last one first. -/
abbrev three : List (View.Piece (Elt F) S3x8x128 .f32) :=
  [⟨place 2 inb_S3x8x128_S1x8x128_2_0_0, up w2⟩, ⟨place 1 inb_S3x8x128_S1x8x128_1_0_0, up w1⟩,
    ⟨place 0 inb_S3x8x128_S1x8x128_0_0_0, up w0⟩]

theorem up_apply (x : FVec F S8x128 .f32) (b : Fin 8) (l : Fin 128) :
    up x (ix3 0 b l) = x (ix2 b l) :=
  (shapeCast_addUnit_apply ![8, 128] x shapeCasts_S8x128_S1x8x128 (ix3 0 b l)).trans
    (congrArg x (by funext a; match a with | ⟨0, _⟩ => rfl | ⟨1, _⟩ => rfl))

theorem read_row0 (b : ℕ) (hb : b < 8) (h : ∀ a, (![0, b, 0] : Fin 3 → ℕ) a + S1x1x128.size a ≤ S3x8x128.size a) :
    v.readAt (Elt F) (Rect.unit (s := S3x8x128) ![0, b, 0] S1x1x128.size h).toLoadRect
      (v.writes (Elt F) f (three w0 w1 w2)) = rowOf ⟨b, hb⟩ w0 := by
  funext x
  have h0 : (x 0).val < 1 := (x 0).isLt
  have h1 : (x 1).val < 1 := (x 1).isLt
  rw [View.readAt_apply]
  rw [View.read_writes_cons_unit_of_not_mem v f _ _ _ _ rfl 0
    (Or.inl (show 0 + 1 * (x 0).val < 2 by omega))]
  rw [View.read_writes_cons_unit_of_not_mem v f _ _ _ _ rfl 0
    (Or.inl (show 0 + 1 * (x 0).val < 1 by omega))]
  refine (View.read_writes_cons_unit_of_mem v f _ _ _ _ (ix3 0 ⟨b, hb⟩ (x 2)) rfl ?_).trans
    (up_apply w0 ⟨b, hb⟩ (x 2))
  intro a
  match a with
  | ⟨0, _⟩ => show 0 + 1 * (x 0).val = 0 + 0; omega
  | ⟨1, _⟩ => show b + 1 * (x 1).val = 0 + b; omega
  | ⟨2, _⟩ => show 0 + 1 * (x 2).val = 0 + (x 2).val; omega

theorem read_row1 (b : ℕ) (hb : b < 8) (h : ∀ a, (![1, b, 0] : Fin 3 → ℕ) a + S1x1x128.size a ≤ S3x8x128.size a) :
    v.readAt (Elt F) (Rect.unit (s := S3x8x128) ![1, b, 0] S1x1x128.size h).toLoadRect
      (v.writes (Elt F) f (three w0 w1 w2)) = rowOf ⟨b, hb⟩ w1 := by
  funext x
  have h0 : (x 0).val < 1 := (x 0).isLt
  have h1 : (x 1).val < 1 := (x 1).isLt
  rw [View.readAt_apply]
  rw [View.read_writes_cons_unit_of_not_mem v f _ _ _ _ rfl 0
    (Or.inl (show 1 + 1 * (x 0).val < 2 by omega))]
  refine (View.read_writes_cons_unit_of_mem v f _ _ _ _ (ix3 0 ⟨b, hb⟩ (x 2)) rfl ?_).trans
    (up_apply w1 ⟨b, hb⟩ (x 2))
  intro a
  match a with
  | ⟨0, _⟩ => show 1 + 1 * (x 0).val = 1 + 0; omega
  | ⟨1, _⟩ => show b + 1 * (x 1).val = 0 + b; omega
  | ⟨2, _⟩ => show 0 + 1 * (x 2).val = 0 + (x 2).val; omega

theorem read_row2 (b : ℕ) (hb : b < 8) (h : ∀ a, (![2, b, 0] : Fin 3 → ℕ) a + S1x1x128.size a ≤ S3x8x128.size a) :
    v.readAt (Elt F) (Rect.unit (s := S3x8x128) ![2, b, 0] S1x1x128.size h).toLoadRect
      (v.writes (Elt F) f (three w0 w1 w2)) = rowOf ⟨b, hb⟩ w2 := by
  funext x
  have h0 : (x 0).val < 1 := (x 0).isLt
  have h1 : (x 1).val < 1 := (x 1).isLt
  rw [View.readAt_apply]
  refine (View.read_writes_cons_unit_of_mem v f _ _ _ _ (ix3 0 ⟨b, hb⟩ (x 2)) rfl ?_).trans
    (up_apply w2 ⟨b, hb⟩ (x 2))
  intro a
  match a with
  | ⟨0, _⟩ => show 2 + 1 * (x 0).val = 2 + 0; omega
  | ⟨1, _⟩ => show b + 1 * (x 1).val = 0 + b; omega
  | ⟨2, _⟩ => show 0 + 1 * (x 2).val = 0 + (x 2).val; omega

end Rows

set_option maxHeartbeats 4000000 in
/-- A tile runs to `tileOut` and hands its scratch back. -/
theorem tile_run (c : Dev nD) (arg14 : Memref sig .tc .vmem S8x64x128 .f32) (harg14 : arg14.IsWhole)
    (arg15 : Memref sig .tc .vmem S8x3x8x128 .f32) (harg15 : arg15.IsWhole) (s : ℕ)
    (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) (f14 : Bf (F := F) c arg14) (f15 : Bf (F := F) c arg15)
    (Q : Out F → sProp 𝕄) :
    iprop(pt c arg14 f14 ∗ pt c arg15 f15 ∗
      (iprop((∃ f, pt c arg14 f) ∗ (∃ f, pt c arg15 f)) -∗ Q (tileOut r4)))
    ⊢ wp frame (wpE (defs₀ (F := F)) Variants.none c none) Set.univ (tile arg14 arg15 s h14 h15 r4) Q := by
  iintro ⟨H14, H15, Hk⟩
  unfold tile
  sl_exec
  have he : tile_run.sl.e c arg14 s h14 r4 f14 = codeOf r4 := by
    unfold tile_run.sl.e codeOf
    rw [show tile_run.sl.a0 c arg14 s h14 r4 f14 = _ from read_part arg14 s h14 (partSum r4) f14 _]
    rw [show tile_run.sl.a1 c arg14 s h14 r4 f14 = _ from read_part arg14 s h14 (partSum r4) f14 _]
    rw [show tile_run.sl.a2 c arg14 s h14 r4 f14 = _ from read_part arg14 s h14 (partSum r4) f14 _]
    rw [show tile_run.sl.a3 c arg14 s h14 r4 f14 = _ from read_part arg14 s h14 (partSum r4) f14 _]
    rw [show tile_run.sl.a4 c arg14 s h14 r4 f14 = _ from read_part arg14 s h14 (partSum r4) f14 _]
    rw [show tile_run.sl.a5 c arg14 s h14 r4 f14 = _ from read_part arg14 s h14 (partSum r4) f14 _]
    rw [show tile_run.sl.a6 c arg14 s h14 r4 f14 = _ from read_part arg14 s h14 (partSum r4) f14 _]
    rw [show tile_run.sl.a7 c arg14 s h14 r4 f14 = _ from read_part arg14 s h14 (partSum r4) f14 _]
  have ex0 : tile_run.sl.x0 c arg14 arg15 s h14 h15 r4 f14 f15 = rowOf ⟨0, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 0 (by decide) _
  have ey0 : tile_run.sl.y0 c arg14 arg15 s h14 h15 r4 f14 f15 = rowOf ⟨0, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 0 (by decide) _
  have ez0 : tile_run.sl.z0 c arg14 arg15 s h14 h15 r4 f14 f15 = rowOf ⟨0, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 0 (by decide) _
  have ex1 : tile_run.sl.x1 c arg14 arg15 s h14 h15 r4 f14 f15 = rowOf ⟨1, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 1 (by decide) _
  have ey1 : tile_run.sl.y1 c arg14 arg15 s h14 h15 r4 f14 f15 = rowOf ⟨1, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 1 (by decide) _
  have ez1 : tile_run.sl.z1 c arg14 arg15 s h14 h15 r4 f14 f15 = rowOf ⟨1, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 1 (by decide) _
  have ex2 : tile_run.sl.x2 c arg14 arg15 s h14 h15 r4 f14 f15 = rowOf ⟨2, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 2 (by decide) _
  have ey2 : tile_run.sl.y2 c arg14 arg15 s h14 h15 r4 f14 f15 = rowOf ⟨2, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 2 (by decide) _
  have ez2 : tile_run.sl.z2 c arg14 arg15 s h14 h15 r4 f14 f15 = rowOf ⟨2, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 2 (by decide) _
  have ex3 : tile_run.sl.x3 c arg14 arg15 s h14 h15 r4 f14 f15 = rowOf ⟨3, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 3 (by decide) _
  have ey3 : tile_run.sl.y3 c arg14 arg15 s h14 h15 r4 f14 f15 = rowOf ⟨3, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 3 (by decide) _
  have ez3 : tile_run.sl.z3 c arg14 arg15 s h14 h15 r4 f14 f15 = rowOf ⟨3, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 3 (by decide) _
  have ex4 : tile_run.sl.x4 c arg14 arg15 s h14 h15 r4 f14 f15 = rowOf ⟨4, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 4 (by decide) _
  have ey4 : tile_run.sl.y4 c arg14 arg15 s h14 h15 r4 f14 f15 = rowOf ⟨4, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 4 (by decide) _
  have ez4 : tile_run.sl.z4 c arg14 arg15 s h14 h15 r4 f14 f15 = rowOf ⟨4, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 4 (by decide) _
  have ex5 : tile_run.sl.x5 c arg14 arg15 s h14 h15 r4 f14 f15 = rowOf ⟨5, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 5 (by decide) _
  have ey5 : tile_run.sl.y5 c arg14 arg15 s h14 h15 r4 f14 f15 = rowOf ⟨5, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 5 (by decide) _
  have ez5 : tile_run.sl.z5 c arg14 arg15 s h14 h15 r4 f14 f15 = rowOf ⟨5, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 5 (by decide) _
  have ex6 : tile_run.sl.x6 c arg14 arg15 s h14 h15 r4 f14 f15 = rowOf ⟨6, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 6 (by decide) _
  have ey6 : tile_run.sl.y6 c arg14 arg15 s h14 h15 r4 f14 f15 = rowOf ⟨6, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 6 (by decide) _
  have ez6 : tile_run.sl.z6 c arg14 arg15 s h14 h15 r4 f14 f15 = rowOf ⟨6, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 6 (by decide) _
  have ex7 : tile_run.sl.x7 c arg14 arg15 s h14 h15 r4 f14 f15 = rowOf ⟨7, by decide⟩ (row0 (codeOf r4)) := by
    rw [← he]
    exact read_row0 (sub15 arg15 s h15).view f15 (row0 (tile_run.sl.e c arg14 s h14 r4 f14)) (row1 (tile_run.sl.e c arg14 s h14 r4 f14)) (powBits (tile_run.sl.e c arg14 s h14 r4 f14)) 7 (by decide) _
  have ey7 : tile_run.sl.y7 c arg14 arg15 s h14 h15 r4 f14 f15 = rowOf ⟨7, by decide⟩ (row1 (codeOf r4)) := by
    rw [← he]
    exact read_row1 (sub15 arg15 s h15).view f15 (row0 (tile_run.sl.e c arg14 s h14 r4 f14)) (row1 (tile_run.sl.e c arg14 s h14 r4 f14)) (powBits (tile_run.sl.e c arg14 s h14 r4 f14)) 7 (by decide) _
  have ez7 : tile_run.sl.z7 c arg14 arg15 s h14 h15 r4 f14 f15 = rowOf ⟨7, by decide⟩ (powBits (codeOf r4)) := by
    rw [← he]
    exact read_row2 (sub15 arg15 s h15).view f15 (row0 (tile_run.sl.e c arg14 s h14 r4 f14)) (row1 (tile_run.sl.e c arg14 s h14 r4 f14)) (powBits (tile_run.sl.e c arg14 s h14 r4 f14)) 7 (by decide) _
  have hv : outOf r4 (tile_run.sl.e c arg14 s h14 r4 f14)
    (tile_run.sl.x0 c arg14 arg15 s h14 h15 r4 f14 f15) (tile_run.sl.y0 c arg14 arg15 s h14 h15 r4 f14 f15) (tile_run.sl.z0 c arg14 arg15 s h14 h15 r4 f14 f15)
    (tile_run.sl.x1 c arg14 arg15 s h14 h15 r4 f14 f15) (tile_run.sl.y1 c arg14 arg15 s h14 h15 r4 f14 f15) (tile_run.sl.z1 c arg14 arg15 s h14 h15 r4 f14 f15)
    (tile_run.sl.x2 c arg14 arg15 s h14 h15 r4 f14 f15) (tile_run.sl.y2 c arg14 arg15 s h14 h15 r4 f14 f15) (tile_run.sl.z2 c arg14 arg15 s h14 h15 r4 f14 f15)
    (tile_run.sl.x3 c arg14 arg15 s h14 h15 r4 f14 f15) (tile_run.sl.y3 c arg14 arg15 s h14 h15 r4 f14 f15) (tile_run.sl.z3 c arg14 arg15 s h14 h15 r4 f14 f15)
    (tile_run.sl.x4 c arg14 arg15 s h14 h15 r4 f14 f15) (tile_run.sl.y4 c arg14 arg15 s h14 h15 r4 f14 f15) (tile_run.sl.z4 c arg14 arg15 s h14 h15 r4 f14 f15)
    (tile_run.sl.x5 c arg14 arg15 s h14 h15 r4 f14 f15) (tile_run.sl.y5 c arg14 arg15 s h14 h15 r4 f14 f15) (tile_run.sl.z5 c arg14 arg15 s h14 h15 r4 f14 f15)
    (tile_run.sl.x6 c arg14 arg15 s h14 h15 r4 f14 f15) (tile_run.sl.y6 c arg14 arg15 s h14 h15 r4 f14 f15) (tile_run.sl.z6 c arg14 arg15 s h14 h15 r4 f14 f15)
    (tile_run.sl.x7 c arg14 arg15 s h14 h15 r4 f14 f15) (tile_run.sl.y7 c arg14 arg15 s h14 h15 r4 f14 f15) (tile_run.sl.z7 c arg14 arg15 s h14 h15 r4 f14 f15)
    = tileOut r4 := by
    rw [he, ex0, ey0, ez0, ex1, ey1, ez1, ex2, ey2, ez2, ex3, ey3, ez3, ex4, ey4, ez4, ex5, ey5, ez5, ex6, ey6, ez6, ex7, ey7, ez7]
    rfl
  rw [hv]
  sl_step
  iapply Hk
  isplitl [H14]; · iexists _; iexact H14
  iexists _; iexact H15

end Cert.KernelIdeal.Tile
-- ==== Proof.KI.Trips.lean ====
module

public import proofs.«01_k».proof.Proof.KI.Tile
public import proofs.«01_k».proof.Proof.Gen.KernelIdeal.Skeleton
public import Idealize.ShloMosaic.Lib.Pipeline.Regions

/-! # The trips of the two loops

A trip of the loop over the left operand quantises four tiles; a trip of the loop over the right
operand quantises eight, and adds their product with the left operand to the accumulator. Here each
trip is written with `tile`, and shown to be the printed trip. -/

@[expose] public section
set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- A tile of the left operand, rotated. -/
def rotX (h : FVec F S256x256 .bf16) (x : FVec F S128x256 .bf16) : FVec F S256x128 .f32 :=
  matmul dot_S256x256_S128x256_S256x128_1_1_0_0_n_n none
    h (shapeCast S128x256 x shapeCasts_S128x256_S128x256) (constant S256x128 .f32 0x00000000#32)

/-- Two tiles of the right operand, rotated. -/
def rotW (h w : FVec F S256x256 .bf16) : FVec F S256x256 .f32 :=
  matmul dot_S256x256_S256x256_S256x256_1_1_0_0_n_n none
    h w (constant S256x256 .f32 0x00000000#32)

/-- The first of the two tiles. -/
def half0 (r : FVec F S256x256 .f32) : FVec F S256x128 .f32 :=
  extractStridedSlice S256x128 ![0, 0] r slices_S256x256_o0_0_S256x128

/-- The second of the two tiles. -/
def half1 (r : FVec F S256x256 .f32) : FVec F S256x128 .f32 :=
  extractStridedSlice S256x128 ![0, 128] r slices_S256x256_o0_128_S256x128

/-- The mask bytes of four tiles, one row of the operand to a row. -/
def maskBytes (m0 m1 m2 m3 : IVec S8x128 32) : IVec S128x128 8 :=
  transpose S128x128 [1, 0] (bitcast S128x128 8 (concatenate S32x128 0
    [⟨S8x128, m0⟩, ⟨S8x128, m1⟩, ⟨S8x128, m2⟩, ⟨S8x128, m3⟩]
    concatenates_S8x128_S8x128_S8x128_S8x128_S32x128_d0) bitcasts_S32x128_w32_S128x128_w8)
    transposes_S128x128_p1_0_S128x128

/-- The dequantised tile with one row of the left operand to a row. -/
def deqX (t : Out F) : FVec F S128x256 .bf16 :=
  shapeCast S128x256 (transpose S128x256 [1, 0] (deqOf (toE2m1 t.v) t.p)
    transposes_S256x128_p1_0_S128x256) shapeCasts_S128x256_S128x256

/-- The two dequantised tiles side by side. -/
def deqW (t t' : Out F) : FVec F S256x256 .bf16 :=
  concatenate S256x256 1 [⟨S256x128, deqOf (toE2m1 t.v) t.p⟩, ⟨S256x128, deqOf (toE2m1 t'.v) t'.p⟩]
    concatenates_S256x128_S256x128_S256x256_d1

/-- The accumulator after one group of columns. -/
def accStep (d0 d1 d2 d3 : FVec F S256x256 .bf16) (acc : FVec F S128x256 .f32)
    (xq : FVec F S128x1024 .bf16) : FVec F S128x256 .f32 :=
  shapeCast S128x256 (addf acc (matmul dot_S128x1024_S1024x256_S128x256_1_0_0_1_n_n none xq
    (concatenate S1024x256 0 [⟨S256x256, d0⟩, ⟨S256x256, d1⟩, ⟨S256x256, d2⟩, ⟨S256x256, d3⟩]
      concatenates_S256x256_S256x256_S256x256_S256x256_S1024x256_d0)
    (constant S128x256 .f32 0x00000000#32))) shapeCasts_S128x256_S128x256

/-- A trip of the loop over the left operand. -/
def tripX (i : grid0.Coords) (arg2 : Memref sig .tc .vmem S256x256 .bf16) (harg2 : arg2.IsWhole) (arg3 : Memref sig .tc .vmem S128x4096 .bf16) (harg3 : arg3.IsWhole) (arg6 : Memref sig .tc .vmem S128x512 .i8) (harg6 : arg6.IsWhole) (arg8 : Memref sig .tc .vmem S128x2048 .i8) (harg8 : arg8.IsWhole) (arg12 : Memref sig .tc .vmem S128x16384 .bf16) (harg12 : arg12.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1) (k : Fin k0_t1_loop.trips) : Prog (TpuEff nD τ sig (Elt F) Λ₀ .tc) Unit := do
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 0#32) S128x256.size (k0_off1_inb i k hi 0)).toLoadRect (View.loadsAt_vmem h_S128x256))
  let t0 ← tile arg14 arg15 0 inb_S8x64x128_S1x64x128_0_0_0 inb_S8x3x8x128_S1x3x8x128_0_0_0_0 (rotX hm xm)
  let _ : Vec F S128x128 .i8 ← Prog.lift (.load arg8 (Rect.unit (s := S128x2048) (k0_off2 k 0#32) S128x128.size (k0_off2_inb i k hi 0)).toLoadRect (View.loadsAt_vmem h_S128x128))
  Prog.lift (.store arg8 (Rect.unit (s := S128x2048) (k0_off2 k 0#32) S128x128.size (k0_off2_inb i k hi 0)) (codeBytes (toE2m1 t0.v)) Finset.univ (View.stores_vmem h_S128x128 (harg8.storeExact_slice rfl _ (k0_off2_packedi8 i k hi 0)) (fun _ => rfl)) (.inl rfl))
  let _ : Vec F S1x8x128 .i32 ← Prog.lift (.load arg16 (Rect.unit (s := S2x128x128) (k0_off3 k 0#32) S1x8x128.size (k0_off3_inb i k hi 0)).toLoadRect (View.loadsAt_vmem h_S1x8x128))
  Prog.lift (.store arg16 (Rect.unit (s := S2x128x128) (k0_off3 k 0#32) S1x8x128.size (k0_off3_inb i k hi 0)) (upI t0.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 256#32) S128x256.size (k0_off1_inb i k hi 1)).toLoadRect (View.loadsAt_vmem h_S128x256))
  let t1 ← tile arg14 arg15 2 inb_S8x64x128_S1x64x128_2_0_0 inb_S8x3x8x128_S1x3x8x128_2_0_0_0 (rotX hm xm)
  let _ : Vec F S128x128 .i8 ← Prog.lift (.load arg8 (Rect.unit (s := S128x2048) (k0_off2 k 128#32) S128x128.size (k0_off2_inb i k hi 1)).toLoadRect (View.loadsAt_vmem h_S128x128))
  Prog.lift (.store arg8 (Rect.unit (s := S128x2048) (k0_off2 k 128#32) S128x128.size (k0_off2_inb i k hi 1)) (codeBytes (toE2m1 t1.v)) Finset.univ (View.stores_vmem h_S128x128 (harg8.storeExact_slice rfl _ (k0_off2_packedi8 i k hi 1)) (fun _ => rfl)) (.inl rfl))
  let _ : Vec F S1x8x128 .i32 ← Prog.lift (.load arg16 (Rect.unit (s := S2x128x128) (k0_off3 k 8#32) S1x8x128.size (k0_off3_inb i k hi 1)).toLoadRect (View.loadsAt_vmem h_S1x8x128))
  Prog.lift (.store arg16 (Rect.unit (s := S2x128x128) (k0_off3 k 8#32) S1x8x128.size (k0_off3_inb i k hi 1)) (upI t1.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 512#32) S128x256.size (k0_off1_inb i k hi 2)).toLoadRect (View.loadsAt_vmem h_S128x256))
  let t2 ← tile arg14 arg15 4 inb_S8x64x128_S1x64x128_4_0_0 inb_S8x3x8x128_S1x3x8x128_4_0_0_0 (rotX hm xm)
  let _ : Vec F S128x128 .i8 ← Prog.lift (.load arg8 (Rect.unit (s := S128x2048) (k0_off2 k 256#32) S128x128.size (k0_off2_inb i k hi 2)).toLoadRect (View.loadsAt_vmem h_S128x128))
  Prog.lift (.store arg8 (Rect.unit (s := S128x2048) (k0_off2 k 256#32) S128x128.size (k0_off2_inb i k hi 2)) (codeBytes (toE2m1 t2.v)) Finset.univ (View.stores_vmem h_S128x128 (harg8.storeExact_slice rfl _ (k0_off2_packedi8 i k hi 2)) (fun _ => rfl)) (.inl rfl))
  let _ : Vec F S1x8x128 .i32 ← Prog.lift (.load arg16 (Rect.unit (s := S2x128x128) (k0_off3 k 16#32) S1x8x128.size (k0_off3_inb i k hi 2)).toLoadRect (View.loadsAt_vmem h_S1x8x128))
  Prog.lift (.store arg16 (Rect.unit (s := S2x128x128) (k0_off3 k 16#32) S1x8x128.size (k0_off3_inb i k hi 2)) (upI t2.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let xm : Vec F S128x256 .bf16 ← Prog.lift (.load arg3 (Rect.unit (s := S128x4096) (k0_off1 k 768#32) S128x256.size (k0_off1_inb i k hi 3)).toLoadRect (View.loadsAt_vmem h_S128x256))
  let t3 ← tile arg14 arg15 6 inb_S8x64x128_S1x64x128_6_0_0 inb_S8x3x8x128_S1x3x8x128_6_0_0_0 (rotX hm xm)
  let _ : Vec F S128x128 .i8 ← Prog.lift (.load arg8 (Rect.unit (s := S128x2048) (k0_off2 k 384#32) S128x128.size (k0_off2_inb i k hi 3)).toLoadRect (View.loadsAt_vmem h_S128x128))
  Prog.lift (.store arg8 (Rect.unit (s := S128x2048) (k0_off2 k 384#32) S128x128.size (k0_off2_inb i k hi 3)) (codeBytes (toE2m1 t3.v)) Finset.univ (View.stores_vmem h_S128x128 (harg8.storeExact_slice rfl _ (k0_off2_packedi8 i k hi 3)) (fun _ => rfl)) (.inl rfl))
  let _ : Vec F S1x8x128 .i32 ← Prog.lift (.load arg16 (Rect.unit (s := S2x128x128) (k0_off3 k 24#32) S1x8x128.size (k0_off3_inb i k hi 3)).toLoadRect (View.loadsAt_vmem h_S1x8x128))
  Prog.lift (.store arg16 (Rect.unit (s := S2x128x128) (k0_off3 k 24#32) S1x8x128.size (k0_off3_inb i k hi 3)) (upI t3.e) Finset.univ (View.stores_vmem_bits_univ h_S1x8x128 rfl) (.inl rfl))
  let _ : Vec F S128x128 .i8 ← Prog.lift (.load arg6 (Rect.unit (s := S128x512) (k0_off4 k) S128x128.size (k0_off4_inb i k hi)).toLoadRect (View.loadsAt_vmem h_S128x128))
  Prog.lift (.store arg6 (Rect.unit (s := S128x512) (k0_off4 k) S128x128.size (k0_off4_inb i k hi)) (maskBytes (maskWord t0.d) (maskWord t1.d) (maskWord t2.d) (maskWord t3.d)) Finset.univ (View.stores_vmem h_S128x128 (harg6.storeExact_slice rfl _ (k0_off4_packedi8 i k hi)) (fun _ => rfl)) (.inl rfl))
  let _ : Vec F S128x256 .bf16 ← Prog.lift (.load arg12 (Rect.unit (s := S128x16384) (k0_off5 i k 0#32) S128x256.size (k0_off5_inb i k hi 0)).toLoadRect (View.loadsAt_vmem h_S128x256))
  Prog.lift (.store arg12 (Rect.unit (s := S128x16384) (k0_off5 i k 0#32) S128x256.size (k0_off5_inb i k hi 0)) (deqX t0) Finset.univ (View.stores_vmem h_S128x256 (harg12.storeExact_slice rfl _ (k0_off5_packedbf16 i k hi 0)) (fun _ => rfl)) (.inl rfl))
  let _ : Vec F S128x256 .bf16 ← Prog.lift (.load arg12 (Rect.unit (s := S128x16384) (k0_off5 i k 256#32) S128x256.size (k0_off5_inb i k hi 1)).toLoadRect (View.loadsAt_vmem h_S128x256))
  Prog.lift (.store arg12 (Rect.unit (s := S128x16384) (k0_off5 i k 256#32) S128x256.size (k0_off5_inb i k hi 1)) (deqX t1) Finset.univ (View.stores_vmem h_S128x256 (harg12.storeExact_slice rfl _ (k0_off5_packedbf16 i k hi 1)) (fun _ => rfl)) (.inl rfl))
  let _ : Vec F S128x256 .bf16 ← Prog.lift (.load arg12 (Rect.unit (s := S128x16384) (k0_off5 i k 512#32) S128x256.size (k0_off5_inb i k hi 2)).toLoadRect (View.loadsAt_vmem h_S128x256))
  Prog.lift (.store arg12 (Rect.unit (s := S128x16384) (k0_off5 i k 512#32) S128x256.size (k0_off5_inb i k hi 2)) (deqX t2) Finset.univ (View.stores_vmem h_S128x256 (harg12.storeExact_slice rfl _ (k0_off5_packedbf16 i k hi 2)) (fun _ => rfl)) (.inl rfl))
  let _ : Vec F S128x256 .bf16 ← Prog.lift (.load arg12 (Rect.unit (s := S128x16384) (k0_off5 i k 768#32) S128x256.size (k0_off5_inb i k hi 3)).toLoadRect (View.loadsAt_vmem h_S128x256))
  Prog.lift (.store arg12 (Rect.unit (s := S128x16384) (k0_off5 i k 768#32) S128x256.size (k0_off5_inb i k hi 3)) (deqX t3) Finset.univ (View.stores_vmem h_S128x256 (harg12.storeExact_slice rfl _ (k0_off5_packedbf16 i k hi 3)) (fun _ => rfl)) (.inl rfl))
  pure ()

/-- A trip of the loop over the right operand. -/
def tripW (i : grid0.Coords) (arg2 : Memref sig .tc .vmem S256x256 .bf16) (harg2 : arg2.IsWhole) (arg4 : Memref sig .tc .vmem S256x4096 .bf16) (harg4 : arg4.IsWhole) (arg7 : Memref sig .tc .vmem S256x512 .i8) (harg7 : arg7.IsWhole) (arg10 : Memref sig .tc .vmem S256x2048 .i8) (harg10 : arg10.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (k : Fin k0_t2_loop.trips) : Prog (TpuEff nD τ sig (Elt F) Λ₀ .tc) Unit := do
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 0#32) S256x256.size (k0_off6_inb k 0)).toLoadRect (View.loadsAt_vmem h_S256x256))
  let t0 ← tile arg14 arg15 0 inb_S8x64x128_S1x64x128_0_0_0 inb_S8x3x8x128_S1x3x8x128_0_0_0_0 (half0 (rotW hm wm))
  let _ : Vec F S128x128 .i8 ← Prog.lift (.load arg10 (Rect.unit (s := S256x2048) (k0_off7 k 0#32) S128x128.size (k0_off7_inb k 0)).toLoadRect (View.loadsAt_vmem h_S128x128))
  Prog.lift (.store arg10 (Rect.unit (s := S256x2048) (k0_off7 k 0#32) S128x128.size (k0_off7_inb k 0)) (codeBytes (toE2m1 t0.v)) Finset.univ (View.stores_vmem h_S128x128 (harg10.storeExact_slice rfl _ (k0_off7_packedi8 k 0)) (fun _ => rfl)) (.inl rfl))
  let _ : Vec F S1x8x128 .i32 ← Prog.lift (.load arg16 (Rect.unit (s := S2x128x128) (k0_off8 k 0#32) S1x8x128.size (k0_off8_inb k 0)).toLoadRect (View.loadsAt_vmem h_S1x8x128))
  Prog.lift (.store arg16 (Rect.unit (s := S2x128x128) (k0_off8 k 0#32) S1x8x128.size (k0_off8_inb k 0)) (upI t0.e) Finset.univ (View.stores_vmem_bits_univ h_S1x8x128 rfl) (.inl rfl))
  let u0 ← tile arg14 arg15 1 inb_S8x64x128_S1x64x128_1_0_0 inb_S8x3x8x128_S1x3x8x128_1_0_0_0 (half1 (rotW hm wm))
  let _ : Vec F S128x128 .i8 ← Prog.lift (.load arg10 (Rect.unit (s := S256x2048) (k0_off9 k 0#32) S128x128.size (k0_off9_inb k 0)).toLoadRect (View.loadsAt_vmem h_S128x128))
  Prog.lift (.store arg10 (Rect.unit (s := S256x2048) (k0_off9 k 0#32) S128x128.size (k0_off9_inb k 0)) (codeBytes (toE2m1 u0.v)) Finset.univ (View.stores_vmem h_S128x128 (harg10.storeExact_slice rfl _ (k0_off9_packedi8 k 0)) (fun _ => rfl)) (.inl rfl))
  let _ : Vec F S1x8x128 .i32 ← Prog.lift (.load arg16 (Rect.unit (s := S2x128x128) (k0_off10 k 0#32) S1x8x128.size (k0_off10_inb k 0)).toLoadRect (View.loadsAt_vmem h_S1x8x128))
  Prog.lift (.store arg16 (Rect.unit (s := S2x128x128) (k0_off10 k 0#32) S1x8x128.size (k0_off10_inb k 0)) (upI u0.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 256#32) S256x256.size (k0_off6_inb k 1)).toLoadRect (View.loadsAt_vmem h_S256x256))
  let t1 ← tile arg14 arg15 2 inb_S8x64x128_S1x64x128_2_0_0 inb_S8x3x8x128_S1x3x8x128_2_0_0_0 (half0 (rotW hm wm))
  let _ : Vec F S128x128 .i8 ← Prog.lift (.load arg10 (Rect.unit (s := S256x2048) (k0_off7 k 128#32) S128x128.size (k0_off7_inb k 1)).toLoadRect (View.loadsAt_vmem h_S128x128))
  Prog.lift (.store arg10 (Rect.unit (s := S256x2048) (k0_off7 k 128#32) S128x128.size (k0_off7_inb k 1)) (codeBytes (toE2m1 t1.v)) Finset.univ (View.stores_vmem h_S128x128 (harg10.storeExact_slice rfl _ (k0_off7_packedi8 k 1)) (fun _ => rfl)) (.inl rfl))
  let _ : Vec F S1x8x128 .i32 ← Prog.lift (.load arg16 (Rect.unit (s := S2x128x128) (k0_off8 k 8#32) S1x8x128.size (k0_off8_inb k 1)).toLoadRect (View.loadsAt_vmem h_S1x8x128))
  Prog.lift (.store arg16 (Rect.unit (s := S2x128x128) (k0_off8 k 8#32) S1x8x128.size (k0_off8_inb k 1)) (upI t1.e) Finset.univ (View.stores_vmem_bits_univ h_S1x8x128 rfl) (.inl rfl))
  let u1 ← tile arg14 arg15 3 inb_S8x64x128_S1x64x128_3_0_0 inb_S8x3x8x128_S1x3x8x128_3_0_0_0 (half1 (rotW hm wm))
  let _ : Vec F S128x128 .i8 ← Prog.lift (.load arg10 (Rect.unit (s := S256x2048) (k0_off9 k 128#32) S128x128.size (k0_off9_inb k 1)).toLoadRect (View.loadsAt_vmem h_S128x128))
  Prog.lift (.store arg10 (Rect.unit (s := S256x2048) (k0_off9 k 128#32) S128x128.size (k0_off9_inb k 1)) (codeBytes (toE2m1 u1.v)) Finset.univ (View.stores_vmem h_S128x128 (harg10.storeExact_slice rfl _ (k0_off9_packedi8 k 1)) (fun _ => rfl)) (.inl rfl))
  let _ : Vec F S1x8x128 .i32 ← Prog.lift (.load arg16 (Rect.unit (s := S2x128x128) (k0_off10 k 8#32) S1x8x128.size (k0_off10_inb k 1)).toLoadRect (View.loadsAt_vmem h_S1x8x128))
  Prog.lift (.store arg16 (Rect.unit (s := S2x128x128) (k0_off10 k 8#32) S1x8x128.size (k0_off10_inb k 1)) (upI u1.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 512#32) S256x256.size (k0_off6_inb k 2)).toLoadRect (View.loadsAt_vmem h_S256x256))
  let t2 ← tile arg14 arg15 4 inb_S8x64x128_S1x64x128_4_0_0 inb_S8x3x8x128_S1x3x8x128_4_0_0_0 (half0 (rotW hm wm))
  let _ : Vec F S128x128 .i8 ← Prog.lift (.load arg10 (Rect.unit (s := S256x2048) (k0_off7 k 256#32) S128x128.size (k0_off7_inb k 2)).toLoadRect (View.loadsAt_vmem h_S128x128))
  Prog.lift (.store arg10 (Rect.unit (s := S256x2048) (k0_off7 k 256#32) S128x128.size (k0_off7_inb k 2)) (codeBytes (toE2m1 t2.v)) Finset.univ (View.stores_vmem h_S128x128 (harg10.storeExact_slice rfl _ (k0_off7_packedi8 k 2)) (fun _ => rfl)) (.inl rfl))
  let _ : Vec F S1x8x128 .i32 ← Prog.lift (.load arg16 (Rect.unit (s := S2x128x128) (k0_off8 k 16#32) S1x8x128.size (k0_off8_inb k 2)).toLoadRect (View.loadsAt_vmem h_S1x8x128))
  Prog.lift (.store arg16 (Rect.unit (s := S2x128x128) (k0_off8 k 16#32) S1x8x128.size (k0_off8_inb k 2)) (upI t2.e) Finset.univ (View.stores_vmem_bits_univ h_S1x8x128 rfl) (.inl rfl))
  let u2 ← tile arg14 arg15 5 inb_S8x64x128_S1x64x128_5_0_0 inb_S8x3x8x128_S1x3x8x128_5_0_0_0 (half1 (rotW hm wm))
  let _ : Vec F S128x128 .i8 ← Prog.lift (.load arg10 (Rect.unit (s := S256x2048) (k0_off9 k 256#32) S128x128.size (k0_off9_inb k 2)).toLoadRect (View.loadsAt_vmem h_S128x128))
  Prog.lift (.store arg10 (Rect.unit (s := S256x2048) (k0_off9 k 256#32) S128x128.size (k0_off9_inb k 2)) (codeBytes (toE2m1 u2.v)) Finset.univ (View.stores_vmem h_S128x128 (harg10.storeExact_slice rfl _ (k0_off9_packedi8 k 2)) (fun _ => rfl)) (.inl rfl))
  let _ : Vec F S1x8x128 .i32 ← Prog.lift (.load arg16 (Rect.unit (s := S2x128x128) (k0_off10 k 16#32) S1x8x128.size (k0_off10_inb k 2)).toLoadRect (View.loadsAt_vmem h_S1x8x128))
  Prog.lift (.store arg16 (Rect.unit (s := S2x128x128) (k0_off10 k 16#32) S1x8x128.size (k0_off10_inb k 2)) (upI u2.e) Finset.univ (View.stores_vmem_bits_univ h_S1x8x128 rfl) (.inl rfl))
  let hm : Vec F S256x256 .bf16 ← Prog.lift (.load arg2 (Rect.unit (s := S256x256) ![0, 0] S256x256.size inb_S256x256_S256x256_0_0).toLoadRect (View.loadsAt_vmem h_S256x256))
  let wm : Vec F S256x256 .bf16 ← Prog.lift (.load arg4 (Rect.unit (s := S256x4096) (k0_off6 k 768#32) S256x256.size (k0_off6_inb k 3)).toLoadRect (View.loadsAt_vmem h_S256x256))
  let t3 ← tile arg14 arg15 6 inb_S8x64x128_S1x64x128_6_0_0 inb_S8x3x8x128_S1x3x8x128_6_0_0_0 (half0 (rotW hm wm))
  let _ : Vec F S128x128 .i8 ← Prog.lift (.load arg10 (Rect.unit (s := S256x2048) (k0_off7 k 384#32) S128x128.size (k0_off7_inb k 3)).toLoadRect (View.loadsAt_vmem h_S128x128))
  Prog.lift (.store arg10 (Rect.unit (s := S256x2048) (k0_off7 k 384#32) S128x128.size (k0_off7_inb k 3)) (codeBytes (toE2m1 t3.v)) Finset.univ (View.stores_vmem h_S128x128 (harg10.storeExact_slice rfl _ (k0_off7_packedi8 k 3)) (fun _ => rfl)) (.inl rfl))
  let _ : Vec F S1x8x128 .i32 ← Prog.lift (.load arg16 (Rect.unit (s := S2x128x128) (k0_off8 k 24#32) S1x8x128.size (k0_off8_inb k 3)).toLoadRect (View.loadsAt_vmem h_S1x8x128))
  Prog.lift (.store arg16 (Rect.unit (s := S2x128x128) (k0_off8 k 24#32) S1x8x128.size (k0_off8_inb k 3)) (upI t3.e) Finset.univ (View.stores_vmem_bits_univ h_S1x8x128 rfl) (.inl rfl))
  let u3 ← tile arg14 arg15 7 inb_S8x64x128_S1x64x128_7_0_0 inb_S8x3x8x128_S1x3x8x128_7_0_0_0 (half1 (rotW hm wm))
  let _ : Vec F S128x128 .i8 ← Prog.lift (.load arg10 (Rect.unit (s := S256x2048) (k0_off9 k 384#32) S128x128.size (k0_off9_inb k 3)).toLoadRect (View.loadsAt_vmem h_S128x128))
  Prog.lift (.store arg10 (Rect.unit (s := S256x2048) (k0_off9 k 384#32) S128x128.size (k0_off9_inb k 3)) (codeBytes (toE2m1 u3.v)) Finset.univ (View.stores_vmem h_S128x128 (harg10.storeExact_slice rfl _ (k0_off9_packedi8 k 3)) (fun _ => rfl)) (.inl rfl))
  let _ : Vec F S1x8x128 .i32 ← Prog.lift (.load arg16 (Rect.unit (s := S2x128x128) (k0_off10 k 24#32) S1x8x128.size (k0_off10_inb k 3)).toLoadRect (View.loadsAt_vmem h_S1x8x128))
  Prog.lift (.store arg16 (Rect.unit (s := S2x128x128) (k0_off10 k 24#32) S1x8x128.size (k0_off10_inb k 3)) (upI u3.e) Finset.univ (View.stores_vmem_bits_univ h_S1x8x128 rfl) (.inl rfl))
  let _ : Vec F S128x128 .i8 ← Prog.lift (.load arg7 (Rect.unit (s := S256x512) (k0_off11 k) S128x128.size (k0_off11_inb k)).toLoadRect (View.loadsAt_vmem h_S128x128))
  Prog.lift (.store arg7 (Rect.unit (s := S256x512) (k0_off11 k) S128x128.size (k0_off11_inb k)) (maskBytes (maskWord t0.d) (maskWord t1.d) (maskWord t2.d) (maskWord t3.d)) Finset.univ (View.stores_vmem h_S128x128 (harg7.storeExact_slice rfl _ (k0_off11_packedi8 k)) (fun _ => rfl)) (.inl rfl))
  let _ : Vec F S128x128 .i8 ← Prog.lift (.load arg7 (Rect.unit (s := S256x512) (k0_off12 k) S128x128.size (k0_off12_inb k)).toLoadRect (View.loadsAt_vmem h_S128x128))
  Prog.lift (.store arg7 (Rect.unit (s := S256x512) (k0_off12 k) S128x128.size (k0_off12_inb k)) (maskBytes (maskWord u0.d) (maskWord u1.d) (maskWord u2.d) (maskWord u3.d)) Finset.univ (View.stores_vmem h_S128x128 (harg7.storeExact_slice rfl _ (k0_off12_packedi8 k)) (fun _ => rfl)) (.inl rfl))
  let acc : Vec F S128x256 .f32 ← Prog.lift (.load arg13 (Rect.unit (s := S128x256) ![0, 0] S128x256.size inb_S128x256_S128x256_0_0).toLoadRect (View.loadsAt_vmem h_S128x256))
  let xq : Vec F S128x1024 .bf16 ← Prog.lift (.load arg12 (Rect.unit (s := S128x16384) (k0_off13 i k) S128x1024.size (k0_off13_inb i k)).toLoadRect (View.loadsAt_vmem h_S128x1024))
  let _ : Vec F S128x256 .f32 ← Prog.lift (.load arg13 (Rect.unit (s := S128x256) ![0, 0] S128x256.size inb_S128x256_S128x256_0_0).toLoadRect (View.loadsAt_vmem h_S128x256))
  Prog.lift (.store arg13 (Rect.unit (s := S128x256) ![0, 0] S128x256.size inb_S128x256_S128x256_0_0) (accStep (deqW t0 u0) (deqW t1 u1) (deqW t2 u2) (deqW t3 u3) acc xq) Finset.univ (View.stores_vmem_bits_univ h_S128x256 rfl) (.inl rfl))
  pure ()

/-- The printed trip over the left operand is `tripX`. -/
theorem k0_t1_body_eq (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1) (arg1 : BitVec 32) (k : Fin k0_t1_loop.trips) (acc : Unit) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 hi k acc = tripX i arg2 harg2 arg3 harg3 arg6 harg6 arg8 harg8 arg12 harg12 arg14 harg14 arg15 harg15 arg16 harg16 hi k := by chain_rfl

/-- The printed trip over the right operand is `tripW`. -/
theorem k0_t2_body_eq (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (k : Fin k0_t2_loop.trips) (acc : Unit) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k acc = tripW i arg2 harg2 arg4 harg4 arg7 harg7 arg10 harg10 arg12 harg12 arg13 harg13 arg14 harg14 arg15 harg15 arg16 harg16 k := by chain_rfl

end Cert.KernelIdeal.Tile
-- ==== Proof.KI.Spec.lean ====
module

public import proofs.«01_k».proof.Proof.KI.TileRun
public import proofs.«01_k».proof.Proof.KI.Trips

/-! # What the two loops leave

The arrays the body writes, as functions of the operand blocks it reads: `h` the rotation, `x` and
`w` the blocks of the left and the right operand. The columns of a block fall into tiles of 256. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section Spec

variable (h : FVec F S256x256 .bf16) (x : FVec F S128x4096 .bf16) (w : FVec F S256x4096 .bf16)

/-- The 256 columns of tile `t` of the left operand. -/
def xcols (t : ℕ) : FVec F S128x256 .bf16 := fun y =>
  x (ix2 (y 0) ⟨(256 * t + (y 1).val) % 4096, Nat.mod_lt _ (by decide)⟩)

/-- The 256 columns of tile `t` of the right operand. -/
def wcols (t : ℕ) : FVec F S256x256 .bf16 := fun y =>
  w (ix2 (y 0) ⟨(256 * t + (y 1).val) % 4096, Nat.mod_lt _ (by decide)⟩)

/-- Tile `t` of the left operand. -/
def tX (t : ℕ) : Out F := tileOut (rotX h (xcols x t))

/-- Tile `t` of the right operand: the first 128 rows (`hf = 0`) or the last. -/
def tW (t hf : ℕ) : Out F :=
  tileOut (if hf = 0 then half0 (rotW h (wcols w t)) else half1 (rotW h (wcols w t)))

/-- A number modulo 128, as a coordinate. -/
def m128 (n : ℕ) : Fin 128 := ⟨n % 128, Nat.mod_lt _ (by decide)⟩

/-- The codes of the left operand. -/
def codesX : IVec S128x2048 8 := fun y =>
  codeBytes (toE2m1 (tX h x ((y 1).val / 128)).v) (ix2 (y 0) (m128 (y 1).val))

/-- The codes of the right operand. -/
def codesW : IVec S256x2048 8 := fun y =>
  codeBytes (toE2m1 (tW h w ((y 1).val / 128) ((y 0).val / 128)).v)
    (ix2 (m128 (y 0).val) (m128 (y 1).val))

/-- The mask of the left operand. -/
def maskX : IVec S128x512 8 := fun y =>
  maskBytes (maskWord (tX h x (4 * ((y 1).val / 128))).d)
    (maskWord (tX h x (4 * ((y 1).val / 128) + 1)).d)
    (maskWord (tX h x (4 * ((y 1).val / 128) + 2)).d)
    (maskWord (tX h x (4 * ((y 1).val / 128) + 3)).d) (ix2 (y 0) (m128 (y 1).val))

/-- The mask of the right operand. -/
def maskW : IVec S256x512 8 := fun y =>
  maskBytes (maskWord (tW h w (4 * ((y 1).val / 128)) ((y 0).val / 128)).d)
    (maskWord (tW h w (4 * ((y 1).val / 128) + 1) ((y 0).val / 128)).d)
    (maskWord (tW h w (4 * ((y 1).val / 128) + 2) ((y 0).val / 128)).d)
    (maskWord (tW h w (4 * ((y 1).val / 128) + 3) ((y 0).val / 128)).d)
    (ix2 (m128 (y 0).val) (m128 (y 1).val))

/-- A number modulo 8, as a coordinate. -/
def m8 (n : ℕ) : Fin 8 := ⟨n % 8, Nat.mod_lt _ (by decide)⟩

/-- The scratch of scale codes after the loop over the left operand: plane 0 only. -/
def scaleX : IVec S2x128x128 32 := fun y =>
  (tX h x ((y 1).val / 8)).e (ix2 (m8 (y 1).val) (y 2))

/-- The scratch of scale codes after the loop over the right operand. -/
def scaleW : IVec S2x128x128 32 := fun y =>
  (tW h w ((y 1).val / 8) (y 0).val).e (ix2 (m8 (y 1).val) (y 2))

/-- A number modulo 256, as a coordinate. -/
def m256 (n : ℕ) : Fin 256 := ⟨n % 256, Nat.mod_lt _ (by decide)⟩

/-- The dequantised left operand block. -/
def deqXs : FVec F S128x4096 .bf16 := fun y =>
  deqX (tX h x ((y 1).val / 256)) (ix2 (y 0) (m256 (y 1).val))

/-- 1024 columns of the dequantised left operand, from column `o`. -/
def xqcols (q : FVec F S128x16384 .bf16) (o : ℕ) : FVec F S128x1024 .bf16 := fun y =>
  q (ix2 (y 0) ⟨(o + (y 1).val) % 16384, Nat.mod_lt _ (by decide)⟩)

/-- The accumulator after `n` groups of columns of a block, the left operand's columns from `o`. -/
def accAt (q : FVec F S128x16384 .bf16) (o : ℕ) (a : FVec F S128x256 .f32) : ℕ → FVec F S128x256 .f32
  | 0 => a
  | n + 1 => accStep (deqW (tW h w (4 * n) 0) (tW h w (4 * n) 1))
      (deqW (tW h w (4 * n + 1) 0) (tW h w (4 * n + 1) 1))
      (deqW (tW h w (4 * n + 2) 0) (tW h w (4 * n + 2) 1))
      (deqW (tW h w (4 * n + 3) 0) (tW h w (4 * n + 3) 1)) (accAt q o a n) (xqcols q (o + 1024 * n))

end Spec

section Reads

variable {κ : Kind} {sp : Space} {S : Shape} {e : EltTy} (v : View sig κ sp S e)

/-- A list of writes that agree with `G`, over contents that agree with `G` where `P` holds, agrees
with `G` where `P` holds or a piece lies. -/
theorem read_agree (f : v.ty.Contents (Elt F)) (L : List (View.Piece (Elt F) S e)) (G : S.Idx → Elt F e)
    (P : S.Idx → Prop) (hG : ∀ p ∈ L, ∀ x : p.1.shape.Idx, p.2 x = G (p.1.emb x))
    (hf : ∀ y, P y → v.read (Elt F) f y = G y) (y : S.Idx) (hy : P y ∨ ∃ p ∈ L, y ∈ p.1.set) :
    v.read (Elt F) (v.writes (Elt F) f L) y = G y := by
  by_cases hc : ∃ p ∈ L, y ∈ p.1.set
  · exact View.read_writes_apply_of_pieces v f G L hG y hc
  · rw [View.read_writes_apply_of_forall_not_mem]
    · exact hf y (hy.resolve_right hc)
    · intro p hp hm
      exact hc ⟨p, hp, hm⟩

theorem mem_unit_set {off size : Fin S.rank → ℕ} (inb : ∀ a, off a + size a ≤ S.size a) (y : S.Idx)
    (h : ∀ a, off a ≤ (y a).val ∧ (y a).val < off a + size a) :
    y ∈ (Rect.unit (s := S) off size inb).set := by
  rw [LoadRect.mem_set]
  intro a
  refine ⟨(y a).val - off a, ?_, ?_⟩
  · show (y a).val - off a < size a
    have := h a; omega
  · show (y a).val = off a + 1 * ((y a).val - off a)
    have := h a; omega

end Reads

end Cert.KernelIdeal.Tile
-- ==== Proof.KI.Steps.lean ====
module

public import proofs.«01_k».proof.Proof.KI.Spec

/-! # Running a trip

What one trip of each loop does to the arrays it writes, in the terms of the specification. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- A tile at the head of a program: the program goes on from the tile's value. -/
theorem tile_bind (c : Dev nD) (arg14 : Memref sig .tc .vmem S8x64x128 .f32) (harg14 : arg14.IsWhole)
    (arg15 : Memref sig .tc .vmem S8x3x8x128 .f32) (harg15 : arg15.IsWhole) (s : ℕ)
    (h14 : ∀ a, (![s, 0, 0] : Fin 3 → ℕ) a + S1x64x128.size a ≤ S8x64x128.size a)
    (h15 : ∀ a, (![s, 0, 0, 0] : Fin 4 → ℕ) a + S1x3x8x128.size a ≤ S8x3x8x128.size a)
    (r4 : FVec F S256x128 .f32) (f14 : Bf (F := F) c arg14) (f15 : Bf (F := F) c arg15)
    (K : Out F → Prog (TpuEff nD τ sig (Elt F) Λ₀ .tc) Unit) (Q : Unit → sProp 𝕄) :
    iprop(pt c arg14 f14 ∗ pt c arg15 f15 ∗ (iprop((∃ f, pt c arg14 f) ∗ (∃ f, pt c arg15 f)) -∗
      wp frame (wpE (defs₀ (F := F)) Variants.none c none) Set.univ (K (tileOut r4)) Q))
    ⊢ wp frame (wpE (defs₀ (F := F)) Variants.none c none) Set.univ
        (tile arg14 arg15 s h14 h15 r4 >>= K) Q := by
  rw [wp_bind]
  exact tile_run c arg14 harg14 arg15 harg15 s h14 h15 r4 f14 f15
    (fun a => wp frame (wpE (defs₀ (F := F)) Variants.none c none) Set.univ (K a) Q)

section Loads

variable {κ : Kind} {sp : Space}

theorem load_full {S : Shape} {e : EltTy} (v : View sig κ sp S e) (f : v.ty.Contents (Elt F))
    (off : Fin S.rank → ℕ) (hoff : ∀ a, off a = 0) (inb : ∀ a, off a + S.size a ≤ S.size a) :
    v.readAt (Elt F) (Rect.unit (s := S) off S.size inb).toLoadRect f = v.read (Elt F) f := by
  funext y
  rw [View.readAt_apply]
  refine congrArg (v.read (Elt F) f) (funext fun a => Fin.ext ?_)
  show off a + 1 * (y a).val = (y a).val
  rw [hoff a]; omega

theorem load_x (v : View sig κ sp S128x4096 .bf16) (f : v.ty.Contents (Elt F)) (t : ℕ) (ht : t < 16)
    (off : Fin 2 → ℕ) (hoff : off = ![0, 256 * t]) (inb : ∀ a, off a + S128x256.size a ≤ S128x4096.size a) :
    v.readAt (Elt F) (Rect.unit (s := S128x4096) off S128x256.size inb).toLoadRect f
      = xcols (v.read (Elt F) f) t := by
  subst hoff
  funext y
  rw [View.readAt_apply]
  refine congrArg (v.read (Elt F) f) (funext fun a => Fin.ext ?_)
  have h1 : (y 1).val < 256 := (y 1).isLt
  match a with
  | ⟨0, _⟩ => show 0 + 1 * (y 0).val = (y 0).val; omega
  | ⟨1, _⟩ => show 256 * t + 1 * (y 1).val = (256 * t + (y 1).val) % 4096; omega

theorem load_w (v : View sig κ sp S256x4096 .bf16) (f : v.ty.Contents (Elt F)) (t : ℕ) (ht : t < 16)
    (off : Fin 2 → ℕ) (hoff : off = ![0, 256 * t]) (inb : ∀ a, off a + S256x256.size a ≤ S256x4096.size a) :
    v.readAt (Elt F) (Rect.unit (s := S256x4096) off S256x256.size inb).toLoadRect f
      = wcols (v.read (Elt F) f) t := by
  subst hoff
  funext y
  rw [View.readAt_apply]
  refine congrArg (v.read (Elt F) f) (funext fun a => Fin.ext ?_)
  have h1 : (y 1).val < 256 := (y 1).isLt
  match a with
  | ⟨0, _⟩ => show 0 + 1 * (y 0).val = (y 0).val; omega
  | ⟨1, _⟩ => show 256 * t + 1 * (y 1).val = (256 * t + (y 1).val) % 4096; omega

theorem load_xq (v : View sig κ sp S128x16384 .bf16) (f : v.ty.Contents (Elt F)) (o : ℕ)
    (ho : o + 1024 ≤ 16384) (off : Fin 2 → ℕ) (hoff : off = ![0, o])
    (inb : ∀ a, off a + S128x1024.size a ≤ S128x16384.size a) :
    v.readAt (Elt F) (Rect.unit (s := S128x16384) off S128x1024.size inb).toLoadRect f
      = xqcols (v.read (Elt F) f) o := by
  subst hoff
  funext y
  rw [View.readAt_apply]
  refine congrArg (v.read (Elt F) f) (funext fun a => Fin.ext ?_)
  have h1 : (y 1).val < 1024 := (y 1).isLt
  match a with
  | ⟨0, _⟩ => show 0 + 1 * (y 0).val = (y 0).val; omega
  | ⟨1, _⟩ => show o + 1 * (y 1).val = (o + (y 1).val) % 16384; omega

end Loads

section At

variable (h : FVec F S256x256 .bf16) (x : FVec F S128x4096 .bf16) (w : FVec F S256x4096 .bf16)

theorem codesW_at (y : S256x2048.Idx) (t hf : ℕ) (z : S128x128.Idx)
    (h0 : (y 0).val = 128 * hf + (z 0).val) (h1 : (y 1).val = 128 * t + (z 1).val) :
    codesW h w y = codeBytes (toE2m1 (tW h w t hf).v) z := by
  have hz0 : (z 0).val < 128 := (z 0).isLt
  have hz1 : (z 1).val < 128 := (z 1).isLt
  unfold codesW
  rw [show (y 1).val / 128 = t by omega, show (y 0).val / 128 = hf by omega]
  refine congrArg _ (funext fun a => Fin.ext ?_)
  match a with
  | ⟨0, _⟩ => show (y 0).val % 128 = (z 0).val; omega
  | ⟨1, _⟩ => show (y 1).val % 128 = (z 1).val; omega

theorem maskW_at (y : S256x512.Idx) (t hf : ℕ) (z : S128x128.Idx)
    (h0 : (y 0).val = 128 * hf + (z 0).val) (h1 : (y 1).val = 128 * t + (z 1).val) :
    maskW h w y = maskBytes (maskWord (tW h w (4 * t) hf).d) (maskWord (tW h w (4 * t + 1) hf).d)
      (maskWord (tW h w (4 * t + 2) hf).d) (maskWord (tW h w (4 * t + 3) hf).d) z := by
  have hz0 : (z 0).val < 128 := (z 0).isLt
  have hz1 : (z 1).val < 128 := (z 1).isLt
  unfold maskW
  rw [show (y 1).val / 128 = t by omega, show (y 0).val / 128 = hf by omega]
  refine congrArg _ (funext fun a => Fin.ext ?_)
  match a with
  | ⟨0, _⟩ => show (y 0).val % 128 = (z 0).val; omega
  | ⟨1, _⟩ => show (y 1).val % 128 = (z 1).val; omega

theorem upI_apply (e : IVec S8x128 32) (z : S1x8x128.Idx) : upI e z = e (ix2 (z 1) (z 2)) := by
  have hz : z = (ix3 0 (z 1) (z 2) : S1x8x128.Idx) := by
    funext a
    match a with
    | ⟨0, _⟩ => exact Fin.ext (by have : (z 0).val < 1 := (z 0).isLt; show (z 0).val = 0; omega)
    | ⟨1, _⟩ => rfl
    | ⟨2, _⟩ => rfl
  rw [hz]
  exact (shapeCast_addUnit_apply ![8, 128] e shapeCasts_S8x128_S1x8x128 (ix3 0 (z 1) (z 2))).trans
    (congrArg e (by funext a; match a with | ⟨0, _⟩ => rfl | ⟨1, _⟩ => rfl))

theorem scaleW_at (y : S2x128x128.Idx) (t hf : ℕ) (z : S1x8x128.Idx)
    (h0 : (y 0).val = hf + (z 0).val) (h1 : (y 1).val = 8 * t + (z 1).val) (h2 : (y 2).val = (z 2).val) :
    scaleW h w y = upI (tW h w t hf).e z := by
  have hz0 : (z 0).val < 1 := (z 0).isLt
  have hz1 : (z 1).val < 8 := (z 1).isLt
  rw [upI_apply]
  unfold scaleW
  rw [show (y 1).val / 8 = t by omega, show (y 0).val = hf by omega]
  refine congrArg _ (funext fun a => Fin.ext ?_)
  match a with
  | ⟨0, _⟩ => show (y 1).val % 8 = (z 1).val; omega
  | ⟨1, _⟩ => exact h2

theorem codesX_at (y : S128x2048.Idx) (t : ℕ) (z : S128x128.Idx)
    (h0 : (y 0).val = (z 0).val) (h1 : (y 1).val = 128 * t + (z 1).val) :
    codesX h x y = codeBytes (toE2m1 (tX h x t).v) z := by
  have hz1 : (z 1).val < 128 := (z 1).isLt
  unfold codesX
  rw [show (y 1).val / 128 = t by omega]
  refine congrArg _ (funext fun a => Fin.ext ?_)
  match a with
  | ⟨0, _⟩ => exact h0
  | ⟨1, _⟩ => show (y 1).val % 128 = (z 1).val; omega

theorem maskX_at (y : S128x512.Idx) (t : ℕ) (z : S128x128.Idx)
    (h0 : (y 0).val = (z 0).val) (h1 : (y 1).val = 128 * t + (z 1).val) :
    maskX h x y = maskBytes (maskWord (tX h x (4 * t)).d) (maskWord (tX h x (4 * t + 1)).d)
      (maskWord (tX h x (4 * t + 2)).d) (maskWord (tX h x (4 * t + 3)).d) z := by
  have hz1 : (z 1).val < 128 := (z 1).isLt
  unfold maskX
  rw [show (y 1).val / 128 = t by omega]
  refine congrArg _ (funext fun a => Fin.ext ?_)
  match a with
  | ⟨0, _⟩ => exact h0
  | ⟨1, _⟩ => show (y 1).val % 128 = (z 1).val; omega

theorem scaleX_at (y : S2x128x128.Idx) (t : ℕ) (z : S1x8x128.Idx)
    (h1 : (y 1).val = 8 * t + (z 1).val) (h2 : (y 2).val = (z 2).val) :
    scaleX h x y = upI (tX h x t).e z := by
  have hz1 : (z 1).val < 8 := (z 1).isLt
  rw [upI_apply]
  unfold scaleX
  rw [show (y 1).val / 8 = t by omega]
  refine congrArg _ (funext fun a => Fin.ext ?_)
  match a with
  | ⟨0, _⟩ => show (y 1).val % 8 = (z 1).val; omega
  | ⟨1, _⟩ => exact h2

theorem deqXs_at (y : S128x4096.Idx) (t : ℕ) (z : S128x256.Idx)
    (h0 : (y 0).val = (z 0).val) (h1 : (y 1).val = 256 * t + (z 1).val) :
    deqXs h x y = deqX (tX h x t) z := by
  have hz1 : (z 1).val < 256 := (z 1).isLt
  unfold deqXs
  rw [show (y 1).val / 256 = t by omega]
  refine congrArg _ (funext fun a => Fin.ext ?_)
  match a with
  | ⟨0, _⟩ => exact h0
  | ⟨1, _⟩ => show (y 1).val % 256 = (z 1).val; omega

end At

section Steps

variable {κ : Kind} {sp : Space} (h : FVec F S256x256 .bf16) (x : FVec F S128x4096 .bf16)
  (w : FVec F S256x4096 .bf16)

/-- The codes a trip over the right operand stores. -/
def piecesCW (k : Fin k0_t2_loop.trips) : List (View.Piece (Elt F) S256x2048 .i8) := [
  ⟨Rect.unit (s := S256x2048) (k0_off9 k 384#32) S128x128.size (k0_off9_inb k 3), codeBytes (toE2m1 (tW h w (4 * k.val + 3) 1).v)⟩,
  ⟨Rect.unit (s := S256x2048) (k0_off7 k 384#32) S128x128.size (k0_off7_inb k 3), codeBytes (toE2m1 (tW h w (4 * k.val + 3) 0).v)⟩,
  ⟨Rect.unit (s := S256x2048) (k0_off9 k 256#32) S128x128.size (k0_off9_inb k 2), codeBytes (toE2m1 (tW h w (4 * k.val + 2) 1).v)⟩,
  ⟨Rect.unit (s := S256x2048) (k0_off7 k 256#32) S128x128.size (k0_off7_inb k 2), codeBytes (toE2m1 (tW h w (4 * k.val + 2) 0).v)⟩,
  ⟨Rect.unit (s := S256x2048) (k0_off9 k 128#32) S128x128.size (k0_off9_inb k 1), codeBytes (toE2m1 (tW h w (4 * k.val + 1) 1).v)⟩,
  ⟨Rect.unit (s := S256x2048) (k0_off7 k 128#32) S128x128.size (k0_off7_inb k 1), codeBytes (toE2m1 (tW h w (4 * k.val + 1) 0).v)⟩,
  ⟨Rect.unit (s := S256x2048) (k0_off9 k 0#32) S128x128.size (k0_off9_inb k 0), codeBytes (toE2m1 (tW h w (4 * k.val) 1).v)⟩,
  ⟨Rect.unit (s := S256x2048) (k0_off7 k 0#32) S128x128.size (k0_off7_inb k 0), codeBytes (toE2m1 (tW h w (4 * k.val) 0).v)⟩]

theorem stepCW (k : Fin k0_t2_loop.trips) (v : View sig κ sp S256x2048 .i8) (f : v.ty.Contents (Elt F))
    (hf : ∀ y : (S256x2048).Idx, (y 1).val < 512 * k.val → v.read (Elt F) f y = codesW h w y) (y : (S256x2048).Idx) (hy : (y 1).val < 512 * (k.val + 1)) :
    v.read (Elt F) (v.writes (Elt F) f (piecesCW h w k)) y = codesW h w y := by
  have hk : k.val < 4 := lt_of_lt_of_eq k.isLt (by decide)
  refine read_agree v f _ (codesW h w) (fun y => (y 1).val < 512 * k.val) ?_ hf y ?_
  · unfold piecesCW
    simp only [List.forall_mem_cons, List.not_mem_nil, false_imp_iff, implies_true, and_true]
    refine ⟨?_, ?_, ?_, ?_, ?_, ?_, ?_, ?_⟩
    · intro z
      have e0 := congrFun (k0_off9_eq k 3) 0
      have e1 := congrFun (k0_off9_eq k 3) 1
      exact (codesW_at h w _ (4 * k.val + 3) 1 z (by show k0_off9 k 384#32 0 + 1 * (z 0).val = _; refine (congrArg (· + 1 * (z 0).val) e0).trans ?_; show 128 + 1 * (z 0).val = _; omega)
        (by show k0_off9 k 384#32 1 + 1 * (z 1).val = _; refine (congrArg (· + 1 * (z 1).val) e1).trans ?_; show 512 * k.val + 128 * 3 + 1 * (z 1).val = _; omega)).symm
    · intro z
      have e0 := congrFun (k0_off7_eq k 3) 0
      have e1 := congrFun (k0_off7_eq k 3) 1
      exact (codesW_at h w _ (4 * k.val + 3) 0 z (by show k0_off7 k 384#32 0 + 1 * (z 0).val = _; refine (congrArg (· + 1 * (z 0).val) e0).trans ?_; show 0 + 1 * (z 0).val = _; omega)
        (by show k0_off7 k 384#32 1 + 1 * (z 1).val = _; refine (congrArg (· + 1 * (z 1).val) e1).trans ?_; show 512 * k.val + 128 * 3 + 1 * (z 1).val = _; omega)).symm
    · intro z
      have e0 := congrFun (k0_off9_eq k 2) 0
      have e1 := congrFun (k0_off9_eq k 2) 1
      exact (codesW_at h w _ (4 * k.val + 2) 1 z (by show k0_off9 k 256#32 0 + 1 * (z 0).val = _; refine (congrArg (· + 1 * (z 0).val) e0).trans ?_; show 128 + 1 * (z 0).val = _; omega)
        (by show k0_off9 k 256#32 1 + 1 * (z 1).val = _; refine (congrArg (· + 1 * (z 1).val) e1).trans ?_; show 512 * k.val + 128 * 2 + 1 * (z 1).val = _; omega)).symm
    · intro z
      have e0 := congrFun (k0_off7_eq k 2) 0
      have e1 := congrFun (k0_off7_eq k 2) 1
      exact (codesW_at h w _ (4 * k.val + 2) 0 z (by show k0_off7 k 256#32 0 + 1 * (z 0).val = _; refine (congrArg (· + 1 * (z 0).val) e0).trans ?_; show 0 + 1 * (z 0).val = _; omega)
        (by show k0_off7 k 256#32 1 + 1 * (z 1).val = _; refine (congrArg (· + 1 * (z 1).val) e1).trans ?_; show 512 * k.val + 128 * 2 + 1 * (z 1).val = _; omega)).symm
    · intro z
      have e0 := congrFun (k0_off9_eq k 1) 0
      have e1 := congrFun (k0_off9_eq k 1) 1
      exact (codesW_at h w _ (4 * k.val + 1) 1 z (by show k0_off9 k 128#32 0 + 1 * (z 0).val = _; refine (congrArg (· + 1 * (z 0).val) e0).trans ?_; show 128 + 1 * (z 0).val = _; omega)
        (by show k0_off9 k 128#32 1 + 1 * (z 1).val = _; refine (congrArg (· + 1 * (z 1).val) e1).trans ?_; show 512 * k.val + 128 * 1 + 1 * (z 1).val = _; omega)).symm
    · intro z
      have e0 := congrFun (k0_off7_eq k 1) 0
      have e1 := congrFun (k0_off7_eq k 1) 1
      exact (codesW_at h w _ (4 * k.val + 1) 0 z (by show k0_off7 k 128#32 0 + 1 * (z 0).val = _; refine (congrArg (· + 1 * (z 0).val) e0).trans ?_; show 0 + 1 * (z 0).val = _; omega)
        (by show k0_off7 k 128#32 1 + 1 * (z 1).val = _; refine (congrArg (· + 1 * (z 1).val) e1).trans ?_; show 512 * k.val + 128 * 1 + 1 * (z 1).val = _; omega)).symm
    · intro z
      have e0 := congrFun (k0_off9_eq k 0) 0
      have e1 := congrFun (k0_off9_eq k 0) 1
      exact (codesW_at h w _ (4 * k.val) 1 z (by show k0_off9 k 0#32 0 + 1 * (z 0).val = _; refine (congrArg (· + 1 * (z 0).val) e0).trans ?_; show 128 + 1 * (z 0).val = _; omega)
        (by show k0_off9 k 0#32 1 + 1 * (z 1).val = _; refine (congrArg (· + 1 * (z 1).val) e1).trans ?_; show 512 * k.val + 128 * 0 + 1 * (z 1).val = _; omega)).symm
    · intro z
      have e0 := congrFun (k0_off7_eq k 0) 0
      have e1 := congrFun (k0_off7_eq k 0) 1
      exact (codesW_at h w _ (4 * k.val) 0 z (by show k0_off7 k 0#32 0 + 1 * (z 0).val = _; refine (congrArg (· + 1 * (z 0).val) e0).trans ?_; show 0 + 1 * (z 0).val = _; omega)
        (by show k0_off7 k 0#32 1 + 1 * (z 1).val = _; refine (congrArg (· + 1 * (z 1).val) e1).trans ?_; show 512 * k.val + 128 * 0 + 1 * (z 1).val = _; omega)).symm
  · have y0 := (y 0).isLt
    have y1 := (y 1).isLt
    by_cases hp : (y 1).val < 512 * k.val
    · exact Or.inl hp
    refine Or.inr ?_
    unfold piecesCW
    have hr : (y 1).val / 128 = 4 * k.val ∨ (y 1).val / 128 = 4 * k.val + 1 ∨ (y 1).val / 128 = 4 * k.val + 2 ∨ (y 1).val / 128 = 4 * k.val + 3 := by omega
    have hh : (y 0).val / 128 = 0 ∨ (y 0).val / 128 = 1 := by change (y 0).val < 256 at y0; omega
    rcases hr with hr | hr | hr | hr
    · rcases hh with hh | hh
      · refine ⟨_, List.mem_of_getElem? (i := 7) rfl, mem_unit_set (k0_off7_inb k 0) y fun a => ?_⟩
        rw [show k0_off7 k 0#32 = _ from k0_off7_eq k 0]
        match a with
        | ⟨0, _⟩ => show 0 ≤ (y 0).val ∧ (y 0).val < 0 + 128; change (y 0).val < 256 at y0; omega
        | ⟨1, _⟩ => show 512 * k.val + 128 * 0 ≤ (y 1).val ∧ (y 1).val < 512 * k.val + 128 * 0 + 128; omega
      · refine ⟨_, List.mem_of_getElem? (i := 6) rfl, mem_unit_set (k0_off9_inb k 0) y fun a => ?_⟩
        rw [show k0_off9 k 0#32 = _ from k0_off9_eq k 0]
        match a with
        | ⟨0, _⟩ => show 128 ≤ (y 0).val ∧ (y 0).val < 128 + 128; change (y 0).val < 256 at y0; omega
        | ⟨1, _⟩ => show 512 * k.val + 128 * 0 ≤ (y 1).val ∧ (y 1).val < 512 * k.val + 128 * 0 + 128; omega
    · rcases hh with hh | hh
      · refine ⟨_, List.mem_of_getElem? (i := 5) rfl, mem_unit_set (k0_off7_inb k 1) y fun a => ?_⟩
        rw [show k0_off7 k 128#32 = _ from k0_off7_eq k 1]
        match a with
        | ⟨0, _⟩ => show 0 ≤ (y 0).val ∧ (y 0).val < 0 + 128; change (y 0).val < 256 at y0; omega
        | ⟨1, _⟩ => show 512 * k.val + 128 * 1 ≤ (y 1).val ∧ (y 1).val < 512 * k.val + 128 * 1 + 128; omega
      · refine ⟨_, List.mem_of_getElem? (i := 4) rfl, mem_unit_set (k0_off9_inb k 1) y fun a => ?_⟩
        rw [show k0_off9 k 128#32 = _ from k0_off9_eq k 1]
        match a with
        | ⟨0, _⟩ => show 128 ≤ (y 0).val ∧ (y 0).val < 128 + 128; change (y 0).val < 256 at y0; omega
        | ⟨1, _⟩ => show 512 * k.val + 128 * 1 ≤ (y 1).val ∧ (y 1).val < 512 * k.val + 128 * 1 + 128; omega
    · rcases hh with hh | hh
      · refine ⟨_, List.mem_of_getElem? (i := 3) rfl, mem_unit_set (k0_off7_inb k 2) y fun a => ?_⟩
        rw [show k0_off7 k 256#32 = _ from k0_off7_eq k 2]
        match a with
        | ⟨0, _⟩ => show 0 ≤ (y 0).val ∧ (y 0).val < 0 + 128; change (y 0).val < 256 at y0; omega
        | ⟨1, _⟩ => show 512 * k.val + 128 * 2 ≤ (y 1).val ∧ (y 1).val < 512 * k.val + 128 * 2 + 128; omega
      · refine ⟨_, List.mem_of_getElem? (i := 2) rfl, mem_unit_set (k0_off9_inb k 2) y fun a => ?_⟩
        rw [show k0_off9 k 256#32 = _ from k0_off9_eq k 2]
        match a with
        | ⟨0, _⟩ => show 128 ≤ (y 0).val ∧ (y 0).val < 128 + 128; change (y 0).val < 256 at y0; omega
        | ⟨1, _⟩ => show 512 * k.val + 128 * 2 ≤ (y 1).val ∧ (y 1).val < 512 * k.val + 128 * 2 + 128; omega
    · rcases hh with hh | hh
      · refine ⟨_, List.mem_of_getElem? (i := 1) rfl, mem_unit_set (k0_off7_inb k 3) y fun a => ?_⟩
        rw [show k0_off7 k 384#32 = _ from k0_off7_eq k 3]
        match a with
        | ⟨0, _⟩ => show 0 ≤ (y 0).val ∧ (y 0).val < 0 + 128; change (y 0).val < 256 at y0; omega
        | ⟨1, _⟩ => show 512 * k.val + 128 * 3 ≤ (y 1).val ∧ (y 1).val < 512 * k.val + 128 * 3 + 128; omega
      · refine ⟨_, List.mem_of_getElem? (i := 0) rfl, mem_unit_set (k0_off9_inb k 3) y fun a => ?_⟩
        rw [show k0_off9 k 384#32 = _ from k0_off9_eq k 3]
        match a with
        | ⟨0, _⟩ => show 128 ≤ (y 0).val ∧ (y 0).val < 128 + 128; change (y 0).val < 256 at y0; omega
        | ⟨1, _⟩ => show 512 * k.val + 128 * 3 ≤ (y 1).val ∧ (y 1).val < 512 * k.val + 128 * 3 + 128; omega

/-- The masks a trip over the right operand stores. -/
def piecesMW (k : Fin k0_t2_loop.trips) : List (View.Piece (Elt F) S256x512 .i8) := [
  ⟨Rect.unit (s := S256x512) (k0_off12 k) S128x128.size (k0_off12_inb k), maskBytes (maskWord (tW h w (4 * k.val) 1).d) (maskWord (tW h w (4 * k.val + 1) 1).d) (maskWord (tW h w (4 * k.val + 2) 1).d) (maskWord (tW h w (4 * k.val + 3) 1).d)⟩,
  ⟨Rect.unit (s := S256x512) (k0_off11 k) S128x128.size (k0_off11_inb k), maskBytes (maskWord (tW h w (4 * k.val) 0).d) (maskWord (tW h w (4 * k.val + 1) 0).d) (maskWord (tW h w (4 * k.val + 2) 0).d) (maskWord (tW h w (4 * k.val + 3) 0).d)⟩]

theorem stepMW (k : Fin k0_t2_loop.trips) (v : View sig κ sp S256x512 .i8) (f : v.ty.Contents (Elt F))
    (hf : ∀ y : (S256x512).Idx, (y 1).val < 128 * k.val → v.read (Elt F) f y = maskW h w y) (y : (S256x512).Idx) (hy : (y 1).val < 128 * (k.val + 1)) :
    v.read (Elt F) (v.writes (Elt F) f (piecesMW h w k)) y = maskW h w y := by
  have hk : k.val < 4 := lt_of_lt_of_eq k.isLt (by decide)
  refine read_agree v f _ (maskW h w) (fun y => (y 1).val < 128 * k.val) ?_ hf y ?_
  · unfold piecesMW
    simp only [List.forall_mem_cons, List.not_mem_nil, false_imp_iff, implies_true, and_true]
    refine ⟨?_, ?_⟩
    · intro z
      have e0 := congrFun (k0_off12_eq k) 0
      have e1 := congrFun (k0_off12_eq k) 1
      exact (maskW_at h w _ k.val 1 z (by show k0_off12 k 0 + 1 * (z 0).val = _; rw [e0]; show 128 + 1 * (z 0).val = _; omega)
        (by show k0_off12 k 1 + 1 * (z 1).val = _; rw [e1]; show 128 * k.val + 1 * (z 1).val = _; omega)).symm
    · intro z
      have e0 := congrFun (k0_off11_eq k) 0
      have e1 := congrFun (k0_off11_eq k) 1
      exact (maskW_at h w _ k.val 0 z (by show k0_off11 k 0 + 1 * (z 0).val = _; rw [e0]; show 0 + 1 * (z 0).val = _; omega)
        (by show k0_off11 k 1 + 1 * (z 1).val = _; rw [e1]; show 128 * k.val + 1 * (z 1).val = _; omega)).symm
  · have y0 := (y 0).isLt
    have y1 := (y 1).isLt
    by_cases hp : (y 1).val < 128 * k.val
    · exact Or.inl hp
    refine Or.inr ?_
    unfold piecesMW
    by_cases hh : (y 0).val < 128
    · refine ⟨_, List.mem_of_getElem? (i := 1) rfl, mem_unit_set (k0_off11_inb k) y fun a => ?_⟩
      rw [k0_off11_eq k]
      match a with
      | ⟨0, _⟩ => show 0 ≤ (y 0).val ∧ (y 0).val < 0 + 128; change (y 0).val < 256 at y0; omega
      | ⟨1, _⟩ => show 128 * k.val ≤ (y 1).val ∧ (y 1).val < 128 * k.val + 128; omega
    · refine ⟨_, List.mem_of_getElem? (i := 0) rfl, mem_unit_set (k0_off12_inb k) y fun a => ?_⟩
      rw [k0_off12_eq k]
      match a with
      | ⟨0, _⟩ => show 128 ≤ (y 0).val ∧ (y 0).val < 128 + 128; change (y 0).val < 256 at y0; omega
      | ⟨1, _⟩ => show 128 * k.val ≤ (y 1).val ∧ (y 1).val < 128 * k.val + 128; omega

/-- The scale codes a trip over the right operand stores. -/
def piecesSW (k : Fin k0_t2_loop.trips) : List (View.Piece (Elt F) S2x128x128 .i32) := [
  ⟨Rect.unit (s := S2x128x128) (k0_off10 k 24#32) S1x8x128.size (k0_off10_inb k 3), upI (tW h w (4 * k.val + 3) 1).e⟩,
  ⟨Rect.unit (s := S2x128x128) (k0_off8 k 24#32) S1x8x128.size (k0_off8_inb k 3), upI (tW h w (4 * k.val + 3) 0).e⟩,
  ⟨Rect.unit (s := S2x128x128) (k0_off10 k 16#32) S1x8x128.size (k0_off10_inb k 2), upI (tW h w (4 * k.val + 2) 1).e⟩,
  ⟨Rect.unit (s := S2x128x128) (k0_off8 k 16#32) S1x8x128.size (k0_off8_inb k 2), upI (tW h w (4 * k.val + 2) 0).e⟩,
  ⟨Rect.unit (s := S2x128x128) (k0_off10 k 8#32) S1x8x128.size (k0_off10_inb k 1), upI (tW h w (4 * k.val + 1) 1).e⟩,
  ⟨Rect.unit (s := S2x128x128) (k0_off8 k 8#32) S1x8x128.size (k0_off8_inb k 1), upI (tW h w (4 * k.val + 1) 0).e⟩,
  ⟨Rect.unit (s := S2x128x128) (k0_off10 k 0#32) S1x8x128.size (k0_off10_inb k 0), upI (tW h w (4 * k.val) 1).e⟩,
  ⟨Rect.unit (s := S2x128x128) (k0_off8 k 0#32) S1x8x128.size (k0_off8_inb k 0), upI (tW h w (4 * k.val) 0).e⟩]

theorem stepSW (k : Fin k0_t2_loop.trips) (v : View sig κ sp S2x128x128 .i32) (f : v.ty.Contents (Elt F))
    (hf : ∀ y : (S2x128x128).Idx, (y 1).val < 32 * k.val → v.read (Elt F) f y = scaleW h w y) (y : (S2x128x128).Idx) (hy : (y 1).val < 32 * (k.val + 1)) :
    v.read (Elt F) (v.writes (Elt F) f (piecesSW h w k)) y = scaleW h w y := by
  have hk : k.val < 4 := lt_of_lt_of_eq k.isLt (by decide)
  refine read_agree v f _ (scaleW h w) (fun y => (y 1).val < 32 * k.val) ?_ hf y ?_
  · unfold piecesSW
    simp only [List.forall_mem_cons, List.not_mem_nil, false_imp_iff, implies_true, and_true]
    refine ⟨?_, ?_, ?_, ?_, ?_, ?_, ?_, ?_⟩
    · intro z
      have e0 := congrFun (k0_off10_eq k 3) 0
      have e1 := congrFun (k0_off10_eq k 3) 1
      have e2 := congrFun (k0_off10_eq k 3) 2
      exact (scaleW_at h w _ (4 * k.val + 3) 1 z (by show k0_off10 k 24#32 0 + 1 * (z 0).val = _; refine (congrArg (· + 1 * (z 0).val) e0).trans ?_; show 1 + 1 * (z 0).val = _; omega)
        (by show k0_off10 k 24#32 1 + 1 * (z 1).val = _; refine (congrArg (· + 1 * (z 1).val) e1).trans ?_; show 32 * k.val + 8 * 3 + 1 * (z 1).val = _; omega)
        (by show k0_off10 k 24#32 2 + 1 * (z 2).val = _; refine (congrArg (· + 1 * (z 2).val) e2).trans ?_; show 0 + 1 * (z 2).val = _; omega)).symm
    · intro z
      have e0 := congrFun (k0_off8_eq k 3) 0
      have e1 := congrFun (k0_off8_eq k 3) 1
      have e2 := congrFun (k0_off8_eq k 3) 2
      exact (scaleW_at h w _ (4 * k.val + 3) 0 z (by show k0_off8 k 24#32 0 + 1 * (z 0).val = _; refine (congrArg (· + 1 * (z 0).val) e0).trans ?_; show 0 + 1 * (z 0).val = _; omega)
        (by show k0_off8 k 24#32 1 + 1 * (z 1).val = _; refine (congrArg (· + 1 * (z 1).val) e1).trans ?_; show 32 * k.val + 8 * 3 + 1 * (z 1).val = _; omega)
        (by show k0_off8 k 24#32 2 + 1 * (z 2).val = _; refine (congrArg (· + 1 * (z 2).val) e2).trans ?_; show 0 + 1 * (z 2).val = _; omega)).symm
    · intro z
      have e0 := congrFun (k0_off10_eq k 2) 0
      have e1 := congrFun (k0_off10_eq k 2) 1
      have e2 := congrFun (k0_off10_eq k 2) 2
      exact (scaleW_at h w _ (4 * k.val + 2) 1 z (by show k0_off10 k 16#32 0 + 1 * (z 0).val = _; refine (congrArg (· + 1 * (z 0).val) e0).trans ?_; show 1 + 1 * (z 0).val = _; omega)
        (by show k0_off10 k 16#32 1 + 1 * (z 1).val = _; refine (congrArg (· + 1 * (z 1).val) e1).trans ?_; show 32 * k.val + 8 * 2 + 1 * (z 1).val = _; omega)
        (by show k0_off10 k 16#32 2 + 1 * (z 2).val = _; refine (congrArg (· + 1 * (z 2).val) e2).trans ?_; show 0 + 1 * (z 2).val = _; omega)).symm
    · intro z
      have e0 := congrFun (k0_off8_eq k 2) 0
      have e1 := congrFun (k0_off8_eq k 2) 1
      have e2 := congrFun (k0_off8_eq k 2) 2
      exact (scaleW_at h w _ (4 * k.val + 2) 0 z (by show k0_off8 k 16#32 0 + 1 * (z 0).val = _; refine (congrArg (· + 1 * (z 0).val) e0).trans ?_; show 0 + 1 * (z 0).val = _; omega)
        (by show k0_off8 k 16#32 1 + 1 * (z 1).val = _; refine (congrArg (· + 1 * (z 1).val) e1).trans ?_; show 32 * k.val + 8 * 2 + 1 * (z 1).val = _; omega)
        (by show k0_off8 k 16#32 2 + 1 * (z 2).val = _; refine (congrArg (· + 1 * (z 2).val) e2).trans ?_; show 0 + 1 * (z 2).val = _; omega)).symm
    · intro z
      have e0 := congrFun (k0_off10_eq k 1) 0
      have e1 := congrFun (k0_off10_eq k 1) 1
      have e2 := congrFun (k0_off10_eq k 1) 2
      exact (scaleW_at h w _ (4 * k.val + 1) 1 z (by show k0_off10 k 8#32 0 + 1 * (z 0).val = _; refine (congrArg (· + 1 * (z 0).val) e0).trans ?_; show 1 + 1 * (z 0).val = _; omega)
        (by show k0_off10 k 8#32 1 + 1 * (z 1).val = _; refine (congrArg (· + 1 * (z 1).val) e1).trans ?_; show 32 * k.val + 8 * 1 + 1 * (z 1).val = _; omega)
        (by show k0_off10 k 8#32 2 + 1 * (z 2).val = _; refine (congrArg (· + 1 * (z 2).val) e2).trans ?_; show 0 + 1 * (z 2).val = _; omega)).symm
    · intro z
      have e0 := congrFun (k0_off8_eq k 1) 0
      have e1 := congrFun (k0_off8_eq k 1) 1
      have e2 := congrFun (k0_off8_eq k 1) 2
      exact (scaleW_at h w _ (4 * k.val + 1) 0 z (by show k0_off8 k 8#32 0 + 1 * (z 0).val = _; refine (congrArg (· + 1 * (z 0).val) e0).trans ?_; show 0 + 1 * (z 0).val = _; omega)
        (by show k0_off8 k 8#32 1 + 1 * (z 1).val = _; refine (congrArg (· + 1 * (z 1).val) e1).trans ?_; show 32 * k.val + 8 * 1 + 1 * (z 1).val = _; omega)
        (by show k0_off8 k 8#32 2 + 1 * (z 2).val = _; refine (congrArg (· + 1 * (z 2).val) e2).trans ?_; show 0 + 1 * (z 2).val = _; omega)).symm
    · intro z
      have e0 := congrFun (k0_off10_eq k 0) 0
      have e1 := congrFun (k0_off10_eq k 0) 1
      have e2 := congrFun (k0_off10_eq k 0) 2
      exact (scaleW_at h w _ (4 * k.val) 1 z (by show k0_off10 k 0#32 0 + 1 * (z 0).val = _; refine (congrArg (· + 1 * (z 0).val) e0).trans ?_; show 1 + 1 * (z 0).val = _; omega)
        (by show k0_off10 k 0#32 1 + 1 * (z 1).val = _; refine (congrArg (· + 1 * (z 1).val) e1).trans ?_; show 32 * k.val + 8 * 0 + 1 * (z 1).val = _; omega)
        (by show k0_off10 k 0#32 2 + 1 * (z 2).val = _; refine (congrArg (· + 1 * (z 2).val) e2).trans ?_; show 0 + 1 * (z 2).val = _; omega)).symm
    · intro z
      have e0 := congrFun (k0_off8_eq k 0) 0
      have e1 := congrFun (k0_off8_eq k 0) 1
      have e2 := congrFun (k0_off8_eq k 0) 2
      exact (scaleW_at h w _ (4 * k.val) 0 z (by show k0_off8 k 0#32 0 + 1 * (z 0).val = _; refine (congrArg (· + 1 * (z 0).val) e0).trans ?_; show 0 + 1 * (z 0).val = _; omega)
        (by show k0_off8 k 0#32 1 + 1 * (z 1).val = _; refine (congrArg (· + 1 * (z 1).val) e1).trans ?_; show 32 * k.val + 8 * 0 + 1 * (z 1).val = _; omega)
        (by show k0_off8 k 0#32 2 + 1 * (z 2).val = _; refine (congrArg (· + 1 * (z 2).val) e2).trans ?_; show 0 + 1 * (z 2).val = _; omega)).symm
  · have y0 := (y 0).isLt
    have y1 := (y 1).isLt
    have y2 := (y 2).isLt
    by_cases hp : (y 1).val < 32 * k.val
    · exact Or.inl hp
    refine Or.inr ?_
    unfold piecesSW
    have hr : (y 1).val / 8 = 4 * k.val ∨ (y 1).val / 8 = 4 * k.val + 1 ∨ (y 1).val / 8 = 4 * k.val + 2 ∨ (y 1).val / 8 = 4 * k.val + 3 := by omega
    have hh : (y 0).val = 0 ∨ (y 0).val = 1 := by change (y 0).val < 2 at y0; omega
    rcases hr with hr | hr | hr | hr
    · rcases hh with hh | hh
      · refine ⟨_, List.mem_of_getElem? (i := 7) rfl, mem_unit_set (k0_off8_inb k 0) y fun a => ?_⟩
        rw [show k0_off8 k 0#32 = _ from k0_off8_eq k 0]
        match a with
        | ⟨0, _⟩ => show 0 ≤ (y 0).val ∧ (y 0).val < 0 + 1; omega
        | ⟨1, _⟩ => show 32 * k.val + 8 * 0 ≤ (y 1).val ∧ (y 1).val < 32 * k.val + 8 * 0 + 8; omega
        | ⟨2, _⟩ => show 0 ≤ (y 2).val ∧ (y 2).val < 0 + 128; change (y 2).val < 128 at y2; omega
      · refine ⟨_, List.mem_of_getElem? (i := 6) rfl, mem_unit_set (k0_off10_inb k 0) y fun a => ?_⟩
        rw [show k0_off10 k 0#32 = _ from k0_off10_eq k 0]
        match a with
        | ⟨0, _⟩ => show 1 ≤ (y 0).val ∧ (y 0).val < 1 + 1; omega
        | ⟨1, _⟩ => show 32 * k.val + 8 * 0 ≤ (y 1).val ∧ (y 1).val < 32 * k.val + 8 * 0 + 8; omega
        | ⟨2, _⟩ => show 0 ≤ (y 2).val ∧ (y 2).val < 0 + 128; change (y 2).val < 128 at y2; omega
    · rcases hh with hh | hh
      · refine ⟨_, List.mem_of_getElem? (i := 5) rfl, mem_unit_set (k0_off8_inb k 1) y fun a => ?_⟩
        rw [show k0_off8 k 8#32 = _ from k0_off8_eq k 1]
        match a with
        | ⟨0, _⟩ => show 0 ≤ (y 0).val ∧ (y 0).val < 0 + 1; omega
        | ⟨1, _⟩ => show 32 * k.val + 8 * 1 ≤ (y 1).val ∧ (y 1).val < 32 * k.val + 8 * 1 + 8; omega
        | ⟨2, _⟩ => show 0 ≤ (y 2).val ∧ (y 2).val < 0 + 128; change (y 2).val < 128 at y2; omega
      · refine ⟨_, List.mem_of_getElem? (i := 4) rfl, mem_unit_set (k0_off10_inb k 1) y fun a => ?_⟩
        rw [show k0_off10 k 8#32 = _ from k0_off10_eq k 1]
        match a with
        | ⟨0, _⟩ => show 1 ≤ (y 0).val ∧ (y 0).val < 1 + 1; omega
        | ⟨1, _⟩ => show 32 * k.val + 8 * 1 ≤ (y 1).val ∧ (y 1).val < 32 * k.val + 8 * 1 + 8; omega
        | ⟨2, _⟩ => show 0 ≤ (y 2).val ∧ (y 2).val < 0 + 128; change (y 2).val < 128 at y2; omega
    · rcases hh with hh | hh
      · refine ⟨_, List.mem_of_getElem? (i := 3) rfl, mem_unit_set (k0_off8_inb k 2) y fun a => ?_⟩
        rw [show k0_off8 k 16#32 = _ from k0_off8_eq k 2]
        match a with
        | ⟨0, _⟩ => show 0 ≤ (y 0).val ∧ (y 0).val < 0 + 1; omega
        | ⟨1, _⟩ => show 32 * k.val + 8 * 2 ≤ (y 1).val ∧ (y 1).val < 32 * k.val + 8 * 2 + 8; omega
        | ⟨2, _⟩ => show 0 ≤ (y 2).val ∧ (y 2).val < 0 + 128; change (y 2).val < 128 at y2; omega
      · refine ⟨_, List.mem_of_getElem? (i := 2) rfl, mem_unit_set (k0_off10_inb k 2) y fun a => ?_⟩
        rw [show k0_off10 k 16#32 = _ from k0_off10_eq k 2]
        match a with
        | ⟨0, _⟩ => show 1 ≤ (y 0).val ∧ (y 0).val < 1 + 1; omega
        | ⟨1, _⟩ => show 32 * k.val + 8 * 2 ≤ (y 1).val ∧ (y 1).val < 32 * k.val + 8 * 2 + 8; omega
        | ⟨2, _⟩ => show 0 ≤ (y 2).val ∧ (y 2).val < 0 + 128; change (y 2).val < 128 at y2; omega
    · rcases hh with hh | hh
      · refine ⟨_, List.mem_of_getElem? (i := 1) rfl, mem_unit_set (k0_off8_inb k 3) y fun a => ?_⟩
        rw [show k0_off8 k 24#32 = _ from k0_off8_eq k 3]
        match a with
        | ⟨0, _⟩ => show 0 ≤ (y 0).val ∧ (y 0).val < 0 + 1; omega
        | ⟨1, _⟩ => show 32 * k.val + 8 * 3 ≤ (y 1).val ∧ (y 1).val < 32 * k.val + 8 * 3 + 8; omega
        | ⟨2, _⟩ => show 0 ≤ (y 2).val ∧ (y 2).val < 0 + 128; change (y 2).val < 128 at y2; omega
      · refine ⟨_, List.mem_of_getElem? (i := 0) rfl, mem_unit_set (k0_off10_inb k 3) y fun a => ?_⟩
        rw [show k0_off10 k 24#32 = _ from k0_off10_eq k 3]
        match a with
        | ⟨0, _⟩ => show 1 ≤ (y 0).val ∧ (y 0).val < 1 + 1; omega
        | ⟨1, _⟩ => show 32 * k.val + 8 * 3 ≤ (y 1).val ∧ (y 1).val < 32 * k.val + 8 * 3 + 8; omega
        | ⟨2, _⟩ => show 0 ≤ (y 2).val ∧ (y 2).val < 0 + 128; change (y 2).val < 128 at y2; omega

/-- The codes a trip over the left operand stores. -/
def piecesCX (i : grid0.Coords) (hi : k0_cond1 i = 1#1) (k : Fin k0_t1_loop.trips) : List (View.Piece (Elt F) S128x2048 .i8) := [
  ⟨Rect.unit (s := S128x2048) (k0_off2 k 384#32) S128x128.size (k0_off2_inb i k hi 3), codeBytes (toE2m1 (tX h x (4 * k.val + 3)).v)⟩,
  ⟨Rect.unit (s := S128x2048) (k0_off2 k 256#32) S128x128.size (k0_off2_inb i k hi 2), codeBytes (toE2m1 (tX h x (4 * k.val + 2)).v)⟩,
  ⟨Rect.unit (s := S128x2048) (k0_off2 k 128#32) S128x128.size (k0_off2_inb i k hi 1), codeBytes (toE2m1 (tX h x (4 * k.val + 1)).v)⟩,
  ⟨Rect.unit (s := S128x2048) (k0_off2 k 0#32) S128x128.size (k0_off2_inb i k hi 0), codeBytes (toE2m1 (tX h x (4 * k.val)).v)⟩]

theorem stepCX (i : grid0.Coords) (hi : k0_cond1 i = 1#1) (k : Fin k0_t1_loop.trips) (v : View sig κ sp S128x2048 .i8) (f : v.ty.Contents (Elt F))
    (hf : ∀ y : (S128x2048).Idx, (y 1).val < 512 * k.val → v.read (Elt F) f y = codesX h x y) (y : (S128x2048).Idx) (hy : (y 1).val < 512 * (k.val + 1)) :
    v.read (Elt F) (v.writes (Elt F) f (piecesCX h x i hi k)) y = codesX h x y := by
  have hk : k.val < 4 := lt_of_lt_of_eq k.isLt (by decide)
  refine read_agree v f _ (codesX h x) (fun y => (y 1).val < 512 * k.val) ?_ hf y ?_
  · unfold piecesCX
    simp only [List.forall_mem_cons, List.not_mem_nil, false_imp_iff, implies_true, and_true]
    refine ⟨?_, ?_, ?_, ?_⟩
    · intro z
      have e0 := congrFun (k0_off2_eq k 3) 0
      have e1 := congrFun (k0_off2_eq k 3) 1
      exact (codesX_at h x _ (4 * k.val + 3) z (by show k0_off2 k 384#32 0 + 1 * (z 0).val = _; refine (congrArg (· + 1 * (z 0).val) e0).trans ?_; show 0 + 1 * (z 0).val = _; omega)
        (by show k0_off2 k 384#32 1 + 1 * (z 1).val = _; refine (congrArg (· + 1 * (z 1).val) e1).trans ?_; show 512 * k.val + 128 * 3 + 1 * (z 1).val = _; omega)).symm
    · intro z
      have e0 := congrFun (k0_off2_eq k 2) 0
      have e1 := congrFun (k0_off2_eq k 2) 1
      exact (codesX_at h x _ (4 * k.val + 2) z (by show k0_off2 k 256#32 0 + 1 * (z 0).val = _; refine (congrArg (· + 1 * (z 0).val) e0).trans ?_; show 0 + 1 * (z 0).val = _; omega)
        (by show k0_off2 k 256#32 1 + 1 * (z 1).val = _; refine (congrArg (· + 1 * (z 1).val) e1).trans ?_; show 512 * k.val + 128 * 2 + 1 * (z 1).val = _; omega)).symm
    · intro z
      have e0 := congrFun (k0_off2_eq k 1) 0
      have e1 := congrFun (k0_off2_eq k 1) 1
      exact (codesX_at h x _ (4 * k.val + 1) z (by show k0_off2 k 128#32 0 + 1 * (z 0).val = _; refine (congrArg (· + 1 * (z 0).val) e0).trans ?_; show 0 + 1 * (z 0).val = _; omega)
        (by show k0_off2 k 128#32 1 + 1 * (z 1).val = _; refine (congrArg (· + 1 * (z 1).val) e1).trans ?_; show 512 * k.val + 128 * 1 + 1 * (z 1).val = _; omega)).symm
    · intro z
      have e0 := congrFun (k0_off2_eq k 0) 0
      have e1 := congrFun (k0_off2_eq k 0) 1
      exact (codesX_at h x _ (4 * k.val) z (by show k0_off2 k 0#32 0 + 1 * (z 0).val = _; refine (congrArg (· + 1 * (z 0).val) e0).trans ?_; show 0 + 1 * (z 0).val = _; omega)
        (by show k0_off2 k 0#32 1 + 1 * (z 1).val = _; refine (congrArg (· + 1 * (z 1).val) e1).trans ?_; show 512 * k.val + 128 * 0 + 1 * (z 1).val = _; omega)).symm
  · have y0 := (y 0).isLt
    have y1 := (y 1).isLt
    by_cases hp : (y 1).val < 512 * k.val
    · exact Or.inl hp
    refine Or.inr ?_
    unfold piecesCX
    have hr : (y 1).val / 128 = 4 * k.val ∨ (y 1).val / 128 = 4 * k.val + 1 ∨ (y 1).val / 128 = 4 * k.val + 2 ∨ (y 1).val / 128 = 4 * k.val + 3 := by omega
    rcases hr with hr | hr | hr | hr
    · refine ⟨_, List.mem_of_getElem? (i := 3) rfl, mem_unit_set (k0_off2_inb i k hi 0) y fun a => ?_⟩
      rw [show k0_off2 k 0#32 = _ from k0_off2_eq k 0]
      match a with
      | ⟨0, _⟩ => show 0 ≤ (y 0).val ∧ (y 0).val < 0 + 128; change (y 0).val < 128 at y0; omega
      | ⟨1, _⟩ => show 512 * k.val + 128 * 0 ≤ (y 1).val ∧ (y 1).val < 512 * k.val + 128 * 0 + 128; omega
    · refine ⟨_, List.mem_of_getElem? (i := 2) rfl, mem_unit_set (k0_off2_inb i k hi 1) y fun a => ?_⟩
      rw [show k0_off2 k 128#32 = _ from k0_off2_eq k 1]
      match a with
      | ⟨0, _⟩ => show 0 ≤ (y 0).val ∧ (y 0).val < 0 + 128; change (y 0).val < 128 at y0; omega
      | ⟨1, _⟩ => show 512 * k.val + 128 * 1 ≤ (y 1).val ∧ (y 1).val < 512 * k.val + 128 * 1 + 128; omega
    · refine ⟨_, List.mem_of_getElem? (i := 1) rfl, mem_unit_set (k0_off2_inb i k hi 2) y fun a => ?_⟩
      rw [show k0_off2 k 256#32 = _ from k0_off2_eq k 2]
      match a with
      | ⟨0, _⟩ => show 0 ≤ (y 0).val ∧ (y 0).val < 0 + 128; change (y 0).val < 128 at y0; omega
      | ⟨1, _⟩ => show 512 * k.val + 128 * 2 ≤ (y 1).val ∧ (y 1).val < 512 * k.val + 128 * 2 + 128; omega
    · refine ⟨_, List.mem_of_getElem? (i := 0) rfl, mem_unit_set (k0_off2_inb i k hi 3) y fun a => ?_⟩
      rw [show k0_off2 k 384#32 = _ from k0_off2_eq k 3]
      match a with
      | ⟨0, _⟩ => show 0 ≤ (y 0).val ∧ (y 0).val < 0 + 128; change (y 0).val < 128 at y0; omega
      | ⟨1, _⟩ => show 512 * k.val + 128 * 3 ≤ (y 1).val ∧ (y 1).val < 512 * k.val + 128 * 3 + 128; omega

/-- The masks a trip over the left operand stores. -/
def piecesMX (i : grid0.Coords) (hi : k0_cond1 i = 1#1) (k : Fin k0_t1_loop.trips) : List (View.Piece (Elt F) S128x512 .i8) := [
  ⟨Rect.unit (s := S128x512) (k0_off4 k) S128x128.size (k0_off4_inb i k hi), maskBytes (maskWord (tX h x (4 * k.val)).d) (maskWord (tX h x (4 * k.val + 1)).d) (maskWord (tX h x (4 * k.val + 2)).d) (maskWord (tX h x (4 * k.val + 3)).d)⟩]

theorem stepMX (i : grid0.Coords) (hi : k0_cond1 i = 1#1) (k : Fin k0_t1_loop.trips) (v : View sig κ sp S128x512 .i8) (f : v.ty.Contents (Elt F))
    (hf : ∀ y : (S128x512).Idx, (y 1).val < 128 * k.val → v.read (Elt F) f y = maskX h x y) (y : (S128x512).Idx) (hy : (y 1).val < 128 * (k.val + 1)) :
    v.read (Elt F) (v.writes (Elt F) f (piecesMX h x i hi k)) y = maskX h x y := by
  have hk : k.val < 4 := lt_of_lt_of_eq k.isLt (by decide)
  refine read_agree v f _ (maskX h x) (fun y => (y 1).val < 128 * k.val) ?_ hf y ?_
  · unfold piecesMX
    simp only [List.forall_mem_cons, List.not_mem_nil, false_imp_iff, implies_true, and_true]
    skip
    · intro z
      have e0 := congrFun (k0_off4_eq k) 0
      have e1 := congrFun (k0_off4_eq k) 1
      exact (maskX_at h x _ k.val z (by show k0_off4 k 0 + 1 * (z 0).val = _; rw [e0]; show 0 + 1 * (z 0).val = _; omega)
        (by show k0_off4 k 1 + 1 * (z 1).val = _; rw [e1]; show 128 * k.val + 1 * (z 1).val = _; omega)).symm
  · have y0 := (y 0).isLt
    have y1 := (y 1).isLt
    by_cases hp : (y 1).val < 128 * k.val
    · exact Or.inl hp
    refine Or.inr ?_
    unfold piecesMX
    refine ⟨_, List.mem_of_getElem? (i := 0) rfl, mem_unit_set (k0_off4_inb i k hi) y fun a => ?_⟩
    rw [k0_off4_eq k]
    match a with
    | ⟨0, _⟩ => show 0 ≤ (y 0).val ∧ (y 0).val < 0 + 128; change (y 0).val < 128 at y0; omega
    | ⟨1, _⟩ => show 128 * k.val ≤ (y 1).val ∧ (y 1).val < 128 * k.val + 128; omega

/-- The scale codes a trip over the left operand stores. -/
def piecesSX (i : grid0.Coords) (hi : k0_cond1 i = 1#1) (k : Fin k0_t1_loop.trips) : List (View.Piece (Elt F) S2x128x128 .i32) := [
  ⟨Rect.unit (s := S2x128x128) (k0_off3 k 24#32) S1x8x128.size (k0_off3_inb i k hi 3), upI (tX h x (4 * k.val + 3)).e⟩,
  ⟨Rect.unit (s := S2x128x128) (k0_off3 k 16#32) S1x8x128.size (k0_off3_inb i k hi 2), upI (tX h x (4 * k.val + 2)).e⟩,
  ⟨Rect.unit (s := S2x128x128) (k0_off3 k 8#32) S1x8x128.size (k0_off3_inb i k hi 1), upI (tX h x (4 * k.val + 1)).e⟩,
  ⟨Rect.unit (s := S2x128x128) (k0_off3 k 0#32) S1x8x128.size (k0_off3_inb i k hi 0), upI (tX h x (4 * k.val)).e⟩]

theorem stepSX (i : grid0.Coords) (hi : k0_cond1 i = 1#1) (k : Fin k0_t1_loop.trips) (v : View sig κ sp S2x128x128 .i32) (f : v.ty.Contents (Elt F))
    (hf : ∀ y : (S2x128x128).Idx, (y 0).val < 1 ∧ (y 1).val < 32 * k.val → v.read (Elt F) f y = scaleX h x y) (y : (S2x128x128).Idx) (hy : (y 0).val < 1 ∧ (y 1).val < 32 * (k.val + 1)) :
    v.read (Elt F) (v.writes (Elt F) f (piecesSX h x i hi k)) y = scaleX h x y := by
  have hk : k.val < 4 := lt_of_lt_of_eq k.isLt (by decide)
  refine read_agree v f _ (scaleX h x) (fun y => (y 0).val < 1 ∧ (y 1).val < 32 * k.val) ?_ hf y ?_
  · unfold piecesSX
    simp only [List.forall_mem_cons, List.not_mem_nil, false_imp_iff, implies_true, and_true]
    refine ⟨?_, ?_, ?_, ?_⟩
    · intro z
      have e0 := congrFun (k0_off3_eq k 3) 0
      have e1 := congrFun (k0_off3_eq k 3) 1
      have e2 := congrFun (k0_off3_eq k 3) 2
      exact (scaleX_at h x _ (4 * k.val + 3) z (by show k0_off3 k 24#32 1 + 1 * (z 1).val = _; refine (congrArg (· + 1 * (z 1).val) e1).trans ?_; show 32 * k.val + 8 * 3 + 1 * (z 1).val = _; omega)
        (by show k0_off3 k 24#32 2 + 1 * (z 2).val = _; refine (congrArg (· + 1 * (z 2).val) e2).trans ?_; show 0 + 1 * (z 2).val = _; omega)).symm
    · intro z
      have e0 := congrFun (k0_off3_eq k 2) 0
      have e1 := congrFun (k0_off3_eq k 2) 1
      have e2 := congrFun (k0_off3_eq k 2) 2
      exact (scaleX_at h x _ (4 * k.val + 2) z (by show k0_off3 k 16#32 1 + 1 * (z 1).val = _; refine (congrArg (· + 1 * (z 1).val) e1).trans ?_; show 32 * k.val + 8 * 2 + 1 * (z 1).val = _; omega)
        (by show k0_off3 k 16#32 2 + 1 * (z 2).val = _; refine (congrArg (· + 1 * (z 2).val) e2).trans ?_; show 0 + 1 * (z 2).val = _; omega)).symm
    · intro z
      have e0 := congrFun (k0_off3_eq k 1) 0
      have e1 := congrFun (k0_off3_eq k 1) 1
      have e2 := congrFun (k0_off3_eq k 1) 2
      exact (scaleX_at h x _ (4 * k.val + 1) z (by show k0_off3 k 8#32 1 + 1 * (z 1).val = _; refine (congrArg (· + 1 * (z 1).val) e1).trans ?_; show 32 * k.val + 8 * 1 + 1 * (z 1).val = _; omega)
        (by show k0_off3 k 8#32 2 + 1 * (z 2).val = _; refine (congrArg (· + 1 * (z 2).val) e2).trans ?_; show 0 + 1 * (z 2).val = _; omega)).symm
    · intro z
      have e0 := congrFun (k0_off3_eq k 0) 0
      have e1 := congrFun (k0_off3_eq k 0) 1
      have e2 := congrFun (k0_off3_eq k 0) 2
      exact (scaleX_at h x _ (4 * k.val) z (by show k0_off3 k 0#32 1 + 1 * (z 1).val = _; refine (congrArg (· + 1 * (z 1).val) e1).trans ?_; show 32 * k.val + 8 * 0 + 1 * (z 1).val = _; omega)
        (by show k0_off3 k 0#32 2 + 1 * (z 2).val = _; refine (congrArg (· + 1 * (z 2).val) e2).trans ?_; show 0 + 1 * (z 2).val = _; omega)).symm
  · have y0 := (y 0).isLt
    have y1 := (y 1).isLt
    have y2 := (y 2).isLt
    by_cases hp : (y 1).val < 32 * k.val
    · exact Or.inl ⟨hy.1, hp⟩
    refine Or.inr ?_
    unfold piecesSX
    have hr : (y 1).val / 8 = 4 * k.val ∨ (y 1).val / 8 = 4 * k.val + 1 ∨ (y 1).val / 8 = 4 * k.val + 2 ∨ (y 1).val / 8 = 4 * k.val + 3 := by omega
    rcases hr with hr | hr | hr | hr
    · refine ⟨_, List.mem_of_getElem? (i := 3) rfl, mem_unit_set (k0_off3_inb i k hi 0) y fun a => ?_⟩
      rw [show k0_off3 k 0#32 = _ from k0_off3_eq k 0]
      match a with
      | ⟨0, _⟩ => show 0 ≤ (y 0).val ∧ (y 0).val < 0 + 1; exact ⟨Nat.zero_le _, hy.1⟩
      | ⟨1, _⟩ => show 32 * k.val + 8 * 0 ≤ (y 1).val ∧ (y 1).val < 32 * k.val + 8 * 0 + 8; omega
      | ⟨2, _⟩ => show 0 ≤ (y 2).val ∧ (y 2).val < 0 + 128; change (y 2).val < 128 at y2; omega
    · refine ⟨_, List.mem_of_getElem? (i := 2) rfl, mem_unit_set (k0_off3_inb i k hi 1) y fun a => ?_⟩
      rw [show k0_off3 k 8#32 = _ from k0_off3_eq k 1]
      match a with
      | ⟨0, _⟩ => show 0 ≤ (y 0).val ∧ (y 0).val < 0 + 1; exact ⟨Nat.zero_le _, hy.1⟩
      | ⟨1, _⟩ => show 32 * k.val + 8 * 1 ≤ (y 1).val ∧ (y 1).val < 32 * k.val + 8 * 1 + 8; omega
      | ⟨2, _⟩ => show 0 ≤ (y 2).val ∧ (y 2).val < 0 + 128; change (y 2).val < 128 at y2; omega
    · refine ⟨_, List.mem_of_getElem? (i := 1) rfl, mem_unit_set (k0_off3_inb i k hi 2) y fun a => ?_⟩
      rw [show k0_off3 k 16#32 = _ from k0_off3_eq k 2]
      match a with
      | ⟨0, _⟩ => show 0 ≤ (y 0).val ∧ (y 0).val < 0 + 1; exact ⟨Nat.zero_le _, hy.1⟩
      | ⟨1, _⟩ => show 32 * k.val + 8 * 2 ≤ (y 1).val ∧ (y 1).val < 32 * k.val + 8 * 2 + 8; omega
      | ⟨2, _⟩ => show 0 ≤ (y 2).val ∧ (y 2).val < 0 + 128; change (y 2).val < 128 at y2; omega
    · refine ⟨_, List.mem_of_getElem? (i := 0) rfl, mem_unit_set (k0_off3_inb i k hi 3) y fun a => ?_⟩
      rw [show k0_off3 k 24#32 = _ from k0_off3_eq k 3]
      match a with
      | ⟨0, _⟩ => show 0 ≤ (y 0).val ∧ (y 0).val < 0 + 1; exact ⟨Nat.zero_le _, hy.1⟩
      | ⟨1, _⟩ => show 32 * k.val + 8 * 3 ≤ (y 1).val ∧ (y 1).val < 32 * k.val + 8 * 3 + 8; omega
      | ⟨2, _⟩ => show 0 ≤ (y 2).val ∧ (y 2).val < 0 + 128; change (y 2).val < 128 at y2; omega

/-- The dequantised columns a trip over the left operand stores. -/
def piecesQ (i : grid0.Coords) (hi : k0_cond1 i = 1#1) (k : Fin k0_t1_loop.trips) :
    List (View.Piece (Elt F) S128x16384 .bf16) := [
  ⟨Rect.unit (s := S128x16384) (k0_off5 i k 768#32) S128x256.size (k0_off5_inb i k hi 3), deqX (tX h x (4 * k.val + 3))⟩,
  ⟨Rect.unit (s := S128x16384) (k0_off5 i k 512#32) S128x256.size (k0_off5_inb i k hi 2), deqX (tX h x (4 * k.val + 2))⟩,
  ⟨Rect.unit (s := S128x16384) (k0_off5 i k 256#32) S128x256.size (k0_off5_inb i k hi 1), deqX (tX h x (4 * k.val + 1))⟩,
  ⟨Rect.unit (s := S128x16384) (k0_off5 i k 0#32) S128x256.size (k0_off5_inb i k hi 0), deqX (tX h x (4 * k.val))⟩]

theorem stepQ (i : grid0.Coords) (hi : k0_cond1 i = 1#1) (k : Fin k0_t1_loop.trips)
    (v : View sig κ sp S128x16384 .bf16) (f : v.ty.Contents (Elt F)) (G : FVec F S128x16384 .bf16)
    (hq : ∀ (y : S128x16384.Idx) (z : S128x4096.Idx), (y 0).val = (z 0).val →
      (y 1).val = 4096 * (i 1).val + (z 1).val → G y = deqXs h x z)
    (hf : ∀ y : S128x16384.Idx, (y 1).val < 4096 * (i 1).val + 1024 * k.val → v.read (Elt F) f y = G y)
    (y : S128x16384.Idx) (hy : (y 1).val < 4096 * (i 1).val + 1024 * (k.val + 1)) :
    v.read (Elt F) (v.writes (Elt F) f (piecesQ h x i hi k)) y = G y := by
  have hk : k.val < 4 := lt_of_lt_of_eq k.isLt (by decide)
  have at_ : ∀ (y : S128x16384.Idx) (r : ℕ) (hr : r < 4) (z : S128x256.Idx), (y 0).val = (z 0).val →
      (y 1).val = 4096 * (i 1).val + 1024 * k.val + 256 * r + (z 1).val →
      G y = deqX (tX h x (4 * k.val + r)) z := by
    intro y r hr z h0 h1
    have hz1 : (z 1).val < 256 := (z 1).isLt
    rw [hq y (ix2 (z 0) ⟨1024 * k.val + 256 * r + (z 1).val, by omega⟩) h0
      (by show (y 1).val = 4096 * (i 1).val + (1024 * k.val + 256 * r + (z 1).val); omega)]
    exact deqXs_at h x _ _ z rfl (by show 1024 * k.val + 256 * r + (z 1).val = _; omega)
  refine read_agree v f _ G (fun y => (y 1).val < 4096 * (i 1).val + 1024 * k.val) ?_ hf y ?_
  · unfold piecesQ
    simp only [List.forall_mem_cons, List.not_mem_nil, false_imp_iff, implies_true, and_true]
    refine ⟨?_, ?_, ?_, ?_⟩
    · intro z
      have e0 := congrFun (k0_off5_eq i k 3) 0
      have e1 := congrFun (k0_off5_eq i k 3) 1
      exact (at_ _ 3 (by decide) z
        (by show k0_off5 i k 768#32 0 + 1 * (z 0).val = _; refine (congrArg (· + 1 * (z 0).val) e0).trans ?_; show 0 + 1 * (z 0).val = _; omega)
        (by show k0_off5 i k 768#32 1 + 1 * (z 1).val = _; refine (congrArg (· + 1 * (z 1).val) e1).trans ?_; show 4096 * (i 1).val + 1024 * k.val + 256 * 3 + 1 * (z 1).val = _; omega)).symm
    · intro z
      have e0 := congrFun (k0_off5_eq i k 2) 0
      have e1 := congrFun (k0_off5_eq i k 2) 1
      exact (at_ _ 2 (by decide) z
        (by show k0_off5 i k 512#32 0 + 1 * (z 0).val = _; refine (congrArg (· + 1 * (z 0).val) e0).trans ?_; show 0 + 1 * (z 0).val = _; omega)
        (by show k0_off5 i k 512#32 1 + 1 * (z 1).val = _; refine (congrArg (· + 1 * (z 1).val) e1).trans ?_; show 4096 * (i 1).val + 1024 * k.val + 256 * 2 + 1 * (z 1).val = _; omega)).symm
    · intro z
      have e0 := congrFun (k0_off5_eq i k 1) 0
      have e1 := congrFun (k0_off5_eq i k 1) 1
      exact (at_ _ 1 (by decide) z
        (by show k0_off5 i k 256#32 0 + 1 * (z 0).val = _; refine (congrArg (· + 1 * (z 0).val) e0).trans ?_; show 0 + 1 * (z 0).val = _; omega)
        (by show k0_off5 i k 256#32 1 + 1 * (z 1).val = _; refine (congrArg (· + 1 * (z 1).val) e1).trans ?_; show 4096 * (i 1).val + 1024 * k.val + 256 * 1 + 1 * (z 1).val = _; omega)).symm
    · intro z
      have e0 := congrFun (k0_off5_eq i k 0) 0
      have e1 := congrFun (k0_off5_eq i k 0) 1
      exact (at_ _ 0 (by decide) z
        (by show k0_off5 i k 0#32 0 + 1 * (z 0).val = _; refine (congrArg (· + 1 * (z 0).val) e0).trans ?_; show 0 + 1 * (z 0).val = _; omega)
        (by show k0_off5 i k 0#32 1 + 1 * (z 1).val = _; refine (congrArg (· + 1 * (z 1).val) e1).trans ?_; show 4096 * (i 1).val + 1024 * k.val + 256 * 0 + 1 * (z 1).val = _; omega)).symm
  · have y0 := (y 0).isLt
    change (y 0).val < 128 at y0
    by_cases hp : (y 1).val < 4096 * (i 1).val + 1024 * k.val
    · exact Or.inl hp
    refine Or.inr ?_
    unfold piecesQ
    have hr : (y 1).val / 256 = 16 * (i 1).val + 4 * k.val ∨ (y 1).val / 256 = 16 * (i 1).val + 4 * k.val + 1
      ∨ (y 1).val / 256 = 16 * (i 1).val + 4 * k.val + 2 ∨ (y 1).val / 256 = 16 * (i 1).val + 4 * k.val + 3 := by omega
    rcases hr with hr | hr | hr | hr
    · refine ⟨_, List.mem_of_getElem? (i := 3) rfl, mem_unit_set (k0_off5_inb i k hi 0) y fun a => ?_⟩
      rw [show k0_off5 i k 0#32 = _ from k0_off5_eq i k 0]
      match a with
      | ⟨0, _⟩ => show 0 ≤ (y 0).val ∧ (y 0).val < 0 + 128; omega
      | ⟨1, _⟩ => show 4096 * (i 1).val + 1024 * k.val + 256 * 0 ≤ (y 1).val ∧ (y 1).val < 4096 * (i 1).val + 1024 * k.val + 256 * 0 + 256; omega
    · refine ⟨_, List.mem_of_getElem? (i := 2) rfl, mem_unit_set (k0_off5_inb i k hi 1) y fun a => ?_⟩
      rw [show k0_off5 i k 256#32 = _ from k0_off5_eq i k 1]
      match a with
      | ⟨0, _⟩ => show 0 ≤ (y 0).val ∧ (y 0).val < 0 + 128; omega
      | ⟨1, _⟩ => show 4096 * (i 1).val + 1024 * k.val + 256 * 1 ≤ (y 1).val ∧ (y 1).val < 4096 * (i 1).val + 1024 * k.val + 256 * 1 + 256; omega
    · refine ⟨_, List.mem_of_getElem? (i := 1) rfl, mem_unit_set (k0_off5_inb i k hi 2) y fun a => ?_⟩
      rw [show k0_off5 i k 512#32 = _ from k0_off5_eq i k 2]
      match a with
      | ⟨0, _⟩ => show 0 ≤ (y 0).val ∧ (y 0).val < 0 + 128; omega
      | ⟨1, _⟩ => show 4096 * (i 1).val + 1024 * k.val + 256 * 2 ≤ (y 1).val ∧ (y 1).val < 4096 * (i 1).val + 1024 * k.val + 256 * 2 + 256; omega
    · refine ⟨_, List.mem_of_getElem? (i := 0) rfl, mem_unit_set (k0_off5_inb i k hi 3) y fun a => ?_⟩
      rw [show k0_off5 i k 768#32 = _ from k0_off5_eq i k 3]
      match a with
      | ⟨0, _⟩ => show 0 ≤ (y 0).val ∧ (y 0).val < 0 + 128; omega
      | ⟨1, _⟩ => show 4096 * (i 1).val + 1024 * k.val + 256 * 3 ≤ (y 1).val ∧ (y 1).val < 4096 * (i 1).val + 1024 * k.val + 256 * 3 + 256; omega

end Steps

end Cert.KernelIdeal.Tile
-- ==== Proof.KI.LoopRun.lean ====
module

public import proofs.«01_k».proof.Proof.KI.Steps
public import Idealize.ShloMosaic.Lib.VecWindow

/-! # Running the two loops

The invariant of each loop: the columns of the tiles done so far hold what the specification says. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section W

variable (c : Dev nD) (i : grid0.Coords) (arg2 : Memref sig .tc .vmem S256x256 .bf16) (harg2 : arg2.IsWhole) (arg4 : Memref sig .tc .vmem S256x4096 .bf16) (harg4 : arg4.IsWhole) (arg7 : Memref sig .tc .vmem S256x512 .i8) (harg7 : arg7.IsWhole) (arg10 : Memref sig .tc .vmem S256x2048 .i8) (harg10 : arg10.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)
  (h : FVec F S256x256 .bf16) (w : FVec F S256x4096 .bf16) (q : FVec F S128x16384 .bf16) (a : FVec F S128x256 .f32)

/-- The columns taken from `o` are the same of two operands that agree before column `o + 1024`. -/
theorem xqcols_congr {p q : FVec F S128x16384 .bf16} (o : ℕ) (ho : o + 1024 ≤ 16384)
    (hpq : ∀ y : S128x16384.Idx, (y 1).val < o + 1024 → p y = q y) : xqcols p o = xqcols q o := by
  funext y
  have hy : (y 1).val < 1024 := (y 1).isLt
  unfold xqcols
  refine hpq _ ?_
  show (o + (y 1).val) % 16384 < _
  rw [Nat.mod_eq_of_lt (by omega)]
  omega

/-- Before trip `k` of the loop over the right operand. -/
def invW (f2 : Bf (F := F) c arg2) (f4 : Bf (F := F) c arg4) (f12 : Bf (F := F) c arg12) (k : ℕ) : sProp 𝕄 :=
  iprop(∃ f7, ∃ f10, ∃ f13, ∃ f14, ∃ f15, ∃ f16,
    pt c arg2 f2 ∗ pt c arg4 f4 ∗ pt c arg7 f7 ∗ pt c arg10 f10 ∗ pt c arg12 f12 ∗ pt c arg13 f13
    ∗ pt c arg14 f14 ∗ pt c arg15 f15 ∗ pt c arg16 f16
    ∗ ⌜(∀ y : S256x512.Idx, (y 1).val < 128 * k → arg7.view.read (Elt F) f7 y = maskW h w y)
      ∧ (∀ y : S256x2048.Idx, (y 1).val < 512 * k → arg10.view.read (Elt F) f10 y = codesW h w y)
      ∧ arg13.view.read (Elt F) f13 = accAt h w q (4096 * (i 1).val) a k
      ∧ (∀ y : S2x128x128.Idx, (y 1).val < 32 * k → arg16.view.read (Elt F) f16 y = scaleW h w y)⌝)

set_option maxHeartbeats 4000000 in
theorem tripW_inv (f2 : Bf (F := F) c arg2) (f4 : Bf (F := F) c arg4) (f12 : Bf (F := F) c arg12)
    (hh : arg2.view.read (Elt F) f2 = h) (hw : arg4.view.read (Elt F) f4 = w)
    (hq : ∀ y : S128x16384.Idx, (y 1).val < 4096 * (i 1).val + 4096 → arg12.view.read (Elt F) f12 y = q y)
    (k : Fin k0_t2_loop.trips) :
    invW c i arg2 arg4 arg7 arg10 arg12 arg13 arg14 arg15 arg16 h w q a f2 f4 f12 k.val
    ⊢ wp frame (wpE (defs₀ (F := F)) Variants.none c none) Set.univ (tripW i arg2 harg2 arg4 harg4 arg7 harg7 arg10 harg10 arg12 harg12 arg13 harg13 arg14 harg14 arg15 harg15 arg16 harg16 k)
        (fun _ => invW c i arg2 arg4 arg7 arg10 arg12 arg13 arg14 arg15 arg16 h w q a f2 f4 f12 (k.val + 1)) := by
  have hk : k.val < 4 := lt_of_lt_of_eq k.isLt (by decide)
  have hi1 : (i 1).val < 4 := (i 1).isLt
  have l2 := (load_full arg2.view f2 ![0, 0] (fun a => by fin_cases a <;> rfl) inb_S256x256_S256x256_0_0).trans hh
  have l4 : ∀ r : Fin 4, arg4.view.readAt (Elt F) (Rect.unit (s := S256x4096) (k0_off6 k (BitVec.ofNat 32 (256 * r.val))) S256x256.size (k0_off6_inb k r)).toLoadRect f4 = wcols w (4 * k.val + r.val) := fun r =>
    (load_w arg4.view f4 (4 * k.val + r.val) (by omega) _
      ((k0_off6_eq k r).trans (by rw [show 1024 * k.val + 256 * r.val = 256 * (4 * k.val + r.val) by omega])) _).trans (by rw [hw])
  have l40 : arg4.view.readAt (Elt F) (Rect.unit (s := S256x4096) (k0_off6 k 0#32) S256x256.size (k0_off6_inb k 0)).toLoadRect f4 = wcols w (4 * k.val) := l4 0
  have l41 : arg4.view.readAt (Elt F) (Rect.unit (s := S256x4096) (k0_off6 k 256#32) S256x256.size (k0_off6_inb k 1)).toLoadRect f4 = wcols w (4 * k.val + 1) := l4 1
  have l42 : arg4.view.readAt (Elt F) (Rect.unit (s := S256x4096) (k0_off6 k 512#32) S256x256.size (k0_off6_inb k 2)).toLoadRect f4 = wcols w (4 * k.val + 2) := l4 2
  have l43 : arg4.view.readAt (Elt F) (Rect.unit (s := S256x4096) (k0_off6 k 768#32) S256x256.size (k0_off6_inb k 3)).toLoadRect f4 = wcols w (4 * k.val + 3) := l4 3
  have l12 : arg12.view.readAt (Elt F) (Rect.unit (s := S128x16384) (k0_off13 i k) S128x1024.size (k0_off13_inb i k)).toLoadRect f12 = xqcols q (4096 * (i 1).val + 1024 * k.val) :=
    (load_xq arg12.view f12 _ (by omega) _ (k0_off13_eq i k) _).trans (xqcols_congr _ (by omega) fun y hy => hq y (by omega))
  have hrun := tile_bind (F := F) c arg14 harg14 arg15 harg15
  unfold invW
  iintro ⟨%f7, %f10, %f13, %f14, %f15, %f16, H2, H4, H7, H10, H12, H13, H14, H15, H16, %hp⟩
  obtain ⟨p7, p10, p13, p16⟩ := hp
  have l13 := (load_full arg13.view f13 ![0, 0] (fun a => by fin_cases a <;> rfl) inb_S128x256_S128x256_0_0).trans p13
  unfold tripW
  generalize tile (F := F) arg14 arg15 = T at hrun ⊢
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  simp only [l2, l40, l41,
    l42, l43, l12, l13]
  clear hrun
  sl_step
  iexists _; iexists _; iexists _; iexists _; iexists _; iexists _
  isplitl [H2]; · iexact H2
  isplitl [H4]; · iexact H4
  isplitl [H7]; · iexact H7
  isplitl [H10]; · iexact H10
  isplitl [H12]; · iexact H12
  isplitl [H13]; · iexact H13
  isplitl [H14]; · iexact H14
  isplitl [H15]; · iexact H15
  isplitl [H16]; · iexact H16
  ipureintro
  refine ⟨fun y hy => stepMW h w k arg7.view f7 p7 y hy, fun y hy => stepCW h w k arg10.view f10 p10 y hy, ?_,
    fun y hy => stepSW h w k arg16.view f16 p16 y hy⟩
  exact View.read_writes_full arg13.view f13 inb_S128x256_S128x256_0_0 _ _

end W

section X

variable (c : Dev nD) (i : grid0.Coords) (arg2 : Memref sig .tc .vmem S256x256 .bf16) (harg2 : arg2.IsWhole) (arg3 : Memref sig .tc .vmem S128x4096 .bf16) (harg3 : arg3.IsWhole) (arg6 : Memref sig .tc .vmem S128x512 .i8) (harg6 : arg6.IsWhole) (arg8 : Memref sig .tc .vmem S128x2048 .i8) (harg8 : arg8.IsWhole) (arg12 : Memref sig .tc .vmem S128x16384 .bf16) (harg12 : arg12.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (hi : k0_cond1 i = 1#1)
  (h : FVec F S256x256 .bf16) (x : FVec F S128x4096 .bf16) (G : FVec F S128x16384 .bf16)

/-- Before trip `k` of the loop over the left operand. -/
def invX (f2 : Bf (F := F) c arg2) (f3 : Bf (F := F) c arg3) (k : ℕ) : sProp 𝕄 :=
  iprop(∃ f6, ∃ f8, ∃ f12, ∃ f14, ∃ f15, ∃ f16,
    pt c arg2 f2 ∗ pt c arg3 f3 ∗ pt c arg6 f6 ∗ pt c arg8 f8 ∗ pt c arg12 f12
    ∗ pt c arg14 f14 ∗ pt c arg15 f15 ∗ pt c arg16 f16
    ∗ ⌜(∀ y : S128x512.Idx, (y 1).val < 128 * k → arg6.view.read (Elt F) f6 y = maskX h x y)
      ∧ (∀ y : S128x2048.Idx, (y 1).val < 512 * k → arg8.view.read (Elt F) f8 y = codesX h x y)
      ∧ (∀ y : S128x16384.Idx, (y 1).val < 4096 * (i 1).val + 1024 * k → arg12.view.read (Elt F) f12 y = G y)
      ∧ (∀ y : S2x128x128.Idx, (y 0).val < 1 ∧ (y 1).val < 32 * k → arg16.view.read (Elt F) f16 y = scaleX h x y)⌝)

set_option maxHeartbeats 4000000 in
theorem tripX_inv (f2 : Bf (F := F) c arg2) (f3 : Bf (F := F) c arg3)
    (hh : arg2.view.read (Elt F) f2 = h) (hx : arg3.view.read (Elt F) f3 = x)
    (hq : ∀ (y : S128x16384.Idx) (z : S128x4096.Idx), (y 0).val = (z 0).val →
      (y 1).val = 4096 * (i 1).val + (z 1).val → G y = deqXs h x z) (k : Fin k0_t1_loop.trips) :
    invX c i arg2 arg3 arg6 arg8 arg12 arg14 arg15 arg16 h x G f2 f3 k.val
    ⊢ wp frame (wpE (defs₀ (F := F)) Variants.none c none) Set.univ (tripX i arg2 harg2 arg3 harg3 arg6 harg6 arg8 harg8 arg12 harg12 arg14 harg14 arg15 harg15 arg16 harg16 hi k)
        (fun _ => invX c i arg2 arg3 arg6 arg8 arg12 arg14 arg15 arg16 h x G f2 f3 (k.val + 1)) := by
  have hk : k.val < 4 := lt_of_lt_of_eq k.isLt (by decide)
  have l2 := (load_full arg2.view f2 ![0, 0] (fun a => by fin_cases a <;> rfl) inb_S256x256_S256x256_0_0).trans hh
  have l4 : ∀ r : Fin 4, arg3.view.readAt (Elt F) (Rect.unit (s := S128x4096) (k0_off1 k (BitVec.ofNat 32 (256 * r.val))) S128x256.size (k0_off1_inb i k hi r)).toLoadRect f3 = xcols x (4 * k.val + r.val) := fun r =>
    (load_x arg3.view f3 (4 * k.val + r.val) (by omega) _
      ((k0_off1_eq k r).trans (by rw [show 1024 * k.val + 256 * r.val = 256 * (4 * k.val + r.val) by omega])) _).trans (by rw [hx])
  have l40 : arg3.view.readAt (Elt F) (Rect.unit (s := S128x4096) (k0_off1 k 0#32) S128x256.size (k0_off1_inb i k hi 0)).toLoadRect f3 = xcols x (4 * k.val) := l4 0
  have l41 : arg3.view.readAt (Elt F) (Rect.unit (s := S128x4096) (k0_off1 k 256#32) S128x256.size (k0_off1_inb i k hi 1)).toLoadRect f3 = xcols x (4 * k.val + 1) := l4 1
  have l42 : arg3.view.readAt (Elt F) (Rect.unit (s := S128x4096) (k0_off1 k 512#32) S128x256.size (k0_off1_inb i k hi 2)).toLoadRect f3 = xcols x (4 * k.val + 2) := l4 2
  have l43 : arg3.view.readAt (Elt F) (Rect.unit (s := S128x4096) (k0_off1 k 768#32) S128x256.size (k0_off1_inb i k hi 3)).toLoadRect f3 = xcols x (4 * k.val + 3) := l4 3
  have hrun := tile_bind (F := F) c arg14 harg14 arg15 harg15
  unfold invX
  iintro ⟨%f6, %f8, %f12, %f14, %f15, %f16, H2, H3, H6, H8, H12, H14, H15, H16, %hp⟩
  obtain ⟨p6, p8, p12, p16⟩ := hp
  unfold tripX
  generalize tile (F := F) arg14 arg15 = T at hrun ⊢
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  iapply (hrun _ _ _ _ _ _ _ _)
  isplitl [H14]; · iexact H14
  isplitl [H15]; · iexact H15
  iintro ⟨⟨%f14, H14⟩, ⟨%f15, H15⟩⟩
  sl_exec
  simp only [l2, l40, l41,
    l42, l43]
  clear hrun
  sl_step
  iexists _; iexists _; iexists _; iexists _; iexists _; iexists _
  isplitl [H2]; · iexact H2
  isplitl [H3]; · iexact H3
  isplitl [H6]; · iexact H6
  isplitl [H8]; · iexact H8
  isplitl [H12]; · iexact H12
  isplitl [H14]; · iexact H14
  isplitl [H15]; · iexact H15
  isplitl [H16]; · iexact H16
  ipureintro
  exact ⟨fun y hy => stepMX h x i hi k arg6.view f6 p6 y hy, fun y hy => stepCX h x i hi k arg8.view f8 p8 y hy,
    fun y hy => stepQ h x i hi k arg12.view f12 G hq p12 y hy,
    fun y hy => stepSX h x i hi k arg16.view f16 p16 y hy⟩

end X

end Cert.KernelIdeal.Tile
-- ==== Proof.KI.Body.lean ====
module

public import proofs.«01_k».proof.Proof.KI.LoopRun
public import Idealize.ShloMosaic.Lib.Pipeline.Regions

/-! # Running the body

The body in four parts — the left operand's loop, the clearing of the accumulator, the right operand's loop, the
result's store — and what each leaves. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Parts

variable (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)

/-- The left operand's part of the body. -/
def partX : Prog (TpuEff nD τ sig (Elt F) Λ₀ .tc) PUnit := do
  let arg1 : BitVec 32 := BitVec.ofNat 32 (i 1).val
  if k0_h1 : k0_cond1 i = 1#1 then do
    Scf.Loop.for k0_t1_loop (k0_t1_ok i k0_h1) ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_h1)
    let v21 : Vec F S1x128x128 .i32 ← Prog.lift (.load arg16 (Rect.unit (s := S2x128x128) ![0, 0, 0] S1x128x128.size inb_S2x128x128_S1x128x128_0_0_0).toLoadRect (View.loadsAt_vmem h_S1x128x128))
    let v25 : Vec F S128x128 .i8 ← Prog.lift (.load arg9 (Rect.unit (s := S128x128) ![0, 0] S128x128.size inb_S128x128_S128x128_0_0).toLoadRect (View.loadsAt_vmem h_S128x128))
    Prog.lift (.store arg9 (Rect.unit (s := S128x128) ![0, 0] S128x128.size inb_S128x128_S128x128_0_0) (k0_pay3 v21) Finset.univ (View.stores_vmem h_S128x128 (harg9.storeExact_slice rfl _ packedi8_S128x128_S128x128_0_0) (fun _ => rfl)) (.inl rfl))
    pure ⟨⟩
  else do
    pure ⟨⟩

/-- The clearing of the accumulator. -/
def partZ : Prog (TpuEff nD τ sig (Elt F) Λ₀ .tc) PUnit := do
  let arg1 : BitVec 32 := BitVec.ofNat 32 (i 1).val
  let v3 : BitVec 1 := Scalar.cmpi .eq arg1 0#32
  let v4 : BitVec 32 := Scalar.extui v3
  let v5 : BitVec 1 := Scalar.cmpi .ne v4 0#32
  if k0_h2 : v5 = 1#1 then do
    let v21 : Vec F S128x256 .f32 ← Prog.lift (.load arg13 (Rect.unit (s := S128x256) ![0, 0] S128x256.size inb_S128x256_S128x256_0_0).toLoadRect (View.loadsAt_vmem h_S128x256))
    Prog.lift (.store arg13 (Rect.unit (s := S128x256) ![0, 0] S128x256.size inb_S128x256_S128x256_0_0) (k0_pay4 (F := F)) Finset.univ (View.stores_vmem_bits_univ h_S128x256 rfl) (.inl rfl))
    pure ⟨⟩
  else do
    pure ⟨⟩

/-- The right operand's part of the body. -/
def partW : Prog (TpuEff nD τ sig (Elt F) Λ₀ .tc) PUnit := do
  Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16)
  let v7 : Vec F S1x128x128 .i32 ← Prog.lift (.load arg16 (Rect.unit (s := S2x128x128) ![0, 0, 0] S1x128x128.size inb_S2x128x128_S1x128x128_0_0_0).toLoadRect (View.loadsAt_vmem h_S1x128x128))
  let v11 : Vec F S128x128 .i8 ← Prog.lift (.load arg11 (Rect.unit (s := S256x128) ![0, 0] S128x128.size inb_S256x128_S128x128_0_0).toLoadRect (View.loadsAt_vmem h_S128x128))
  Prog.lift (.store arg11 (Rect.unit (s := S256x128) ![0, 0] S128x128.size inb_S256x128_S128x128_0_0) (k0_pay7 v7) Finset.univ (View.stores_vmem h_S128x128 (harg11.storeExact_slice rfl _ packedi8_S256x128_S128x128_0_0) (fun _ => rfl)) (.inl rfl))
  let v12 : Vec F S1x128x128 .i32 ← Prog.lift (.load arg16 (Rect.unit (s := S2x128x128) ![1, 0, 0] S1x128x128.size inb_S2x128x128_S1x128x128_1_0_0).toLoadRect (View.loadsAt_vmem h_S1x128x128))
  let v16 : Vec F S128x128 .i8 ← Prog.lift (.load arg11 (Rect.unit (s := S256x128) ![128, 0] S128x128.size inb_S256x128_S128x128_128_0).toLoadRect (View.loadsAt_vmem h_S128x128))
  Prog.lift (.store arg11 (Rect.unit (s := S256x128) ![128, 0] S128x128.size inb_S256x128_S128x128_128_0) (k0_pay8 v12) Finset.univ (View.stores_vmem h_S128x128 (harg11.storeExact_slice rfl _ packedi8_S256x128_S128x128_128_0) (fun _ => rfl)) (.inl rfl))
  pure ⟨⟩

/-- The store of the result. -/
def partY : Prog (TpuEff nD τ sig (Elt F) Λ₀ .tc) PUnit := do
  if k0_h3 : k0_cond3 i = 1#1 then do
    let v20 : Vec F S128x256 .f32 ← Prog.lift (.load arg13 (Rect.unit (s := S128x256) ![0, 0] S128x256.size inb_S128x256_S128x256_0_0).toLoadRect (View.loadsAt_vmem h_S128x256))
    let v22 : Vec F S128x256 .bf16 ← Prog.lift (.load arg5 (Rect.unit (s := S128x256) ![0, 0] S128x256.size inb_S128x256_S128x256_0_0).toLoadRect (View.loadsAt_vmem h_S128x256))
    Prog.lift (.store arg5 (Rect.unit (s := S128x256) ![0, 0] S128x256.size inb_S128x256_S128x256_0_0) (k0_pay9 v20) Finset.univ (View.stores_vmem h_S128x256 (harg5.storeExact_slice rfl _ packedbf16_S128x256_S128x256_0_0) (fun _ => rfl)) (.inl rfl))
    pure ⟨⟩
  else do
    pure ⟨⟩

set_option maxHeartbeats 1000000 in
/-- The body is its four parts in order. -/
theorem body_parts : cc0_mxfp4_linear i arg2 harg2 arg3 harg3 arg4 harg4 arg5 harg5 arg6 harg6 arg7 harg7 arg8 harg8 arg9 harg9 arg10 harg10 arg11 harg11 arg12 harg12 arg13 harg13 arg14 harg14 arg15 harg15 arg16 harg16
    = (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => partZ (F := F) i arg13 >>= fun _ => partW (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ =>
        partY (F := F) i arg5 harg5 arg13 >>= fun _ => pure ⟨⟩) := by
  rw [cc0_mxfp4_linear_eq_skeleton]
  unfold cc0_mxfp4_linear_skel partX partZ partW partY
  by_cases h1 : k0_cond1 i = 1#1 <;>
  by_cases h2 : Scalar.cmpi .ne (Scalar.extui (Scalar.cmpi .eq (BitVec.ofNat 32 (i 1).val) 0#32) : BitVec 32) 0#32 = 1#1 <;>
  by_cases h3 : k0_cond3 i = 1#1 <;>
  simp only [h1, h2, h3, dite_true, dite_false, bind_assoc, pure_bind]

end Parts

end Cert.KernelIdeal.Tile

end
-- ==== Proof.KI.BodyRun.lean ====
module

public import proofs.«01_k».proof.Proof.KI.Body

/-! # What the parts of the body leave -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- One plane of scale words. -/
def plane (e : IVec S2x128x128 32) (p : ℕ) (hp : p < 2) : IVec S1x128x128 32 := fun z => e (ix3 ⟨p, hp⟩ (z 1) (z 2))

theorem load_plane {κ : Kind} {sp : Space} (v : View sig κ sp S2x128x128 .i32) (f : v.ty.Contents (Elt F))
    (p : ℕ) (hp : p < 2) (off : Fin 3 → ℕ) (hoff : off = ![p, 0, 0])
    (inb : ∀ a, off a + S1x128x128.size a ≤ S2x128x128.size a) (e : IVec S2x128x128 32)
    (he : ∀ y : S2x128x128.Idx, (y 0).val = p → v.read (Elt F) f y = e y) :
    v.readAt (Elt F) (Rect.unit (s := S2x128x128) off S1x128x128.size inb).toLoadRect f = plane e p hp := by
  subst hoff
  funext y
  rw [View.readAt_apply]
  have h0 : (y 0).val < 1 := (y 0).isLt
  refine (he _ ?_).trans (congrArg e (funext fun a => Fin.ext ?_))
  · simp [Rect.unit]; omega
  · fin_cases a <;> simp [Rect.unit] <;> first | omega | rfl

/-- The left operand's scale bytes. -/
def bytesX (h : FVec F S256x256 .bf16) (x : FVec F S128x4096 .bf16) : IVec S128x128 8 :=
  k0_pay3 (F := F) (plane (scaleX h x) 0 (by decide))

/-- The right operand's scale bytes. -/
def bytesW (h : FVec F S256x256 .bf16) (w : FVec F S256x4096 .bf16) : IVec S256x128 8 := fun y =>
  if (y 0).val < 128 then k0_pay7 (F := F) (plane (scaleW h w) 0 (by decide)) (ix2 (m128 (y 0).val) (y 1))
  else k0_pay8 (F := F) (plane (scaleW h w) 1 (by decide)) (ix2 (m128 (y 0).val) (y 1))

/-- Two half blocks of bytes written one above the other. -/
theorem read_bytesW {κ : Kind} {sp : Space} (v : View sig κ sp S256x128 .i8) (f : v.ty.Contents (Elt F))
    (h : FVec F S256x256 .bf16) (w : FVec F S256x4096 .bf16) :
    v.read (Elt F) (v.writes (Elt F) f
      [⟨Rect.unit (s := S256x128) ![128, 0] S128x128.size inb_S256x128_S128x128_128_0, k0_pay8 (F := F) (plane (scaleW h w) 1 (by decide))⟩,
       ⟨Rect.unit (s := S256x128) ![0, 0] S128x128.size inb_S256x128_S128x128_0_0, k0_pay7 (F := F) (plane (scaleW h w) 0 (by decide))⟩]) = bytesW h w := by
  funext y
  have hy0 : (y 0).val < 256 := (y 0).isLt
  have hy1 : (y 1).val < 128 := (y 1).isLt
  refine View.read_writes_apply_of_pieces v f (bytesW h w) _ ?_ y ?_
  · simp only [List.forall_mem_cons, List.not_mem_nil, false_imp_iff, implies_true, and_true]
    refine ⟨?_, ?_⟩
    · intro z
      have hz0 : (z 0).val < 128 := (z 0).isLt
      have hz1 : (z 1).val < 128 := (z 1).isLt
      unfold bytesW
      rw [if_neg (by show ¬ 128 + 1 * (z 0).val < 128; omega)]
      refine congrArg _ (funext fun a => Fin.ext ?_)
      fin_cases a
      · show (z 0).val = (128 + 1 * (z 0).val) % 128
        omega
      · show (z 1).val = 0 + 1 * (z 1).val
        omega
    · intro z
      have hz0 : (z 0).val < 128 := (z 0).isLt
      have hz1 : (z 1).val < 128 := (z 1).isLt
      unfold bytesW
      rw [if_pos (by show 0 + 1 * (z 0).val < 128; omega)]
      refine congrArg _ (funext fun a => Fin.ext ?_)
      fin_cases a
      · show (z 0).val = (0 + 1 * (z 0).val) % 128
        omega
      · show (z 1).val = 0 + 1 * (z 1).val
        omega
  · rcases Nat.lt_or_ge (y 0).val 128 with hlt | hge
    · refine ⟨_, List.mem_cons_of_mem _ (List.mem_cons_self ..), mem_unit_set inb_S256x128_S128x128_0_0 y fun a => ?_⟩
      fin_cases a
      · show 0 ≤ (y 0).val ∧ (y 0).val < 0 + 128; omega
      · show 0 ≤ (y 1).val ∧ (y 1).val < 0 + 128; omega
    · refine ⟨_, List.mem_cons_self .., mem_unit_set inb_S256x128_S128x128_128_0 y fun a => ?_⟩
      fin_cases a
      · show 128 ≤ (y 0).val ∧ (y 0).val < 128 + 128; omega
      · show 0 ≤ (y 1).val ∧ (y 1).val < 0 + 128; omega

section Parts

variable (c : Dev nD) (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole)
  (h : FVec F S256x256 .bf16)

set_option maxHeartbeats 2000000 in
theorem partX_run (x : FVec F S128x4096 .bf16) (G : FVec F S128x16384 .bf16) (hi : k0_cond1 i = 1#1)
    (hG : ∀ (y : S128x16384.Idx) (z : S128x4096.Idx), (y 0).val = (z 0).val → (y 1).val = 4096 * (i 1).val + (z 1).val → G y = deqXs h x z)
    (f2 : Bf (F := F) c arg2) (f3 : Bf (F := F) c arg3) (f12 : Bf (F := F) c arg12)
    (hh : arg2.view.read (Elt F) f2 = h) (hx : arg3.view.read (Elt F) f3 = x)
    (h12 : ∀ y : S128x16384.Idx, (y 1).val < 4096 * (i 1).val → arg12.view.read (Elt F) f12 y = G y)
    (K : PUnit → sProp 𝕄) :
    iprop(pt c arg2 f2 ∗ pt c arg3 f3 ∗ (∃ f, pt (F := F) c arg6 f) ∗ (∃ f, pt (F := F) c arg8 f) ∗ (∃ f, pt (F := F) c arg9 f) ∗ pt c arg12 f12
        ∗ (∃ f, pt (F := F) c arg14 f) ∗ (∃ f, pt (F := F) c arg15 f) ∗ (∃ f, pt (F := F) c arg16 f)
        ∗ (∀ f6 f8 f9 f12 f14 f15 f16, iprop(pt c arg2 f2 ∗ pt c arg3 f3 ∗ pt c arg6 f6 ∗ pt c arg8 f8 ∗ pt c arg9 f9 ∗ pt c arg12 f12
            ∗ pt c arg14 f14 ∗ pt c arg15 f15 ∗ pt c arg16 f16
            ∗ ⌜arg6.view.read (Elt F) f6 = maskX h x ∧ arg8.view.read (Elt F) f8 = codesX h x ∧ arg9.view.read (Elt F) f9 = bytesX h x
              ∧ (∀ y : S128x16384.Idx, (y 1).val < 4096 * (i 1).val + 4096 → arg12.view.read (Elt F) f12 y = G y)⌝) -∗ K ⟨⟩))
    ⊢ wp frame (wpE (defs₀ (F := F)) Variants.none c none) Set.univ (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  sl_unfold [partX]
  rw [dif_pos hi]
  iintro ⟨H2, H3, ⟨%f6, H6⟩, ⟨%f8, H8⟩, ⟨%f9, H9⟩, H12, ⟨%f14, H14⟩, ⟨%f15, H15⟩, ⟨%f16, H16⟩, HK⟩
  sl_for (fun k _ => invX c i arg2 arg3 arg6 arg8 arg12 arg14 arg15 arg16 h x G f2 f3 k) $$ [H2 H3 H6 H8 H12 H14 H15 H16]
  case region =>
    intro k acc
    have hr := tripX_inv c i arg2 harg2 arg3 harg3 arg6 harg6 arg8 harg8 arg12 harg12 arg14 harg14 arg15 harg15 arg16 harg16 hi h x G f2 f3 hh hx hG k
    rw [← k0_t1_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 hi (BitVec.ofNat 32 (i 1).val) k acc] at hr
    exact hr
  · unfold invX
    iexists f6, f8, f12, f14, f15, f16
    isplitl [H2]; · iexact H2
    isplitl [H3]; · iexact H3
    isplitl [H6]; · iexact H6
    isplitl [H8]; · iexact H8
    isplitl [H12]; · iexact H12
    isplitl [H14]; · iexact H14
    isplitl [H15]; · iexact H15
    isplitl [H16]; · iexact H16
    ipureintro
    exact ⟨fun y hy => absurd hy (by omega), fun y hy => absurd hy (by omega), fun y hy => h12 y (by omega), fun y hy => absurd hy.2 (by omega)⟩
  iintro %acc HI
  unfold invX
  icases HI with ⟨%f6, %f8, %f12, %f14, %f15, %f16, H2, H3, H6, H8, H12, H14, H15, H16, %hI⟩
  have ht : Scf.trips k0_t1_loop.lb k0_t1_loop.ub k0_t1_loop.st = 4 := by decide
  rw [ht] at hI
  obtain ⟨hI6, hI8, hI12, hI16⟩ := hI
  have l16 := load_plane arg16.view f16 0 (by decide) ![0, 0, 0] rfl inb_S2x128x128_S1x128x128_0_0_0 (scaleX h x)
    fun y hy => hI16 y ⟨by omega, lt_of_lt_of_le (y 1).isLt (by decide)⟩
  sl_exec
  simp only [l16]
  sl_step
  iapply HK $$ %f6 %f8 %_ %f12 %f14 %f15 %f16
  isplitl [H2]; · iexact H2
  isplitl [H3]; · iexact H3
  isplitl [H6]; · iexact H6
  isplitl [H8]; · iexact H8
  isplitl [H9]; · iexact H9
  isplitl [H12]; · iexact H12
  isplitl [H14]; · iexact H14
  isplitl [H15]; · iexact H15
  isplitl [H16]; · iexact H16
  ipureintro
  refine ⟨funext fun y => hI6 y (lt_of_lt_of_le (y 1).isLt (by decide)), funext fun y => hI8 y (lt_of_lt_of_le (y 1).isLt (by decide)), ?_, fun y hy => hI12 y (by omega)⟩
  exact View.read_writes_full arg9.view f9 inb_S128x128_S128x128_0_0 _ []

theorem partX_skip (hi : ¬ k0_cond1 i = 1#1) : partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = pure ⟨⟩ := by
  unfold partX
  rw [dif_neg hi]

/-- Clearing the accumulator: at the first column block it is zero, elsewhere what it was. -/
theorem partZ_run (f13 : Bf (F := F) c arg13) (K : PUnit → sProp 𝕄) :
    iprop(pt c arg13 f13 ∗ (∀ g, iprop(pt c arg13 g ∗ ⌜arg13.view.read (Elt F) g
        = (if (i 1).val = 0 then k0_pay4 (F := F) else arg13.view.read (Elt F) f13)⌝) -∗ K ⟨⟩))
    ⊢ wp frame (wpE (defs₀ (F := F)) Variants.none c none) Set.univ (partZ (F := F) i arg13) K := by
  have h4 : ∀ j : Fin 4, (Scalar.cmpi .ne (Scalar.extui (Scalar.cmpi .eq (BitVec.ofNat 32 j.val) 0#32) : BitVec 32) 0#32 = 1#1) ↔ j.val = 0 := by decide
  have hi := h4 (i 1)
  sl_unfold [partZ]
  by_cases h2 : Scalar.cmpi .ne (Scalar.extui (Scalar.cmpi .eq (BitVec.ofNat 32 (i 1).val) 0#32) : BitVec 32) 0#32 = 1#1
  · rw [if_pos (hi.mp h2)]
    iintro ⟨H13, HK⟩
    sl_exec
    sl_step
    iapply HK $$ %_
    isplitl [H13]; · iexact H13
    ipureintro
    exact View.read_writes_full arg13.view f13 inb_S128x256_S128x256_0_0 _ []
  · rw [if_neg (fun h => h2 (hi.mpr h))]
    iintro ⟨H13, HK⟩
    sl_exec
    sl_step
    iapply HK $$ %_
    isplitl [H13]; · iexact H13
    ipureintro
    rfl

/-- The store of the result: at the last column block the rounded accumulator, elsewhere what was there. -/
theorem partY_run (f5 : Bf (F := F) c arg5) (f13 : Bf (F := F) c arg13) (K : PUnit → sProp 𝕄) :
    iprop(pt c arg5 f5 ∗ pt c arg13 f13 ∗ (∀ g, iprop(pt c arg5 g ∗ pt c arg13 f13 ∗ ⌜arg5.view.read (Elt F) g
        = (if k0_cond3 i = 1#1 then k0_pay9 (arg13.view.read (Elt F) f13) else arg5.view.read (Elt F) f5)⌝) -∗ K ⟨⟩))
    ⊢ wp frame (wpE (defs₀ (F := F)) Variants.none c none) Set.univ (partY (F := F) i arg5 harg5 arg13) K := by
  have l13 := load_full arg13.view f13 ![0, 0] (fun a => by fin_cases a <;> rfl) inb_S128x256_S128x256_0_0
  sl_unfold [partY]
  by_cases h2 : k0_cond3 i = 1#1
  · rw [if_pos h2]
    iintro ⟨H5, H13, HK⟩
    sl_exec
    sl_step
    iapply HK $$ %_
    isplitl [H5]; · iexact H5
    isplitl [H13]; · iexact H13
    ipureintro
    rw [View.read_writes_full arg5.view f5 inb_S128x256_S128x256_0_0 _ []]
  · rw [if_neg h2]
    iintro ⟨H5, H13, HK⟩
    sl_exec
    sl_step
    iapply HK $$ %_
    isplitl [H5]; · iexact H5
    isplitl [H13]; · iexact H13
    ipureintro
    rfl

set_option maxHeartbeats 2000000 in
theorem partW_run (w : FVec F S256x4096 .bf16) (q : FVec F S128x16384 .bf16) (a : FVec F S128x256 .f32)
    (f2 : Bf (F := F) c arg2) (f4 : Bf (F := F) c arg4) (f12 : Bf (F := F) c arg12) (f13 : Bf (F := F) c arg13)
    (hh : arg2.view.read (Elt F) f2 = h) (hw : arg4.view.read (Elt F) f4 = w)
    (hq : ∀ y : S128x16384.Idx, (y 1).val < 4096 * (i 1).val + 4096 → arg12.view.read (Elt F) f12 y = q y)
    (h13 : arg13.view.read (Elt F) f13 = a)
    (K : PUnit → sProp 𝕄) :
    iprop(pt c arg2 f2 ∗ pt c arg4 f4 ∗ (∃ f, pt (F := F) c arg7 f) ∗ (∃ f, pt (F := F) c arg10 f) ∗ (∃ f, pt (F := F) c arg11 f) ∗ pt c arg12 f12
        ∗ pt c arg13 f13 ∗ (∃ f, pt (F := F) c arg14 f) ∗ (∃ f, pt (F := F) c arg15 f) ∗ (∃ f, pt (F := F) c arg16 f)
        ∗ (∀ f7 f10 f11 f13 f14 f15 f16, iprop(pt c arg2 f2 ∗ pt c arg4 f4 ∗ pt c arg7 f7 ∗ pt c arg10 f10 ∗ pt c arg11 f11 ∗ pt c arg12 f12
            ∗ pt c arg13 f13 ∗ pt c arg14 f14 ∗ pt c arg15 f15 ∗ pt c arg16 f16
            ∗ ⌜arg7.view.read (Elt F) f7 = maskW h w ∧ arg10.view.read (Elt F) f10 = codesW h w ∧ arg11.view.read (Elt F) f11 = bytesW h w
              ∧ arg13.view.read (Elt F) f13 = accAt h w q (4096 * (i 1).val) a 4⌝) -∗ K ⟨⟩))
    ⊢ wp frame (wpE (defs₀ (F := F)) Variants.none c none) Set.univ (partW (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  sl_unfold [partW]
  iintro ⟨H2, H4, ⟨%f7, H7⟩, ⟨%f10, H10⟩, ⟨%f11, H11⟩, H12, H13, ⟨%f14, H14⟩, ⟨%f15, H15⟩, ⟨%f16, H16⟩, HK⟩
  sl_for (fun k _ => invW c i arg2 arg4 arg7 arg10 arg12 arg13 arg14 arg15 arg16 h w q a f2 f4 f12 k) $$ [H2 H4 H7 H10 H12 H13 H14 H15 H16]
  case region =>
    intro k acc
    have hr := tripW_inv c i arg2 harg2 arg4 harg4 arg7 harg7 arg10 harg10 arg12 harg12 arg13 harg13 arg14 harg14 arg15 harg15 arg16 harg16 h w q a f2 f4 f12 hh hw hq k
    rw [← k0_t2_body_eq i arg2 harg2 arg3 harg3 arg4 harg4 arg5 harg5 arg6 harg6 arg7 harg7 arg8 harg8 arg9 harg9 arg10 harg10 arg11 harg11 arg12 harg12 arg13 harg13 arg14 harg14 arg15 harg15 arg16 harg16 k acc] at hr
    exact hr
  · unfold invW
    iexists f7, f10, f13, f14, f15, f16
    isplitl [H2]; · iexact H2
    isplitl [H4]; · iexact H4
    isplitl [H7]; · iexact H7
    isplitl [H10]; · iexact H10
    isplitl [H12]; · iexact H12
    isplitl [H13]; · iexact H13
    isplitl [H14]; · iexact H14
    isplitl [H15]; · iexact H15
    isplitl [H16]; · iexact H16
    ipureintro
    exact ⟨fun y hy => absurd hy (by omega), fun y hy => absurd hy (by omega), h13, fun y hy => absurd hy (by omega)⟩
  iintro %acc HI
  unfold invW
  icases HI with ⟨%f7, %f10, %f13, %f14, %f15, %f16, H2, H4, H7, H10, H12, H13, H14, H15, H16, %hI⟩
  have ht : Scf.trips k0_t2_loop.lb k0_t2_loop.ub k0_t2_loop.st = 4 := by decide
  rw [ht] at hI
  obtain ⟨hI7, hI10, hI13, hI16⟩ := hI
  have l16 := load_plane arg16.view f16 0 (by decide) ![0, 0, 0] rfl inb_S2x128x128_S1x128x128_0_0_0 (scaleW h w)
    fun y hy => hI16 y (lt_of_lt_of_le (y 1).isLt (by decide))
  have l16' := load_plane arg16.view f16 1 (by decide) ![1, 0, 0] rfl inb_S2x128x128_S1x128x128_1_0_0 (scaleW h w)
    fun y hy => hI16 y (lt_of_lt_of_le (y 1).isLt (by decide))
  sl_exec
  simp only [l16, l16']
  sl_step
  iapply HK $$ %f7 %f10 %_ %f13 %f14 %f15 %f16
  isplitl [H2]; · iexact H2
  isplitl [H4]; · iexact H4
  isplitl [H7]; · iexact H7
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  exact ⟨funext fun y => hI7 y (lt_of_lt_of_le (y 1).isLt (by decide)), funext fun y => hI10 y (lt_of_lt_of_le (y 1).isLt (by decide)),
    read_bytesW arg11.view f11 h w, hI13⟩

end Parts

end Cert.KernelIdeal.Tile

end
-- ==== Proof.KI.Launch.lean ====
module

public import proofs.«01_k».proof.Proof.KI.BodyRun
public import proofs.«01_k».proof.Proof.Gen.KernelIdeal.Frame
public import Idealize.ShloMosaic.Lib.Pipeline.FrameBody

/-! # The launch

What the body finds and leaves at each point, and the run of the whole program. -/

@[expose] public section
set_option maxRecDepth 16384

noncomputable section

namespace Cert.KernelIdeal.Tile

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The grid's points -/

/-- Point `n`, reduced below the number of points. -/
def ptOf (n : ℕ) : Fin cfg0.N := ⟨n % 48, Nat.mod_lt _ (by decide)⟩

theorem coord0 : ∀ t : Fin cfg0.N, (k0_cond1 (grid0.coords t) = 1#1) ↔ t.val < 4 := by decide
theorem coord1 : ∀ t : Fin cfg0.N, ((grid0.coords t) 1).val = t.val % 4 := by decide
theorem coord3 : ∀ t : Fin cfg0.N, (k0_cond3 (grid0.coords t) = 1#1) ↔ t.val % 4 = 3 := by decide

theorem flush4 : ∀ t : Fin cfg0.N, (cfg0.win 4).flush t = decide (t.val < 3 ∨ t.val = 47) := by decide
theorem flush6 : ∀ t : Fin cfg0.N, (cfg0.win 6).flush t = decide (t.val < 3 ∨ t.val = 47) := by decide
theorem flush7 : ∀ t : Fin cfg0.N, (cfg0.win 7).flush t = decide (t.val < 3 ∨ t.val = 47) := by decide

/-! ## What each buffer holds -/

section Data

variable (c : Dev nD)

/-- The rotation's table, the left operand's and the right operand's block at a point. -/
def hB (t : Fin cfg0.N) : FVec F S256x256 .bf16 := iblk m c 0 t
def xB (t : Fin cfg0.N) : FVec F S128x4096 .bf16 := iblk m c 1 t
def wB (t : Fin cfg0.N) : FVec F S256x4096 .bf16 := iblk m c 2 t

/-- The dequantised left operand, all columns. -/
def gX : FVec F S128x16384 .bf16 := fun y =>
  deqXs (hB m c (ptOf ((y 1).val / 4096))) (xB m c (ptOf ((y 1).val / 4096)))
    (ix2 (y 0) ⟨(y 1).val % 4096, Nat.mod_lt _ (by decide)⟩)

/-- The accumulator of row block `r` after `n` column blocks. -/
def accRow (r : ℕ) : ℕ → FVec F S128x256 .f32
  | 0 => k0_pay4 (F := F)
  | n + 1 => accAt (hB m c (ptOf (4 * r + n))) (wB m c (ptOf (4 * r + n))) (gX m c) (4096 * n) (accRow r n) 4

/-- The point at which the left operand's results last written at `t` were computed. -/
def tx (t : Fin cfg0.N) : Fin cfg0.N := ptOf (min t.val 3)

/-- The scratch before point `n`. -/
def Scr (n : ℕ) : sProp 𝕄 :=
  iprop(∃ f12, ∃ f13, ∃ f14, ∃ f15, ∃ f16,
    pt (F := F) c (Memref.whole cc0_scratch0) f12 ∗ pt (F := F) c (Memref.whole cc0_scratch1) f13 ∗ pt (F := F) c (Memref.whole cc0_scratch2) f14
    ∗ pt (F := F) c (Memref.whole cc0_scratch3) f15 ∗ pt (F := F) c (Memref.whole cc0_scratch4) f16
    ∗ ⌜(∀ y : S128x16384.Idx, (y 1).val < 4096 * min n 4 → (Memref.whole cc0_scratch0).view.read (Elt F) f12 y = gX m c y)
      ∧ (n % 4 ≠ 0 → (Memref.whole cc0_scratch1).view.read (Elt F) f13 = accRow m c (n / 4) (n % 4))⌝)

end Data

/-- The proof data on core `c`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => k0_pay9 (accRow m c (t.val / 4) 4)
    | 4 => maskX (hB m c (tx t)) (xB m c (tx t))
    | 5 => maskW (hB m c t) (wB m c t)
    | 6 => codesX (hB m c (tx t)) (xB m c (tx t))
    | 7 => bytesX (hB m c (tx t)) (xB m c (tx t))
    | 8 => codesW (hB m c t) (wB m c t)
    | 9 => bytesW (hB m c t) (wB m c t)
    | ⟨_ + 10, h⟩ => absurd h (Nat.not_lt.2 (Nat.le_add_left _ _))
  Φ t := iprop(Scr m c t.val ∗ ∃ r, prngReg c r)
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats (F := F) m 0 c).before 0 t d = hB m c t :=
  before0_0_of m (dats m 0 c) (A_eq m c 0) (fun t => by dsimp only [dats]) t d

theorem before1 (c : Dev nD) (t : Fin cfg0.N) (d) : (dats (F := F) m 0 c).before 1 t d = xB m c t :=
  before0_1_of m (dats m 0 c) (A_eq m c 1) (fun t => by dsimp only [dats]) t d

theorem before2 (c : Dev nD) (t : Fin cfg0.N) (d) : (dats (F := F) m 0 c).before 2 t d = wB m c t :=
  before0_2_of m (dats m 0 c) (A_eq m c 2) (fun t => by dsimp only [dats]) t d

/-- An output buffer last written at point `p` and left alone since holds what was left there. -/
theorem before_since {c : Dev nD} {cfg : Pipeline.Cfg sig Λ₀} (dat : Dat τ (Elt F) Unit ℕ (UR sig nD τ) ℕ cfg c) (w : Fin cfg.W) (p : Fin cfg.N)
    (hf : ∀ t, (cfg.win w).fetch t = false) (hp : cfg.idle w (cfg.grid.coords p) = false) (d) (k : ℕ) :
    ∀ (hn : p.val + k + 1 < cfg.N) (hfl : ∀ t : Fin cfg.N, p.val ≤ t.val → t.val ≤ p.val + k → (cfg.win w).flush t = false)
      (hi : ∀ t : Fin cfg.N, p.val < t.val → t.val ≤ p.val + k → cfg.idle w (cfg.grid.coords t) = true),
      dat.before w ⟨p.val + k + 1, hn⟩ d = dat.kept w p d := by
  induction k with
  | zero =>
    intro hn hfl hi
    rw [dat.before_of_pos w _ (Nat.succ_ne_zero _) (hf _), if_neg (by rw [hfl _ (by simp) (by simp)]; exact Bool.false_ne_true)]
    unfold Dat.left
    have e : (⟨(⟨p.val + 0 + 1, hn⟩ : Fin cfg.N).val - 1, Nat.lt_of_le_of_lt (Nat.sub_le _ _) hn⟩ : Fin cfg.N) = p := Fin.ext (by simp)
    rw [e]
    simp only [hp]
  | succ k ih =>
    intro hn hfl hi
    rw [dat.before_of_pos w _ (Nat.succ_ne_zero _) (hf _), if_neg (by rw [hfl _ (by show p.val ≤ p.val + (k + 1) + 1 - 1; omega) (by show p.val + (k + 1) + 1 - 1 ≤ _; omega)]; exact Bool.false_ne_true)]
    unfold Dat.left
    have e : (⟨(⟨p.val + (k + 1) + 1, hn⟩ : Fin cfg.N).val - 1, Nat.lt_of_le_of_lt (Nat.sub_le _ _) hn⟩ : Fin cfg.N) = ⟨p.val + k + 1, by omega⟩ := rfl
    rw [e]
    have h1 := hi ⟨p.val + k + 1, by omega⟩ (by show p.val < p.val + k + 1; omega) (by show p.val + k + 1 ≤ _; omega)
    simp only [h1]
    exact ih _ (fun t h1 h2 => hfl t h1 (by omega)) (fun t h1 h2 => hi t h1 (by omega))

theorem idle4 : ∀ t : Fin cfg0.N, cfg0.idle 4 (cfg0.grid.coords t) = decide (4 ≤ t.val) := by decide
theorem fetch4 : ∀ t : Fin cfg0.N, (cfg0.win 4).fetch t = false := fun _ => rfl

theorem before4 (c : Dev nD) (t : Fin cfg0.N) (h4 : 4 ≤ t.val) (d) :
    (dats (F := F) m 0 c).before 4 t d = maskX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 4 (ptOf 3) fetch4 (by rw [idle4]; rfl) d (t.val - 4) _ ?_ ?_).trans rfl
  · intro u h1 h2
    have h1' : 3 % 48 ≤ u.val := h1
    have h2' : u.val ≤ 3 % 48 + (t.val - 4) := h2
    rw [flush4]
    exact decide_eq_false (by omega)
  · intro u h1 h2
    have h1' : 3 % 48 < u.val := h1
    rw [idle4]
    exact decide_eq_true (by omega)

theorem idle6 : ∀ t : Fin cfg0.N, cfg0.idle 6 (cfg0.grid.coords t) = decide (4 ≤ t.val) := by decide
theorem fetch6 : ∀ t : Fin cfg0.N, (cfg0.win 6).fetch t = false := fun _ => rfl

theorem before6 (c : Dev nD) (t : Fin cfg0.N) (h4 : 4 ≤ t.val) (d) :
    (dats (F := F) m 0 c).before 6 t d = codesX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 6 (ptOf 3) fetch6 (by rw [idle6]; rfl) d (t.val - 4) _ ?_ ?_).trans rfl
  · intro u h1 h2
    have h1' : 3 % 48 ≤ u.val := h1
    have h2' : u.val ≤ 3 % 48 + (t.val - 4) := h2
    rw [flush6]
    exact decide_eq_false (by omega)
  · intro u h1 h2
    have h1' : 3 % 48 < u.val := h1
    rw [idle6]
    exact decide_eq_true (by omega)

theorem idle7 : ∀ t : Fin cfg0.N, cfg0.idle 7 (cfg0.grid.coords t) = decide (4 ≤ t.val) := by decide
theorem fetch7 : ∀ t : Fin cfg0.N, (cfg0.win 7).fetch t = false := fun _ => rfl

theorem before7 (c : Dev nD) (t : Fin cfg0.N) (h4 : 4 ≤ t.val) (d) :
    (dats (F := F) m 0 c).before 7 t d = bytesX (hB m c (ptOf 3)) (xB m c (ptOf 3)) := by
  have hN : cfg0.N = 48 := by decide
  have ht := t.isLt
  have e : t = ⟨(ptOf 3).val + (t.val - 4) + 1, by show 3 % 48 + (t.val - 4) + 1 < _; omega⟩ := Fin.ext (by show t.val = 3 % 48 + (t.val - 4) + 1; omega)
  rw [e]
  refine (before_since (dats (F := F) m 0 c) 7 (ptOf 3) fetch7 (by rw [idle7]; rfl) d (t.val - 4) _ ?_ ?_).trans rfl
  · intro u h1 h2
    have h1' : 3 % 48 ≤ u.val := h1
    have h2' : u.val ≤ 3 % 48 + (t.val - 4) := h2
    rw [flush7]
    exact decide_eq_false (by omega)
  · intro u h1 h2
    have h1' : 3 % 48 < u.val := h1
    rw [idle7]
    exact decide_eq_true (by omega)

section PartX

variable (c : Dev nD) (i : grid0.Coords) (arg2 : Memref sig .tc .vmem S256x256 .bf16) (harg2 : arg2.IsWhole) (arg3 : Memref sig .tc .vmem S128x4096 .bf16) (harg3 : arg3.IsWhole) (arg4 : Memref sig .tc .vmem S256x4096 .bf16) (harg4 : arg4.IsWhole) (arg5 : Memref sig .tc .vmem S128x256 .bf16) (harg5 : arg5.IsWhole) (arg6 : Memref sig .tc .vmem S128x512 .i8) (harg6 : arg6.IsWhole) (arg7 : Memref sig .tc .vmem S256x512 .i8) (harg7 : arg7.IsWhole) (arg8 : Memref sig .tc .vmem S128x2048 .i8) (harg8 : arg8.IsWhole) (arg9 : Memref sig .tc .vmem S128x128 .i8) (harg9 : arg9.IsWhole) (arg10 : Memref sig .tc .vmem S256x2048 .i8) (harg10 : arg10.IsWhole) (arg11 : Memref sig .tc .vmem S256x128 .i8) (harg11 : arg11.IsWhole) (arg12 : Memref sig .tc .vmem S128x16384 .bf16) (harg12 : arg12.IsWhole) (arg13 : Memref sig .tc .vmem S128x256 .f32) (harg13 : arg13.IsWhole) (arg14 : Memref sig .tc .vmem S8x64x128 .f32) (harg14 : arg14.IsWhole) (arg15 : Memref sig .tc .vmem S8x3x8x128 .f32) (harg15 : arg15.IsWhole) (arg16 : Memref sig .tc .vmem S2x128x128 .i32) (harg16 : arg16.IsWhole) (h : FVec F S256x256 .bf16)

/-- The left operand's part of the body, run or skipped. -/
theorem partX_all (x : FVec F S128x4096 .bf16) (G : FVec F S128x16384 .bf16)
    (hG : k0_cond1 i = 1#1 → ∀ (y : S128x16384.Idx) (z : S128x4096.Idx), (y 0).val = (z 0).val → (y 1).val = 4096 * (i 1).val + (z 1).val → G y = deqXs h x z)
    (f2 : Bf (F := F) c arg2) (f3 : Bf (F := F) c arg3) (f6 : Bf (F := F) c arg6) (f8 : Bf (F := F) c arg8) (f9 : Bf (F := F) c arg9) (f12 : Bf (F := F) c arg12)
    (hh : arg2.view.read (Elt F) f2 = h) (hx : arg3.view.read (Elt F) f3 = x)
    (h12 : k0_cond1 i = 1#1 → ∀ y : S128x16384.Idx, (y 1).val < 4096 * (i 1).val → arg12.view.read (Elt F) f12 y = G y)
    (K : PUnit → sProp 𝕄) :
    iprop(pt c arg2 f2 ∗ pt c arg3 f3 ∗ pt c arg6 f6 ∗ pt c arg8 f8 ∗ pt c arg9 f9 ∗ pt c arg12 f12
        ∗ (∃ f, pt (F := F) c arg14 f) ∗ (∃ f, pt (F := F) c arg15 f) ∗ (∃ f, pt (F := F) c arg16 f)
        ∗ (∀ g6 g8 g9 g12 f14 f15 f16, iprop(pt c arg2 f2 ∗ pt c arg3 f3 ∗ pt c arg6 g6 ∗ pt c arg8 g8 ∗ pt c arg9 g9 ∗ pt c arg12 g12
            ∗ pt c arg14 f14 ∗ pt c arg15 f15 ∗ pt c arg16 f16
            ∗ ⌜(k0_cond1 i = 1#1 → arg6.view.read (Elt F) g6 = maskX h x ∧ arg8.view.read (Elt F) g8 = codesX h x ∧ arg9.view.read (Elt F) g9 = bytesX h x
              ∧ (∀ y : S128x16384.Idx, (y 1).val < 4096 * (i 1).val + 4096 → arg12.view.read (Elt F) g12 y = G y))
              ∧ (¬ k0_cond1 i = 1#1 → g6 = f6 ∧ g8 = f8 ∧ g9 = f9 ∧ g12 = f12)⌝) -∗ K ⟨⟩))
    ⊢ wp frame (wpE (defs₀ (F := F)) Variants.none c none) Set.univ (partX (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hi : k0_cond1 i = 1#1
  · iintro ⟨H2, H3, H6, H8, H9, H12, H14, H15, H16, HK⟩
    iapply (partX_run c i arg2 harg2 arg3 harg3 arg4 harg4 arg5 harg5 arg6 harg6 arg7 harg7 arg8 harg8 arg9 harg9 arg10 harg10 arg11 harg11 arg12 harg12 arg13 harg13 arg14 harg14 arg15 harg15 arg16 harg16 h x G hi (hG hi) f2 f3 f12 hh hx (h12 hi) K)
    isplitl [H2]; · iexact H2
    isplitl [H3]; · iexact H3
    isplitl [H6]; · iexists _; iexact H6
    isplitl [H8]; · iexists _; iexact H8
    isplitl [H9]; · iexists _; iexact H9
    isplitl [H12]; · iexact H12
    isplitl [H14]; · iexact H14
    isplitl [H15]; · iexact H15
    isplitl [H16]; · iexact H16
    iintro %f6 %f8 %f9 %f12 %f14 %f15 %f16 ⟨H2, H3, H6, H8, H9, H12, H14, H15, H16, %hr⟩
    iapply HK $$ %f6 %f8 %f9 %f12 %f14 %f15 %f16
    isplitl [H2]; · iexact H2
    isplitl [H3]; · iexact H3
    isplitl [H6]; · iexact H6
    isplitl [H8]; · iexact H8
    isplitl [H9]; · iexact H9
    isplitl [H12]; · iexact H12
    isplitl [H14]; · iexact H14
    isplitl [H15]; · iexact H15
    isplitl [H16]; · iexact H16
    ipureintro
    exact ⟨fun _ => hr, fun h => absurd hi h⟩
  · rw [partX_skip i arg2 harg2 arg3 harg3 arg4 harg4 arg5 harg5 arg6 harg6 arg7 harg7 arg8 harg8 arg9 harg9 arg10 harg10 arg11 harg11 arg12 harg12 arg13 harg13 arg14 harg14 arg15 harg15 arg16 harg16 hi]
    iintro ⟨H2, H3, H6, H8, H9, H12, ⟨%f14, H14⟩, ⟨%f15, H15⟩, ⟨%f16, H16⟩, HK⟩
    sl_step
    iapply HK $$ %f6 %f8 %f9 %f12 %f14 %f15 %f16
    isplitl [H2]; · iexact H2
    isplitl [H3]; · iexact H3
    isplitl [H6]; · iexact H6
    isplitl [H8]; · iexact H8
    isplitl [H9]; · iexact H9
    isplitl [H12]; · iexact H12
    isplitl [H14]; · iexact H14
    isplitl [H15]; · iexact H15
    isplitl [H16]; · iexact H16
    ipureintro
    exact ⟨fun h => absurd h hi, fun _ => ⟨rfl, rfl, rfl, rfl⟩⟩

end PartX

/-- A buffer handed back: at what the body leaves there, or, where the body leaves it alone, at what it found. -/
theorem leaves_of {c : Dev nD} {cfg : Pipeline.Cfg sig Λ₀} (dat : Dat τ (Elt F) Unit ℕ (UR sig nD τ) ℕ cfg c) (w : Fin cfg.W) (t : Fin cfg.N)
    (X : (cfg.win w).block.Idx → Elt F (cfg.win w).elt) (h1 : cfg.idle w (cfg.grid.coords t) = false → X = dat.after w t)
    (h2 : cfg.idle w (cfg.grid.coords t) = true → (cfg.win w).flush t = true → X = dat.after w t)
    (h3 : cfg.idle w (cfg.grid.coords t) = true → ∃ d, X = dat.before w t d) :
    (owns (c : Thread nD τ) ((cfg.win w).stage (cfg.slots t w)) fullShare X : sProp 𝕄) ⊢ dat.leavesExact w t := by
  unfold Dat.leavesExact
  cases hi : cfg.idle w (cfg.grid.coords t)
  · rw [h1 hi]
  · cases hf : (cfg.win w).flush t
    · obtain ⟨d, rfl⟩ := h3 hi
      iintro H; iexists d; iexact H
    · rw [h2 hi hf]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- A whole memref owned is its buffer held whole. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt (F := F) c M f) := by
  unfold owns pt
  rw [hM.set_eq_univ]

theorem succ_row (c : Dev nD) (n : ℕ) (hn : n < 48) (a : FVec F S128x256 .f32)
    (ha : a = if n % 4 = 0 then k0_pay4 (F := F) else accRow m c (n / 4) (n % 4)) :
    accAt (hB m c (ptOf n)) (wB m c (ptOf n)) (gX m c) (4096 * (n % 4)) a 4 = accRow m c (n / 4) (n % 4 + 1) := by
  have e : a = accRow m c (n / 4) (n % 4) := by
    rw [ha]
    split
    · next h => rw [h]; rfl
    · rfl
  show _ = accAt (hB m c (ptOf (4 * (n / 4) + n % 4))) (wB m c (ptOf (4 * (n / 4) + n % 4))) (gX m c) (4096 * (n % 4)) (accRow m c (n / 4) (n % 4)) 4
  rw [Nat.div_add_mod, e]

theorem ptOf_val (t : Fin cfg0.N) : ptOf t.val = t :=
  Fin.ext (Nat.mod_eq_of_lt (lt_of_lt_of_eq t.isLt (by decide)))

theorem gX_at (c : Dev nD) (t : Fin cfg0.N) (ht : t.val < 4) (y : S128x16384.Idx) (z : S128x4096.Idx) (h0 : (y 0).val = (z 0).val)
    (h1 : (y 1).val = 4096 * (t.val % 4) + (z 1).val) : gX m c y = deqXs (hB m c t) (xB m c t) z := by
  have hz : (z 1).val < 4096 := (z 1).isLt
  unfold gX
  have e : ptOf ((y 1).val / 4096) = t := Fin.ext (by show (y 1).val / 4096 % 48 = t.val; omega)
  rw [e]
  refine congrArg _ (funext fun a => Fin.ext ?_)
  fin_cases a
  · exact h0
  · show (y 1).val % 4096 = (z 1).val
    omega

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have ht48 : t.val < 48 := lt_of_lt_of_eq t.isLt (by decide)
  have hc0 := coord0 t
  have hc1 := coord1 t
  have hc3 := coord3 t
  have hl3 : ∀ X, (((t.val % 4 = 3) → X = k0_pay9 (accRow m c (t.val / 4) 4)) ∧ (t.val % 4 ≠ 3 → ∃ d, X = (dats m 0 c).before 3 t d)) →
      (owns (c : Thread nD τ) (win0_3.stage (cfg0.slots t 3)) fullShare X : sProp 𝕄) ⊢ (dats m 0 c).leavesExact 3 t := fun X hX =>
    leaves_of (dats m 0 c) 3 t X
      (fun h => hX.1 (hc3.mp (by have h' : (!(k0_cond3 (grid0.coords t) == 1#1)) = false := h; simpa using h')))
      (fun _ h => hX.1 ((flush0_3 t).mp h))
      (fun h => hX.2 fun h' => by
        have h'' : (!(k0_cond3 (grid0.coords t) == 1#1)) = true := h
        rw [hc3.mpr h'] at h''
        exact absurd h'' (by decide))

  have hl4 : ∀ X, ((t.val < 4 → X = maskX (hB m c t) (xB m c t)) ∧ (4 ≤ t.val → ∃ d, X = (dats m 0 c).before 4 t d)) →
      (owns (c : Thread nD τ) (win0_4.stage (cfg0.slots t 4)) fullShare X : sProp 𝕄) ⊢ (dats m 0 c).leavesExact 4 t := fun X hX =>
    leaves_of (dats m 0 c) 4 t X
      (fun h => by
        rw [idle4] at h
        have h' : t.val < 4 := by have := of_decide_eq_false h; omega
        have e : tx t = t := Fin.ext (by show min t.val 3 % 48 = t.val; omega)
        rw [hX.1 h']
        dsimp only [dats]
        rw [e])
      (fun h _ => by
        rw [idle4] at h
        have h' : 4 ≤ t.val := of_decide_eq_true h
        have e : tx t = ptOf 3 := Fin.ext (by show min t.val 3 % 48 = 3 % 48; omega)
        obtain ⟨d, hd⟩ := hX.2 h'
        rw [hd, before4 m c t h' d]
        dsimp only [dats]
        rw [e])
      (fun h => by
        rw [idle4] at h
        exact hX.2 (of_decide_eq_true h))
  have hl6 : ∀ X, ((t.val < 4 → X = codesX (hB m c t) (xB m c t)) ∧ (4 ≤ t.val → ∃ d, X = (dats m 0 c).before 6 t d)) →
      (owns (c : Thread nD τ) (win0_6.stage (cfg0.slots t 6)) fullShare X : sProp 𝕄) ⊢ (dats m 0 c).leavesExact 6 t := fun X hX =>
    leaves_of (dats m 0 c) 6 t X
      (fun h => by
        rw [idle6] at h
        have h' : t.val < 4 := by have := of_decide_eq_false h; omega
        have e : tx t = t := Fin.ext (by show min t.val 3 % 48 = t.val; omega)
        rw [hX.1 h']
        dsimp only [dats]
        rw [e])
      (fun h _ => by
        rw [idle6] at h
        have h' : 4 ≤ t.val := of_decide_eq_true h
        have e : tx t = ptOf 3 := Fin.ext (by show min t.val 3 % 48 = 3 % 48; omega)
        obtain ⟨d, hd⟩ := hX.2 h'
        rw [hd, before6 m c t h' d]
        dsimp only [dats]
        rw [e])
      (fun h => by
        rw [idle6] at h
        exact hX.2 (of_decide_eq_true h))
  have hl7 : ∀ X, ((t.val < 4 → X = bytesX (hB m c t) (xB m c t)) ∧ (4 ≤ t.val → ∃ d, X = (dats m 0 c).before 7 t d)) →
      (owns (c : Thread nD τ) (win0_7.stage (cfg0.slots t 7)) fullShare X : sProp 𝕄) ⊢ (dats m 0 c).leavesExact 7 t := fun X hX =>
    leaves_of (dats m 0 c) 7 t X
      (fun h => by
        rw [idle7] at h
        have h' : t.val < 4 := by have := of_decide_eq_false h; omega
        have e : tx t = t := Fin.ext (by show min t.val 3 % 48 = t.val; omega)
        rw [hX.1 h']
        dsimp only [dats]
        rw [e])
      (fun h _ => by
        rw [idle7] at h
        have h' : 4 ≤ t.val := of_decide_eq_true h
        have e : tx t = ptOf 3 := Fin.ext (by show min t.val 3 % 48 = 3 % 48; omega)
        obtain ⟨d, hd⟩ := hX.2 h'
        rw [hd, before7 m c t h' d]
        dsimp only [dats]
        rw [e])
      (fun h => by
        rw [idle7] at h
        exact hX.2 (of_decide_eq_true h))
  have e0 : (dats m 0 c).Φ t.castSucc = iprop(Scr m c t.val ∗ ∃ r, prngReg c r) := by dsimp only [dats]; rfl
  have e1 : (dats m 0 c).Φ t.succ = iprop(Scr m c (t.val + 1) ∗ ∃ r, prngReg c r) := by dsimp only [dats]; rfl
  have e2 : (dats m 0 c).owesAt () t.succ = (dats m 0 c).owesAt () t.castSucc := rfl
  have lv : ∀ (w : Fin cfg0.W) (hi : cfg0.idle w (cfg0.grid.coords t) = false), (dats m 0 c).leavesExact w t
      = (owns (c : Thread nD τ) ((cfg0.win w).stage (cfg0.slots t w)) fullShare ((dats m 0 c).after w t) : sProp 𝕄) := fun w hi => by
    unfold Dat.leavesExact; rw [hi]
  unfold bodyPre bodyPost bodyAt0
  rw [body_parts, e0, e1, e2, lv 0 rfl, lv 1 rfl, lv 2 rfl, lv 5 rfl, lv 8 rfl, lv 9 rfl]
  simp only [wp_bind]
  have a0 : (dats m 0 c).after 0 t = hB m c t := by dsimp only [dats]; rfl
  have a1 : (dats m 0 c).after 1 t = xB m c t := by dsimp only [dats]; rfl
  have a2 : (dats m 0 c).after 2 t = wB m c t := by dsimp only [dats]; rfl
  have a5 : (dats m 0 c).after 5 t = maskW (hB m c t) (wB m c t) := by dsimp only [dats]
  have a8 : (dats m 0 c).after 8 t = codesW (hB m c t) (wB m c t) := by dsimp only [dats]
  have a9 : (dats m 0 c).after 9 t = bytesW (hB m c t) (wB m c t) := by dsimp only [dats]
  rw [a0, a1, a2, a5, a8, a9]
  unfold Scr
  simp only [before0, before1, before2]
  iintro ⟨⟨⟨%f12, %f13, %f14, %f15, %f16, H12, H13, H14, H15, H16, %hS⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (Entails.of_eq (owns_pt (F := F) c (win0_0.stage (cfg0.slots t 0)) (hstage0_0 ((cfg0.slots t 0).cast nbuf0_0)) _)) $$ H0 with ⟨%g0, %r0, H0⟩
  icases (Entails.of_eq (owns_pt (F := F) c (win0_1.stage (cfg0.slots t 1)) (hstage0_1 ((cfg0.slots t 1).cast nbuf0_1)) _)) $$ H1 with ⟨%g1, %r1, H1⟩
  icases (Entails.of_eq (owns_pt (F := F) c (win0_2.stage (cfg0.slots t 2)) (hstage0_2 ((cfg0.slots t 2).cast nbuf0_2)) _)) $$ H2 with ⟨%g2, %r2, H2⟩
  icases (Entails.of_eq (owns_pt (F := F) c (win0_3.stage (cfg0.slots t 3)) (hstage0_3 ((cfg0.slots t 3).cast nbuf0_3)) _)) $$ H3 with ⟨%g3, %r3, H3⟩
  icases (Entails.of_eq (owns_pt (F := F) c (win0_4.stage (cfg0.slots t 4)) (hstage0_4 ((cfg0.slots t 4).cast nbuf0_4)) _)) $$ H4 with ⟨%g4, %r4, H4⟩
  icases (Entails.of_eq (owns_pt (F := F) c (win0_5.stage (cfg0.slots t 5)) (hstage0_5 ((cfg0.slots t 5).cast nbuf0_5)) _)) $$ H5 with ⟨%g5, %r5, H5⟩
  icases (Entails.of_eq (owns_pt (F := F) c (win0_6.stage (cfg0.slots t 6)) (hstage0_6 ((cfg0.slots t 6).cast nbuf0_6)) _)) $$ H6 with ⟨%g6, %r6, H6⟩
  icases (Entails.of_eq (owns_pt (F := F) c (win0_7.stage (cfg0.slots t 7)) (hstage0_7 ((cfg0.slots t 7).cast nbuf0_7)) _)) $$ H7 with ⟨%g7, %r7, H7⟩
  icases (Entails.of_eq (owns_pt (F := F) c (win0_8.stage (cfg0.slots t 8)) (hstage0_8 ((cfg0.slots t 8).cast nbuf0_8)) _)) $$ H8 with ⟨%g8, %r8, H8⟩
  icases (Entails.of_eq (owns_pt (F := F) c (win0_9.stage (cfg0.slots t 9)) (hstage0_9 ((cfg0.slots t 9).cast nbuf0_9)) _)) $$ H9 with ⟨%g9, %r9, H9⟩
  obtain ⟨hS12, hS13⟩ := hS
  iapply (partX_all c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (hB m c t) (xB m c t) (gX m c)
    (fun hi y z h0 h1 => gX_at m c t (hc0.mp hi) y z h0 (by rw [← hc1]; exact h1)) g0 g1 g4 g6 g7 f12 r0 r1
    (fun hi y hy => hS12 y (by have := hc0.mp hi; rw [hc1] at hy; omega)) _)
  isplitl [H0]; · iexact H0
  isplitl [H1]; · iexact H1
  isplitl [H4]; · iexact H4
  isplitl [H6]; · iexact H6
  isplitl [H7]; · iexact H7
  isplitl [H12]; · iexact H12
  isplitl [H14]; · iexists _; iexact H14
  isplitl [H15]; · iexists _; iexact H15
  isplitl [H16]; · iexists _; iexact H16
  iintro %k4 %k6 %k7 %k12 %k14 %k15 %k16 ⟨H0, H1, H4, H6, H7, H12, H14, H15, H16, %hX⟩
  have hq : ∀ y : S128x16384.Idx, (y 1).val < 4096 * min (t.val + 1) 4 → (Memref.whole cc0_scratch0).view.read (Elt F) k12 y = gX m c y := by
    intro y hy
    by_cases hi : k0_cond1 (grid0.coords t) = 1#1
    · have := hc0.mp hi
      exact (hX.1 hi).2.2.2 y (by rw [hc1]; omega)
    · have h4 : ¬ t.val < 4 := fun h => hi (hc0.mpr h)
      rw [(hX.2 hi).2.2.2]
      exact hS12 y (by omega)
  iapply (partZ_run c (grid0.coords t) (Memref.whole cc0_scratch1) f13 _)
  isplitl [H13]; · iexact H13
  iintro %k13 ⟨H13, %hZ⟩
  iapply (partW_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (hB m c t) (wB m c t) (gX m c) _ g0 g2 k12 k13 r0 r2
    (fun y hy => hq y (by rw [hc1] at hy; omega)) hZ _)
  isplitl [H0]; · iexact H0
  isplitl [H2]; · iexact H2
  isplitl [H5]; · iexists _; iexact H5
  isplitl [H8]; · iexists _; iexact H8
  isplitl [H9]; · iexists _; iexact H9
  isplitl [H12]; · iexact H12
  isplitl [H13]; · iexact H13
  isplitl [H14]; · iexists _; iexact H14
  isplitl [H15]; · iexists _; iexact H15
  isplitl [H16]; · iexists _; iexact H16
  iintro %p5 %p8 %p9 %p13 %p14 %p15 %p16 ⟨H0, H2, H5, H8, H9, H12, H13, H14, H15, H16, %hW⟩
  obtain ⟨hW5, hW8, hW9, hW13⟩ := hW
  have hacc : (Memref.whole cc0_scratch1).view.read (Elt F) p13 = accRow m c (t.val / 4) (t.val % 4 + 1) := by
    rw [hW13, hc1]
    have hs := succ_row m c t.val ht48
      (if t.val % 4 = 0 then k0_pay4 (F := F) else (Memref.whole cc0_scratch1).view.read (Elt F) f13) (by
        split
        · rfl
        · next h => exact hS13 h)
    rw [ptOf_val] at hs
    exact hs
  iapply (partY_run c (grid0.coords t) (win0_3.stage (cfg0.slots t 3)) (hstage0_3 ((cfg0.slots t 3).cast nbuf0_3)) (Memref.whole cc0_scratch1) g3 p13 _)
  isplitl [H3]; · iexact H3
  isplitl [H13]; · iexact H13
  iintro %p3 ⟨H3, H13, %hY⟩
  sl_step
  isplitl [H12 H13 H14 H15 H16 Hg]
  · isplitr [Hg]
    · iexists k12, p13, p14, p15, p16
      isplitl [H12]; · iexact H12
      isplitl [H13]; · iexact H13
      isplitl [H14]; · iexact H14
      isplitl [H15]; · iexact H15
      isplitl [H16]; · iexact H16
      ipureintro
      refine ⟨hq, fun hne => ?_⟩
      rw [hacc, show (t.val + 1) / 4 = t.val / 4 by omega, show (t.val + 1) % 4 = t.val % 4 + 1 by omega]
    · iexact Hg
  isplitl [HO]; · iexact HO
  isplitl [H0]
  · iapply (Entails.of_eq (owns_pt (F := F) c (win0_0.stage (cfg0.slots t 0)) (hstage0_0 ((cfg0.slots t 0).cast nbuf0_0)) _).symm)
    iexists g0
    isplitr; · ipureintro; exact r0
    iexact H0
  isplitl [H1]
  · iapply (Entails.of_eq (owns_pt (F := F) c (win0_1.stage (cfg0.slots t 1)) (hstage0_1 ((cfg0.slots t 1).cast nbuf0_1)) _).symm)
    iexists g1
    isplitr; · ipureintro; exact r1
    iexact H1
  isplitl [H2]
  · iapply (Entails.of_eq (owns_pt (F := F) c (win0_2.stage (cfg0.slots t 2)) (hstage0_2 ((cfg0.slots t 2).cast nbuf0_2)) _).symm)
    iexists g2
    isplitr; · ipureintro; exact r2
    iexact H2
  isplitl [H3]
  · iapply (hl3 ((win0_3.stage (cfg0.slots t 3)).view.read (Elt F) p3) ⟨fun h => by rw [hY, if_pos (hc3.mpr h), hacc, h], fun h => ⟨d3, by rw [hY, if_neg (fun h' => h (hc3.mp h'))]; exact r3⟩⟩)
    iapply (Entails.of_eq (owns_pt (F := F) c (win0_3.stage (cfg0.slots t 3)) (hstage0_3 ((cfg0.slots t 3).cast nbuf0_3)) _).symm)
    iexists p3
    isplitr; · ipureintro; exact rfl
    iexact H3
  isplitl [H4]
  · iapply (hl4 ((win0_4.stage (cfg0.slots t 4)).view.read (Elt F) k4) ⟨fun h => (hX.1 (hc0.mpr h)).1, fun h => ⟨d4, by rw [(hX.2 (fun h' => absurd (hc0.mp h') (by omega))).1]; exact r4⟩⟩)
    iapply (Entails.of_eq (owns_pt (F := F) c (win0_4.stage (cfg0.slots t 4)) (hstage0_4 ((cfg0.slots t 4).cast nbuf0_4)) _).symm)
    iexists k4
    isplitr; · ipureintro; exact rfl
    iexact H4
  isplitl [H5]
  · iapply (Entails.of_eq (owns_pt (F := F) c (win0_5.stage (cfg0.slots t 5)) (hstage0_5 ((cfg0.slots t 5).cast nbuf0_5)) _).symm)
    iexists p5
    isplitr; · ipureintro; exact hW5
    iexact H5
  isplitl [H6]
  · iapply (hl6 ((win0_6.stage (cfg0.slots t 6)).view.read (Elt F) k6) ⟨fun h => (hX.1 (hc0.mpr h)).2.1, fun h => ⟨d6, by rw [(hX.2 (fun h' => absurd (hc0.mp h') (by omega))).2.1]; exact r6⟩⟩)
    iapply (Entails.of_eq (owns_pt (F := F) c (win0_6.stage (cfg0.slots t 6)) (hstage0_6 ((cfg0.slots t 6).cast nbuf0_6)) _).symm)
    iexists k6
    isplitr; · ipureintro; exact rfl
    iexact H6
  isplitl [H7]
  · iapply (hl7 ((win0_7.stage (cfg0.slots t 7)).view.read (Elt F) k7) ⟨fun h => (hX.1 (hc0.mpr h)).2.2.1, fun h => ⟨d7, by rw [(hX.2 (fun h' => absurd (hc0.mp h') (by omega))).2.2.1]; exact r7⟩⟩)
    iapply (Entails.of_eq (owns_pt (F := F) c (win0_7.stage (cfg0.slots t 7)) (hstage0_7 ((cfg0.slots t 7).cast nbuf0_7)) _).symm)
    iexists k7
    isplitr; · ipureintro; exact rfl
    iexact H7
  isplitl [H8]
  · iapply (Entails.of_eq (owns_pt (F := F) c (win0_8.stage (cfg0.slots t 8)) (hstage0_8 ((cfg0.slots t 8).cast nbuf0_8)) _).symm)
    iexists p8
    isplitr; · ipureintro; exact hW8
    iexact H8
  · iapply (Entails.of_eq (owns_pt (F := F) c (win0_9.stage (cfg0.slots t 9)) (hstage0_9 ((cfg0.slots t 9).cast nbuf0_9)) _).symm)
    iexists p9
    isplitr; · ipureintro; exact hW9
    iexact H9

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch's contents before the first point and after the last. -/
theorem scr_in (c : Dev nD) : (Pipeline.ΦA (Val := Elt F) (U := UR sig nD τ) spec0 c : sProp 𝕄) ⊢ (dats m 0 c).Φ 0 := by
  have e0 : (dats m 0 c).Φ 0 = iprop(Scr m c 0 ∗ ∃ r, prngReg c r) := by dsimp only [dats]; rfl
  rw [e0]
  unfold Pipeline.ΦA Scr
  rw [scopedRest0_eq]
  iintro ⟨⟨⟨%f12, H12⟩, ⟨%f13, H13⟩, ⟨%f14, H14⟩, ⟨%f15, H15⟩, ⟨%f16, H16⟩⟩, Hg⟩
  isplitr [Hg]
  · iexists f12, f13, f14, f15, f16
    isplitl [H12]; · iexact H12
    isplitl [H13]; · iexact H13
    isplitl [H14]; · iexact H14
    isplitl [H15]; · iexact H15
    isplitl [H16]; · iexact H16
    ipureintro
    exact ⟨fun y hy => absurd hy (by omega), fun h => absurd rfl h⟩
  · iexact Hg

theorem scr_out (c : Dev nD) : (dats m 0 c).Φ (Fin.last cfg0.N) ⊢ (Pipeline.ΦA (Val := Elt F) (U := UR sig nD τ) spec0 c : sProp 𝕄) := by
  have e0 : (dats m 0 c).Φ (Fin.last cfg0.N) = iprop(Scr m c (Fin.last cfg0.N).val ∗ ∃ r, prngReg c r) := by dsimp only [dats]
  rw [e0]
  unfold Pipeline.ΦA Scr
  rw [scopedRest0_eq]
  iintro ⟨⟨%f12, %f13, %f14, %f15, %f16, H12, H13, H14, H15, H16, -⟩, Hg⟩
  isplitr [Hg]
  · isplitl [H12]; · iexists f12; iexact H12
    isplitl [H13]; · iexists f13; iexact H13
    isplitl [H14]; · iexists f14; iexact H14
    isplitl [H15]; · iexists f15; iexact H15
    iexists f16; iexact H16
  · iexact Hg

/-- The run of the program: every result array holds what the write-backs put there, every counter is at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scr_in m) (hout := scr_out m)

/-- The run with the arguments unchanged and every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c)))⟩, h.2⟩) (run_main m ρ)

end Cert.KernelIdeal.Tile

end
-- ==== Proof.V.Num.lean ====
module
public import Idealize.ShloMosaic.Lib.Pointwise

/-! # The numbers of the quantiser

Powers of two by their exponent field, how many of them an amplitude reaches, and the search for that
number bit by bit. -/

@[expose] public section
set_option maxRecDepth 16384

noncomputable section
namespace Cert.V
open Idealize.ShloMosaic

/-- The power of two with exponent field `n`; zero for field zero. -/
def p2 (n : ℕ) : ℝ := if n = 0 then 0 else (2 : ℝ) ^ ((n : ℤ) - 127)

theorem p2_nonneg (n : ℕ) : 0 ≤ p2 n := by
  unfold p2; split
  · exact le_rfl
  · positivity

theorem p2_mono {a b : ℕ} (h : a ≤ b) : p2 a ≤ p2 b := by
  unfold p2
  by_cases ha : a = 0
  · rw [if_pos ha]; split
    · exact le_rfl
    · positivity
  · rw [if_neg ha, if_neg (by omega)]
    exact zpow_le_zpow_right₀ (by norm_num) (by omega)

/-- The float whose exponent field is `n`, its other bits zero, is `p2 n`. -/
theorem ofBits_p2 (n : ℕ) (h : n ≤ 254) : Ideal.ofBits .f32 (BitVec.ofNat 32 n <<< 23) = ((p2 n : ℝ) : EReal) := by
  have hex : ((BitVec.ofNat 32 n <<< 23).extractLsb' 23 8).toNat = n := by
    simp [BitVec.extractLsb'_toNat, BitVec.toNat_shiftLeft, Nat.shiftLeft_eq, Nat.shiftRight_eq_div_pow]
    omega
  have hfr : ((BitVec.ofNat 32 n <<< 23).extractLsb' 0 23).toNat = 0 := by
    simp [BitVec.extractLsb'_toNat, BitVec.toNat_shiftLeft, Nat.shiftLeft_eq]
  have hs : ((BitVec.ofNat 32 n <<< 23).extractLsb' (8 + 23) 1 == 1#1) = false := by
    rw [beq_eq_false_iff_ne]
    intro h1
    have := congrArg BitVec.toNat h1
    simp [BitVec.extractLsb'_toNat, BitVec.toNat_shiftLeft, Nat.shiftLeft_eq, Nat.shiftRight_eq_div_pow] at this
    omega
  unfold Ideal.ofBits Ideal.ieee
  simp only [hex, hfr, hs]
  unfold p2
  by_cases h0 : n = 0
  · subst h0; norm_num
  · rw [if_neg (by omega), if_neg h0, if_neg h0]
    refine EReal.coe_eq_coe_iff.mpr ?_
    have e : ((n : ℤ) - 127) = (23 : ℕ) + ((n : ℤ) - (2 ^ (8 - 1) - 1) - (23 : ℕ)) := by norm_num
    rw [e, zpow_add₀ (by norm_num), zpow_natCast]
    simp
    left; norm_num

theorem ofBits_255 : Ideal.ofBits .f32 (BitVec.ofNat 32 255 <<< 23) = ⊤ := by
  unfold Ideal.ofBits Ideal.ieee
  have hex : ((BitVec.ofNat 32 255 <<< 23).extractLsb' 23 8).toNat = 255 := by decide
  have hfr : ((BitVec.ofNat 32 255 <<< 23).extractLsb' 0 23).toNat = 0 := by decide
  have hs : ((BitVec.ofNat 32 255 <<< 23).extractLsb' (8 + 23) 1 == 1#1) = false := by decide
  simp only [hex, hfr, hs]
  simp

/-- How many of the 254 normal powers of two an amplitude reaches. -/
def reach (a : ℝ) : ℕ := (Finset.univ.filter fun k : Fin 254 => p2 (k.val + 1) ≤ a).card

theorem reach_le (a : ℝ) : reach a ≤ 254 := by
  unfold reach
  exact (Finset.card_filter_le _ _).trans (by simp)

/-- The powers reached are the first ones. -/
theorem le_reach (a : ℝ) (t : ℕ) (h1 : 1 ≤ t) (h2 : t ≤ 254) : t ≤ reach a ↔ p2 t ≤ a := by
  unfold reach
  constructor
  · intro h
    by_contra hn
    have hsub : (Finset.univ.filter fun k : Fin 254 => p2 (k.val + 1) ≤ a) ⊆ Finset.univ.filter fun k : Fin 254 => k.val < t - 1 := by
      intro k hk
      rw [Finset.mem_filter] at hk ⊢
      refine ⟨Finset.mem_univ _, ?_⟩
      by_contra hkt
      exact hn ((p2_mono (by omega)).trans hk.2)
    have hc := Finset.card_le_card hsub
    have : (Finset.univ.filter fun k : Fin 254 => k.val < t - 1).card = t - 1 := by
      have := @Fin.card_filter_val_lt 254 (t - 1)
      rw [this]; omega
    omega
  · intro h
    have hsub : (Finset.univ.filter fun k : Fin 254 => k.val < t) ⊆ Finset.univ.filter fun k : Fin 254 => p2 (k.val + 1) ≤ a := by
      intro k hk
      rw [Finset.mem_filter] at hk ⊢
      exact ⟨Finset.mem_univ _, (p2_mono (by omega)).trans h⟩
    have hc := Finset.card_le_card hsub
    have : (Finset.univ.filter fun k : Fin 254 => k.val < t).card = t := by
      have := @Fin.card_filter_val_lt 254 t
      rw [this]; omega
    omega

/-- One step of the search. -/
def sstep (a : EReal) (b e : BitVec 32) : BitVec 32 :=
  if Ideal.ofBits .f32 ((e + b) <<< 23) ≤ a then e + b else e

theorem sstep_spec (a : ℝ) (n m : ℕ) (hm : 1 ≤ m) (hnm : n + 2 * m ≤ 256) (h1 : n ≤ reach a) (h2 : reach a < n + 2 * m) :
    ∃ n', sstep (a : EReal) (BitVec.ofNat 32 m) (BitVec.ofNat 32 n) = BitVec.ofNat 32 n' ∧ n' ≤ reach a ∧ reach a < n' + m
      ∧ n' + m ≤ n + 2 * m := by
  unfold sstep
  rw [← BitVec.ofNat_add]
  have hr := reach_le a
  by_cases h : n + m ≤ reach a
  · refine ⟨n + m, if_pos ?_, h, by omega, by omega⟩
    rw [ofBits_p2 _ (by omega), EReal.coe_le_coe_iff]
    exact (le_reach a _ (by omega) (by omega)).mp h
  · refine ⟨n, if_neg ?_, h1, by omega, by omega⟩
    by_cases h255 : n + m ≤ 254
    · rw [ofBits_p2 _ h255, EReal.coe_le_coe_iff]
      exact fun hp => h ((le_reach a _ (by omega) h255).mpr hp)
    · have : n + m = 255 := by omega
      rw [this, ofBits_255]
      exact not_le.mpr (EReal.coe_lt_top a)

/-- The search finds how many powers of two the amplitude reaches. -/
theorem search_reach (a : ℝ) :
    sstep a 1#32 (sstep a 2#32 (sstep a 4#32 (sstep a 8#32 (sstep a 16#32 (sstep a 32#32 (sstep a 64#32 (sstep a 128#32 0#32)))))))
      = BitVec.ofNat 32 (reach a) := by
  have hr := reach_le a
  obtain ⟨n1, e1, a1, b1, c1⟩ := sstep_spec a 0 128 (by omega) (by omega) (by omega) (by omega)
  obtain ⟨n2, e2, a2, b2, c2⟩ := sstep_spec a n1 64 (by omega) (by omega) a1 (by omega)
  obtain ⟨n3, e3, a3, b3, c3⟩ := sstep_spec a n2 32 (by omega) (by omega) a2 (by omega)
  obtain ⟨n4, e4, a4, b4, c4⟩ := sstep_spec a n3 16 (by omega) (by omega) a3 (by omega)
  obtain ⟨n5, e5, a5, b5, c5⟩ := sstep_spec a n4 8 (by omega) (by omega) a4 (by omega)
  obtain ⟨n6, e6, a6, b6, c6⟩ := sstep_spec a n5 4 (by omega) (by omega) a5 (by omega)
  obtain ⟨n7, e7, a7, b7, c7⟩ := sstep_spec a n6 2 (by omega) (by omega) a6 (by omega)
  obtain ⟨n8, e8, a8, b8, c8⟩ := sstep_spec a n7 1 (by omega) (by omega) a7 (by omega)
  rw [e1, e2, e3, e4, e5, e6, e7, e8]
  congr 1
  omega

end Cert.V
-- ==== Proof.V.Codes.lean ====
module
public import proofs.«01_k».proof.Proof.V.Num

/-! # The four-bit codes

The code the kernel counts thresholds for and the code the reference rounds to are one function of
the scaled value. -/

@[expose] public section
set_option maxRecDepth 16384

noncomputable section
namespace Cert.V
open Idealize.ShloMosaic

/-- A finite sum of reals, as extended reals. -/
theorem coe_sum {ι : Type*} (s : Finset ι) (f : ι → ℝ) : (∑ i ∈ s, ((f i : ℝ) : EReal)) = ((∑ i ∈ s, f i : ℝ) : EReal) := by
  induction s using Finset.cons_induction with
  | empty => rfl
  | cons a s ha ih => rw [Finset.sum_cons, Finset.sum_cons, ih, EReal.coe_add]

/-- The absolute value of a real, as an extended real. -/
theorem abs_coe (x : ℝ) : max ((x : ℝ) : EReal) (-((x : ℝ) : EReal)) = ((|x| : ℝ) : EReal) := by
  rw [← EReal.coe_neg, abs_eq_max_neg]
  exact (EReal.coe_strictMono.monotone.map_max).symm

section Constants

theorem k_quarter : Ideal.ofBits .f32 0x3E800000#32 = ((1 / 4 : ℝ) : EReal) := by
  simp [Ideal.ofBits, Ideal.ieee, -EReal.coe_mul]; norm_num
theorem k_three_quarters : Ideal.ofBits .f32 0x3F400000#32 = ((3 / 4 : ℝ) : EReal) := by
  simp [Ideal.ofBits, Ideal.ieee, -EReal.coe_mul]; norm_num
theorem k_five_quarters : Ideal.ofBits .f32 0x3FA00000#32 = ((5 / 4 : ℝ) : EReal) := by
  simp [Ideal.ofBits, Ideal.ieee, -EReal.coe_mul]; norm_num
theorem k_seven_quarters : Ideal.ofBits .f32 0x3FE00000#32 = ((7 / 4 : ℝ) : EReal) := by
  simp [Ideal.ofBits, Ideal.ieee, -EReal.coe_mul]; norm_num
theorem k_five_halves : Ideal.ofBits .f32 0x40200000#32 = ((5 / 2 : ℝ) : EReal) := by
  simp [Ideal.ofBits, Ideal.ieee, -EReal.coe_mul]; norm_num
theorem k_seven_halves : Ideal.ofBits .f32 0x40600000#32 = ((7 / 2 : ℝ) : EReal) := by
  simp [Ideal.ofBits, Ideal.ieee, -EReal.coe_mul]; norm_num
theorem k_five : Ideal.ofBits .f32 0x40A00000#32 = ((5 : ℝ) : EReal) := by
  simp [Ideal.ofBits, Ideal.ieee, -EReal.coe_mul]; norm_num
theorem k_half : Ideal.ofBits .f32 0x3F000000#32 = ((1 / 2 : ℝ) : EReal) := by
  simp [Ideal.ofBits, Ideal.ieee, -EReal.coe_mul]; norm_num
theorem k_two : Ideal.ofBits .f32 0x40000000#32 = ((2 : ℝ) : EReal) := by
  simp [Ideal.ofBits, Ideal.ieee, -EReal.coe_mul]; norm_num
theorem k_four : Ideal.ofBits .f32 0x40800000#32 = ((4 : ℝ) : EReal) := by
  simp [Ideal.ofBits, Ideal.ieee, -EReal.coe_mul]; norm_num
theorem k_six : Ideal.ofBits .f32 0x40C00000#32 = ((6 : ℝ) : EReal) := by
  simp [Ideal.ofBits, Ideal.ieee, -EReal.coe_mul]; norm_num
theorem k_neg_six : Ideal.ofBits .f32 0xC0C00000#32 = ((-6 : ℝ) : EReal) := by
  simp [Ideal.ofBits, Ideal.ieee, -EReal.coe_mul]; norm_num
theorem k_thirty_two : Ideal.ofBits .f32 0x42000000#32 = ((32 : ℝ) : EReal) := by
  simp [Ideal.ofBits, Ideal.ieee, -EReal.coe_mul]; norm_num
theorem k_one_64th : Ideal.ofBits .f32 0x3C800000#32 = ((1 / 64 : ℝ) : EReal) := by
  simp [Ideal.ofBits, Ideal.ieee, -EReal.coe_mul]; norm_num
theorem k_seventy_two : Ideal.ofBits .f32 0x42900000#32 = ((72 : ℝ) : EReal) := by
  simp [Ideal.ofBits, Ideal.ieee, -EReal.coe_mul]; norm_num
theorem k_neg_one : Ideal.ofBits .f32 0xBF800000#32 = ((-1 : ℝ) : EReal) := by
  simp [Ideal.ofBits, Ideal.ieee, -EReal.coe_mul]; norm_num

/-- The two factors of the amplitude, as the floats they are written as. -/
def cA : ℝ := 12247368 / 4194304
def cB : ℝ := 11184811 / 67108864

theorem k_cA : Ideal.ofBits .f32 0x403AE148#32 = ((cA : ℝ) : EReal) := by
  unfold cA
  simp [Ideal.ofBits, Ideal.ieee, -EReal.coe_mul]; norm_num
theorem k_cB : Ideal.ofBits .f32 0x3E2AAAAB#32 = ((cB : ℝ) : EReal) := by
  unfold cB
  simp [Ideal.ofBits, Ideal.ieee, -EReal.coe_mul]; norm_num

end Constants

/-- How many of the seven thresholds a magnitude passes. -/
def cnt (m : ℝ) : ℕ :=
  (if 1 / 4 < m then 1 else 0) + (if 3 / 4 ≤ m then 1 else 0) + (if 5 / 4 < m then 1 else 0)
    + (if 7 / 4 ≤ m then 1 else 0) + (if 5 / 2 < m then 1 else 0) + (if 7 / 2 ≤ m then 1 else 0)
    + (if 5 < m then 1 else 0)

theorem cnt_le (m : ℝ) : cnt m ≤ 7 := by
  unfold cnt
  split_ifs <;> omega

/-- The four-bit code of a scaled value: the thresholds passed, and 8 more below zero unless none is. -/
def nib (v : ℝ) : ℕ := if cnt |v| = 0 then 0 else cnt |v| + (if v < 0 then 8 else 0)

theorem nib_lt (v : ℝ) : nib v < 16 := by
  have := cnt_le |v|
  unfold nib
  split_ifs <;> omega

/-- The magnitudes the eight codes stand for. -/
def mag : ℕ → ℝ
  | 0 => 0 | 1 => 1 / 2 | 2 => 1 | 3 => 3 / 2 | 4 => 2 | 5 => 3 | 6 => 4 | _ => 6

/-- The spacing of the representable magnitudes at `am`. -/
def gap (am : ℝ) : ℝ := if am < 2 then 1 / 2 else if am < 4 then 1 else 2

theorem gap_pos (am : ℝ) : 0 < gap am := by
  unfold gap; split_ifs <;> norm_num

/-- The index of a representable magnitude. -/
def index (q : ℝ) : ℝ := if q < 2 then q * 2 else if q < 4 then q + 2 else q * (1 / 2) + 4

theorem round_near (x : ℝ) (z : ℤ) (h1 : (z : ℝ) - 1 / 2 < x) (h2 : x < z + 1 / 2) : Ideal.roundHalfEven x = z := by
  unfold Ideal.roundHalfEven
  rcases le_or_gt (z : ℝ) x with h | h
  · have hf : ⌊x⌋ = z := Int.floor_eq_iff.mpr ⟨h, by linarith⟩
    simp only [hf]
    rw [if_pos (by linarith)]
  · have hf : ⌊x⌋ = z - 1 := Int.floor_eq_iff.mpr ⟨by push_cast; linarith, by push_cast; linarith⟩
    simp only [hf]
    push_cast
    rw [if_neg (by linarith), if_pos (by linarith)]
    ring

theorem round_even (x : ℝ) (z : ℤ) (hz : Even z) (h1 : (z : ℝ) - 1 / 2 ≤ x) (h2 : x ≤ z + 1 / 2) :
    Ideal.roundHalfEven x = z := by
  rcases lt_or_eq_of_le h1 with h1 | h1
  · rcases lt_or_eq_of_le h2 with h2 | h2
    · exact round_near x z h1 h2
    · have hf : ⌊x⌋ = z := Int.floor_eq_iff.mpr ⟨by linarith, by linarith⟩
      unfold Ideal.roundHalfEven
      simp only [hf]
      rw [if_neg (by linarith), if_neg (by linarith), if_pos hz]
  · have hf : ⌊x⌋ = z - 1 := Int.floor_eq_iff.mpr ⟨by push_cast; linarith, by push_cast; linarith⟩
    have hodd : ¬ Even (z - 1) := by
      rw [Int.even_sub_one]; exact not_not.mpr hz
    unfold Ideal.roundHalfEven
    simp only [hf]
    push_cast
    rw [if_neg (by linarith), if_neg (by linarith), if_neg hodd]
    ring

/-- Rounding to the spacing gives the magnitude of the count. -/
theorem round_mag (am : ℝ) (h0 : 0 ≤ am) (h6 : am ≤ 6) :
    gap am * (Ideal.roundHalfEven (am * (1 / gap am)) : ℝ) = mag (cnt am) := by
  have go (g : ℝ) (z : ℤ) (k : ℕ) (hg : gap am = g) (hk : cnt am = k) (hr : Ideal.roundHalfEven (am * (1 / g)) = z)
      (hm : g * (z : ℝ) = mag k) : gap am * (Ideal.roundHalfEven (am * (1 / gap am)) : ℝ) = mag (cnt am) := by
    rw [hg, hk, hr, hm]
  have hz2 : Even (2 : ℤ) := by decide
  have hz4 : Even (4 : ℤ) := by decide
  rcases le_or_gt am (1 / 4) with a | a
  · exact go (1 / 2) 0 0 (by unfold gap; rw [if_pos (by linarith)])
      (by unfold cnt; rw [if_neg (by linarith), if_neg (by linarith), if_neg (by linarith), if_neg (by linarith), if_neg (by linarith), if_neg (by linarith), if_neg (by linarith)])
      (round_even _ _ (by decide) (by norm_num; linarith) (by norm_num; linarith)) (by norm_num [mag])
  rcases lt_or_ge am (3 / 4) with b | b
  · exact go (1 / 2) 1 1 (by unfold gap; rw [if_pos (by linarith)])
      (by unfold cnt; rw [if_pos (by linarith), if_neg (by linarith), if_neg (by linarith), if_neg (by linarith), if_neg (by linarith), if_neg (by linarith), if_neg (by linarith)])
      (round_near _ _ (by norm_num; linarith) (by norm_num; linarith)) (by norm_num [mag])
  rcases le_or_gt am (5 / 4) with c | c
  · exact go (1 / 2) 2 2 (by unfold gap; rw [if_pos (by linarith)])
      (by unfold cnt; rw [if_pos (by linarith), if_pos (by linarith), if_neg (by linarith), if_neg (by linarith), if_neg (by linarith), if_neg (by linarith), if_neg (by linarith)])
      (round_even _ _ hz2 (by norm_num; linarith) (by norm_num; linarith)) (by norm_num [mag])
  rcases lt_or_ge am (7 / 4) with d | d
  · exact go (1 / 2) 3 3 (by unfold gap; rw [if_pos (by linarith)])
      (by unfold cnt; rw [if_pos (by linarith), if_pos (by linarith), if_pos (by linarith), if_neg (by linarith), if_neg (by linarith), if_neg (by linarith), if_neg (by linarith)])
      (round_near _ _ (by norm_num; linarith) (by norm_num; linarith)) (by norm_num [mag])
  rcases le_or_gt am (5 / 2) with e | e
  · have hk : cnt am = 4 := by unfold cnt; rw [if_pos (by linarith), if_pos (by linarith), if_pos (by linarith), if_pos (by linarith), if_neg (by linarith), if_neg (by linarith), if_neg (by linarith)]
    rcases lt_or_ge am 2 with f | f
    · exact go (1 / 2) 4 4 (by unfold gap; rw [if_pos (by linarith)]) hk
        (round_even _ _ hz4 (by norm_num; linarith) (by norm_num; linarith)) (by norm_num [mag])
    · exact go 1 2 4 (by unfold gap; rw [if_neg (by linarith), if_pos (by linarith)]) hk
        (round_even _ _ hz2 (by norm_num; linarith) (by norm_num; linarith)) (by norm_num [mag])
  rcases lt_or_ge am (7 / 2) with f | f
  · exact go 1 3 5 (by unfold gap; rw [if_neg (by linarith), if_pos (by linarith)])
      (by unfold cnt; rw [if_pos (by linarith), if_pos (by linarith), if_pos (by linarith), if_pos (by linarith), if_pos (by linarith), if_neg (by linarith), if_neg (by linarith)])
      (round_near _ _ (by norm_num; linarith) (by norm_num; linarith)) (by norm_num [mag])
  rcases le_or_gt am 5 with g | g
  · have hk : cnt am = 6 := by unfold cnt; rw [if_pos (by linarith), if_pos (by linarith), if_pos (by linarith), if_pos (by linarith), if_pos (by linarith), if_pos (by linarith), if_neg (by linarith)]
    rcases lt_or_ge am 4 with h | h
    · exact go 1 4 6 (by unfold gap; rw [if_neg (by linarith), if_pos (by linarith)]) hk
        (round_even _ _ hz4 (by norm_num; linarith) (by norm_num; linarith)) (by norm_num [mag])
    · exact go 2 2 6 (by unfold gap; rw [if_neg (by linarith), if_neg (by linarith)]) hk
        (round_even _ _ hz2 (by norm_num; linarith) (by norm_num; linarith)) (by norm_num [mag])
  · exact go 2 3 7 (by unfold gap; rw [if_neg (by linarith), if_neg (by linarith)])
      (by unfold cnt; rw [if_pos (by linarith), if_pos (by linarith), if_pos (by linarith), if_pos (by linarith), if_pos (by linarith), if_pos (by linarith), if_pos (by linarith)])
      (round_near _ _ (by norm_num; linarith) (by norm_num; linarith)) (by norm_num [mag])

theorem index_mag (k : ℕ) (hk : k ≤ 7) : index (mag k) = k := by
  unfold index
  interval_cases k <;> norm_num [mag]

theorem mag_nonneg (k : ℕ) : 0 ≤ mag k := by
  unfold mag; split <;> norm_num

theorem mag_pos (k : ℕ) (h : k ≠ 0) : 0 < mag k := by
  unfold mag; split <;> first | contradiction | norm_num

/-- The value clipped to the largest magnitude. -/
def clip6 (v : ℝ) : ℝ := min 6 (max (-6) v)

theorem abs_clip6 (v : ℝ) : |clip6 v| ≤ 6 := by
  unfold clip6
  rw [abs_le]
  exact ⟨le_min (by norm_num) (le_max_left _ _), min_le_left _ _⟩

theorem clip6_cases (v : ℝ) : (|v| ≤ 6 ∧ clip6 v = v) ∨ (6 < |v| ∧ |clip6 v| = 6 ∧ (clip6 v < 0 ↔ v < 0)) := by
  unfold clip6
  rcases le_or_gt |v| 6 with h | h
  · left
    rw [abs_le] at h
    exact ⟨abs_le.mpr h, by rw [max_eq_right h.1, min_eq_right h.2]⟩
  · right
    refine ⟨h, ?_⟩
    rcases lt_or_ge v 0 with hv | hv
    · rw [abs_of_neg hv] at h
      rw [max_eq_left (by linarith), min_eq_right (by norm_num)]
      exact ⟨by norm_num, by constructor <;> intro <;> linarith⟩
    · rw [abs_of_nonneg hv] at h
      rw [max_eq_right (by linarith), min_eq_left (by linarith)]
      exact ⟨by norm_num, by constructor <;> intro <;> linarith⟩

theorem cnt_clip6 (v : ℝ) : cnt |clip6 v| = cnt |v| := by
  rcases clip6_cases v with ⟨_, h⟩ | ⟨h, h', _⟩
  · rw [h]
  · rw [h']
    unfold cnt
    iterate 14 rw [if_pos (by linarith)]

theorem clip6_neg (v : ℝ) : clip6 v < 0 ↔ v < 0 := by
  rcases clip6_cases v with ⟨_, h⟩ | ⟨_, _, h⟩
  · rw [h]
  · exact h

/-- The value the reference rounds a clipped value to. -/
def quant (c : ℝ) : ℝ := (SignType.sign c : ℝ) * gap |c| * (Ideal.roundHalfEven (|c| * (1 / gap |c|)) : ℝ)

theorem abs_quant (v : ℝ) : |quant (clip6 v)| = mag (cnt |v|) := by
  have hm := round_mag |clip6 v| (abs_nonneg _) (abs_clip6 v)
  rw [cnt_clip6] at hm
  unfold quant
  rw [mul_assoc, hm, abs_mul, abs_of_nonneg (mag_nonneg _)]
  rcases lt_trichotomy (clip6 v) 0 with h | h | h
  · rw [sign_neg h]; simp
  · have hk : cnt |v| = 0 := by
      rw [← cnt_clip6, h, abs_zero]
      unfold cnt; norm_num
    rw [hk]; simp [mag]
  · rw [sign_pos h]; simp

theorem quant_neg (v : ℝ) : quant (clip6 v) < 0 ↔ v < 0 ∧ cnt |v| ≠ 0 := by
  have hm := round_mag |clip6 v| (abs_nonneg _) (abs_clip6 v)
  rw [cnt_clip6] at hm
  unfold quant
  rw [mul_assoc, hm, ← clip6_neg v]
  rcases lt_trichotomy (clip6 v) 0 with h | h | h
  · rw [sign_neg h]
    by_cases hk : cnt |v| = 0
    · simp [hk, mag]
    · have := mag_pos _ hk
      simp [hk, h, this]
  · rw [h]; simp
  · rw [sign_pos h]
    have := mag_nonneg (cnt |v|)
    simp only [SignType.coe_one, one_mul]
    constructor
    · intro h'; linarith
    · intro h'; exact absurd h'.1 (by linarith)

/-- The index and the sign bit of the rounded value make the code. -/
theorem ori_nib (v : ℝ) :
    IntOp.ori (Ideal.fptosi 32 ((index |quant (clip6 v)| : ℝ) : EReal)) (if quant (clip6 v) < 0 then 8#32 else 0#32)
      = BitVec.ofNat 32 (nib v) := by
  rw [abs_quant, index_mag _ (cnt_le _)]
  have hc := cnt_le |v|
  unfold nib
  have hq := quant_neg v
  have hf : Ideal.fptosi 32 (((cnt |v| : ℕ) : ℝ) : EReal) = BitVec.ofNat 32 (cnt |v|) := by
    change BitVec.ofInt 32 (max (-(2 ^ (32 - 1) : ℕ) : ℤ) (min (((2 ^ (32 - 1) : ℕ) : ℤ) - 1)
      (if (0 : ℝ) ≤ ((cnt |v| : ℕ) : ℝ) then ⌊((cnt |v| : ℕ) : ℝ)⌋ else ⌈((cnt |v| : ℕ) : ℝ)⌉))) = _
    rw [if_pos (Nat.cast_nonneg _), Int.floor_natCast]
    have : max (-(2 ^ (32 - 1) : ℕ) : ℤ) (min (((2 ^ (32 - 1) : ℕ) : ℤ) - 1) (cnt |v| : ℤ)) = (cnt |v| : ℤ) := by
      norm_num
      omega
    rw [this]
    exact BitVec.ofInt_natCast 32 _
  rw [hf]
  generalize cnt |v| = k at *
  by_cases h : v < 0 ∧ k ≠ 0
  · rw [if_pos (hq.mpr h), if_neg h.2, if_pos h.1]
    have := h.2
    interval_cases k <;> first | contradiction | rfl
  · rw [if_neg (fun h' => h (hq.mp h'))]
    have : (if k = 0 then 0 else k + if v < 0 then 8 else 0) = k := by
      by_cases hk : k = 0
      · simp [hk]
      · have hv : ¬ v < 0 := fun hv => h ⟨hv, hk⟩
        rw [if_neg hk, if_neg hv, Nat.add_zero]
    rw [this]
    interval_cases k <;> rfl

end Cert.V
-- ==== Proof.V.Spec.lean ====
module
public import proofs.«01_k».proof.Proof.V.Codes

/-! # The quantiser over the reals

The scale code, the scaled values and the mask of a block of 32 rotated values `u`. -/

@[expose] public section

noncomputable section
namespace Cert.V
open Idealize.ShloMosaic

/-- A word has an even number of ones. -/
def ctpopOf (w : BitVec 32) : Prop := IntOp.andi (IntOp.ctpop w) 1#32 = 0#32

instance (w : BitVec 32) : Decidable (ctpopOf w) := inferInstanceAs (Decidable (_ = _))

/-- The sign of the Hadamard matrix at `i`, `j`: the parity of the bits they share. -/
def hadR (i j : Fin 32) : ℝ :=
  if ctpopOf (IntOp.andi (BitVec.ofNat 32 i.val) (BitVec.ofNat 32 j.val)) then 1 else -1

theorem hadR_comm (i j : Fin 32) : hadR i j = hadR j i := by
  unfold hadR IntOp.andi
  rw [BitVec.and_comm (BitVec.ofNat 32 i.val)]

/-- A block of 32 values, rotated. -/
def rotR (a : Fin 32 → ℝ) (i : Fin 32) : ℝ := (∑ x, a x * hadR x i) / √32

/-- The rotated values of block `g` of row `n` of a matrix. -/
def uR (A : ℕ → ℕ → ℝ) (n g : ℕ) : Fin 32 → ℝ := rotR fun x => A n (32 * g + x.val)

/-- The root mean square of a block. -/
def rmsR (u : Fin 32 → ℝ) : ℝ := √((∑ i, u i * u i) / 32)

/-- The amplitude of a block. -/
def ampR (u : Fin 32 → ℝ) : ℝ := cA * rmsR u * cB

/-- The scale code of a block: how many normal powers of two are at most the amplitude, and 127 for a
block of zeros. -/
def expo (u : Fin 32 → ℝ) : ℕ := if rmsR u = 0 then 127 else reach (ampR u)

theorem expo_le (u : Fin 32 → ℝ) : expo u ≤ 254 := by
  unfold expo
  split_ifs
  · decide
  · exact reach_le _

/-- A value of a block over the block's scale. -/
def scaledR (u : Fin 32 → ℝ) (i : Fin 32) : ℝ := u i * p2 (254 - expo u)

/-- A value of a block is not clipped. -/
def keepR (u : Fin 32 → ℝ) (i : Fin 32) : Prop := |u i| ≤ 6 * p2 (expo u)

/-- The square form of the test against the clipping bound. -/
theorem not_keepR (u : Fin 32 → ℝ) (i : Fin 32) :
    p2 (expo u) * p2 (expo u) * 72 - (√2 * u i) * (√2 * u i) < 0 ↔ ¬ keepR u i := by
  have h2 : (√2 : ℝ) * √2 = 2 := Real.mul_self_sqrt (by norm_num)
  have hp := p2_nonneg (expo u)
  have e : p2 (expo u) * p2 (expo u) * 72 - (√2 * u i) * (√2 * u i)
      = 2 * ((6 * p2 (expo u)) ^ 2 - |u i| ^ 2) := by
    rw [sq_abs]
    linear_combination (-(u i) ^ 2) * h2
  unfold keepR
  rw [e, not_le, ← sq_lt_sq₀ (mul_nonneg (by norm_num) hp) (abs_nonneg _)]
  constructor <;> intro h <;> linarith

/-- The sign bit and the count of a value, before a negative zero is cleared. -/
def raw (v : ℝ) : ℕ := cnt |v| + (if v < 0 then 8 else 0)

theorem raw_lt (v : ℝ) : raw v < 16 := by
  have := cnt_le |v|
  unfold raw
  split_ifs <;> omega

theorem raw_div (v : ℝ) : raw v / 8 = if v < 0 then 1 else 0 := by
  have := cnt_le |v|
  unfold raw
  split_ifs <;> omega

theorem nib_raw (v : ℝ) : nib v = if raw v % 8 = 0 then 0 else raw v := by
  have := cnt_le |v|
  have h : raw v % 8 = cnt |v| := by
    unfold raw
    split_ifs <;> omega
  rw [h]
  rfl

end Cert.V
-- ==== Proof.V.Tile.lean ====
module
public import proofs.«01_k».proof.Proof.KI.Launch
public import proofs.«01_k».proof.Proof.V.Spec
public import Idealize.ShloMosaic.Lib.Pointwise

/-! # What a tile of the kernel computes over the reals

A rotated tile of the kernel holds √2 times the rotated values `R`. Its scale codes, its four-bit
codes and its clipping test are those of the 32 values of each block. -/

@[expose] public section
set_option maxRecDepth 16384

noncomputable section
namespace Cert.KernelIdeal.Tile
open Cert.KernelIdeal Cert.KernelIdeal.Gen Cert.V
open Idealize.ShloMosaic Idealize.ShloMosaic.TcCoe Idealize.SL.Sem

/-- The 32 values of a block. -/
def blk (R : Fin 256 → Fin 128 → ℝ) (b : Fin 8) (l : Fin 128) : Fin 32 → ℝ :=
  fun i => R ⟨32 * b.val + i.val, by omega⟩ l

theorem search1_apply (a : FVec Ideal S8x128 .f32) (k : BitVec 32) (e : IVec S8x128 32) (b : Fin 8) (l : Fin 128) :
    search1 a k e (ix2 b l) = sstep (a (ix2 b l)) k (e (ix2 b l)) := by
  unfold search1 powBits
  pointwise
  rfl

theorem search_apply (a : FVec Ideal S8x128 .f32) (x : ℝ) (b : Fin 8) (l : Fin 128) (h : a (ix2 b l) = ((x : ℝ) : EReal)) :
    search a (ix2 b l) = BitVec.ofNat 32 (reach x) := by
  unfold search
  simp only [search1_apply, h]
  exact search_reach x

theorem shl_p2 (n : ℕ) (hn : n ≤ 254) :
    Ideal.ofBits .f32 (IntOp.shli ArithUnit.vector (BitVec.ofNat 32 n) 23#32) = ((p2 n : ℝ) : EReal) :=
  ofBits_p2 n hn

section Tile

variable (r4 : FVec Ideal S256x128 .f32) (R : Fin 256 → Fin 128 → ℝ)

theorem partSum_apply (hR : ∀ y l, r4 (ix2 y l) = ((√2 * R y l : ℝ) : EReal)) (b : Fin 8) (l : Fin 128) (c : Fin 64)
    (k : Fin 8) (hc : c.val = k.val + 8 * b.val) :
    partSum r4 (ix2 c l) = ((∑ x : Fin 4, 2 * (blk R b l ⟨8 * x.val + k.val, by omega⟩ * blk R b l ⟨8 * x.val + k.val, by omega⟩) : ℝ) : EReal) := by
  have h2 : (√2 : ℝ) * √2 = 2 := Real.mul_self_sqrt (by norm_num)
  unfold partSum
  pointwise
  have hx (x : Fin 4) : r4 (ix2 ⟨c.val / 8 * 32 + x.val * 8 + c.val % 8, by omega⟩ l)
      = ((√2 * blk R b l ⟨8 * x.val + k.val, by omega⟩ : ℝ) : EReal) := by
    rw [hR]
    unfold blk
    refine congrArg (fun y : Fin 256 => ((√2 * R y l : ℝ) : EReal)) (Fin.ext ?_)
    dsimp only
    omega
  simp only [hx, ← EReal.coe_mul]
  rw [coe_sum]
  refine EReal.coe_eq_coe_iff.mpr (Finset.sum_congr rfl fun x _ => ?_)
  linear_combination (blk R b l ⟨8 * x.val + k.val, by omega⟩ ^ 2) * h2

theorem sum_blk (u : Fin 32 → ℝ) :
    ((((((((∑ x : Fin 4, 2 * (u ⟨8 * x.val + (0 : Fin 8).val, by omega⟩ * u ⟨8 * x.val + (0 : Fin 8).val, by omega⟩))
      + (∑ x : Fin 4, 2 * (u ⟨8 * x.val + (1 : Fin 8).val, by omega⟩ * u ⟨8 * x.val + (1 : Fin 8).val, by omega⟩)))
      + (∑ x : Fin 4, 2 * (u ⟨8 * x.val + (2 : Fin 8).val, by omega⟩ * u ⟨8 * x.val + (2 : Fin 8).val, by omega⟩)))
      + (∑ x : Fin 4, 2 * (u ⟨8 * x.val + (3 : Fin 8).val, by omega⟩ * u ⟨8 * x.val + (3 : Fin 8).val, by omega⟩)))
      + (∑ x : Fin 4, 2 * (u ⟨8 * x.val + (4 : Fin 8).val, by omega⟩ * u ⟨8 * x.val + (4 : Fin 8).val, by omega⟩)))
      + (∑ x : Fin 4, 2 * (u ⟨8 * x.val + (5 : Fin 8).val, by omega⟩ * u ⟨8 * x.val + (5 : Fin 8).val, by omega⟩)))
      + (∑ x : Fin 4, 2 * (u ⟨8 * x.val + (6 : Fin 8).val, by omega⟩ * u ⟨8 * x.val + (6 : Fin 8).val, by omega⟩)))
      + (∑ x : Fin 4, 2 * (u ⟨8 * x.val + (7 : Fin 8).val, by omega⟩ * u ⟨8 * x.val + (7 : Fin 8).val, by omega⟩))) * (1 / 64)
      = (∑ i, u i * u i) / 32 := by
  have e : ∑ i, u i * u i = ∑ k : Fin 8, ∑ x : Fin 4, u ⟨8 * x.val + k.val, by omega⟩ * u ⟨8 * x.val + k.val, by omega⟩ := by
    rw [← Finset.sum_product', ← Equiv.sum_comp (finProdFinEquiv (m := 4) (n := 8)), ← Equiv.sum_comp (Equiv.prodComm (Fin 8) (Fin 4))]
    refine Finset.sum_congr rfl fun p _ => ?_
    have : finProdFinEquiv ((Equiv.prodComm (Fin 8) (Fin 4)) p) = (⟨8 * p.2.val + p.1.val, by omega⟩ : Fin (4 * 8)) :=
      Fin.ext (by simp [finProdFinEquiv]; omega)
    rw [this]
  rw [e, Fin.sum_univ_eight]
  simp only [← Finset.mul_sum]
  ring

theorem rms_apply (hR : ∀ y l, r4 (ix2 y l) = ((√2 * R y l : ℝ) : EReal)) (b : Fin 8) (l : Fin 128) :
    rms
      (partRow ⟨![0, 0], S8x128.size, ![8, 1], inb_S64x128_S8x128_0_0_s_8_1⟩ (partSum r4))
      (partRow ⟨![1, 0], S8x128.size, ![8, 1], inb_S64x128_S8x128_1_0_s_8_1⟩ (partSum r4))
      (partRow ⟨![2, 0], S8x128.size, ![8, 1], inb_S64x128_S8x128_2_0_s_8_1⟩ (partSum r4))
      (partRow ⟨![3, 0], S8x128.size, ![8, 1], inb_S64x128_S8x128_3_0_s_8_1⟩ (partSum r4))
      (partRow ⟨![4, 0], S8x128.size, ![8, 1], inb_S64x128_S8x128_4_0_s_8_1⟩ (partSum r4))
      (partRow ⟨![5, 0], S8x128.size, ![8, 1], inb_S64x128_S8x128_5_0_s_8_1⟩ (partSum r4))
      (partRow ⟨![6, 0], S8x128.size, ![8, 1], inb_S64x128_S8x128_6_0_s_8_1⟩ (partSum r4))
      (partRow ⟨![7, 0], S8x128.size, ![8, 1], inb_S64x128_S8x128_7_0_s_8_1⟩ (partSum r4)) (ix2 b l)
      = ((rmsR (blk R b l) : ℝ) : EReal) := by
  unfold rms partRow
  pointwise
  rw [partSum_apply r4 R hR b l ⟨8 * b.val, by omega⟩ 0 (by simp), partSum_apply r4 R hR b l ⟨1 + 8 * b.val, by omega⟩ 1 rfl,
    partSum_apply r4 R hR b l ⟨2 + 8 * b.val, by omega⟩ 2 rfl, partSum_apply r4 R hR b l ⟨3 + 8 * b.val, by omega⟩ 3 rfl,
    partSum_apply r4 R hR b l ⟨4 + 8 * b.val, by omega⟩ 4 rfl, partSum_apply r4 R hR b l ⟨5 + 8 * b.val, by omega⟩ 5 rfl,
    partSum_apply r4 R hR b l ⟨6 + 8 * b.val, by omega⟩ 6 rfl, partSum_apply r4 R hR b l ⟨7 + 8 * b.val, by omega⟩ 7 rfl, k_one_64th]
  simp only [← EReal.coe_add, ← EReal.coe_mul]
  rw [sum_blk, Ideal.sqrt_coe, if_neg (not_lt.mpr (by
    have : 0 ≤ ∑ i, blk R b l i * blk R b l i := Finset.sum_nonneg fun i _ => mul_self_nonneg _
    positivity))]
  rfl

/-- The scale codes of a tile. -/
theorem codeOf_apply (hR : ∀ y l, r4 (ix2 y l) = ((√2 * R y l : ℝ) : EReal)) (b : Fin 8) (l : Fin 128) :
    codeOf r4 (ix2 b l) = BitVec.ofNat 32 (expo (blk R b l)) := by
  unfold codeOf
  have hr := rms_apply r4 R hR b l
  generalize rms (F := Ideal) _ _ _ _ _ _ _ _ = a at hr ⊢
  have ha : amp a (ix2 b l) = ((ampR (blk R b l) : ℝ) : EReal) := by
    unfold amp
    pointwise
    rw [hr, k_cA, k_cB]
    rfl
  have hs := search_apply (amp a) _ b l ha
  unfold code
  generalize search (amp a) = s at hs ⊢
  pointwise
  rw [hr, hs]
  unfold expo
  by_cases h : rmsR (blk R b l) = 0
  · rw [if_pos (by rw [h]; rfl), if_pos h]
  · rw [if_neg (fun h' => h (EReal.coe_eq_zero.mp h')), if_neg h]

theorem row0_apply (hR : ∀ y l, r4 (ix2 y l) = ((√2 * R y l : ℝ) : EReal)) (b : Fin 8) (l : Fin 128) :
    row0 (F := Ideal) (codeOf r4) (ix2 b l) = ((p2 (254 - expo (blk R b l)) * (√2)⁻¹ : ℝ) : EReal) := by
  unfold row0 powBits
  pointwise
  rw [codeOf_apply r4 R hR b l]
  have h254 := expo_le (blk R b l)
  have : IntOp.subi 254#32 (BitVec.ofNat 32 (expo (blk R b l))) = BitVec.ofNat 32 (254 - expo (blk R b l)) := by
    apply BitVec.eq_of_toNat_eq
    unfold IntOp.subi
    simp [BitVec.toNat_sub]
    omega
  rw [this, shl_p2 _ (by omega), IdealRules.named_const.ideal_named_scalar _ _ _ _ rfl]
  rfl

theorem row1_apply (hR : ∀ y l, r4 (ix2 y l) = ((√2 * R y l : ℝ) : EReal)) (b : Fin 8) (l : Fin 128) :
    row1 (F := Ideal) (codeOf r4) (ix2 b l) = ((p2 (expo (blk R b l)) * p2 (expo (blk R b l)) * 72 : ℝ) : EReal) := by
  unfold row1 powBits
  pointwise
  rw [codeOf_apply r4 R hR b l, shl_p2 _ (expo_le _), k_seventy_two]
  rfl

theorem v_apply (y : Fin 256) (l : Fin 128) : (show EReal from (tileOut r4).v (ix2 y l)) =
    (show EReal from r4 (ix2 y l)) * (show EReal from row0 (F := Ideal) (codeOf r4) (ix2 ⟨y.val / 32, by omega⟩ l)) := by
  unfold tileOut outOf spread rowOf
  dsimp only
  pointwise
  split_ifs
  all_goals
    refine congrArg₂ (· * ·) (congrArg r4 (congrArg (fun a => ix2 a l) (Fin.ext ?_)))
      (congrArg (row0 _) (congrArg (fun a => ix2 a l) (Fin.ext ?_)))
  all_goals dsimp
  all_goals omega

theorem d_apply (y : Fin 256) (l : Fin 128) : (show EReal from (tileOut r4).d (ix2 y l)) =
    (show EReal from row1 (F := Ideal) (codeOf r4) (ix2 ⟨y.val / 32, by omega⟩ l))
      - (show EReal from r4 (ix2 y l)) * (show EReal from r4 (ix2 y l)) := by
  unfold tileOut outOf spread rowOf
  dsimp only
  pointwise
  split_ifs
  all_goals
    refine congrArg₂ (· - ·) (congrArg (row1 _) (congrArg (fun a => ix2 a l) (Fin.ext ?_)))
      (congrArg (fun a : Fin 256 => (show EReal from r4 (ix2 a l)) * (show EReal from r4 (ix2 a l))) (Fin.ext ?_))
  all_goals dsimp
  all_goals omega

theorem at_blk (y : Fin 256) (l : Fin 128) : R y l = blk R ⟨y.val / 32, by omega⟩ l ⟨y.val % 32, by omega⟩ := by
  unfold blk
  refine congrArg (fun a => R a l) (Fin.ext ?_)
  dsimp only
  omega

/-- The scaled values of a tile. -/
theorem v_real (hR : ∀ y l, r4 (ix2 y l) = ((√2 * R y l : ℝ) : EReal)) (y : Fin 256) (l : Fin 128) :
    (show EReal from (tileOut r4).v (ix2 y l))
      = ((scaledR (blk R ⟨y.val / 32, by omega⟩ l) ⟨y.val % 32, by omega⟩ : ℝ) : EReal) := by
  rw [v_apply, row0_apply r4 R hR, hR]
  show (((√2 * R y l : ℝ) : EReal)) * _ = _
  rw [← EReal.coe_mul]
  refine EReal.coe_eq_coe_iff.mpr ?_
  unfold scaledR
  rw [at_blk R y l]
  have : (√2 : ℝ) ≠ 0 := by positivity
  field_simp

/-- The clipping test of a tile. -/
theorem d_real (hR : ∀ y l, r4 (ix2 y l) = ((√2 * R y l : ℝ) : EReal)) (y : Fin 256) (l : Fin 128) :
    ∃ x : ℝ, (show EReal from (tileOut r4).d (ix2 y l)) = ((x : ℝ) : EReal)
      ∧ (x < 0 ↔ ¬ keepR (blk R ⟨y.val / 32, by omega⟩ l) ⟨y.val % 32, by omega⟩) := by
  refine ⟨_, ?_, not_keepR _ _⟩
  rw [d_apply, row1_apply r4 R hR, hR, at_blk R y l]
  rfl

end Tile

/-- The counted code of a real value. -/
theorem toE2m1_apply (a : FVec Ideal S256x128 .f32) (x : ℝ) (y : Fin 256) (l : Fin 128)
    (h : a (ix2 y l) = ((x : ℝ) : EReal)) : toE2m1 a (ix2 y l) = BitVec.ofNat 32 (raw x) := by
  have h0 : (((x : ℝ) : EReal) < 0) ↔ x < 0 := EReal.coe_neg'
  unfold toE2m1 step1
  pointwise
  have ha : FloatOps.absf (F := Ideal) (φ := .f32) ((x : ℝ) : EReal) = ((|x| : ℝ) : EReal) := abs_coe x
  have bit (p : Prop) [Decidable p] (n : ℕ) : (if p then BitVec.ofNat 32 n else 0#32) = BitVec.ofNat 32 (if p then n else 0) := by
    split_ifs <;> rfl
  rw [h]
  simp only [ha, k_quarter, k_three_quarters, k_five_quarters, k_seven_quarters, k_five_halves, k_seven_halves,
    k_five, EReal.coe_lt_coe_iff, EReal.coe_le_coe_iff, h0, bit, IntOp.addi, ← BitVec.ofNat_add]
  refine congrArg (BitVec.ofNat 32) ?_
  unfold raw cnt
  ring

end Cert.KernelIdeal.Tile
-- ==== Proof.V.Entry.lean ====
module
public import proofs.«01_k».proof.KernelIdeal
public import proofs.«01_k».proof.Proof.V.Spec

/-! # The words of the rotation's table -/

@[expose] public section
set_option maxRecDepth 65536

namespace Cert.KernelIdeal.Tile
open Cert.KernelIdeal Cert.V
open Idealize.ShloMosaic

/-- The word at a row and a column: a quarter with the Hadamard sign within a block, zero elsewhere. -/
def tableEntry (i j : ℕ) : BitVec 16 :=
  if i / 32 = j / 32 then
    if ctpopOf (IntOp.andi (BitVec.ofNat 32 (i % 32)) (BitVec.ofNat 32 (j % 32))) then 0x3E80#16 else 0xBE80#16
  else 0x0000#16

end Cert.KernelIdeal.Tile
-- ==== Proof.V.Rows0.lean ====
module
public import proofs.«01_k».proof.Proof.V.Entry

/-! # Rows 0 to 63 of the rotation's table -/

@[expose] public section
set_option maxRecDepth 65536

namespace Cert.KernelIdeal.Tile
open Cert.KernelIdeal Cert.V
open Idealize.ShloMosaic

set_option maxHeartbeats 2000000 in
theorem rows0 : ∀ i < 32, ∀ j < 256, lit0t (256 * (32 * 0 + i) + j) = tableEntry (32 * 0 + i) j := by decide +kernel

set_option maxHeartbeats 2000000 in
theorem rows1 : ∀ i < 32, ∀ j < 256, lit0t (256 * (32 * 1 + i) + j) = tableEntry (32 * 1 + i) j := by decide +kernel

end Cert.KernelIdeal.Tile
-- ==== Proof.V.Rows1.lean ====
module
public import proofs.«01_k».proof.Proof.V.Entry

/-! # Rows 64 to 127 of the rotation's table -/

@[expose] public section
set_option maxRecDepth 65536

namespace Cert.KernelIdeal.Tile
open Cert.KernelIdeal Cert.V
open Idealize.ShloMosaic

set_option maxHeartbeats 2000000 in
theorem rows2 : ∀ i < 32, ∀ j < 256, lit0t (256 * (32 * 2 + i) + j) = tableEntry (32 * 2 + i) j := by decide +kernel

set_option maxHeartbeats 2000000 in
theorem rows3 : ∀ i < 32, ∀ j < 256, lit0t (256 * (32 * 3 + i) + j) = tableEntry (32 * 3 + i) j := by decide +kernel

end Cert.KernelIdeal.Tile
-- ==== Proof.V.Rows2.lean ====
module
public import proofs.«01_k».proof.Proof.V.Entry

/-! # Rows 128 to 191 of the rotation's table -/

@[expose] public section
set_option maxRecDepth 65536

namespace Cert.KernelIdeal.Tile
open Cert.KernelIdeal Cert.V
open Idealize.ShloMosaic

set_option maxHeartbeats 2000000 in
theorem rows4 : ∀ i < 32, ∀ j < 256, lit0t (256 * (32 * 4 + i) + j) = tableEntry (32 * 4 + i) j := by decide +kernel

set_option maxHeartbeats 2000000 in
theorem rows5 : ∀ i < 32, ∀ j < 256, lit0t (256 * (32 * 5 + i) + j) = tableEntry (32 * 5 + i) j := by decide +kernel

end Cert.KernelIdeal.Tile
-- ==== Proof.V.Rows3.lean ====
module
public import proofs.«01_k».proof.Proof.V.Entry

/-! # Rows 192 to 255 of the rotation's table -/

@[expose] public section
set_option maxRecDepth 65536

namespace Cert.KernelIdeal.Tile
open Cert.KernelIdeal Cert.V
open Idealize.ShloMosaic

set_option maxHeartbeats 2000000 in
theorem rows6 : ∀ i < 32, ∀ j < 256, lit0t (256 * (32 * 6 + i) + j) = tableEntry (32 * 6 + i) j := by decide +kernel

set_option maxHeartbeats 2000000 in
theorem rows7 : ∀ i < 32, ∀ j < 256, lit0t (256 * (32 * 7 + i) + j) = tableEntry (32 * 7 + i) j := by decide +kernel

end Cert.KernelIdeal.Tile
-- ==== Proof.V.Table.lean ====
module
public import proofs.«01_k».proof.Proof.V.Rows0
public import proofs.«01_k».proof.Proof.V.Rows1
public import proofs.«01_k».proof.Proof.V.Rows2
public import proofs.«01_k».proof.Proof.V.Rows3

/-! # The rotation's table, word by word -/

@[expose] public section
set_option maxRecDepth 65536

namespace Cert.KernelIdeal.Tile
open Cert.KernelIdeal Cert.V
open Idealize.ShloMosaic

theorem table_blocks : ∀ b < 8, ∀ i < 32, ∀ j < 256, lit0t (256 * (32 * b + i) + j) = tableEntry (32 * b + i) j
  | 0, _ => rows0
  | 1, _ => rows1
  | 2, _ => rows2
  | 3, _ => rows3
  | 4, _ => rows4
  | 5, _ => rows5
  | 6, _ => rows6
  | 7, _ => rows7

theorem table_at (i j : Fin 256) : lit0 (S256x256.rowMajor (ix2 i j)) = tableEntry i.val j.val := by
  have h : (S256x256.rowMajor (ix2 i j)).val = 256 * (32 * (i.val / 32) + i.val % 32) + j.val := by
    rw [Shape.rowMajor_val_two]
    show i.val * 256 + j.val = _
    omega
  show lit0t (S256x256.rowMajor (ix2 i j)).val = _
  rw [h, table_blocks (i.val / 32) (by omega) (i.val % 32) (by omega) j.val j.isLt, Nat.div_add_mod]

end Cert.KernelIdeal.Tile
-- ==== Proof.V.Arr.lean ====
module
public import proofs.«01_k».proof.Proof.V.Tile
public import proofs.«01_k».proof.Proof.V.Table
public import Idealize.ShloMosaic.Lib.Claim
public import Idealize.ShloMosaic.Lib.Tactic.CleanTypes
public import Idealize.ShloMosaic.Lib.Pipeline.ValueKit

/-! # The blocks the kernel reads and the arrays it leaves

The rotation's table, the operand blocks at a grid point, and each result array as one function of
the blocks of the point that writes it. -/

@[expose] public section
set_option maxRecDepth 16384

noncomputable section
namespace Cert.KernelIdeal.Tile
open Cert.KernelIdeal Cert.KernelIdeal.Gen Cert.V
open Idealize.ShloMosaic Idealize.ShloMosaic.TcCoe Idealize.SL.Sem

variable (m : (ℓ : Loc nD τ sig) → Buf (Elt Ideal) ℓ) (c : Dev nD)

/-- The rotation's table as the host holds it. -/
def hadK : FVec Ideal S256x256 .bf16 := fun i => FloatOps.ofBits .bf16 (lit0 (S256x256.rowMajor i))

theorem h_arr (i j : Fin 256) : V (F := Ideal) m c main_cst (ix2 i j) = hadK (ix2 i j) := by
  dsimp only [V]
  simp only [hostOps0, List.flatten_cons, List.flatten_nil, List.append_nil, List.cons_append, List.nil_append]
  entry_read
  rfl

theorem k_quarter16 : Ideal.ofBits .bf16 0x3E80#16 = ((1 / 4 : ℝ) : EReal) := by
  simp [Ideal.ofBits, Ideal.ieee, -EReal.coe_mul]; norm_num

theorem k_neg_quarter16 : Ideal.ofBits .bf16 0xBE80#16 = ((-(1 / 4) : ℝ) : EReal) := by
  simp [Ideal.ofBits, Ideal.ieee, -EReal.coe_mul]; norm_num

theorem k_zero16 : Ideal.ofBits .bf16 0x0000#16 = ((0 : ℝ) : EReal) := by
  simp [Ideal.ofBits, Ideal.ieee]

theorem select_eq {α : Type} (a b : BitVec 32) (x y : α) :
    Scalar.select (IntOp.cmpi CmpIPredicate.eq a b) x y = if a = b then x else y := by
  unfold Scalar.select IntOp.cmpi
  by_cases h : a = b
  · simp [h]
  · have hb : (a == b) = false := by simpa using h
    simp [h, hb]

/-- The table's entry: a quarter of the Hadamard sign within a block, zero elsewhere. -/
theorem hadK_apply (i j : Fin 256) : (show EReal from hadK (ix2 i j))
    = ((if i.val / 32 = j.val / 32 then hadR ⟨i.val % 32, by omega⟩ ⟨j.val % 32, by omega⟩ / 4 else 0 : ℝ) : EReal) := by
  show Ideal.ofBits .bf16 (lit0 (S256x256.rowMajor (ix2 i j))) = _
  rw [table_at]
  unfold tableEntry
  by_cases h : i.val / 32 = j.val / 32
  · rw [if_pos h, if_pos h]
    by_cases hp : ctpopOf (IntOp.andi (BitVec.ofNat 32 (i.val % 32)) (BitVec.ofNat 32 (j.val % 32)))
    · rw [if_pos hp, show hadR ⟨i.val % 32, by omega⟩ ⟨j.val % 32, by omega⟩ = 1 from if_pos hp]
      exact k_quarter16
    · rw [if_neg hp, show hadR ⟨i.val % 32, by omega⟩ ⟨j.val % 32, by omega⟩ = -1 from if_neg hp]
      refine k_neg_quarter16.trans (EReal.coe_eq_coe_iff.mpr ?_)
      norm_num
  · rw [if_neg h, if_neg h]
    exact k_zero16

theorem x_arr (i : Fin 128) (j : Fin 16384) : V (F := Ideal)  m c main_v0 (ix2 i j) = m ((c.tc : Thread nD τ).loc main_arg0) (ix3 0 i j) := by
  dsimp only [V]
  simp only [hostOps0, List.flatten_cons, List.flatten_nil, List.append_nil, List.cons_append, List.nil_append]
  entry_read
  pointwise

theorem idx0 : ∀ t : Fin cfg0.N, win0_0.index t 0 = 0 ∧ win0_0.index t 1 = 0 := by decide +kernel
theorem idx1 : ∀ t : Fin cfg0.N, win0_1.index t 0 = 0 ∧ win0_1.index t 1 = min t.val 3 := by decide +kernel
theorem idx2 : ∀ t : Fin cfg0.N, win0_2.index t 0 = t.val / 4 ∧ win0_2.index t 1 = t.val % 4 := by decide +kernel

theorem hB_apply (t : Fin cfg0.N) (i j : Fin 256) : hB m c t (ix2 i j) = hadK (ix2 i j) := by
  unfold hB iblk
  rw [View.read_apply, ← h_arr m c]
  show V m c main_cst _ = V m c main_cst _
  refine congrArg (V m c main_cst) ?_
  funext a
  apply Fin.ext
  match a with
  | ⟨0, _⟩ => show win0_0.index t 0 * 256 + 1 * i.val = i.val; rw [(idx0 t).1]; omega
  | ⟨1, _⟩ => show win0_0.index t 1 * 256 + 1 * j.val = j.val; rw [(idx0 t).2]; omega

theorem xB_apply (t : Fin cfg0.N) (i : Fin 128) (j : Fin 4096) : xB m c t (ix2 i j)
    = m ((c.tc : Thread nD τ).loc main_arg0) (ix3 0 i ⟨4096 * (min t.val 3) + j.val, by omega⟩) := by
  unfold xB iblk
  rw [View.read_apply, ← x_arr m c]
  show V m c main_v0 _ = V m c main_v0 _
  refine congrArg (V m c main_v0) ?_
  funext a
  apply Fin.ext
  match a with
  | ⟨0, _⟩ => show win0_1.index t 0 * 128 + 1 * i.val = i.val; rw [(idx1 t).1]; omega
  | ⟨1, _⟩ => show win0_1.index t 1 * 4096 + 1 * j.val = 4096 * (min t.val 3) + j.val; rw [(idx1 t).2]; omega

theorem wB_apply (t : Fin cfg0.N) (i : Fin 256) (j : Fin 4096) : wB m c t (ix2 i j)
    = m ((c.tc : Thread nD τ).loc main_arg1) (ix2 ⟨256 * (t.val / 4) + i.val, by have : t.val < 48 := t.isLt; omega⟩
      ⟨4096 * (t.val % 4) + j.val, by omega⟩) := by
  unfold wB iblk
  rw [View.read_apply]
  show V m c main_arg1 _ = _
  rw [V_main_arg1]
  refine congrArg (m ((c.tc : Thread nD τ).loc main_arg1)) ?_
  funext a
  apply Fin.ext
  match a with
  | ⟨0, _⟩ => show win0_2.index t 0 * 256 + 1 * i.val = 256 * (t.val / 4) + i.val; rw [(idx2 t).1]; omega
  | ⟨1, _⟩ => show win0_2.index t 1 * 4096 + 1 * j.val = 4096 * (t.val % 4) + j.val; rw [(idx2 t).2]; omega

/-! ## The rotation -/

theorem sqrt2_32 : √2 / √32 = (1 / 4 : ℝ) := by
  rw [← Real.sqrt_div (by norm_num), show (2 / 32 : ℝ) = (1 / 4) ^ 2 by norm_num, Real.sqrt_sq (by norm_num)]

/-- A row of the table against 256 values is √2 times the rotated values of the row's block. -/
theorem rot_sum (a : ℕ → ℝ) (y : Fin 256) :
    ∑ j : Fin 256, (if y.val / 32 = j.val / 32 then hadR ⟨y.val % 32, by omega⟩ ⟨j.val % 32, by omega⟩ / 4 else 0) * a j.val
      = √2 * rotR (fun x => a (32 * (y.val / 32) + x.val)) ⟨y.val % 32, by omega⟩ := by
  have hy := y.isLt
  rw [← Equiv.sum_comp (finProdFinEquiv (m := 8) (n := 32)), Fintype.sum_prod_type]
  have e (b : Fin 8) (x : Fin 32) : (finProdFinEquiv (b, x)).val = 32 * b.val + x.val := by
    simp [finProdFinEquiv]; omega
  rw [Finset.sum_eq_single (⟨y.val / 32, by omega⟩ : Fin 8)]
  · unfold rotR
    rw [show ∀ S : ℝ, √2 * (S / √32) = S * (√2 / √32) from fun S => by ring, sqrt2_32, Finset.sum_mul]
    refine Finset.sum_congr rfl fun x _ => ?_
    have hx := x.isLt
    have h1 : (finProdFinEquiv ((⟨y.val / 32, by omega⟩ : Fin 8), x)).val / 32 = y.val / 32 := by rw [e]; dsimp only; omega
    have h2 : (finProdFinEquiv ((⟨y.val / 32, by omega⟩ : Fin 8), x)).val % 32 = x.val := by rw [e]; dsimp only; omega
    rw [if_pos h1.symm, hadR_comm]
    simp only [h2]
    rw [congrArg a (e _ _)]
    ring
  · intro b _ hb
    refine Finset.sum_eq_zero fun x _ => ?_
    have hx := x.isLt
    rw [if_neg, zero_mul]
    rw [e]
    intro h
    exact hb (Fin.ext (by show b.val = y.val / 32; omega))
  · intro h
    exact absurd (Finset.mem_univ _) h

/-- The rotated values of a tile: rows of the matrix `A` from `n0`, blocks of 32 columns from `g0`. -/
def RT (A : ℕ → ℕ → ℝ) (n0 g0 : ℕ) : Fin 256 → Fin 128 → ℝ :=
  fun y l => uR A (n0 + l.val) (g0 + y.val / 32) ⟨y.val % 32, by omega⟩

theorem blk_RT (A : ℕ → ℕ → ℝ) (n0 g0 : ℕ) (b : Fin 8) (l : Fin 128) :
    blk (RT A n0 g0) b l = uR A (n0 + l.val) (g0 + b.val) := by
  funext i
  have hi := i.isLt
  unfold blk RT
  refine congrArg₂ (fun g (x : Fin 32) => uR A (n0 + l.val) g x) ?_ (Fin.ext ?_) <;> dsimp only <;> omega

theorem table_sum (t : Fin cfg0.N) (f : Fin 256 → EReal) (A : ℕ → ℕ → ℝ) (n g0 : ℕ) (y : Fin 256)
    (hf : ∀ j : Fin 256, f j = ((A n (32 * g0 + j.val) : ℝ) : EReal)) :
    ∑ j, (show EReal from hB m c t (ix2 y j)) * f j
      = ((√2 * uR A n (g0 + y.val / 32) ⟨y.val % 32, by omega⟩ : ℝ) : EReal) := by
  have e (j : Fin 256) : (show EReal from hB m c t (ix2 y j)) * f j
      = (((if y.val / 32 = j.val / 32 then hadR ⟨y.val % 32, by omega⟩ ⟨j.val % 32, by omega⟩ / 4 else 0)
          * (fun k => A n (32 * g0 + k)) j.val : ℝ) : EReal) := by
    rw [hf, EReal.coe_mul, ← hadK_apply, hB_apply m c t]
  rw [Finset.sum_congr rfl fun j _ => e j, coe_sum]
  refine (congrArg (fun r : ℝ => (r : EReal)) (rot_sum (fun k => A n (32 * g0 + k)) y)).trans ?_
  unfold uR
  refine congrArg (fun u : Fin 32 → ℝ => ((√2 * rotR u ⟨y.val % 32, by omega⟩ : ℝ) : EReal)) ?_
  funext x
  refine congrArg (A n) ?_
  omega

/-- A rotated tile of the left operand. -/
theorem rotX_real (A : ℕ → ℕ → ℝ) (hA : ∀ i j, m ((c.tc : Thread nD τ).loc main_arg0) (ix3 0 i j) = ((A i.val j.val : ℝ) : EReal))
    (t : Fin cfg0.N) (k : ℕ) (hk : k < 16) (y : Fin 256) (l : Fin 128) :
    rotX (hB m c t) (xcols (xB m c t) k) (ix2 y l) = ((√2 * RT A 0 (128 * min t.val 3 + 8 * k) y l : ℝ) : EReal) := by
  unfold rotX
  pointwise
  refine (table_sum m c t _ A l.val (128 * min t.val 3 + 8 * k) y fun j => ?_).trans ?_
  · unfold xcols
    refine (xB_apply m c t l _).trans ((hA _ _).trans ?_)
    refine congrArg (fun q => ((A l.val q : ℝ) : EReal)) ?_
    have hj := j.isLt
    show 4096 * min t.val 3 + (256 * k + j.val) % 4096 = _
    omega
  · unfold RT
    rw [Nat.zero_add]

/-- Two rotated tiles of the right operand. -/
theorem rotW_real (A : ℕ → ℕ → ℝ) (hA : ∀ i j, m ((c.tc : Thread nD τ).loc main_arg1) (ix2 i j) = ((A i.val j.val : ℝ) : EReal))
    (t : Fin cfg0.N) (k : ℕ) (hk : k < 16) (y : Fin 256) (l : Fin 256) :
    rotW (hB m c t) (wcols (wB m c t) k) (ix2 y l)
      = ((√2 * uR A (256 * (t.val / 4) + l.val) (128 * (t.val % 4) + 8 * k + y.val / 32) ⟨y.val % 32, by omega⟩ : ℝ) : EReal) := by
  unfold rotW
  pointwise
  refine table_sum m c t _ A (256 * (t.val / 4) + l.val) (128 * (t.val % 4) + 8 * k) y fun j => ?_
  unfold wcols
  refine (wB_apply m c t l _).trans ((hA _ _).trans ?_)
  refine congrArg (fun q => ((A (256 * (t.val / 4) + l.val) q : ℝ) : EReal)) ?_
  have hj := j.isLt
  show 4096 * (t.val % 4) + (256 * k + j.val) % 4096 = _
  omega

/-- A rotated tile of the right operand. -/
theorem half_real (A : ℕ → ℕ → ℝ) (hA : ∀ i j, m ((c.tc : Thread nD τ).loc main_arg1) (ix2 i j) = ((A i.val j.val : ℝ) : EReal))
    (t : Fin cfg0.N) (k hf : ℕ) (hk : k < 16) (hh : hf < 2) (y : Fin 256) (l : Fin 128) :
    (if hf = 0 then half0 (rotW (hB m c t) (wcols (wB m c t) k)) else half1 (rotW (hB m c t) (wcols (wB m c t) k))) (ix2 y l)
      = ((√2 * RT A (256 * (t.val / 4) + 128 * hf) (128 * (t.val % 4) + 8 * k) y l : ℝ) : EReal) := by
  have h := rotW_real m c A hA t k hk y
  generalize rotW (hB m c t) (wcols (wB m c t) k) = r at h ⊢
  have e (o : ℕ) (ho : o + l.val < 256) (heq : o = 128 * hf) : r (ix2 y ⟨o + l.val, ho⟩)
      = ((√2 * RT A (256 * (t.val / 4) + 128 * hf) (128 * (t.val % 4) + 8 * k) y l : ℝ) : EReal) := by
    rw [h]
    unfold RT
    refine congrArg (fun q => ((√2 * uR A q (128 * (t.val % 4) + 8 * k + y.val / 32) ⟨y.val % 32, by omega⟩ : ℝ) : EReal)) ?_
    dsimp only
    omega
  interval_cases hf
  · rw [if_pos rfl]
    unfold half0
    pointwise
    have := e 0 (by omega) rfl
    simpa using this
  · rw [if_neg (by decide)]
    unfold half1
    pointwise
    exact e 128 (by omega) rfl

theorem idxL : ∀ t : Fin cfg0.N, win0_4.index t 0 = 0 ∧ win0_4.index t 1 = min t.val 3 ∧ win0_6.index t 0 = 0 ∧ win0_6.index t 1 = min t.val 3
    ∧ win0_7.index t 0 = 0 ∧ win0_7.index t 1 = min t.val 3 := by decide +kernel
theorem idxR : ∀ t : Fin cfg0.N, win0_5.index t 0 = t.val / 4 ∧ win0_5.index t 1 = t.val % 4 ∧ win0_8.index t 0 = t.val / 4 ∧ win0_8.index t 1 = t.val % 4
    ∧ win0_9.index t 0 = t.val / 4 ∧ win0_9.index t 1 = t.val % 4 := by decide +kernel

theorem ptOf_R (t : Fin cfg0.N) (a b r s : ℕ) (ha : a < r) (hb : b < s) :
    ptOf (4 * ((t.val / 4 * r + a) / r) + (t.val % 4 * s + b) / s) = t := by
  have hr : (t.val / 4 * r + a) / r = t.val / 4 := by
    rw [Nat.mul_comm, Nat.mul_add_div (by omega), Nat.div_eq_of_lt ha, Nat.add_zero]
  have hs : (t.val % 4 * s + b) / s = t.val % 4 := by
    rw [Nat.mul_comm, Nat.mul_add_div (by omega), Nat.div_eq_of_lt hb, Nat.add_zero]
  rw [hr, hs, Nat.div_add_mod]
  exact ptOf_val t

theorem ptOf_L (t : Fin cfg0.N) (b s : ℕ) (hb : b < s) : ptOf ((min t.val 3 * s + b) / s) = tx t := by
  have hs : (min t.val 3 * s + b) / s = min t.val 3 := by
    rw [Nat.mul_comm, Nat.mul_add_div (by omega), Nat.div_eq_of_lt hb, Nat.add_zero]
  rw [hs]
  rfl

theorem mod_at (a b r : ℕ) (hb : b < r) : (a * r + b) % r = b := by
  rw [Nat.mul_comm, Nat.mul_add_mod, Nat.mod_eq_of_lt hb]

/-- A result array of the right operand, `r` rows and `s` columns to a block, from what each block is. -/
def gluedR {N C r s : ℕ} {α : Type} (hr : 0 < r) (hs : 0 < s) (G : Fin cfg0.N → (⟨2, ![r, s]⟩ : Shape).Idx → α) :
    (⟨2, ![N, C]⟩ : Shape).Idx → α := fun y =>
  G (ptOf (4 * ((y 0).val / r) + (y 1).val / s)) (ix2 ⟨(y 0).val % r, Nat.mod_lt _ hr⟩ ⟨(y 1).val % s, Nat.mod_lt _ hs⟩)

/-- A result array of the left operand, `s` columns to a block, from what each block is. -/
def gluedL {r C s : ℕ} {α : Type} (hr : 0 < r) (hs : 0 < s) (G : Fin cfg0.N → (⟨2, ![r, s]⟩ : Shape).Idx → α) :
    (⟨2, ![r, C]⟩ : Shape).Idx → α := fun y =>
  G (ptOf ((y 1).val / s)) (ix2 ⟨(y 0).val % r, Nat.mod_lt _ hr⟩ ⟨(y 1).val % s, Nat.mod_lt _ hs⟩)

theorem out9 : (dats (F := Ideal) m 0 c).arrAt 9 cfg0.N
    = (gluedR (by decide) (by decide) (fun t => bytesW (hB m c t) (wB m c t)) : S3072x512.Idx → BitVec 8) := by
  refine (dats m 0 c).arrAt_eq_of_covers 9 _ (by decide +kernel) fun t hf y => ?_
  unfold gluedR
  blk_simp
  have h0 : (y 0).val < 256 := (y 0).isLt
  have h1 : (y 1).val < 128 := (y 1).isLt
  have hi := idxR t
  simp only [hi.2.2.2.2.1, hi.2.2.2.2.2, ptOf_R t _ _ _ _ h0 h1, mod_at _ _ _ h0, mod_at _ _ _ h1]
  exact congrArg (bytesW (hB m c t) (wB m c t)) (ValueIdx.eq_ix2 y)

theorem out8 : (dats (F := Ideal) m 0 c).arrAt 8 cfg0.N
    = (gluedR (by decide) (by decide) (fun t => codesW (hB m c t) (wB m c t)) : S3072x8192.Idx → BitVec 8) := by
  refine (dats m 0 c).arrAt_eq_of_covers 8 _ (by decide +kernel) fun t hf y => ?_
  unfold gluedR
  blk_simp
  have h0 : (y 0).val < 256 := (y 0).isLt
  have h1 : (y 1).val < 2048 := (y 1).isLt
  have hi := idxR t
  simp only [hi.2.2.1, hi.2.2.2.1, ptOf_R t _ _ _ _ h0 h1, mod_at _ _ _ h0, mod_at _ _ _ h1]
  exact congrArg (codesW (hB m c t) (wB m c t)) (ValueIdx.eq_ix2 y)

theorem out5 : (dats (F := Ideal) m 0 c).arrAt 5 cfg0.N
    = (gluedR (by decide) (by decide) (fun t => maskW (hB m c t) (wB m c t)) : S3072x2048.Idx → BitVec 8) := by
  refine (dats m 0 c).arrAt_eq_of_covers 5 _ (by decide +kernel) fun t hf y => ?_
  unfold gluedR
  blk_simp
  have h0 : (y 0).val < 256 := (y 0).isLt
  have h1 : (y 1).val < 512 := (y 1).isLt
  have hi := idxR t
  simp only [hi.1, hi.2.1, ptOf_R t _ _ _ _ h0 h1, mod_at _ _ _ h0, mod_at _ _ _ h1]
  exact congrArg (maskW (hB m c t) (wB m c t)) (ValueIdx.eq_ix2 y)

theorem out7 : (dats (F := Ideal) m 0 c).arrAt 7 cfg0.N
    = (gluedL (by decide) (by decide) (fun t => bytesX (hB m c t) (xB m c t)) : S128x512.Idx → BitVec 8) := by
  refine (dats m 0 c).arrAt_eq_of_covers 7 _ (by decide +kernel) fun t hf y => ?_
  unfold gluedL
  blk_simp
  have h0 : (y 0).val < 128 := (y 0).isLt
  have h1 : (y 1).val < 128 := (y 1).isLt
  have hi := idxL t
  simp only [hi.2.2.2.2.1, hi.2.2.2.2.2, ptOf_L t _ _ h1, mod_at _ _ _ h0, mod_at _ _ _ h1]
  exact congrArg (bytesX (hB m c (tx t)) (xB m c (tx t))) (ValueIdx.eq_ix2 y)

theorem out6 : (dats (F := Ideal) m 0 c).arrAt 6 cfg0.N
    = (gluedL (by decide) (by decide) (fun t => codesX (hB m c t) (xB m c t)) : S128x8192.Idx → BitVec 8) := by
  refine (dats m 0 c).arrAt_eq_of_covers 6 _ (by decide +kernel) fun t hf y => ?_
  unfold gluedL
  blk_simp
  have h0 : (y 0).val < 128 := (y 0).isLt
  have h1 : (y 1).val < 2048 := (y 1).isLt
  have hi := idxL t
  simp only [hi.2.2.1, hi.2.2.2.1, ptOf_L t _ _ h1, mod_at _ _ _ h0, mod_at _ _ _ h1]
  exact congrArg (codesX (hB m c (tx t)) (xB m c (tx t))) (ValueIdx.eq_ix2 y)

theorem out4 : (dats (F := Ideal) m 0 c).arrAt 4 cfg0.N
    = (gluedL (by decide) (by decide) (fun t => maskX (hB m c t) (xB m c t)) : S128x2048.Idx → BitVec 8) := by
  refine (dats m 0 c).arrAt_eq_of_covers 4 _ (by decide +kernel) fun t hf y => ?_
  unfold gluedL
  blk_simp
  have h0 : (y 0).val < 128 := (y 0).isLt
  have h1 : (y 1).val < 512 := (y 1).isLt
  have hi := idxL t
  simp only [hi.1, hi.2.1, ptOf_L t _ _ h1, mod_at _ _ _ h0, mod_at _ _ _ h1]
  exact congrArg (maskX (hB m c (tx t)) (xB m c (tx t))) (ValueIdx.eq_ix2 y)

end Cert.KernelIdeal.Tile
-- ==== Proof.V.Words.lean ====
module

public import proofs.«01_k».proof.Proof.KI.Spec
public import Idealize.ShloMosaic.Lib.Pointwise
public import Idealize.ShloMosaic.Lib.BitcastFour
public import Idealize.ShloMosaic.Lib.WordSum
public import Mathlib.Algebra.BigOperators.Fin

/-! # The words of the kernel, bit by bit

A word packs eight four-bit codes, or sixteen two-bit codes; a bit of the word is a bit of one code.
From that, the bits of the code bytes and of the mask bytes of a tile. -/

@[expose] public section
noncomputable section

namespace Cert.KernelIdeal.Tile

open Cert.KernelIdeal Cert.KernelIdeal.Gen
open Idealize.ShloMosaic Idealize.ShloMosaic.TcCoe Idealize.ShloMosaic.Tactic
open Idealize.SL Idealize.SL.Sem

/-! ## Numbers packed `b` bits each -/

theorem pk_succ (b n : ℕ) (g : Fin (n + 1) → ℕ) :
    ∑ x, g x * 2 ^ (b * x.val) = 2 ^ b * (∑ x : Fin n, g x.succ * 2 ^ (b * x.val)) + g 0 := by
  rw [Fin.sum_univ_succ, Finset.mul_sum, Nat.add_comm]
  congr 1
  · refine Finset.sum_congr rfl fun x _ => ?_
    rw [Fin.val_succ, Nat.mul_add, Nat.mul_one, pow_add]
    ring
  · simp

theorem pk_lt (b : ℕ) : ∀ (n : ℕ) (g : Fin n → ℕ), (∀ i, g i < 2 ^ b) → ∑ x, g x * 2 ^ (b * x.val) < 2 ^ (b * n)
  | 0, g, _ => by simp
  | n + 1, g, hg => by
    have h := pk_lt b n (fun x => g x.succ) fun i => hg _
    have h0 := hg 0
    rw [pk_succ, Nat.mul_add, Nat.mul_one, pow_add]
    generalize (∑ x : Fin n, g x.succ * 2 ^ (b * x.val)) = s at h ⊢
    generalize 2 ^ (b * n) = p at h ⊢
    have := Nat.mul_le_mul_left (2 ^ b) (Nat.succ_le_of_lt h)
    rw [Nat.mul_succ] at this
    nlinarith

theorem pk_testBit (b : ℕ) : ∀ (n : ℕ) (g : Fin n → ℕ), (∀ i, g i < 2 ^ b) → ∀ (i : Fin n) (k : ℕ), k < b →
    (∑ x, g x * 2 ^ (b * x.val)).testBit (b * i.val + k) = (g i).testBit k
  | 0, _, _, i, _, _ => i.elim0
  | n + 1, g, hg, i, k, hk => by
    rw [pk_succ, Nat.testBit_two_pow_mul_add _ (hg 0)]
    refine Fin.cases ?_ (fun i => ?_) i
    · simp [hk]
    · have e : b * i.succ.val + k = b + (b * i.val + k) := by rw [Fin.val_succ, Nat.mul_succ]; omega
      rw [e, if_neg (by omega), Nat.add_sub_cancel_left]
      exact pk_testBit b n (fun x => g x.succ) (fun i => hg _) i k hk

/-- The value of a word that packs `n` codes of `b` bits. -/
theorem pack_toNat {n : ℕ} (b : ℕ) (hb : b * n ≤ 32) (f : Fin n → BitVec 32) (hf : ∀ i, (f i).toNat < 2 ^ b) :
    (Finset.fold IntOp.addi (0#32) (fun x : Fin n => IntOp.shli ArithUnit.vector (f x)
      (IntOp.muli (BitVec.ofNat 32 b) (BitVec.ofNat 32 x.val))) Finset.univ).toNat = ∑ x, (f x).toNat * 2 ^ (b * x.val) := by
  have e (x : Fin n) : (IntOp.shli ArithUnit.vector (f x) (IntOp.muli (BitVec.ofNat 32 b) (BitVec.ofNat 32 x.val))).toNat
      = (f x).toNat * 2 ^ (b * x.val) := by
    have hx : b * (x.val + 1) ≤ 32 := (Nat.mul_le_mul_left b x.isLt).trans hb
    rw [Nat.mul_succ] at hx
    have hv : (IntOp.muli (BitVec.ofNat 32 b) (BitVec.ofNat 32 x.val)).toNat = b * x.val := by
      show (BitVec.ofNat 32 b * BitVec.ofNat 32 x.val).toNat = _
      rw [← BitVec.ofNat_mul, BitVec.toNat_ofNat, Nat.mod_eq_of_lt (by omega)]
    have hlt : b * x.val < 32 := by
      by_contra hc
      have hb0 : b = 0 := by omega
      subst hb0
      omega
    unfold IntOp.shli
    rw [if_pos (by rw [hv]; exact hlt), BitVec.shiftLeft_eq', hv, BitVec.toNat_shiftLeft, Nat.shiftLeft_eq, Nat.mod_eq_of_lt]
    calc (f x).toNat * 2 ^ (b * x.val) < 2 ^ b * 2 ^ (b * x.val) := Nat.mul_lt_mul_of_pos_right (hf x) (by positivity)
      _ = 2 ^ (b * x.val + b) := by rw [← pow_add, Nat.add_comm]
      _ ≤ 2 ^ 32 := Nat.pow_le_pow_right (by decide) hx
  show (∑ x : Fin n, IntOp.shli ArithUnit.vector (f x) (IntOp.muli (BitVec.ofNat 32 b) (BitVec.ofNat 32 x.val))).toNat = _
  rw [WordSum.toNat_sum]
  · exact Finset.sum_congr rfl fun x _ => e x
  · rw [Finset.sum_congr rfl fun x _ => e x]
    exact (pk_lt b n _ hf).trans_le (Nat.pow_le_pow_right (by decide) hb)

theorem pack_bit {n : ℕ} (b : ℕ) (hb : b * n ≤ 32) (f : Fin n → BitVec 32) (hf : ∀ i, (f i).toNat < 2 ^ b)
    (i : Fin n) (k q : ℕ) (hk : k < b) (hq : q = b * i.val + k) :
    (Finset.fold IntOp.addi (0#32) (fun x : Fin n => IntOp.shli ArithUnit.vector (f x)
      (IntOp.muli (BitVec.ofNat 32 b) (BitVec.ofNat 32 x.val))) Finset.univ).getLsbD q = (f i).getLsbD k := by
  subst hq
  rw [BitVec.getLsbD, pack_toNat b hb f hf, pk_testBit b n (fun x => (f x).toNat) hf i k hk]
  rfl

/-- Clearing the sign of the zero codes, at a bit. -/
theorem clear_bit (w : BitVec 32) (n : Fin 8 → ℕ) (hn : ∀ i, n i < 2 ^ 4) (hw : w.toNat = ∑ x, n x * 2 ^ (4 * x.val))
    (i : Fin 8) (k : ℕ) (hk : k < 4) :
    (IntOp.andi w (IntOp.ori (IntOp.addi (IntOp.andi w 2004318071#32) 2004318071#32) 2004318071#32)).getLsbD (4 * i.val + k)
      = (if n i % 8 = 0 then 0 else n i).testBit k := by
  have hc (i : Fin 8) (k : ℕ) (hk : k < 4) : (2004318071#32).getLsbD (4 * i.val + k) = decide (k < 3) := by
    have : ∀ (i : Fin 8) (k : Fin 4), (2004318071#32).getLsbD (4 * i.val + k.val) = decide (k.val < 3) := by decide
    exact this i ⟨k, hk⟩
  have hwb (i : Fin 8) (k : ℕ) (hk : k < 4) : w.getLsbD (4 * i.val + k) = (n i).testBit k := by
    rw [BitVec.getLsbD, hw, pk_testBit 4 8 n hn i k hk]
  have m8 (a k : ℕ) : (a % 8).testBit k = (decide (k < 3) && a.testBit k) := Nat.testBit_mod_two_pow a 3 k
  have hA : (w &&& 2004318071#32).toNat = ∑ x, (n x % 8) * 2 ^ (4 * x.val) := by
    refine Nat.eq_of_testBit_eq fun j => ?_
    by_cases hj : j < 32
    · have e : j = 4 * (⟨j / 4, by omega⟩ : Fin 8).val + j % 4 := by dsimp only; omega
      have h4 : j % 4 < 4 := by omega
      rw [e, pk_testBit 4 8 (fun x => n x % 8) (fun x => by omega) _ _ h4, BitVec.testBit_toNat, BitVec.getLsbD_and,
        hwb _ _ h4, hc _ _ h4, m8 (n _) (j % 4), Bool.and_comm]
    · have h32 : 2 ^ 32 ≤ 2 ^ j := Nat.pow_le_pow_right (by decide) (by omega)
      rw [Nat.testBit_lt_two_pow ((w &&& 2004318071#32).isLt.trans_le h32),
        Nat.testBit_lt_two_pow ((pk_lt 4 8 (fun x => n x % 8) (fun x => by omega)).trans_le h32)]
  have hB : ((w &&& 2004318071#32) + 2004318071#32).toNat = ∑ x, (n x % 8 + 7) * 2 ^ (4 * x.val) := by
    have h7 : (2004318071#32).toNat = ∑ x : Fin 8, 7 * 2 ^ (4 * x.val) := by decide
    have hs : (∑ x, (n x % 8) * 2 ^ (4 * x.val)) + ∑ x : Fin 8, 7 * 2 ^ (4 * x.val) = ∑ x, (n x % 8 + 7) * 2 ^ (4 * x.val) := by
      rw [← Finset.sum_add_distrib]
      exact Finset.sum_congr rfl fun x _ => by ring
    rw [BitVec.toNat_add, hA, h7, hs, Nat.mod_eq_of_lt]
    exact pk_lt 4 8 (fun x => n x % 8 + 7) (fun x => by omega)
  unfold IntOp.andi IntOp.ori IntOp.addi
  have hBb : ((w &&& 2004318071#32) + 2004318071#32).getLsbD (4 * i.val + k) = (n i % 8 + 7).testBit k := by
    rw [BitVec.getLsbD, hB, pk_testBit 4 8 (fun x => n x % 8 + 7) (fun x => by omega) i k hk]
  rw [BitVec.getLsbD_and, BitVec.getLsbD_or, hwb i k hk, hc i k hk, hBb]
  have hni := hn i
  generalize n i = a at hni
  have : ∀ (a : Fin 16) (k : Fin 4), (a.val.testBit k.val && ((a.val % 8 + 7).testBit k.val || decide (k.val < 3)))
      = (if a.val % 8 = 0 then 0 else a.val).testBit k.val := by decide
  exact this ⟨a, hni⟩ ⟨k, hk⟩

/-! ## Words read as bytes -/

theorem bitcast_32_8_bit {R r n : ℕ} (x : (⟨2, ![r, n]⟩ : Shape).Idx → BitVec 32)
    (h : (⟨2, ![r, n]⟩ : Shape).Bitcasts 32 ⟨2, ![R, n]⟩ 8) (c : Fin R) (l : Fin n) (q : ℕ) (hq : q < 8) (p : Fin r)
    (hp : p.val = c.val / 4) :
    (bitcast ⟨2, ![R, n]⟩ 8 x h (ix2 c l)).getLsbD q = (x (ix2 p l)).getLsbD (8 * (c.val % 4) + q) := by
  rw [bitcast_getLsbD x h _ q hq (by decide)]
  have er : (⟨2, ![R, n]⟩ : Shape).row (ix2 c l) = c.val := rfl
  have ep : ((⟨2, ![R, n]⟩ : Shape).row (ix2 c l) * 8 + q) / 32 = p.val := by rw [er, hp]; omega
  have eq : ((⟨2, ![R, n]⟩ : Shape).row (ix2 c l) * 8 + q) % 32 = 8 * (c.val % 4) + q := by rw [er]; omega
  rw [eq]
  congr 2
  funext a
  match a with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-! ## The code bytes -/

section
variable (q : IVec S256x128 32) (f : Fin 256 → Fin 128 → ℕ) (hf : ∀ y l, f y l < 16)
  (hq : ∀ y l, q (ix2 y l) = BitVec.ofNat 32 (f y l))
include hf hq

theorem q_toNat (y : Fin 256) (l : Fin 128) : (q (ix2 y l)).toNat = f y l := by
  have := hf y l
  rw [hq, BitVec.toNat_ofNat, Nat.mod_eq_of_lt (by omega)]

theorem pack4_toNat (r : Fin 32) (l : Fin 128) :
    (pack4 q (ix2 r l)).toNat = ∑ x : Fin 8, f ⟨r.val * 8 + x.val, by omega⟩ l * 2 ^ (4 * x.val) := by
  unfold pack4
  pointwise
  refine (pack_toNat 4 (by decide) (fun x : Fin 8 => q (ix2 ⟨r.val * 8 + x.val, by omega⟩ l)) fun i => ?_).trans ?_
  · rw [q_toNat q f hf hq]
    exact hf _ _
  · simp only [q_toNat q f hf hq]

/-- The code byte of two neighbouring values. -/
theorem codeBytes_apply (l c : Fin 128) (g : Fin 256 → ℕ) (hg : ∀ y, g y = if f y l % 8 = 0 then 0 else f y l) :
    codeBytes q (ix2 l c) = BitVec.ofNat 8 (g ⟨2 * c.val, by omega⟩ + 16 * g ⟨2 * c.val + 1, by omega⟩) := by
  have hg16 (y : Fin 256) : g y < 16 := by
    have := hf y l
    rw [hg]
    split <;> omega
  unfold codeBytes
  pointwise
  refine BitVec.eq_of_getLsbD_eq fun b hb => ?_
  have hc := c.isLt
  rw [bitcast_32_8_bit _ _ c l b hb ⟨c.val / 4, by omega⟩ rfl]
  unfold clearNeg0
  pointwise
  have hi : 2 * (c.val % 4) + b / 4 < 8 := by omega
  have hk : b % 4 < 4 := by omega
  have := clear_bit _ (fun x : Fin 8 => f ⟨(c.val / 4) * 8 + x.val, by omega⟩ l) (fun x => hf _ _)
    (pack4_toNat q f hf hq ⟨c.val / 4, by omega⟩ l) ⟨2 * (c.val % 4) + b / 4, hi⟩ (b % 4) hk
  rw [show 4 * (⟨2 * (c.val % 4) + b / 4, hi⟩ : Fin 8).val + b % 4 = 8 * (c.val % 4) + b by dsimp only; omega] at this
  refine this.trans ?_
  rw [← hg, BitVec.getLsbD_ofNat, Nat.add_comm (g _), show 16 = 2 ^ 4 from rfl, Nat.testBit_two_pow_mul_add _ (hg16 _)]
  by_cases hb4 : b < 4
  · rw [if_pos hb4, show b % 4 = b by omega]
    simp only [hb, decide_true, Bool.true_and]
    congr 3
    omega
  · rw [if_neg hb4, show b % 4 = b - 4 by omega]
    simp only [hb, decide_true, Bool.true_and]
    congr 3
    omega

end

/-! ## The mask bytes -/

section
variable (q : IVec S256x128 32) (hq : ∀ y l, (q (ix2 y l)).toNat < 2 ^ 4)

theorem lt_four (x : BitVec 32) (h : ∀ k, 2 ≤ k → x.getLsbD k = false) : x.toNat < 2 ^ 2 :=
  Nat.lt_pow_two_of_testBit _ fun k hk => h k hk

theorem shr_bit (x : BitVec 32) (n k : ℕ) (hn : n < 32) :
    (IntOp.shrui ArithUnit.vector x (BitVec.ofNat 32 n)).getLsbD k = x.getLsbD (n + k) := by
  unfold IntOp.shrui
  have hv : (BitVec.ofNat 32 n).toNat = n := by rw [BitVec.toNat_ofNat, Nat.mod_eq_of_lt (by omega)]
  rw [if_pos (by rw [hv]; exact hn), BitVec.ushiftRight_eq', hv, BitVec.getLsbD_ushiftRight]

theorem low_bits (b k : ℕ) (hb : b ≤ 32) : (BitVec.ofNat 32 (2 ^ b - 1)).getLsbD k = decide (k < b) := by
  rw [BitVec.getLsbD_ofNat, Nat.testBit_two_pow_sub_one]
  by_cases h : k < b
  · simp [h, show k < 32 by omega]
  · simp [h]

theorem nib_bit (x : BitVec 32) (j k : ℕ) (hj : j < 8) :
    (IntOp.andi (IntOp.andi (IntOp.shrui ArithUnit.vector x (IntOp.muli (4#32) (BitVec.ofNat 32 j))) 15#32) 3#32).getLsbD k
      = (decide (k < 2) && x.getLsbD (4 * j + k)) := by
  have hm : IntOp.muli (4#32) (BitVec.ofNat 32 j) = BitVec.ofNat 32 (4 * j) := (BitVec.ofNat_mul 4 j).symm
  have h3 : (3#32).getLsbD k = decide (k < 2) := low_bits 2 k (by decide)
  have h15 : (15#32).getLsbD k = decide (k < 4) := low_bits 4 k (by decide)
  unfold IntOp.andi
  rw [hm, BitVec.getLsbD_and, BitVec.getLsbD_and, h3, h15, shr_bit _ _ _ (by omega)]
  by_cases h : k < 2
  · simp [h, show k < 4 by omega]
  · simp [h]

theorem nib32_bit (w : IVec S32x128 32) (y : Fin 256) (l : Fin 128) (k : ℕ) :
    (nib32 w (ix2 y l)).getLsbD k = (decide (k < 2) && (w (ix2 ⟨y.val / 8, by omega⟩ l)).getLsbD (4 * (y.val % 8) + k)) := by
  unfold nib32
  pointwise
  exact nib_bit _ _ _ (by omega)

theorem nib16_bit (w : IVec S16x128 32) (y : Fin 128) (l : Fin 128) (k : ℕ) :
    (nib16 w (ix2 y l)).getLsbD k = (decide (k < 2) && (w (ix2 ⟨y.val / 8, by omega⟩ l)).getLsbD (4 * (y.val % 8) + k)) := by
  unfold nib16
  pointwise
  exact nib_bit _ _ _ (by omega)

include hq

theorem pack4_bit (y : Fin 256) (l : Fin 128) (k : ℕ) (hk : k < 4) :
    (pack4 q (ix2 ⟨y.val / 8, by omega⟩ l)).getLsbD (4 * (y.val % 8) + k) = (q (ix2 y l)).getLsbD k := by
  unfold pack4
  pointwise
  refine (pack_bit 4 (by decide) (fun x : Fin 8 => q (ix2 ⟨y.val / 8 * 8 + x.val, by omega⟩ l)) (fun x => hq _ _)
    ⟨y.val % 8, by omega⟩ k _ hk rfl).trans ?_
  refine congrArg (fun z => (q (ix2 z l)).getLsbD k) (Fin.ext ?_)
  dsimp only
  omega

/-- The sign bits, one to a nibble. -/
theorem sign_bit (y : Fin 256) (l : Fin 128) (k : ℕ) (hk : k < 2) :
    (nib32 (shrui (pack4 q) (broadcast S32x128 3#32)) (ix2 y l)).getLsbD 0 = (q (ix2 y l)).getLsbD 3 := by
  rw [nib32_bit]
  have e : (shrui (pack4 q) (broadcast S32x128 3#32)) (ix2 ⟨y.val / 8, by omega⟩ l)
      = IntOp.shrui ArithUnit.vector (pack4 q (ix2 ⟨y.val / 8, by omega⟩ l)) 3#32 := rfl
  rw [e, shr_bit _ 3 _ (by decide), ← pack4_bit q hq y l 3 (by decide)]
  simp [Nat.add_comm]

omit hq in
theorem pack2a_bit (n : IVec S256x128 32) (hn : ∀ y l, (n (ix2 y l)).toNat < 2 ^ 2) (r : Fin 16) (i : Fin 16) (l : Fin 128)
    (k : ℕ) (hk : k < 2) :
    (pack2a n (ix2 r l)).getLsbD (2 * i.val + k) = (decide (k = 0) && (n (ix2 ⟨16 * r.val + i.val, by omega⟩ l)).getLsbD 0) := by
  unfold pack2a
  pointwise
  unfold IntOp.andi
  rw [BitVec.getLsbD_and, pack_bit 2 (by decide) (fun x : Fin 16 => n (ix2 ⟨r.val * 16 + x.val, by omega⟩ l)) (fun x => hn _ _)
    i k _ hk rfl]
  have hc : ∀ (i : Fin 16) (k : Fin 2), (1431655765#32).getLsbD (2 * i.val + k.val) = decide (k.val = 0) := by decide
  rw [show (1431655765#32).getLsbD (2 * i.val + k) = decide (k = 0) from hc i ⟨k, hk⟩, Bool.and_comm]
  by_cases h : k = 0
  · subst h
    refine congrArg (fun z => decide (0 = 0) && (n (ix2 z l)).getLsbD 0) (Fin.ext ?_)
    dsimp only
    omega
  · simp [h]

omit hq in
theorem fold1_bit (w : IVec S16x128 32) (r : Fin 16) (l : Fin 128) (k : ℕ) :
    (fold1 w (ix2 r l)).getLsbD k = ((w (ix2 r l)).getLsbD k || (w (ix2 r l)).getLsbD (1 + k)) := by
  unfold fold1
  pointwise
  unfold IntOp.ori
  rw [BitVec.getLsbD_or]
  exact congrArg _ (shr_bit _ 1 _ (by decide))

/-- Bit `p` of a mask word is set where the sign bit of its row is clear. -/
theorem maskWord_bit (d : FVec Ideal S256x128 .f32) (hd : toE2m1 d = q) (b : Fin 8) (l : Fin 128) (p : ℕ) (hp : p < 32) :
    (maskWord d (ix2 b l)).getLsbD p = !(q (ix2 ⟨32 * b.val + p, by omega⟩ l)).getLsbD 3 := by
  have hb := b.isLt
  have hn (y : Fin 256) (l : Fin 128) : (nib32 (shrui (pack4 q) (broadcast S32x128 3#32)) (ix2 y l)).toNat < 2 ^ 2 :=
    lt_four _ fun k hk => by rw [nib32_bit]; simp [show ¬ k < 2 by omega]
  have ha (y : Fin 256) (r i : Fin 16) (k : ℕ) (hk : k < 2) (hy : y.val = 16 * r.val + i.val) :
      (pack2a (nib32 (shrui (pack4 q) (broadcast S32x128 3#32))) (ix2 r l)).getLsbD (2 * i.val + k)
        = (decide (k = 0) && (q (ix2 y l)).getLsbD 3) := by
    rw [pack2a_bit _ hn r i l k hk, ← sign_bit q hq y l 0 (by decide)]
    refine congrArg (fun z => decide (k = 0) && (nib32 (shrui (pack4 q) (broadcast S32x128 3#32)) (ix2 z l)).getLsbD 0) (Fin.ext ?_)
    exact hy.symm
  have hf (z : Fin 128) (k : ℕ) (hk : k < 2) :
      (nib16 (fold1 (pack2a (nib32 (shrui (pack4 q) (broadcast S32x128 3#32))))) (ix2 z l)).getLsbD k
        = (q (ix2 ⟨2 * z.val + k, by omega⟩ l)).getLsbD 3 := by
    rw [nib16_bit, fold1_bit]
    have hz := z.isLt
    have h2 := ha ⟨2 * z.val + k, by omega⟩ ⟨z.val / 8, by omega⟩ ⟨2 * (z.val % 8) + k, by omega⟩ 0 (by decide) (by dsimp only; omega)
    simp only [hk, decide_true, Bool.true_and]
    interval_cases k
    · have h1 := ha ⟨2 * z.val + 0, by omega⟩ ⟨z.val / 8, by omega⟩ ⟨2 * (z.val % 8) + 0, by omega⟩ 1 (by decide) (by dsimp only; omega)
      rw [show 4 * (z.val % 8) + 0 = 2 * (2 * (z.val % 8) + 0) + 0 by omega,
        show 1 + (2 * (2 * (z.val % 8) + 0) + 0) = 2 * (2 * (z.val % 8) + 0) + 1 by omega]
      simp only [h1, h2]
      simp
    · have hsum : 4 * (z.val % 8) + 1 = 2 * (2 * (z.val % 8)) + 1 := by omega
      have h1 := ha ⟨2 * z.val, by omega⟩ ⟨z.val / 8, by omega⟩ ⟨2 * (z.val % 8), by omega⟩ 1 (by decide) (by dsimp only; omega)
      rw [hsum, show 1 + (2 * (2 * (z.val % 8)) + 1) = 2 * (2 * (z.val % 8) + 1) + 0 by omega]
      simp only [h1, h2]
      simp
  unfold maskWord
  rw [hd]
  pointwise [constantI]
  unfold IntOp.xori
  rw [BitVec.getLsbD_xor, show (4294967295#32).getLsbD p = true from (low_bits 32 p (by decide)).trans (by simp [hp]), Bool.xor_true]
  refine congrArg (! ·) ?_
  unfold pack2b
  pointwise
  have hi : p / 2 < 16 := by omega
  refine (pack_bit 2 (by decide) (fun x : Fin 16 => nib16 (fold1 (pack2a (nib32 (shrui (pack4 q) (broadcast S32x128 3#32)))))
    (ix2 ⟨b.val * 16 + x.val, by omega⟩ l)) (fun x => lt_four _ fun k hk => by rw [nib16_bit]; simp [show ¬ k < 2 by omega])
    ⟨p / 2, hi⟩ (p % 2) p (by omega) (by dsimp only; omega)).trans ?_
  refine (hf _ (p % 2) (by omega)).trans ?_
  refine congrArg (fun z => (q (ix2 z l)).getLsbD 3) (Fin.ext ?_)
  dsimp only
  omega

end

/-- Bit `p` of a mask byte. -/
theorem maskBytes_bit (M : Fin 4 → IVec S8x128 32) (l c : Fin 128) (p : ℕ) (hp : p < 8) :
    (maskBytes (M 0) (M 1) (M 2) (M 3) (ix2 l c)).getLsbD p
      = (M ⟨c.val / 32, by omega⟩ (ix2 ⟨c.val % 32 / 4, by omega⟩ l)).getLsbD (8 * (c.val % 4) + p) := by
  unfold maskBytes
  pointwise
  have hc := c.isLt
  rw [bitcast_32_8_bit _ _ c l p hp ⟨c.val / 4, by omega⟩ rfl]
  pointwise
  refine congrArg (fun z : BitVec 32 => z.getLsbD (8 * (c.val % 4) + p)) ?_
  have key (t : Fin 4) (a : ℕ) (ha : a < 8) (h : t.val = c.val / 32) (h' : a = c.val % 32 / 4) :
      M t (ix2 ⟨a, ha⟩ l) = M ⟨c.val / 32, by omega⟩ (ix2 ⟨c.val % 32 / 4, by omega⟩ l) := by
    have et : t = ⟨c.val / 32, by omega⟩ := Fin.ext h
    subst h'
    exact congrArg (fun z => M z (ix2 ⟨c.val % 32 / 4, ha⟩ l)) et
  by_cases h1 : c.val / 4 < 8
  · rw [dif_pos h1]
    exact key 0 _ _ (by show 0 = _; omega) (by omega)
  rw [dif_neg h1]
  by_cases h2 : c.val / 4 - 8 < 8
  · rw [dif_pos h2]
    exact key 1 _ _ (by show 1 = _; omega) (by omega)
  rw [dif_neg h2]
  by_cases h3 : c.val / 4 - 8 - 8 < 8
  · rw [dif_pos h3]
    exact key 2 _ _ (by show 2 = _; omega) (by omega)
  · rw [dif_neg h3]
    exact key 3 _ _ (by show 3 = _; omega) (by omega)

end Cert.KernelIdeal.Tile
-- ==== Proof.V.Vals.lean ====
module

public import proofs.«01_k».proof.Proof.V.Arr
public import proofs.«01_k».proof.Proof.V.Words

/-! # The kernel's results, entry by entry

With the two arguments finite, every byte the kernel returns is a function of the rotated blocks:
the scale byte of a block, the code byte of two neighbouring values, the mask byte of eight. -/

@[expose] public section
noncomputable section

namespace Cert.V

/-- Value `e` of row `n`, rotated and scaled. -/
def el (A : ℕ → ℕ → ℝ) (n e : ℕ) : ℝ := scaledR (uR A n (e / 32)) ⟨e % 32, Nat.mod_lt _ (by decide)⟩

/-- Value `e` of row `n` is not clipped. -/
def keepAt (A : ℕ → ℕ → ℝ) (n e : ℕ) : Prop := keepR (uR A n (e / 32)) ⟨e % 32, Nat.mod_lt _ (by decide)⟩

/-- The scale byte of block `g` of row `n`. -/
def scaleAt (A : ℕ → ℕ → ℝ) (n g : ℕ) : BitVec 8 := BitVec.ofNat 8 (expo (uR A n g))

/-- Byte `j` of the codes of row `n`: the codes of two neighbouring values. -/
def codeAt (A : ℕ → ℕ → ℝ) (n j : ℕ) : BitVec 8 := BitVec.ofNat 8 (nib (el A n (2 * j)) + 16 * nib (el A n (2 * j + 1)))

open Classical in
/-- Bit `p` of byte `j` of the mask of row `n`. -/
def maskAt (A : ℕ → ℕ → ℝ) (n j p : ℕ) : Bool := decide (keepAt A n (8 * j + p))

end Cert.V

namespace Cert.KernelIdeal.Tile

open Cert.KernelIdeal Cert.KernelIdeal.Gen Cert.V
open Idealize.ShloMosaic Idealize.ShloMosaic.TcCoe Idealize.ShloMosaic.Tactic
open Idealize.SL Idealize.SL.Sem

/-! ## A tile -/

section
variable (r4 : FVec Ideal S256x128 .f32) (A : ℕ → ℕ → ℝ) (n0 g0 : ℕ)
  (hR : ∀ y l, r4 (ix2 y l) = ((√2 * RT A n0 g0 y l : ℝ) : EReal))
include hR

theorem tile_scale (b : Fin 8) (l : Fin 128) :
    (tileOut r4).e (ix2 b l) = BitVec.ofNat 32 (expo (uR A (n0 + l.val) (g0 + b.val))) :=
  (codeOf_apply r4 (RT A n0 g0) hR b l).trans (by rw [blk_RT])

theorem tile_code (l c : Fin 128) :
    codeBytes (toE2m1 (tileOut r4).v) (ix2 l c) = codeAt A (n0 + l.val) (16 * g0 + c.val) := by
  have hc := c.isLt
  have e (y : Fin 256) (l : Fin 128) : toE2m1 (tileOut r4).v (ix2 y l) = BitVec.ofNat 32 (raw (el A (n0 + l.val) (32 * g0 + y.val))) := by
    refine (toE2m1_apply _ _ y l (v_real r4 _ hR y l)).trans ?_
    rw [blk_RT]
    refine congrArg₂ (fun g (x : Fin 32) => BitVec.ofNat 32 (raw (scaledR (uR A (n0 + l.val) g) x))) ?_ (Fin.ext ?_) <;> dsimp only <;> omega
  refine (codeBytes_apply _ (fun y l => raw (el A (n0 + l.val) (32 * g0 + y.val))) (fun y l => raw_lt _) e l c
    (fun y => nib (el A (n0 + l.val) (32 * g0 + y.val))) fun y => nib_raw _).trans ?_
  unfold codeAt
  dsimp only
  rw [show 32 * g0 + 2 * c.val = 2 * (16 * g0 + c.val) by omega,
    show 32 * g0 + (2 * c.val + 1) = 2 * (16 * g0 + c.val) + 1 by omega]

theorem tile_mask (b : Fin 8) (l : Fin 128) (p : ℕ) (hp : p < 32) :
    (maskWord (tileOut r4).d (ix2 b l)).getLsbD p = maskAt A (n0 + l.val) (4 * (g0 + b.val)) p := by
  have hb := b.isLt
  choose D hD hD' using d_real r4 _ hR
  have hq (y : Fin 256) (l : Fin 128) : toE2m1 (tileOut r4).d (ix2 y l) = BitVec.ofNat 32 (raw (D y l)) :=
    toE2m1_apply _ _ y l (hD y l)
  have hn (y : Fin 256) (l : Fin 128) : (toE2m1 (tileOut r4).d (ix2 y l)).toNat = raw (D y l) := by
    have := raw_lt (D y l)
    rw [hq, BitVec.toNat_ofNat, Nat.mod_eq_of_lt (by omega)]
  rw [maskWord_bit _ (fun y l => by rw [hn]; exact raw_lt _) _ rfl b l p hp, BitVec.getLsbD, hn]
  have h3 (x : ℝ) : (raw x).testBit 3 = decide (x < 0) := by
    rw [Nat.testBit_eq_decide_div_mod_eq, show 2 ^ 3 = 8 from rfl, raw_div]
    by_cases h : x < 0 <;> simp [h]
  rw [h3]
  unfold maskAt keepAt
  have hk := hD' ⟨32 * b.val + p, by omega⟩ l
  rw [blk_RT] at hk
  have e1 : uR A (n0 + l.val) (g0 + (32 * b.val + p) / 32) = uR A (n0 + l.val) ((8 * (4 * (g0 + b.val)) + p) / 32) := by
    congr 1; omega
  have e2 : (⟨(32 * b.val + p) % 32, by omega⟩ : Fin 32) = ⟨(8 * (4 * (g0 + b.val)) + p) % 32, Nat.mod_lt _ (by decide)⟩ := by
    apply Fin.ext; dsimp only; omega
  dsimp only at hk
  rw [e1, e2] at hk
  by_cases h : D ⟨32 * b.val + p, by omega⟩ l < 0
  · simp [h, hk.mp h]
  · have := fun hn => h (hk.mpr hn)
    simp [h, not_not.mp this]

end

/-! ## The arrays -/

variable (m : (ℓ : Loc nD τ sig) → Buf (Elt Ideal) ℓ) (c : Dev nD) (A : ℕ → ℕ → ℝ)

section
variable (hA : ∀ i j, m ((c.tc : Thread nD τ).loc main_arg1) (ix2 i j) = ((A i.val j.val : ℝ) : EReal))
include hA

theorem ws_apply (n : Fin 3072) (g : Fin 512) :
    (dats (F := Ideal) m 0 c).arrAt 9 cfg0.N (ix2 n g) = scaleAt A n.val g.val := by
  rw [out9]
  have hn := n.isLt
  have hg := g.isLt
  have ht : (ptOf (4 * (n.val / 256) + g.val / 128)).val = 4 * (n.val / 256) + g.val / 128 := by
    show _ % 48 = _; omega
  show bytesW (hB m c _) (wB m c (ptOf (4 * (n.val / 256) + g.val / 128))) (ix2 ⟨n.val % 256, _⟩ ⟨g.val % 128, _⟩) = _
  unfold bytesW
  have key (hf : ℕ) (hh : hf < 2) (b : Fin 8) (l : Fin 128) (hl : 128 * hf + l.val = n.val % 256) (hb : b.val = g.val % 8) :
      BitVec.setWidth 8 ((tW (hB m c (ptOf (4 * (n.val / 256) + g.val / 128))) (wB m c (ptOf (4 * (n.val / 256) + g.val / 128)))
        (g.val % 128 / 8) hf).e (ix2 b l)) = scaleAt A n.val g.val := by
    unfold tW
    rw [tile_scale _ A _ _ (half_real m c A hA (ptOf (4 * (n.val / 256) + g.val / 128)) (g.val % 128 / 8) hf (by omega) hh) b l]
    unfold scaleAt
    rw [ht]
    have e1 : 256 * ((4 * (n.val / 256) + g.val / 128) / 4) + 128 * hf + l.val = n.val := by omega
    have e2 : 128 * ((4 * (n.val / 256) + g.val / 128) % 4) + 8 * (g.val % 128 / 8) + b.val = g.val := by omega
    rw [e1, e2]
    apply BitVec.eq_of_toNat_eq
    simp
  by_cases h : n.val % 256 < 128
  · refine (if_pos h).trans ?_
    unfold k0_pay7 plane
    pointwise
    exact key 0 (by decide) _ _ (by show _ + n.val % 256 % 128 = _; omega) (by show g.val % 128 % 8 = _; omega)
  · refine (if_neg h).trans ?_
    unfold k0_pay8 plane
    pointwise
    exact key 1 (by decide) _ _ (by show _ + n.val % 256 % 128 = _; omega) (by show g.val % 128 % 8 = _; omega)

theorem wc_apply (n : Fin 3072) (j : Fin 8192) :
    (dats (F := Ideal) m 0 c).arrAt 8 cfg0.N (ix2 n j) = codeAt A n.val j.val := by
  rw [out8]
  have hn := n.isLt
  have hj := j.isLt
  have ht : (ptOf (4 * (n.val / 256) + j.val / 2048)).val = 4 * (n.val / 256) + j.val / 2048 := by
    show _ % 48 = _; omega
  show codesW (hB m c _) (wB m c (ptOf (4 * (n.val / 256) + j.val / 2048))) (ix2 ⟨n.val % 256, _⟩ ⟨j.val % 2048, _⟩) = _
  unfold codesW tW
  refine (tile_code _ A _ _ (half_real m c A hA (ptOf (4 * (n.val / 256) + j.val / 2048)) (j.val % 2048 / 128) (n.val % 256 / 128)
    (by omega) (by omega)) (m128 (n.val % 256)) (m128 (j.val % 2048))).trans ?_
  rw [ht]
  unfold m128
  dsimp only
  congr 1 <;> omega

theorem wm_apply (n : Fin 3072) (j : Fin 2048) (p : ℕ) (hp : p < 8) :
    ((dats (F := Ideal) m 0 c).arrAt 5 cfg0.N (ix2 n j)).getLsbD p = maskAt A n.val j.val p := by
  rw [out5]
  have hn := n.isLt
  have hj := j.isLt
  have ht : (ptOf (4 * (n.val / 256) + j.val / 512)).val = 4 * (n.val / 256) + j.val / 512 := by
    show _ % 48 = _; omega
  show (maskW (hB m c _) (wB m c (ptOf (4 * (n.val / 256) + j.val / 512))) (ix2 ⟨n.val % 256, _⟩ ⟨j.val % 512, _⟩)).getLsbD p = _
  unfold maskW
  refine (maskBytes_bit (fun i => maskWord (tW (hB m c (ptOf (4 * (n.val / 256) + j.val / 512)))
    (wB m c (ptOf (4 * (n.val / 256) + j.val / 512))) (4 * (j.val % 512 / 128) + i.val) (n.val % 256 / 128)).d)
    (m128 (n.val % 256)) (m128 (j.val % 512)) p hp).trans ?_
  unfold tW
  have h4 : 4 * (j.val % 512 / 128) + j.val % 512 % 128 / 32 < 16 := by omega
  refine (tile_mask _ A _ _ (half_real m c A hA (ptOf (4 * (n.val / 256) + j.val / 512)) _ (n.val % 256 / 128)
    h4 (by omega)) _ (m128 (n.val % 256)) (8 * (j.val % 512 % 128 % 4) + p) (by omega)).trans ?_
  rw [ht]
  unfold m128 maskAt
  dsimp only
  refine congrArg₂ (fun a b => @decide (keepAt A a b) (Classical.propDecidable _)) ?_ ?_ <;> omega

end

section
variable (hA : ∀ i j, m ((c.tc : Thread nD τ).loc main_arg0) (ix3 0 i j) = ((A i.val j.val : ℝ) : EReal))
include hA

theorem xs_apply (n : Fin 128) (g : Fin 512) :
    (dats (F := Ideal) m 0 c).arrAt 7 cfg0.N (ix2 n g) = scaleAt A n.val g.val := by
  rw [out7]
  have hn := n.isLt
  have hg := g.isLt
  have ht : (ptOf (g.val / 128)).val = g.val / 128 := by
    show _ % 48 = _; omega
  show bytesX (hB m c _) (xB m c (ptOf (g.val / 128))) (ix2 ⟨n.val % 128, _⟩ ⟨g.val % 128, _⟩) = _
  unfold bytesX k0_pay3 plane scaleX tX
  pointwise
  have hb : g.val % 128 % 8 < 8 := by omega
  refine (congrArg (BitVec.setWidth 8) (tile_scale _ A _ _ (rotX_real m c A hA (ptOf (g.val / 128)) (g.val % 128 / 8) (by omega))
    ⟨g.val % 128 % 8, hb⟩ ⟨n.val % 128, by omega⟩)).trans ?_
  unfold scaleAt
  rw [ht]
  dsimp only
  have e1 : 0 + n.val % 128 = n.val := by omega
  have e2 : 128 * min (g.val / 128) 3 + 8 * (g.val % 128 / 8) + g.val % 128 % 8 = g.val := by omega
  rw [e1, e2]
  apply BitVec.eq_of_toNat_eq
  simp

theorem xc_apply (n : Fin 128) (j : Fin 8192) :
    (dats (F := Ideal) m 0 c).arrAt 6 cfg0.N (ix2 n j) = codeAt A n.val j.val := by
  rw [out6]
  have hn := n.isLt
  have hj := j.isLt
  have ht : (ptOf (j.val / 2048)).val = j.val / 2048 := by
    show _ % 48 = _; omega
  show codesX (hB m c _) (xB m c (ptOf (j.val / 2048))) (ix2 ⟨n.val % 128, _⟩ ⟨j.val % 2048, _⟩) = _
  unfold codesX tX
  refine (tile_code _ A _ _ (rotX_real m c A hA (ptOf (j.val / 2048)) (j.val % 2048 / 128)
    (by omega)) ⟨n.val % 128, _⟩ (m128 (j.val % 2048))).trans ?_
  rw [ht]
  unfold m128
  dsimp only
  congr 1 <;> omega

theorem xm_apply (n : Fin 128) (j : Fin 2048) (p : ℕ) (hp : p < 8) :
    ((dats (F := Ideal) m 0 c).arrAt 4 cfg0.N (ix2 n j)).getLsbD p = maskAt A n.val j.val p := by
  rw [out4]
  have hn := n.isLt
  have hj := j.isLt
  have ht : (ptOf (j.val / 512)).val = j.val / 512 := by
    show _ % 48 = _; omega
  show (maskX (hB m c _) (xB m c (ptOf (j.val / 512))) (ix2 ⟨n.val % 128, _⟩ ⟨j.val % 512, _⟩)).getLsbD p = _
  unfold maskX
  refine (maskBytes_bit (fun i => maskWord (tX (hB m c (ptOf (j.val / 512)))
    (xB m c (ptOf (j.val / 512))) (4 * (j.val % 512 / 128) + i.val)).d)
    ⟨n.val % 128, _⟩ (m128 (j.val % 512)) p hp).trans ?_
  unfold tX
  have h4 : 4 * (j.val % 512 / 128) + j.val % 512 % 128 / 32 < 16 := by omega
  refine (tile_mask _ A _ _ (rotX_real m c A hA (ptOf (j.val / 512)) _ h4)
    _ ⟨n.val % 128, _⟩ (8 * (j.val % 512 % 128 % 4) + p) (by omega)).trans ?_
  rw [ht]
  unfold m128 maskAt
  dsimp only
  refine congrArg₂ (fun a b => @decide (keepAt A a b) (Classical.propDecidable _)) ?_ ?_ <;> omega

end

end Cert.KernelIdeal.Tile
-- ==== Proof.V.RefNum.lean ====
module

public import proofs.«01_k».proof.Proof.V.Vals

/-! # The steps of the reference, over the reals

Each step of the reference at finite values: the rotation, the root mean square, the scale code, the
power of two read from a table, the quantiser and the two packings. -/

@[expose] public section
noncomputable section

namespace Cert.V

open Idealize.ShloMosaic Cert.KernelIdeal.Tile

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem sqrt_coe (x : ℝ) (hx : 0 ≤ x) : Ideal.sqrt (x : EReal) = ((√x : ℝ) : EReal) :=
  (Ideal.sqrt_coe x).trans (if_neg (not_lt.mpr hx))

theorem had_eq (i j : Fin 32) :
    Scalar.select (IntOp.cmpi CmpIPredicate.eq (IntOp.andi (IntOp.ctpop (IntOp.andi (BitVec.ofNat 32 i.val) (BitVec.ofNat 32 j.val))) 1#32) 0#32)
      (1 : EReal) (Ideal.ofBits .f32 3212836864#32) = ((hadR i j : ℝ) : EReal) := by
  rw [select_eq, k_neg_one]
  by_cases hp : ctpopOf (IntOp.andi (BitVec.ofNat 32 i.val) (BitVec.ofNat 32 j.val))
  · rw [show hadR i j = 1 from if_pos hp]
    exact if_pos hp
  · rw [show hadR i j = -1 from if_neg hp]
    exact if_neg hp

theorem rot_eq (a : Fin 32 → ℝ) (i : Fin 32) (f h : Fin 32 → EReal) (hf : ∀ x, f x = ((a x : ℝ) : EReal))
    (hh : ∀ x, h x = ((hadR x i : ℝ) : EReal)) :
    Ideal.div (∑ x, f x * h x) (Ideal.sqrt (Ideal.ofBits .f32 1107296256#32)) = ((rotR a i : ℝ) : EReal) := by
  have e (x : Fin 32) : f x * h x = ((a x * hadR x i : ℝ) : EReal) := by rw [hf, hh, EReal.coe_mul]
  rw [Finset.sum_congr rfl fun x _ => e x, coe_sum, k_thirty_two, sqrt_coe _ (by norm_num), div_coe _ _ (by positivity)]
  rfl

theorem rms_eq (u : Fin 32 → ℝ) (f : Fin 32 → EReal) (hf : ∀ x, f x = ((u x : ℝ) : EReal)) :
    Ideal.sqrt (Ideal.div (∑ x, f x * f x) (Ideal.ofBits .f32 1107296256#32)) = ((rmsR u : ℝ) : EReal) := by
  have e (x : Fin 32) : f x * f x = ((u x * u x : ℝ) : EReal) := by rw [hf, EReal.coe_mul]
  rw [Finset.sum_congr rfl fun x _ => e x, coe_sum, k_thirty_two, div_coe _ _ (by norm_num), sqrt_coe]
  · rfl
  · exact div_nonneg (Finset.sum_nonneg fun _ _ => mul_self_nonneg _) (by norm_num)

/-- The scale code less the bias. -/
def expB (e : ℕ) : BitVec 32 := IntOp.subi (BitVec.ofNat 32 e) 127#32

theorem exp_eq (u : Fin 32 → ℝ) (r : EReal) (hr : r = ((rmsR u : ℝ) : EReal)) (lit : Fin 254 → BitVec 32)
    (hl : ∀ x : Fin 254, lit x = BitVec.ofNat 32 (x.val + 1) <<< 23) :
    (if r = 0 then 0#32 else IntOp.subi (Finset.fold IntOp.addi (0#32) (fun x : Fin 254 => BitVec.setWidth 32 (BitVec.ofBool
      (decide (Ideal.ofBits .f32 (lit x) ≤ Ideal.ofBits .f32 1077600584#32 * r * Ideal.ofBits .f32 1042983595#32)))) Finset.univ) 127#32)
      = expB (expo u) := by
  subst hr
  unfold expB expo
  by_cases h : rmsR u = 0
  · rw [if_pos (by rw [h]; rfl), if_pos h]
    rfl
  · rw [if_neg (by simpa using h), if_neg h]
    refine congrArg (IntOp.subi · 127#32) ?_
    have e (x : Fin 254) : BitVec.setWidth 32 (BitVec.ofBool (decide (Ideal.ofBits .f32 (lit x)
        ≤ Ideal.ofBits .f32 1077600584#32 * ((rmsR u : ℝ) : EReal) * Ideal.ofBits .f32 1042983595#32)))
        = if p2 (x.val + 1) ≤ ampR u then 1#32 else 0#32 := by
      rw [hl, ofBits_p2 _ (by omega), k_cA, k_cB, ← EReal.coe_mul, ← EReal.coe_mul]
      simp only [EReal.coe_le_coe_iff]
      by_cases hp : p2 (x.val + 1) ≤ ampR u
      · rw [if_pos hp, decide_eq_true (show p2 (x.val + 1) ≤ cA * rmsR u * cB from hp)]; rfl
      · rw [if_neg hp, decide_eq_false (show ¬ p2 (x.val + 1) ≤ cA * rmsR u * cB from hp)]; rfl
    apply BitVec.eq_of_toNat_eq
    simp only [e]
    show (∑ x : Fin 254, if p2 (x.val + 1) ≤ ampR u then 1#32 else 0#32).toNat = _
    have en (x : Fin 254) : (if p2 (x.val + 1) ≤ ampR u then 1#32 else 0#32).toNat = if p2 (x.val + 1) ≤ ampR u then 1 else 0 := by
      split_ifs <;> rfl
    have hs : ∑ x : Fin 254, (if p2 (x.val + 1) ≤ ampR u then 1 else 0) = reach (ampR u) := by
      unfold reach
      rw [Finset.card_filter]
    have hlt := reach_le (ampR u)
    rw [WordSum.toNat_sum, Finset.sum_congr rfl fun x _ => en x, hs, BitVec.toNat_ofNat, Nat.mod_eq_of_lt (by omega)]
    rw [Finset.sum_congr rfl fun x _ => en x, hs]
    omega

/-- The power of two a scale code stands for, read from the table of normal powers. -/
theorem pow_eq (e : ℕ) (he : e ≤ 254) (k : BitVec 32) (hk : k = expB e) (lit : Fin 254 → BitVec 32)
    (hl : ∀ x : Fin 254, lit x = BitVec.ofNat 32 (x.val + 1) <<< 23) :
    ∑ x : Fin 254, Scalar.select (IntOp.cmpi CmpIPredicate.eq k (IntOp.addi (4294967170#32) (BitVec.ofNat 32 x.val)))
      (Ideal.ofBits .f32 (lit x)) (0 : EReal) = ((p2 e : ℝ) : EReal) := by
  subst hk
  have hx (x : Fin 254) : (expB e = IntOp.addi (4294967170#32) (BitVec.ofNat 32 x.val)) ↔ x.val + 1 = e := by
    have := x.isLt
    rw [← BitVec.toNat_inj]
    unfold expB IntOp.subi IntOp.addi
    rw [BitVec.toNat_sub, BitVec.toNat_add]
    simp only [BitVec.toNat_ofNat]
    omega
  have ex (x : Fin 254) : Scalar.select (IntOp.cmpi CmpIPredicate.eq (expB e) (IntOp.addi (4294967170#32) (BitVec.ofNat 32 x.val)))
      (Ideal.ofBits .f32 (lit x)) (0 : EReal) = if x.val + 1 = e then ((p2 e : ℝ) : EReal) else 0 := by
    rw [select_eq]
    by_cases h : x.val + 1 = e
    · rw [if_pos ((hx x).mpr h), if_pos h, hl, ofBits_p2 _ (by omega), h]
    · rw [if_neg (fun h' => h ((hx x).mp h')), if_neg h]
  rw [Finset.sum_congr rfl fun x _ => ex x]
  by_cases h0 : e = 0
  · subst h0
    rw [show p2 0 = 0 from if_pos rfl]
    exact Finset.sum_eq_zero fun x _ => if_neg (by omega)
  · rw [Finset.sum_eq_single (⟨e - 1, by omega⟩ : Fin 254)]
    · exact if_pos (by show e - 1 + 1 = e; omega)
    · intro b _ hb
      exact if_neg fun h => hb (Fin.ext (by show b.val = e - 1; omega))
    · intro h
      exact absurd (Finset.mem_univ _) h

theorem expB_neg (e : ℕ) (he : e ≤ 254) : -expB e = expB (254 - e) := by
  apply BitVec.eq_of_toNat_eq
  unfold expB IntOp.subi
  rw [BitVec.toNat_neg, BitVec.toNat_sub, BitVec.toNat_sub]
  simp only [BitVec.toNat_ofNat]
  omega

theorem scale_eq (e : ℕ) (he : e ≤ 254) : BitVec.setWidth 8 (IntOp.addi (expB e) 127#32) = BitVec.ofNat 8 e := by
  apply BitVec.eq_of_toNat_eq
  unfold expB IntOp.subi IntOp.addi
  rw [BitVec.toNat_setWidth, BitVec.toNat_add, BitVec.toNat_sub]
  simp only [BitVec.toNat_ofNat]
  omega

theorem clip_eq (x : ℝ) : min (Ideal.ofBits .f32 1086324736#32) (max (Ideal.ofBits .f32 3233808384#32) ((x : ℝ) : EReal))
    = ((clip6 x : ℝ) : EReal) := by
  rw [k_six, k_neg_six]
  unfold clip6
  rw [EReal.coe_strictMono.monotone.map_min, EReal.coe_strictMono.monotone.map_max]

theorem gap_eq (a : ℝ) : (if ((a : ℝ) : EReal) < Ideal.ofBits .f32 1073741824#32 then Ideal.ofBits .f32 1056964608#32
    else if ((a : ℝ) : EReal) < Ideal.ofBits .f32 1082130432#32 then 1 else Ideal.ofBits .f32 1073741824#32)
    = ((gap a : ℝ) : EReal) := by
  rw [k_two, k_half, k_four]
  unfold gap
  simp only [EReal.coe_lt_coe_iff]
  split_ifs <;> rfl

theorem quant_eq (c : ℝ) : Ideal.sign ((c : ℝ) : EReal) * ((gap |c| : ℝ) : EReal)
    * Ideal.liftRound Ideal.roundHalfEven (((|c| : ℝ) : EReal) * Ideal.div 1 ((gap |c| : ℝ) : EReal)) = ((quant c : ℝ) : EReal) := by
  rw [show (1 : EReal) = ((1 : ℝ) : EReal) from rfl, div_coe _ _ (gap_pos _).ne', ← EReal.coe_mul]
  show ((SignType.sign c : ℝ) : EReal) * _ * ((Ideal.roundHalfEven (|c| * (1 / gap |c|)) : ℝ) : EReal) = _
  rw [← EReal.coe_mul, ← EReal.coe_mul]
  rfl

theorem index_eq (a : ℝ) : (if ((a : ℝ) : EReal) < Ideal.ofBits .f32 1073741824#32 then ((a : ℝ) : EReal) * Ideal.ofBits .f32 1073741824#32
    else if ((a : ℝ) : EReal) < Ideal.ofBits .f32 1082130432#32 then ((a : ℝ) : EReal) + Ideal.ofBits .f32 1073741824#32
      else ((a : ℝ) : EReal) * Ideal.ofBits .f32 1056964608#32 + Ideal.ofBits .f32 1082130432#32) = ((index a : ℝ) : EReal) := by
  rw [k_two, k_half, k_four]
  unfold index
  simp only [EReal.coe_lt_coe_iff]
  split_ifs
  · rw [EReal.coe_mul]
  · rw [EReal.coe_add]
  · rw [EReal.coe_add, EReal.coe_mul]

/-- The code of a value, sign and index joined. -/
theorem nib_eq (v : ℝ) (q qa : EReal) (hq : q = ((quant (clip6 v) : ℝ) : EReal)) (ha : qa = ((|quant (clip6 v)| : ℝ) : EReal)) :
    IntOp.ori (FloatOps.fptosi (F := Ideal) (φ := .f32) 32 (if qa < Ideal.ofBits .f32 1073741824#32 then qa * Ideal.ofBits .f32 1073741824#32
      else if qa < Ideal.ofBits .f32 1082130432#32 then qa + Ideal.ofBits .f32 1073741824#32
        else qa * Ideal.ofBits .f32 1056964608#32 + Ideal.ofBits .f32 1082130432#32)) (if q < 0 then 8#32 else 0#32)
      = BitVec.ofNat 32 (nib v) := by
  subst hq ha
  rw [index_eq, ← ori_nib v]
  have e : (((quant (clip6 v) : ℝ) : EReal) < 0) ↔ quant (clip6 v) < 0 := EReal.coe_neg'
  simp only [e]
  rfl

theorem code_eq (a b : ℕ) (ha : a < 16) (hb : b < 16) :
    BitVec.setWidth 8 (IntOp.ori (BitVec.ofNat 32 a) (IntOp.shli ArithUnit.host (BitVec.ofNat 32 b) 4#32))
      = BitVec.ofNat 8 (a + 16 * b) := by
  have : ∀ a b : Fin 16, BitVec.setWidth 8 (IntOp.ori (BitVec.ofNat 32 a.val) (IntOp.shli ArithUnit.host (BitVec.ofNat 32 b.val) 4#32))
      = BitVec.ofNat 8 (a.val + 16 * b.val) := by decide +kernel
  exact this ⟨a, ha⟩ ⟨b, hb⟩

theorem mask_eq (B : Fin 8 → Bool) (p : ℕ) (hp : p < 8) :
    (BitVec.setWidth 8 (Finset.fold IntOp.addi (0#32) (fun x : Fin 8 =>
      IntOp.shli ArithUnit.host (BitVec.setWidth 32 (BitVec.ofBool (B x))) (BitVec.ofNat 32 x.val)) Finset.univ)).getLsbD p = B ⟨p, hp⟩ := by
  have e (x : Fin 8) (b : BitVec 32) : IntOp.shli ArithUnit.host b (BitVec.ofNat 32 x.val)
      = IntOp.shli ArithUnit.vector b (IntOp.muli (BitVec.ofNat 32 1) (BitVec.ofNat 32 x.val)) := by
    have h1 : IntOp.muli (BitVec.ofNat 32 1) (BitVec.ofNat 32 x.val) = BitVec.ofNat 32 x.val := by
      show BitVec.ofNat 32 1 * BitVec.ofNat 32 x.val = _
      rw [← BitVec.ofNat_mul, Nat.one_mul]
    have hx : (BitVec.ofNat 32 x.val).toNat < 32 := by
      rw [BitVec.toNat_ofNat]; omega
    rw [h1]
    unfold IntOp.shli
    rw [if_pos hx, if_pos hx]
  simp only [e]
  rw [BitVec.getLsbD_setWidth, pack_bit 1 (by decide) (fun x : Fin 8 => BitVec.setWidth 32 (BitVec.ofBool (B x)))
    (fun x => by cases B x <;> decide) ⟨p, hp⟩ 0 p (by decide) (by dsimp only; omega)]
  cases B ⟨p, hp⟩ <;> simp [hp]

theorem keep_iff (u : Fin 32 → ℝ) (i : Fin 32) (r s : EReal) (hr : r = ((u i : ℝ) : EReal)) (hs : s = ((p2 (expo u) : ℝ) : EReal)) :
    FloatOps.absf (F := Ideal) (φ := .f32) r ≤ Ideal.ofBits .f32 1086324736#32 * s ↔ keepR u i := by
  subst hr hs
  rw [k_six, ← EReal.coe_mul, show FloatOps.absf (F := Ideal) (φ := .f32) ((u i : ℝ) : EReal) = ((|u i| : ℝ) : EReal) from abs_coe _]
  exact EReal.coe_le_coe_iff

end Cert.V
-- ==== Proof.V.Ref.lean ====
module

public import proofs.«01_k».proof.Proof.V.RefNum
public import proofs.«01_k».proof.Proof.Gen.ReferenceIdeal.Run
public import Idealize.ShloMosaic.Lib.Pointwise
public import Idealize.ShloMosaic.Lib.Tactic.CleanTypes

/-! # The reference's results, entry by entry

At finite arguments each byte of the reference is the same function of the rotated blocks as the
kernel's: the scale byte, the code byte and the mask byte. -/

@[expose] public section
noncomputable section

namespace Cert.ReferenceIdeal.Value

open Cert.ReferenceIdeal Cert.ReferenceIdeal.Gen Cert.V
open Idealize.ShloMosaic Idealize.ShloMosaic.TcCoe Idealize.SL.Sem Idealize.ShloMosaic.StableHlo Idealize.ShloMosaic.Tactic

variable (V0 : Valuation τ sig (Elt Ideal)) (A : ℕ → ℕ → ℝ)

theorem lit0_eq : ∀ x : Fin 254, lit0 (S254.rowMajor (ix1 x)) = BitVec.ofNat 32 (x.val + 1) <<< 23 := by decide +kernel
theorem lit1_eq : ∀ x : Fin 254, lit1 (S254.rowMajor (ix1 x)) = BitVec.ofNat 32 (x.val + 1) <<< 23 := by decide +kernel
theorem lit2_eq : ∀ x : Fin 254, lit2 (S254.rowMajor (ix1 x)) = BitVec.ofNat 32 (x.val + 1) <<< 23 := by decide +kernel
theorem lit3_eq : ∀ x : Fin 254, lit3 (S254.rowMajor (ix1 x)) = BitVec.ofNat 32 (x.val + 1) <<< 23 := by decide +kernel
theorem lit4_eq : ∀ x : Fin 254, lit4 (S254.rowMajor (ix1 x)) = BitVec.ofNat 32 (x.val + 1) <<< 23 := by decide +kernel
theorem lit5_eq : ∀ x : Fin 254, lit5 (S254.rowMajor (ix1 x)) = BitVec.ofNat 32 (x.val + 1) <<< 23 := by decide +kernel

theorem had_apply (i j : Fin 32) : res_main_v12 V0 (ix2 i j) = ((hadR i j : ℝ) : EReal) := by
  unfold res_main_v12 res_main_v0
  clean_types
  pointwise [constant, id, constantI]
  exact had_eq i j

section
variable (hA : ∀ (n : Fin 3072) (k : Fin 16384), V0 (Proc.devRef .tc main_arg1) (ix2 n k) = ((A n.val k.val : ℝ) : EReal))
include hA

theorem w_rot (n : Fin 3072) (g : Fin 512) (i : Fin 32) : res_main_v132 V0 (ix3 n g i) = ((uR A n.val g.val i : ℝ) : EReal) := by
  unfold res_main_v132
  clean_types
  pointwise [Host.divf, constant]
  refine rot_eq (fun x => A n.val (32 * g.val + x.val)) i _ _ (fun x => ?_) fun x => had_apply V0 x i
  refine (hA n _).trans (congrArg (fun q => ((A n.val q : ℝ) : EReal)) ?_)
  show g.val * 32 + x.val = 32 * g.val + x.val
  omega

theorem w_rms (n : Fin 3072) (g : Fin 512) : res_main_v138 V0 (ix3 n g 0) = ((rmsR (uR A n.val g.val) : ℝ) : EReal) := by
  unfold res_main_v138
  clean_types
  pointwise [Host.divf, constant]
  exact rms_eq _ _ fun x => w_rot V0 A hA n g x

theorem w_exp (n : Fin 3072) (g : Fin 512) : res_main_v154 V0 (ix3 n g 0) = expB (expo (uR A n.val g.val)) := by
  unfold res_main_v154
  clean_types
  pointwise [constantI, constant, id]
  exact exp_eq (uR A n.val g.val) _ (w_rms V0 A hA n g) (fun x => lit3 (S254.rowMajor (ix1 x))) lit3_eq

theorem w_clip (n : Fin 3072) (g : Fin 512) (i : Fin 32) :
    res_main_v187 V0 (ix3 n g i) = ((clip6 (scaledR (uR A n.val g.val) i) : ℝ) : EReal) := by
  unfold res_main_v187
  clean_types
  pointwise [constantI, constant, id]
  have he := expo_le (uR A n.val g.val)
  have h := pow_eq (254 - expo (uR A n.val g.val)) (by omega) (-(show BitVec 32 from res_main_v154 V0 (ix3 n g 0)))
    (by rw [w_exp V0 A hA, expB_neg _ he]) (fun x => lit4 (S254.rowMajor (ix1 x))) lit4_eq
  rw [← clip_eq]
  unfold scaledR
  rw [EReal.coe_mul, ← h, ← w_rot V0 A hA n g i]

theorem w_abs (n : Fin 3072) (g : Fin 512) (i : Fin 32) :
    res_main_v188 V0 (ix3 n g i) = ((|clip6 (scaledR (uR A n.val g.val) i)| : ℝ) : EReal) := by
  unfold res_main_v188
  clean_types
  pointwise
  rw [w_clip V0 A hA]
  exact abs_coe _

theorem w_gap (n : Fin 3072) (g : Fin 512) (i : Fin 32) :
    res_main_v194 V0 (ix3 n g i) = ((gap |clip6 (scaledR (uR A n.val g.val) i)| : ℝ) : EReal) := by
  unfold res_main_v194
  clean_types
  pointwise [constant, id, select, cmpf]
  rw [w_abs V0 A hA]
  exact gap_eq _

theorem w_quant (n : Fin 3072) (g : Fin 512) (i : Fin 32) :
    res_main_v203 V0 (ix3 n g i) = ((quant (clip6 (scaledR (uR A n.val g.val) i)) : ℝ) : EReal) := by
  unfold res_main_v203
  clean_types
  pointwise [constant, id, Host.divf]
  rw [w_abs V0 A hA, w_gap V0 A hA, w_clip V0 A hA]
  exact quant_eq _

theorem w_quant_abs (n : Fin 3072) (g : Fin 512) (i : Fin 32) :
    res_main_v204 V0 (ix3 n g i) = ((|quant (clip6 (scaledR (uR A n.val g.val) i))| : ℝ) : EReal) := by
  unfold res_main_v204
  clean_types
  pointwise
  rw [w_quant V0 A hA]
  exact abs_coe _

theorem w_nib (n : Fin 3072) (c : Fin 8192) (i : Fin 2) :
    res_main_v225 V0 (ix3 n c i) = BitVec.ofNat 32 (nib (el A n.val (2 * c.val + i.val))) := by
  unfold res_main_v225
  clean_types
  pointwise [constant, constantI, id, select, cmpf]
  have hc := c.isLt
  have hi := i.isLt
  refine (nib_eq _ _ _ (w_quant V0 A hA n ⟨c.val / 16, by omega⟩ ⟨c.val % 16 * 2 + i.val, by omega⟩)
    (w_quant_abs V0 A hA n ⟨c.val / 16, by omega⟩ ⟨c.val % 16 * 2 + i.val, by omega⟩)).trans ?_
  unfold el
  refine congrArg₂ (fun g (x : Fin 32) => BitVec.ofNat 32 (nib (scaledR (uR A n.val g) x))) ?_ (Fin.ext ?_) <;> dsimp only <;> omega

theorem w_scale (n : Fin 3072) (g : Fin 512) :
    (trunci 8 (addi (shapeCast _ (res_main_v154 V0) shapeCasts_S3072x512x1_S3072x512) (broadcastInDim S3072x512 ![] bcast_S_S3072x512 (constantI S_ 32 127#32))) natLt_8_32 : IVec S3072x512 8) (ix2 n g) = scaleAt A n.val g.val := by
  pointwise [constantI]
  rw [w_exp V0 A hA]
  exact scale_eq _ (expo_le _)

theorem w_code (n : Fin 3072) (j : Fin 8192) :
    (trunci 8 (ori (shapeCast _ (extractStridedSlice S3072x8192x1 ![0, 0, 0] (res_main_v225 V0) slices_S3072x8192x2_S3072x8192x1_0_0_0) shapeCasts_S3072x8192x1_S3072x8192) (Host.shli (shapeCast _ (extractStridedSlice S3072x8192x1 ![0, 0, 1] (res_main_v225 V0) slices_S3072x8192x2_S3072x8192x1_0_0_1) shapeCasts_S3072x8192x1_S3072x8192) (broadcastInDim S3072x8192 ![] bcast_S_S3072x8192 (constantI S_ 32 4#32)))) natLt_8_32 : IVec S3072x8192 8) (ix2 n j) = codeAt A n.val j.val := by
  pointwise [constantI]
  rw [w_nib V0 A hA, w_nib V0 A hA]
  exact code_eq _ _ (nib_lt _) (nib_lt _)

theorem w_mask (n : Fin 3072) (j : Fin 2048) (p : ℕ) (hp : p < 8) :
    ((trunci 8 (Host.reduce IntOp.addi (Host.shli (extui 32 (shapeCast _ (cmpf .ole (Host.absf (res_main_v132 V0)) (broadcastInDim S3072x512x32 ![0, 1, 2] bcast_S3072x512x1_S3072x512x32_0_1_2 (mulf (broadcastInDim S3072x512x1 ![] bcast_S_S3072x512x1 (constant S_ .f32 0x40C00000#32)) (broadcastInDim S3072x512x1 ![0, 1] bcast_S3072x512_S3072x512x1_0_1 (Host.reduceAdd (select (cmpi .eq (broadcastInDim S3072x512x254 ![0, 1, 2] bcast_S3072x512x1_S3072x512x254_0_1_2 (res_main_v154 V0)) (broadcastInDim S3072x512x254 ![0, 1, 2] bcast_S1x1x254_S3072x512x254_0_1_2 (broadcastInDim S1x1x254 ![2] bcast_S254_S1x1x254_2 (addi (broadcastInDim S254 ![] bcast_S_S254 (constantI S_ 32 4294967170#32)) (iotaInDim S254 32 0))))) (broadcastInDim S3072x512x254 ![2] bcast_S254_S3072x512x254_2 ((fun i => FloatOps.ofBits .f32 (lit5 (S254.rowMajor i))))) (broadcastInDim S3072x512x254 ![] bcast_S_S3072x512x254 (id (constant S_ .f32 0x00000000#32)))) (constant S_ .f32 0x00000000#32) reducesTo_S3072x512x254_S3072x512_d2 h_S_))))) shapeCasts_S3072x512x32_S3072x2048x8) natLt_1_32) (broadcastInDim S3072x2048x8 ![0, 1, 2] bcast_S1x1x8_S3072x2048x8_0_1_2 (broadcastInDim S1x1x8 ![2] bcast_S8_S1x1x8_2 (iotaInDim S8 32 0)))) (constantI S_ 32 0#32) reducesTo_S3072x2048x8_S3072x2048_d2 h_S_) natLt_8_32 : IVec S3072x2048 8) (ix2 n j)).getLsbD p = maskAt A n.val j.val p := by
  pointwise [constantI, constant, id]
  refine (mask_eq _ p hp).trans ?_
  unfold maskAt keepAt
  have hj := j.isLt
  have h := keep_iff (uR A n.val (j.val / 4)) ⟨j.val % 4 * 8 + p, by omega⟩ _ _
    (w_rot V0 A hA n ⟨j.val / 4, by omega⟩ ⟨j.val % 4 * 8 + p, by omega⟩)
    (pow_eq (expo (uR A n.val (j.val / 4))) (expo_le _) (show BitVec 32 from res_main_v154 V0 (ix3 n ⟨j.val / 4, by omega⟩ 0))
      (w_exp V0 A hA n ⟨j.val / 4, by omega⟩) (fun x => lit5 (S254.rowMajor (ix1 x))) lit5_eq)
  refine decide_eq_decide.mpr (h.trans (iff_of_eq ?_))
  refine congrArg₂ (fun g (x : Fin 32) => keepR (uR A n.val g) x) ?_ (Fin.ext ?_)
  · omega
  · dsimp only; omega

end

section
variable (hA : ∀ (n : Fin 128) (k : Fin 16384), V0 (Proc.devRef .tc main_arg0) (ix3 0 n k) = ((A n.val k.val : ℝ) : EReal))
include hA

theorem x_rot (n : Fin 128) (g : Fin 512) (i : Fin 32) : res_main_v18 V0 (ix3 n g i) = ((uR A n.val g.val i : ℝ) : EReal) := by
  unfold res_main_v18
  clean_types
  pointwise [Host.divf, constant]
  refine rot_eq (fun x => A n.val (32 * g.val + x.val)) i _ _ (fun x => ?_) fun x => had_apply V0 x i
  refine (hA n _).trans (congrArg (fun q => ((A n.val q : ℝ) : EReal)) ?_)
  show g.val * 32 + x.val = 32 * g.val + x.val
  omega

theorem x_rms (n : Fin 128) (g : Fin 512) : res_main_v24 V0 (ix3 n g 0) = ((rmsR (uR A n.val g.val) : ℝ) : EReal) := by
  unfold res_main_v24
  clean_types
  pointwise [Host.divf, constant]
  exact rms_eq _ _ fun x => x_rot V0 A hA n g x

theorem x_exp (n : Fin 128) (g : Fin 512) : res_main_v40 V0 (ix3 n g 0) = expB (expo (uR A n.val g.val)) := by
  unfold res_main_v40
  clean_types
  pointwise [constantI, constant, id]
  exact exp_eq (uR A n.val g.val) _ (x_rms V0 A hA n g) (fun x => lit0 (S254.rowMajor (ix1 x))) lit0_eq

theorem x_clip (n : Fin 128) (g : Fin 512) (i : Fin 32) :
    res_main_v73 V0 (ix3 n g i) = ((clip6 (scaledR (uR A n.val g.val) i) : ℝ) : EReal) := by
  unfold res_main_v73
  clean_types
  pointwise [constantI, constant, id]
  have he := expo_le (uR A n.val g.val)
  have h := pow_eq (254 - expo (uR A n.val g.val)) (by omega) (-(show BitVec 32 from res_main_v40 V0 (ix3 n g 0)))
    (by rw [x_exp V0 A hA, expB_neg _ he]) (fun x => lit1 (S254.rowMajor (ix1 x))) lit1_eq
  rw [← clip_eq]
  unfold scaledR
  rw [EReal.coe_mul, ← h, ← x_rot V0 A hA n g i]

theorem x_abs (n : Fin 128) (g : Fin 512) (i : Fin 32) :
    res_main_v74 V0 (ix3 n g i) = ((|clip6 (scaledR (uR A n.val g.val) i)| : ℝ) : EReal) := by
  unfold res_main_v74
  clean_types
  pointwise
  rw [x_clip V0 A hA]
  exact abs_coe _

theorem x_gap (n : Fin 128) (g : Fin 512) (i : Fin 32) :
    res_main_v80 V0 (ix3 n g i) = ((gap |clip6 (scaledR (uR A n.val g.val) i)| : ℝ) : EReal) := by
  unfold res_main_v80
  clean_types
  pointwise [constant, id, select, cmpf]
  rw [x_abs V0 A hA]
  exact gap_eq _

theorem x_quant (n : Fin 128) (g : Fin 512) (i : Fin 32) :
    res_main_v89 V0 (ix3 n g i) = ((quant (clip6 (scaledR (uR A n.val g.val) i)) : ℝ) : EReal) := by
  unfold res_main_v89
  clean_types
  pointwise [constant, id, Host.divf]
  rw [x_abs V0 A hA, x_gap V0 A hA, x_clip V0 A hA]
  exact quant_eq _

theorem x_quant_abs (n : Fin 128) (g : Fin 512) (i : Fin 32) :
    res_main_v90 V0 (ix3 n g i) = ((|quant (clip6 (scaledR (uR A n.val g.val) i))| : ℝ) : EReal) := by
  unfold res_main_v90
  clean_types
  pointwise
  rw [x_quant V0 A hA]
  exact abs_coe _

theorem x_nib (n : Fin 128) (c : Fin 8192) (i : Fin 2) :
    res_main_v111 V0 (ix3 n c i) = BitVec.ofNat 32 (nib (el A n.val (2 * c.val + i.val))) := by
  unfold res_main_v111
  clean_types
  pointwise [constant, constantI, id, select, cmpf]
  have hc := c.isLt
  have hi := i.isLt
  refine (nib_eq _ _ _ (x_quant V0 A hA n ⟨c.val / 16, by omega⟩ ⟨c.val % 16 * 2 + i.val, by omega⟩)
    (x_quant_abs V0 A hA n ⟨c.val / 16, by omega⟩ ⟨c.val % 16 * 2 + i.val, by omega⟩)).trans ?_
  unfold el
  refine congrArg₂ (fun g (x : Fin 32) => BitVec.ofNat 32 (nib (scaledR (uR A n.val g) x))) ?_ (Fin.ext ?_) <;> dsimp only <;> omega

theorem x_scale (n : Fin 128) (g : Fin 512) :
    (trunci 8 (addi (shapeCast _ (res_main_v40 V0) shapeCasts_S128x512x1_S128x512) (broadcastInDim S128x512 ![] bcast_S_S128x512 (constantI S_ 32 127#32))) natLt_8_32 : IVec S128x512 8) (ix2 n g) = scaleAt A n.val g.val := by
  pointwise [constantI]
  rw [x_exp V0 A hA]
  exact scale_eq _ (expo_le _)

theorem x_code (n : Fin 128) (j : Fin 8192) :
    (trunci 8 (ori (shapeCast _ (extractStridedSlice S128x8192x1 ![0, 0, 0] (res_main_v111 V0) slices_S128x8192x2_S128x8192x1_0_0_0) shapeCasts_S128x8192x1_S128x8192) (Host.shli (shapeCast _ (extractStridedSlice S128x8192x1 ![0, 0, 1] (res_main_v111 V0) slices_S128x8192x2_S128x8192x1_0_0_1) shapeCasts_S128x8192x1_S128x8192) (broadcastInDim S128x8192 ![] bcast_S_S128x8192 (constantI S_ 32 4#32)))) natLt_8_32 : IVec S128x8192 8) (ix2 n j) = codeAt A n.val j.val := by
  pointwise [constantI]
  rw [x_nib V0 A hA, x_nib V0 A hA]
  exact code_eq _ _ (nib_lt _) (nib_lt _)

theorem x_mask (n : Fin 128) (j : Fin 2048) (p : ℕ) (hp : p < 8) :
    ((trunci 8 (Host.reduce IntOp.addi (Host.shli (extui 32 (shapeCast _ (cmpf .ole (Host.absf (res_main_v18 V0)) (broadcastInDim S128x512x32 ![0, 1, 2] bcast_S128x512x1_S128x512x32_0_1_2 (mulf (broadcastInDim S128x512x1 ![] bcast_S_S128x512x1 (constant S_ .f32 0x40C00000#32)) (broadcastInDim S128x512x1 ![0, 1] bcast_S128x512_S128x512x1_0_1 (Host.reduceAdd (select (cmpi .eq (broadcastInDim S128x512x254 ![0, 1, 2] bcast_S128x512x1_S128x512x254_0_1_2 (res_main_v40 V0)) (broadcastInDim S128x512x254 ![0, 1, 2] bcast_S1x1x254_S128x512x254_0_1_2 (broadcastInDim S1x1x254 ![2] bcast_S254_S1x1x254_2 (addi (broadcastInDim S254 ![] bcast_S_S254 (constantI S_ 32 4294967170#32)) (iotaInDim S254 32 0))))) (broadcastInDim S128x512x254 ![2] bcast_S254_S128x512x254_2 ((fun i => FloatOps.ofBits .f32 (lit2 (S254.rowMajor i))))) (broadcastInDim S128x512x254 ![] bcast_S_S128x512x254 (id (constant S_ .f32 0x00000000#32)))) (constant S_ .f32 0x00000000#32) reducesTo_S128x512x254_S128x512_d2 h_S_))))) shapeCasts_S128x512x32_S128x2048x8) natLt_1_32) (broadcastInDim S128x2048x8 ![0, 1, 2] bcast_S1x1x8_S128x2048x8_0_1_2 (broadcastInDim S1x1x8 ![2] bcast_S8_S1x1x8_2 (iotaInDim S8 32 0)))) (constantI S_ 32 0#32) reducesTo_S128x2048x8_S128x2048_d2 h_S_) natLt_8_32 : IVec S128x2048 8) (ix2 n j)).getLsbD p = maskAt A n.val j.val p := by
  pointwise [constantI, constant, id]
  refine (mask_eq _ p hp).trans ?_
  unfold maskAt keepAt
  have hj := j.isLt
  have h := keep_iff (uR A n.val (j.val / 4)) ⟨j.val % 4 * 8 + p, by omega⟩ _ _
    (x_rot V0 A hA n ⟨j.val / 4, by omega⟩ ⟨j.val % 4 * 8 + p, by omega⟩)
    (pow_eq (expo (uR A n.val (j.val / 4))) (expo_le _) (show BitVec 32 from res_main_v40 V0 (ix3 n ⟨j.val / 4, by omega⟩ 0))
      (x_exp V0 A hA n ⟨j.val / 4, by omega⟩) (fun x => lit2 (S254.rowMajor (ix1 x))) lit2_eq)
  refine decide_eq_decide.mpr (h.trans (iff_of_eq ?_))
  refine congrArg₂ (fun g (x : Fin 32) => keepR (uR A n.val g) x) ?_ (Fin.ext ?_)
  · omega
  · dsimp only; omega

end
end Cert.ReferenceIdeal.Value
-- ==== Proof.V.Deq.lean ====
module

public import proofs.«01_k».proof.Proof.V.Vals

/-! # The kernel's dequantised values

A code and its block's scale give back a real number; the product the kernel accumulates is the sum
over the columns of the products of two such numbers. -/

@[expose] public section
noncomputable section

namespace Cert.V

/-- The value a four-bit code stands for. -/
def qval (n : ℕ) : ℝ := if n < 8 then mag n else -mag (n - 8)

theorem qval_raw (r : ℕ) (hr : r < 16) : qval r = qval (if r % 8 = 0 then 0 else r) := by
  split_ifs with h
  · have : r = 0 ∨ r = 8 := by omega
    rcases this with rfl | rfl
    · rfl
    · norm_num [qval, mag]
  · rfl

/-- The dequantised value at column `k` of row `n`. -/
def dq (A : ℕ → ℕ → ℝ) (n k : ℕ) : ℝ := qval (nib (el A n k)) * p2 (expo (uR A n (k / 32)))

end Cert.V

namespace Cert.KernelIdeal.Tile

open Cert.KernelIdeal Cert.KernelIdeal.Gen Cert.V
open Idealize.ShloMosaic Idealize.ShloMosaic.TcCoe Idealize.ShloMosaic.Tactic
open Idealize.SL Idealize.SL.Sem

theorem p_apply (r4 : FVec Ideal S256x128 .f32) (y : Fin 256) (l : Fin 128) : (show EReal from (tileOut r4).p (ix2 y l)) =
    (show EReal from powBits (F := Ideal) (codeOf r4) (ix2 ⟨y.val / 32, by omega⟩ l)) := by
  unfold tileOut outOf spreadP rowOf
  dsimp only
  pointwise
  split_ifs
  all_goals
    refine congrArg (powBits _) (congrArg (fun a => ix2 a l) (Fin.ext ?_))
  all_goals dsimp
  all_goals omega

theorem k_eight : Ideal.ofBits .f32 0x41000000#32 = ((8 : ℝ) : EReal) := by
  simp [Ideal.ofBits, Ideal.ieee, -EReal.coe_mul]; norm_num

/-- The kernel's magnitude of a code without its sign. -/
theorem mag_eq (m : ℕ) (hm : m < 8) : Scalar.select (IntOp.cmpi CmpIPredicate.slt (BitVec.ofNat 32 m) 4#32)
    ((((m : ℝ) : ℝ) : EReal) * Ideal.ofBits .f32 1056964608#32)
    (Scalar.select (IntOp.cmpi CmpIPredicate.slt (BitVec.ofNat 32 m) 6#32)
      (((m : ℝ) : EReal) - Ideal.ofBits .f32 1073741824#32)
      (((m : ℝ) : EReal) * Ideal.ofBits .f32 1073741824#32 - Ideal.ofBits .f32 1090519040#32)) = ((mag m : ℝ) : EReal) := by
  rw [k_half, k_two, k_eight, ← EReal.coe_mul, ← EReal.coe_sub, ← EReal.coe_mul, ← EReal.coe_sub]
  have hs (b : Bool) (x z : EReal) : Scalar.select (BitVec.ofBool b) x z = if b then x else z := by cases b <;> rfl
  have h4 : IntOp.cmpi CmpIPredicate.slt (BitVec.ofNat 32 m) 4#32 = BitVec.ofBool (decide (m < 4)) := by
    interval_cases m <;> decide
  have h6 : IntOp.cmpi CmpIPredicate.slt (BitVec.ofNat 32 m) 6#32 = BitVec.ofBool (decide (m < 6)) := by
    interval_cases m <;> decide
  rw [h4, h6, hs, hs]
  interval_cases m <;> norm_num [mag]

theorem fromE2m1_apply (q : IVec S256x128 32) (y : Fin 256) (l : Fin 128) (n : ℕ) (hn : n < 16)
    (h : q (ix2 y l) = BitVec.ofNat 32 n) : (show EReal from fromE2m1 (F := Ideal) q (ix2 y l)) = ((qval n : ℝ) : EReal) := by
  have ha : IntOp.andi (BitVec.ofNat 32 n) 7#32 = BitVec.ofNat 32 (n % 8) := by
    interval_cases n <;> decide
  have hf : FloatOps.sitofp (F := Ideal) FTy.f32 (BitVec.ofNat 32 (n % 8)) = (((n % 8 : ℕ) : ℝ) : EReal) := by
    show (((BitVec.ofNat 32 (n % 8)).toInt : ℝ) : EReal) = _
    have : (BitVec.ofNat 32 (n % 8)).toInt = ((n % 8 : ℕ) : ℤ) := by interval_cases n <;> decide
    rw [this]
    norm_cast
  have hs (b : Bool) (x z : EReal) : Scalar.select (BitVec.ofBool b) x z = if b then x else z := by cases b <;> rfl
  have h8 : IntOp.cmpi CmpIPredicate.sge (BitVec.ofNat 32 n) 8#32 = BitVec.ofBool (decide (8 ≤ n)) := by
    interval_cases n <;> decide
  unfold fromE2m1 magE2m1
  pointwise
  rw [h, ha, hf, mag_eq _ (Nat.mod_lt _ (by decide)), h8, hs]
  unfold qval
  by_cases h1 : n < 8
  · rw [if_neg (by simpa using h1), if_pos h1, Nat.mod_eq_of_lt h1]
  · rw [if_pos (by simpa using h1), if_neg h1, show n % 8 = n - 8 by omega, zero_sub, ← EReal.coe_neg]

/-! ## A tile -/

section
variable (r4 : FVec Ideal S256x128 .f32) (A : ℕ → ℕ → ℝ) (n0 g0 : ℕ)
  (hR : ∀ y l, r4 (ix2 y l) = ((√2 * RT A n0 g0 y l : ℝ) : EReal))
include hR

theorem tile_deq (y : Fin 256) (l : Fin 128) :
    (show EReal from deqOf (toE2m1 (tileOut r4).v) (tileOut r4).p (ix2 y l)) = ((dq A (n0 + l.val) (32 * g0 + y.val) : ℝ) : EReal) := by
  have e : toE2m1 (tileOut r4).v (ix2 y l) = BitVec.ofNat 32 (raw (el A (n0 + l.val) (32 * g0 + y.val))) := by
    unfold el
    refine (toE2m1_apply _ _ y l (v_real r4 _ hR y l)).trans ?_
    rw [blk_RT]
    refine congrArg₂ (fun g (x : Fin 32) => BitVec.ofNat 32 (raw (scaledR (uR A (n0 + l.val) g) x))) ?_ (Fin.ext ?_) <;> dsimp only <;> omega
  have hp : (show EReal from powBits (F := Ideal) (codeOf r4) (ix2 ⟨y.val / 32, by omega⟩ l))
      = ((p2 (expo (uR A (n0 + l.val) (g0 + y.val / 32))) : ℝ) : EReal) := by
    have h := codeOf_apply r4 (RT A n0 g0) hR ⟨y.val / 32, by omega⟩ l
    unfold powBits
    pointwise
    rw [h, blk_RT]
    exact shl_p2 _ (expo_le _)
  show (show EReal from fromE2m1 (F := Ideal) (toE2m1 (tileOut r4).v) (ix2 y l)) * (show EReal from (tileOut r4).p (ix2 y l)) = _
  rw [fromE2m1_apply _ y l _ (raw_lt _) e, p_apply, hp, ← EReal.coe_mul]
  unfold dq
  rw [qval_raw _ (raw_lt _), ← nib_raw, show (32 * g0 + y.val) / 32 = g0 + y.val / 32 by omega]

end

/-! ## The product -/

theorem accStep_apply (d0 d1 d2 d3 : FVec Ideal S256x256 .bf16) (acc : FVec Ideal S128x256 .f32) (xq : FVec Ideal S128x1024 .bf16)
    (D X a : ℕ → ℕ → ℝ)
    (h0 : ∀ k n, d0 (ix2 k n) = ((D n.val k.val : ℝ) : EReal)) (h1 : ∀ k n, d1 (ix2 k n) = ((D n.val (256 + k.val) : ℝ) : EReal))
    (h2 : ∀ k n, d2 (ix2 k n) = ((D n.val (512 + k.val) : ℝ) : EReal)) (h3 : ∀ k n, d3 (ix2 k n) = ((D n.val (768 + k.val) : ℝ) : EReal))
    (hx : ∀ s k, xq (ix2 s k) = ((X s.val k.val : ℝ) : EReal)) (ha : ∀ s n, acc (ix2 s n) = ((a s.val n.val : ℝ) : EReal))
    (s : Fin 128) (n : Fin 256) :
    (show EReal from accStep d0 d1 d2 d3 acc xq (ix2 s n))
      = ((a s.val n.val + ∑ k ∈ Finset.range 1024, X s.val k * D n.val k : ℝ) : EReal) := by
  unfold accStep
  pointwise [constant]
  rw [ha, EReal.coe_add, Finset.sum_range, ← coe_sum]
  refine congrArg (((a s.val n.val : ℝ) : EReal) + ·) (Finset.sum_congr rfl fun x _ => ?_)
  have hx' := x.isLt
  rw [EReal.coe_mul, ← hx s x]
  refine congrArg ((show EReal from xq (ix2 s x)) * ·) ?_
  by_cases c0 : x.val < 256
  · exact (dif_pos c0).trans (h0 _ _)
  refine (dif_neg c0).trans ?_
  by_cases c1 : x.val - 256 < 256
  · refine (dif_pos c1).trans ((h1 _ _).trans ?_)
    dsimp only
    rw [show 256 + (x.val - 256) = x.val by omega]
  refine (dif_neg c1).trans ?_
  by_cases c2 : x.val - 256 - 256 < 256
  · refine (dif_pos c2).trans ((h2 _ _).trans ?_)
    dsimp only
    rw [show 512 + (x.val - 256 - 256) = x.val by omega]
  · refine (dif_neg c2).trans ((h3 _ _).trans ?_)
    dsimp only
    rw [show 768 + (x.val - 256 - 256 - 256) = x.val by omega]

theorem deqW_at (t t' : Out Ideal) (y n : Fin 256) (a : EReal)
    (h0 : ∀ l : Fin 128, l.val = n.val → (show EReal from deqOf (toE2m1 t.v) t.p (ix2 y l)) = a)
    (h1 : ∀ l : Fin 128, 128 + l.val = n.val → (show EReal from deqOf (toE2m1 t'.v) t'.p (ix2 y l)) = a) :
    (show EReal from deqW t t' (ix2 y n)) = a := by
  have hn := n.isLt
  generalize hd : deqOf (toE2m1 t.v) t.p = d at h0
  generalize hd' : deqOf (toE2m1 t'.v) t'.p = d' at h1
  unfold deqW
  rw [hd, hd']
  pointwise
  by_cases c0 : n.val < 128
  · exact (dif_pos c0).trans (h0 _ rfl)
  · exact (dif_neg c0).trans (h1 _ (by show 128 + (n.val - 128) = n.val; omega))

variable (m : (ℓ : Loc nD τ sig) → Buf (Elt Ideal) ℓ) (c : Dev nD)

section
variable (A : ℕ → ℕ → ℝ) (hA : ∀ i j, m ((c.tc : Thread nD τ).loc main_arg0) (ix3 0 i j) = ((A i.val j.val : ℝ) : EReal))
include hA

theorem gX_apply (s : Fin 128) (k : Fin 16384) :
    (show EReal from gX m c (ix2 s k)) = ((dq A s.val k.val : ℝ) : EReal) := by
  have hk := k.isLt
  have ht : (ptOf (k.val / 4096)).val = k.val / 4096 := by
    show _ % 48 = _; omega
  unfold gX
  show (show EReal from deqXs (hB m c (ptOf (k.val / 4096))) (xB m c (ptOf (k.val / 4096))) (ix2 s ⟨k.val % 4096, _⟩)) = _
  unfold deqXs
  show (show EReal from deqX (tX (hB m c (ptOf (k.val / 4096))) (xB m c (ptOf (k.val / 4096))) (k.val % 4096 / 256)) (ix2 s (m256 (k.val % 4096)))) = _
  unfold deqX tX
  pointwise
  refine (tile_deq _ A _ _ (rotX_real m c A hA (ptOf (k.val / 4096)) (k.val % 4096 / 256) (by omega)) (m256 (k.val % 4096)) s).trans ?_
  rw [ht]
  unfold m256
  dsimp only
  rw [show 32 * (128 * min (k.val / 4096) 3 + 8 * (k.val % 4096 / 256)) + k.val % 4096 % 256 = k.val by omega, Nat.zero_add]

end

section
variable (A : ℕ → ℕ → ℝ) (hA : ∀ i j, m ((c.tc : Thread nD τ).loc main_arg1) (ix2 i j) = ((A i.val j.val : ℝ) : EReal))
include hA

theorem deqW_apply (t : Fin cfg0.N) (k : ℕ) (hk : k < 16) (y n : Fin 256) :
    (show EReal from deqW (tW (hB m c t) (wB m c t) k 0) (tW (hB m c t) (wB m c t) k 1) (ix2 y n))
      = ((dq A (256 * (t.val / 4) + n.val) (4096 * (t.val % 4) + 256 * k + y.val) : ℝ) : EReal) := by
  unfold tW
  refine deqW_at _ _ y n _ (fun l hl => ?_) fun l hl => ?_
  · refine (tile_deq _ A _ _ (half_real m c A hA t k 0 hk (by decide)) y l).trans ?_
    rw [show 32 * (128 * (t.val % 4) + 8 * k) + y.val = 4096 * (t.val % 4) + 256 * k + y.val by omega, ← hl]
    rfl
  · refine (tile_deq _ A _ _ (half_real m c A hA t k 1 hk (by decide)) y l).trans ?_
    rw [show 32 * (128 * (t.val % 4) + 8 * k) + y.val = 4096 * (t.val % 4) + 256 * k + y.val by omega, ← hl,
      show 256 * (t.val / 4) + 128 * 1 + l.val = 256 * (t.val / 4) + (128 + l.val) by omega]

theorem accAt_apply (t : Fin cfg0.N) (q : FVec Ideal S128x16384 .bf16) (X : ℕ → ℕ → ℝ)
    (hq : ∀ s k, q (ix2 s k) = ((X s.val k.val : ℝ) : EReal)) (a : FVec Ideal S128x256 .f32) (a' : ℕ → ℕ → ℝ)
    (ha : ∀ s n, a (ix2 s n) = ((a' s.val n.val : ℝ) : EReal)) : ∀ (j : ℕ) (_ : j ≤ 4) (s : Fin 128) (n : Fin 256),
    (show EReal from accAt (hB m c t) (wB m c t) q (4096 * (t.val % 4)) a j (ix2 s n))
      = ((a' s.val n.val + ∑ k ∈ Finset.range (1024 * j), X s.val (4096 * (t.val % 4) + k)
          * dq A (256 * (t.val / 4) + n.val) (4096 * (t.val % 4) + k) : ℝ) : EReal)
  | 0, _, s, n => by
      rw [Nat.mul_zero, Finset.range_zero, Finset.sum_empty, add_zero]
      exact ha s n
  | j + 1, hj, s, n => by
      have hw (i : ℕ) (hi : i < 4) (o : ℕ) (ho : o = 256 * i) (y n : Fin 256) : (show EReal from deqW (tW (hB m c t) (wB m c t) (4 * j + i) 0) (tW (hB m c t) (wB m c t) (4 * j + i) 1) (ix2 y n))
          = ((dq A (256 * (t.val / 4) + n.val) (4096 * (t.val % 4) + (1024 * j + (o + y.val))) : ℝ) : EReal) := by
        rw [deqW_apply m c A hA t (4 * j + i) (by omega) y n,
          show 4096 * (t.val % 4) + 256 * (4 * j + i) + y.val = 4096 * (t.val % 4) + (1024 * j + (o + y.val)) by omega]
      refine (accStep_apply _ _ _ _ _ _
        (fun n k => dq A (256 * (t.val / 4) + n) (4096 * (t.val % 4) + (1024 * j + k)))
        (fun s k => X s (4096 * (t.val % 4) + (1024 * j + k)))
        (fun s n => a' s n + ∑ k ∈ Finset.range (1024 * j), X s (4096 * (t.val % 4) + k) * dq A (256 * (t.val / 4) + n) (4096 * (t.val % 4) + k))
        (fun k n => ?_) (hw 1 (by decide) 256 rfl) (hw 2 (by decide) 512 rfl) (hw 3 (by decide) 768 rfl)
        (fun s k => ?_) (fun s n => accAt_apply t q X hq a a' ha j (by omega) s n) s n).trans ?_
      · have := hw 0 (by decide) 0 rfl k n
        rw [Nat.zero_add] at this
        exact this
      · have hk := k.isLt
        refine (hq _ _).trans (congrArg (fun p => ((X s.val p : ℝ) : EReal)) ?_)
        show (4096 * (t.val % 4) + 1024 * j + k.val) % 16384 = _
        omega
      · rw [show 1024 * (j + 1) = 1024 * j + 1024 by omega, Finset.sum_range_add, add_assoc]

end

section
variable (A B : ℕ → ℕ → ℝ) (hA : ∀ i j, m ((c.tc : Thread nD τ).loc main_arg0) (ix3 0 i j) = ((A i.val j.val : ℝ) : EReal))
  (hB : ∀ i j, m ((c.tc : Thread nD τ).loc main_arg1) (ix2 i j) = ((B i.val j.val : ℝ) : EReal))
include hA hB

theorem accRow_apply (r : ℕ) (hr : r < 12) : ∀ (j : ℕ) (_ : j ≤ 4) (s : Fin 128) (n : Fin 256),
    (show EReal from accRow m c r j (ix2 s n))
      = ((∑ k ∈ Finset.range (4096 * j), dq A s.val k * dq B (256 * r + n.val) k : ℝ) : EReal)
  | 0, _, s, n => by
      rw [Nat.mul_zero, Finset.range_zero, Finset.sum_empty]
      show (show EReal from k0_pay4 (F := Ideal) (ix2 s n)) = _
      unfold k0_pay4
      pointwise
      rfl
  | j + 1, hj, s, n => by
      have ht : (ptOf (4 * r + j)).val = 4 * r + j := by
        show _ % 48 = _; omega
      have h := accAt_apply m c B hB (ptOf (4 * r + j)) (gX m c) (dq A) (gX_apply m c A hA) (accRow m c r j)
        (fun s n => ∑ k ∈ Finset.range (4096 * j), dq A s k * dq B (256 * r + n) k)
        (fun s n => accRow_apply r hr j (by omega) s n) 4 le_rfl s n
      rw [ht, show (4 * r + j) % 4 = j by omega, show (4 * r + j) / 4 = r by omega] at h
      refine h.trans ?_
      rw [show 4096 * (j + 1) = 4096 * j + 1024 * 4 by omega, Finset.sum_range_add]

end

theorem idxY : ∀ t : Fin cfg0.N, win0_3.index t 0 = 0 ∧ win0_3.index t 1 = t.val / 4 := by decide +kernel

theorem out3 : (dats (F := Ideal) m 0 c).arrAt 3 cfg0.N
    = ((fun y => k0_pay9 (F := Ideal) (accRow m c ((y 1).val / 256) 4) (ix2 (y 0) ⟨(y 1).val % 256, Nat.mod_lt _ (by decide)⟩))
      : S128x3072.Idx → EReal) := by
  refine (dats m 0 c).arrAt_eq_of_covers 3 _ (by decide +kernel) fun t hf y => ?_
  blk_simp
  have h1 : (y 1).val < 256 := (y 1).isLt
  have hi := (idxY t).2
  have hd : (win0_3.index t 1 * 256 + (y 1).val) / 256 = t.val / 4 := by rw [hi]; omega
  have hm : (win0_3.index t 1 * 256 + (y 1).val) % 256 = (y 1).val := by rw [hi]; omega
  simp only [hd, hm]
  show k0_pay9 (accRow m c (t.val / 4) 4) y = _
  refine congrArg (k0_pay9 (accRow m c (t.val / 4) 4)) ((ValueIdx.eq_ix2 y).trans ?_)
  refine congrArg (fun a => ix2 a (y 1)) (Fin.ext ?_)
  show (y 0).val = win0_3.index t 0 * 128 + 1 * (y 0).val
  rw [(idxY t).1]
  omega

theorem y_apply (A B : ℕ → ℕ → ℝ) (hA : ∀ i j, m ((c.tc : Thread nD τ).loc main_arg0) (ix3 0 i j) = ((A i.val j.val : ℝ) : EReal))
    (hB : ∀ i j, m ((c.tc : Thread nD τ).loc main_arg1) (ix2 i j) = ((B i.val j.val : ℝ) : EReal)) (s : Fin 128) (n : Fin 3072) :
    (dats (F := Ideal) m 0 c).arrAt 3 cfg0.N (ix2 s n)
      = ((∑ k ∈ Finset.range 16384, dq A s.val k * dq B n.val k : ℝ) : EReal) := by
  have hn := n.isLt
  rw [out3]
  show (show EReal from k0_pay9 (F := Ideal) (accRow m c (n.val / 256) 4) (ix2 s ⟨n.val % 256, _⟩)) = _
  refine (accRow_apply m c A B hA hB (n.val / 256) (by omega) 4 le_rfl s ⟨n.val % 256, Nat.mod_lt _ (by decide)⟩).trans ?_
  dsimp only
  rw [show 256 * (n.val / 256) + n.val % 256 = n.val by omega]

end Cert.KernelIdeal.Tile
-- ==== Proof.V.RefY.lean ====
module

public import proofs.«01_k».proof.Proof.V.Ref
public import proofs.«01_k».proof.Proof.V.Deq

/-! # The reference's product, entry by entry

At finite arguments the reference decodes each packed byte to the two numbers the kernel's codes stand
for, and its two products, over the even and over the odd columns, add up to the kernel's one. -/

@[expose] public section
noncomputable section

namespace Cert.V

open Idealize.ShloMosaic

theorem b_half : Ideal.ofBits .bf16 0x3F00#16 = ((1 / 2 : ℝ) : EReal) := by
  simp [Ideal.ofBits, Ideal.ieee, -EReal.coe_mul]; norm_num
theorem b_one : Ideal.ofBits .bf16 0x3F80#16 = ((1 : ℝ) : EReal) := by
  simp [Ideal.ofBits, Ideal.ieee, -EReal.coe_mul]; norm_num
theorem b_three_halves : Ideal.ofBits .bf16 0x3FC0#16 = ((3 / 2 : ℝ) : EReal) := by
  simp [Ideal.ofBits, Ideal.ieee, -EReal.coe_mul]; norm_num
theorem b_two : Ideal.ofBits .bf16 0x4000#16 = ((2 : ℝ) : EReal) := by
  simp [Ideal.ofBits, Ideal.ieee, -EReal.coe_mul]; norm_num
theorem b_three : Ideal.ofBits .bf16 0x4040#16 = ((3 : ℝ) : EReal) := by
  simp [Ideal.ofBits, Ideal.ieee, -EReal.coe_mul]; norm_num
theorem b_four : Ideal.ofBits .bf16 0x4080#16 = ((4 : ℝ) : EReal) := by
  simp [Ideal.ofBits, Ideal.ieee, -EReal.coe_mul]; norm_num
theorem b_six : Ideal.ofBits .bf16 0x40C0#16 = ((6 : ℝ) : EReal) := by
  simp [Ideal.ofBits, Ideal.ieee, -EReal.coe_mul]; norm_num

/-- The scale exponent a byte gives back. -/
theorem back_eq (e : ℕ) (he : e ≤ 254) :
    IntOp.subi (BitVec.setWidth 32 (BitVec.setWidth 8 (IntOp.addi (expB e) 127#32))) 127#32 = expB e := by
  rw [scale_eq e he]
  unfold expB
  refine congrArg (IntOp.subi · 127#32) ?_
  apply BitVec.eq_of_toNat_eq
  simp only [BitVec.toNat_setWidth, BitVec.toNat_ofNat]
  omega

/-- The low and the high code of a byte. -/
theorem lo_eq (a b : ℕ) (ha : a < 16) (hb : b < 16) :
    IntOp.andi (BitVec.setWidth 32 (BitVec.ofNat 8 (a + 16 * b))) 15#32 = BitVec.ofNat 32 a := by
  have : ∀ a b : Fin 16, IntOp.andi (BitVec.setWidth 32 (BitVec.ofNat 8 (a.val + 16 * b.val))) 15#32 = BitVec.ofNat 32 a.val := by
    decide +kernel
  exact this ⟨a, ha⟩ ⟨b, hb⟩

theorem hi_eq (a b : ℕ) (ha : a < 16) (hb : b < 16) :
    IntOp.shrsi ArithUnit.host (BitVec.setWidth 32 (BitVec.ofNat 8 (a + 16 * b))) 4#32 = BitVec.ofNat 32 b := by
  have : ∀ a b : Fin 16, IntOp.shrsi ArithUnit.host (BitVec.setWidth 32 (BitVec.ofNat 8 (a.val + 16 * b.val))) 4#32 = BitVec.ofNat 32 b.val := by
    decide +kernel
  exact this ⟨a, ha⟩ ⟨b, hb⟩

/-- The reference's decoding of a code. -/
theorem tree_eq (v : BitVec 32) (n : ℕ) (hn : n < 16) (hv : v = BitVec.ofNat 32 n) (T : EReal)
    (hT : T = Scalar.select (IntOp.cmpi CmpIPredicate.ne (IntOp.andi v 4#32) 0#32)
      (Scalar.select (IntOp.cmpi CmpIPredicate.ne (IntOp.andi v 2#32) 0#32)
        (Scalar.select (IntOp.cmpi CmpIPredicate.ne (IntOp.andi v 1#32) 0#32)
          (Ideal.ofBits .bf16 16576#16) (Ideal.ofBits .bf16 16512#16))
        (Scalar.select (IntOp.cmpi CmpIPredicate.ne (IntOp.andi v 1#32) 0#32)
          (Ideal.ofBits .bf16 16448#16) (Ideal.ofBits .bf16 16384#16)))
      (Scalar.select (IntOp.cmpi CmpIPredicate.ne (IntOp.andi v 2#32) 0#32)
        (Scalar.select (IntOp.cmpi CmpIPredicate.ne (IntOp.andi v 1#32) 0#32)
          (Ideal.ofBits .bf16 16320#16) 1)
        (Scalar.select (IntOp.cmpi CmpIPredicate.ne (IntOp.andi v 1#32) 0#32)
          (Ideal.ofBits .bf16 16128#16) 0))) :
    Scalar.select (IntOp.cmpi CmpIPredicate.ne (IntOp.andi v 8#32) 0#32) (-T) T = ((qval n : ℝ) : EReal) := by
  have hs (b : Bool) (x z : EReal) : Scalar.select (BitVec.ofBool b) x z = if b then x else z := by cases b <;> rfl
  have t (i : ℕ) (hi : i < 4) : IntOp.cmpi CmpIPredicate.ne (IntOp.andi v (BitVec.ofNat 32 (2 ^ i))) 0#32
      = BitVec.ofBool (n.testBit i) := by
    have : ∀ (n : Fin 16) (i : Fin 4), IntOp.cmpi CmpIPredicate.ne (IntOp.andi (BitVec.ofNat 32 n.val) (BitVec.ofNat 32 (2 ^ i.val))) 0#32
      = BitVec.ofBool (n.val.testBit i.val) := by decide +kernel
    rw [hv]
    exact this ⟨n, hn⟩ ⟨i, hi⟩
  have t0 : IntOp.cmpi CmpIPredicate.ne (IntOp.andi v 1#32) 0#32 = _ := t 0 (by decide)
  have t1 : IntOp.cmpi CmpIPredicate.ne (IntOp.andi v 2#32) 0#32 = _ := t 1 (by decide)
  have t2 : IntOp.cmpi CmpIPredicate.ne (IntOp.andi v 4#32) 0#32 = _ := t 2 (by decide)
  have t3 : IntOp.cmpi CmpIPredicate.ne (IntOp.andi v 8#32) 0#32 = _ := t 3 (by decide)
  have bits : ∀ n : Fin 16, n.val.testBit 0 = decide (n.val % 2 = 1) ∧ n.val.testBit 1 = decide (n.val / 2 % 2 = 1)
      ∧ n.val.testBit 2 = decide (n.val / 4 % 2 = 1) ∧ n.val.testBit 3 = decide (8 ≤ n.val) := by decide +kernel
  rw [t0, t1, t2, b_six, b_four, b_three, b_two, b_three_halves, b_half, ← EReal.coe_one, ← EReal.coe_zero] at hT
  simp only [hs] at hT
  have e : T = ((mag (n % 8) : ℝ) : EReal) := by
    rw [hT]
    rw [(bits ⟨n, hn⟩).1, (bits ⟨n, hn⟩).2.1, (bits ⟨n, hn⟩).2.2.1]
    clear hT t t0 t1 t2 t3 hv
    interval_cases n <;> norm_num [mag]
  rw [t3, hs, e]
  unfold qval
  by_cases h : n < 8
  · have : n.testBit 3 = false := (bits ⟨n, hn⟩).2.2.2.trans (decide_eq_false (Nat.not_le.mpr h))
    rw [this, if_pos h, Nat.mod_eq_of_lt h]
    rfl
  · have : n.testBit 3 = true := (bits ⟨n, hn⟩).2.2.2.trans (decide_eq_true (Nat.not_lt.mp h))
    rw [this, if_neg h, show n % 8 = n - 8 by omega, EReal.coe_neg]
    rfl

/-- A sum over the columns, sixteen bytes to a block and two columns to a byte. -/
theorem sum_cols (f : ℕ → ℝ) : (∑ g : Fin 512, ∑ j : Fin 16, f (2 * (16 * g.val + j.val)))
    + (∑ g : Fin 512, ∑ j : Fin 16, f (2 * (16 * g.val + j.val) + 1)) = ∑ k ∈ Finset.range 16384, f k := by
  have blocks (h : ℕ → ℝ) : ∑ g : Fin 512, ∑ j : Fin 16, h (16 * g.val + j.val) = ∑ k ∈ Finset.range 8192, h k := by
    have go (N : ℕ) : ∑ g ∈ Finset.range N, ∑ j ∈ Finset.range 16, h (16 * g + j) = ∑ k ∈ Finset.range (16 * N), h k := by
      induction N with
      | zero => rfl
      | succ N ih => rw [Finset.sum_range_succ, ih, show 16 * (N + 1) = 16 * N + 16 by omega, Finset.sum_range_add]
    rw [← go 512, Finset.sum_range]
    exact Finset.sum_congr rfl fun g _ => (Finset.sum_range (n := 16) fun j => h (16 * g.val + j)).symm
  have pairs (N : ℕ) : (∑ k ∈ Finset.range N, f (2 * k)) + ∑ k ∈ Finset.range N, f (2 * k + 1) = ∑ k ∈ Finset.range (2 * N), f k := by
    induction N with
    | zero => simp
    | succ N ih =>
        rw [show 2 * (N + 1) = 2 * N + 1 + 1 by omega, Finset.sum_range_succ f, Finset.sum_range_succ f, ← ih,
          Finset.sum_range_succ, Finset.sum_range_succ]
        ring
  rw [blocks fun k => f (2 * k), blocks fun k => f (2 * k + 1)]
  exact pairs 8192

end Cert.V

namespace Cert.ReferenceIdeal.Value

open Cert.ReferenceIdeal Cert.ReferenceIdeal.Gen Cert.V
open Idealize.ShloMosaic Idealize.ShloMosaic.TcCoe Idealize.SL.Sem Idealize.ShloMosaic.StableHlo Idealize.ShloMosaic.Tactic

variable (V0 : Valuation τ sig (Elt Ideal)) (A : ℕ → ℕ → ℝ)

theorem lit6_eq : ∀ x : Fin 254, lit6 (S254.rowMajor (ix1 x)) = BitVec.ofNat 32 (x.val + 1) <<< 23 := by decide +kernel

section
variable (hA : ∀ (n : Fin 128) (k : Fin 16384), V0 (Proc.devRef .tc main_arg0) (ix3 0 n k) = ((A n.val k.val : ℝ) : EReal))
include hA

theorem x_pow (n : Fin 128) (g : Fin 512) :
    res_main_v260 V0 (ix3 n g 0) = ((p2 (expo (uR A n.val g.val)) : ℝ) : EReal) := by
  unfold res_main_v260
  clean_types
  pointwise [constantI, constant, id]
  exact pow_eq (expo (uR A n.val g.val)) (expo_le _)
    (IntOp.subi (BitVec.setWidth 32 (BitVec.setWidth 8 (IntOp.addi (res_main_v40 V0 (ix3 n g 0)) 127#32))) 127#32)
    (by rw [x_exp V0 A hA]; exact back_eq _ (expo_le _)) (fun x => lit6 (S254.rowMajor (ix1 x))) lit6_eq

theorem x_byte (n : Fin 128) (g : Fin 512) (j : Fin 16) :
    res_main_v243 V0 (ix3 n g j) = BitVec.setWidth 32 (codeAt A n.val (16 * g.val + j.val)) := by
  have hg := g.isLt
  have hj := j.isLt
  have h := x_code V0 A hA n ⟨16 * g.val + j.val, by omega⟩
  unfold res_main_v243
  clean_types
  generalize (trunci 8 (ori (shapeCast _ (extractStridedSlice S128x8192x1 ![0, 0, 0] (res_main_v111 V0) slices_S128x8192x2_S128x8192x1_0_0_0) shapeCasts_S128x8192x1_S128x8192) (Host.shli (shapeCast _ (extractStridedSlice S128x8192x1 ![0, 0, 1] (res_main_v111 V0) slices_S128x8192x2_S128x8192x1_0_0_1) shapeCasts_S128x8192x1_S128x8192) (broadcastInDim S128x8192 ![] bcast_S_S128x8192 (constantI S_ 32 4#32)))) natLt_8_32) = q at h ⊢
  pointwise
  refine congrArg (BitVec.setWidth 32) (Eq.trans (congrArg (fun k => q (ix2 n k)) (Fin.ext ?_)) h)
  show g.val * 16 + j.val = 16 * g.val + j.val
  omega

theorem x_lo (n : Fin 128) (g : Fin 512) (j : Fin 16) :
    res_main_v277 V0 (ix3 n g j) = BitVec.ofNat 32 (nib (el A n.val (2 * (16 * g.val + j.val)))) := by
  unfold res_main_v277
  clean_types
  pointwise [constantI]
  rw [x_byte V0 A hA]
  exact lo_eq _ _ (nib_lt _) (nib_lt _)

theorem x_hi (n : Fin 128) (g : Fin 512) (j : Fin 16) :
    res_main_v306 V0 (ix3 n g j) = BitVec.ofNat 32 (nib (el A n.val (2 * (16 * g.val + j.val) + 1))) := by
  unfold res_main_v306
  clean_types
  pointwise [constantI]
  rw [x_byte V0 A hA]
  exact hi_eq _ _ (nib_lt _) (nib_lt _)

theorem x_even (n : Fin 128) (g : Fin 512) (j : Fin 16) :
    ((mulf (select (cmpi .ne (andi (res_main_v277 V0) (broadcastInDim S128x512x16 ![] bcast_S_S128x512x16 (constantI S_ 32 8#32))) (broadcastInDim S128x512x16 ![] bcast_S_S128x512x16 (constantI S_ 32 0#32))) (Host.negf (res_main_v300 V0)) (res_main_v300 V0)) (broadcastInDim S128x512x16 ![0, 1, 2] bcast_S128x512x1_S128x512x16_0_1_2 (res_main_v260 V0))) : FVec Ideal S128x512x16 .bf16) (ix3 n g j) = ((dq A n.val (2 * (16 * g.val + j.val)) : ℝ) : EReal) := by
  have hj := j.isLt
  unfold res_main_v300 res_main_v285 res_main_v281
  clean_types
  pointwise [constantI, constant, id]
  unfold dq
  rw [show 2 * (16 * g.val + j.val) / 32 = g.val by omega, EReal.coe_mul, ← tree_eq _ _ (nib_lt _) (x_lo V0 A hA n g j) _ rfl,
    ← x_pow V0 A hA n g]

theorem x_odd (n : Fin 128) (g : Fin 512) (j : Fin 16) :
    ((mulf (select (cmpi .ne (andi (res_main_v306 V0) (broadcastInDim S128x512x16 ![] bcast_S_S128x512x16 (constantI S_ 32 8#32))) (broadcastInDim S128x512x16 ![] bcast_S_S128x512x16 (constantI S_ 32 0#32))) (Host.negf (res_main_v329 V0)) (res_main_v329 V0)) (broadcastInDim S128x512x16 ![0, 1, 2] bcast_S128x512x1_S128x512x16_0_1_2 (res_main_v260 V0))) : FVec Ideal S128x512x16 .bf16) (ix3 n g j) = ((dq A n.val (2 * (16 * g.val + j.val) + 1) : ℝ) : EReal) := by
  have hj := j.isLt
  unfold res_main_v329 res_main_v314 res_main_v310
  clean_types
  pointwise [constantI, constant, id]
  unfold dq
  rw [show (2 * (16 * g.val + j.val) + 1) / 32 = g.val by omega, EReal.coe_mul, ← tree_eq _ _ (nib_lt _) (x_hi V0 A hA n g j) _ rfl,
    ← x_pow V0 A hA n g]

end

theorem lit7_eq : ∀ x : Fin 254, lit7 (S254.rowMajor (ix1 x)) = BitVec.ofNat 32 (x.val + 1) <<< 23 := by decide +kernel

section
variable (hA : ∀ (n : Fin 3072) (k : Fin 16384), V0 (Proc.devRef .tc main_arg1) (ix2 n k) = ((A n.val k.val : ℝ) : EReal))
include hA

theorem w_pow (n : Fin 3072) (g : Fin 512) :
    res_main_v275 V0 (ix3 n g 0) = ((p2 (expo (uR A n.val g.val)) : ℝ) : EReal) := by
  unfold res_main_v275
  clean_types
  pointwise [constantI, constant, id]
  exact pow_eq (expo (uR A n.val g.val)) (expo_le _)
    (IntOp.subi (BitVec.setWidth 32 (BitVec.setWidth 8 (IntOp.addi (res_main_v154 V0 (ix3 n g 0)) 127#32))) 127#32)
    (by rw [w_exp V0 A hA]; exact back_eq _ (expo_le _)) (fun x => lit7 (S254.rowMajor (ix1 x))) lit7_eq

theorem w_byte (n : Fin 3072) (g : Fin 512) (j : Fin 16) :
    res_main_v245 V0 (ix3 n g j) = BitVec.setWidth 32 (codeAt A n.val (16 * g.val + j.val)) := by
  have hg := g.isLt
  have hj := j.isLt
  have h := w_code V0 A hA n ⟨16 * g.val + j.val, by omega⟩
  unfold res_main_v245
  clean_types
  generalize (trunci 8 (ori (shapeCast _ (extractStridedSlice S3072x8192x1 ![0, 0, 0] (res_main_v225 V0) slices_S3072x8192x2_S3072x8192x1_0_0_0) shapeCasts_S3072x8192x1_S3072x8192) (Host.shli (shapeCast _ (extractStridedSlice S3072x8192x1 ![0, 0, 1] (res_main_v225 V0) slices_S3072x8192x2_S3072x8192x1_0_0_1) shapeCasts_S3072x8192x1_S3072x8192) (broadcastInDim S3072x8192 ![] bcast_S_S3072x8192 (constantI S_ 32 4#32)))) natLt_8_32) = q at h ⊢
  pointwise
  refine congrArg (BitVec.setWidth 32) (Eq.trans (congrArg (fun k => q (ix2 n k)) (Fin.ext ?_)) h)
  show g.val * 16 + j.val = 16 * g.val + j.val
  omega

theorem w_lo (n : Fin 3072) (g : Fin 512) (j : Fin 16) :
    res_main_v335 V0 (ix3 n g j) = BitVec.ofNat 32 (nib (el A n.val (2 * (16 * g.val + j.val)))) := by
  unfold res_main_v335
  clean_types
  pointwise [constantI]
  rw [w_byte V0 A hA]
  exact lo_eq _ _ (nib_lt _) (nib_lt _)

theorem w_hi (n : Fin 3072) (g : Fin 512) (j : Fin 16) :
    res_main_v364 V0 (ix3 n g j) = BitVec.ofNat 32 (nib (el A n.val (2 * (16 * g.val + j.val) + 1))) := by
  unfold res_main_v364
  clean_types
  pointwise [constantI]
  rw [w_byte V0 A hA]
  exact hi_eq _ _ (nib_lt _) (nib_lt _)

theorem w_even (n : Fin 3072) (g : Fin 512) (j : Fin 16) :
    ((mulf (select (cmpi .ne (andi (res_main_v335 V0) (broadcastInDim S3072x512x16 ![] bcast_S_S3072x512x16 (constantI S_ 32 8#32))) (broadcastInDim S3072x512x16 ![] bcast_S_S3072x512x16 (constantI S_ 32 0#32))) (Host.negf (res_main_v358 V0)) (res_main_v358 V0)) (broadcastInDim S3072x512x16 ![0, 1, 2] bcast_S3072x512x1_S3072x512x16_0_1_2 (res_main_v275 V0))) : FVec Ideal S3072x512x16 .bf16) (ix3 n g j) = ((dq A n.val (2 * (16 * g.val + j.val)) : ℝ) : EReal) := by
  have hj := j.isLt
  unfold res_main_v358 res_main_v343 res_main_v339
  clean_types
  pointwise [constantI, constant, id]
  unfold dq
  rw [show 2 * (16 * g.val + j.val) / 32 = g.val by omega, EReal.coe_mul, ← tree_eq _ _ (nib_lt _) (w_lo V0 A hA n g j) _ rfl,
    ← w_pow V0 A hA n g]

theorem w_odd (n : Fin 3072) (g : Fin 512) (j : Fin 16) :
    ((mulf (select (cmpi .ne (andi (res_main_v364 V0) (broadcastInDim S3072x512x16 ![] bcast_S_S3072x512x16 (constantI S_ 32 8#32))) (broadcastInDim S3072x512x16 ![] bcast_S_S3072x512x16 (constantI S_ 32 0#32))) (Host.negf (res_main_v387 V0)) (res_main_v387 V0)) (broadcastInDim S3072x512x16 ![0, 1, 2] bcast_S3072x512x1_S3072x512x16_0_1_2 (res_main_v275 V0))) : FVec Ideal S3072x512x16 .bf16) (ix3 n g j) = ((dq A n.val (2 * (16 * g.val + j.val) + 1) : ℝ) : EReal) := by
  have hj := j.isLt
  unfold res_main_v387 res_main_v372 res_main_v368
  clean_types
  pointwise [constantI, constant, id]
  unfold dq
  rw [show (2 * (16 * g.val + j.val) + 1) / 32 = g.val by omega, EReal.coe_mul, ← tree_eq _ _ (nib_lt _) (w_hi V0 A hA n g j) _ rfl,
    ← w_pow V0 A hA n g]

end

/-- The product of two dequantised arrays. -/
theorem dot_real (a : FVec Ideal S128x512x16 .bf16) (b : FVec Ideal S3072x512x16 .bf16) (f h : ℕ → ℕ → ℝ) (q : ℕ → ℕ)
    (ha : ∀ s g j, a (ix3 s g j) = ((f s.val (q (16 * g.val + j.val)) : ℝ) : EReal))
    (hb : ∀ n g j, b (ix3 n g j) = ((h n.val (q (16 * g.val + j.val)) : ℝ) : EReal)) (s : Fin 128) (n : Fin 3072) :
    (show EReal from (Host.dotGeneral dot_S128x512x16_S3072x512x16_S128x3072_12_12_0_0_n_n none a b : FVec Ideal S128x3072 .f32) (ix2 s n))
      = ((∑ g : Fin 512, ∑ j : Fin 16, f s.val (q (16 * g.val + j.val)) * h n.val (q (16 * g.val + j.val)) : ℝ) : EReal) := by
  pointwise
  rw [← coe_sum]
  refine Finset.sum_congr rfl fun g _ => ?_
  rw [← coe_sum]
  refine Finset.sum_congr rfl fun j _ => ?_
  rw [EReal.coe_mul, ← ha, ← hb]

theorem y_ref (B : ℕ → ℕ → ℝ) (hA : (∀ (n : Fin 128) (k : Fin 16384), V0 (Proc.devRef .tc main_arg0) (ix3 0 n k) = ((A n.val k.val : ℝ) : EReal))) (hB : (∀ (n : Fin 3072) (k : Fin 16384), V0 (Proc.devRef .tc main_arg1) (ix2 n k) = ((B n.val k.val : ℝ) : EReal))) (s : Fin 128) (n : Fin 3072) :
    (truncf .bf16 (addf (Host.dotGeneral dot_S128x512x16_S3072x512x16_S128x3072_12_12_0_0_n_n none (((mulf (select (cmpi .ne (andi (res_main_v277 V0) (broadcastInDim S128x512x16 ![] bcast_S_S128x512x16 (constantI S_ 32 8#32))) (broadcastInDim S128x512x16 ![] bcast_S_S128x512x16 (constantI S_ 32 0#32))) (Host.negf (res_main_v300 V0)) (res_main_v300 V0)) (broadcastInDim S128x512x16 ![0, 1, 2] bcast_S128x512x1_S128x512x16_0_1_2 (res_main_v260 V0)))) : FVec Ideal S128x512x16 .bf16) (((mulf (select (cmpi .ne (andi (res_main_v335 V0) (broadcastInDim S3072x512x16 ![] bcast_S_S3072x512x16 (constantI S_ 32 8#32))) (broadcastInDim S3072x512x16 ![] bcast_S_S3072x512x16 (constantI S_ 32 0#32))) (Host.negf (res_main_v358 V0)) (res_main_v358 V0)) (broadcastInDim S3072x512x16 ![0, 1, 2] bcast_S3072x512x1_S3072x512x16_0_1_2 (res_main_v275 V0)))) : FVec Ideal S3072x512x16 .bf16)) (Host.dotGeneral dot_S128x512x16_S3072x512x16_S128x3072_12_12_0_0_n_n none (((mulf (select (cmpi .ne (andi (res_main_v306 V0) (broadcastInDim S128x512x16 ![] bcast_S_S128x512x16 (constantI S_ 32 8#32))) (broadcastInDim S128x512x16 ![] bcast_S_S128x512x16 (constantI S_ 32 0#32))) (Host.negf (res_main_v329 V0)) (res_main_v329 V0)) (broadcastInDim S128x512x16 ![0, 1, 2] bcast_S128x512x1_S128x512x16_0_1_2 (res_main_v260 V0)))) : FVec Ideal S128x512x16 .bf16) (((mulf (select (cmpi .ne (andi (res_main_v364 V0) (broadcastInDim S3072x512x16 ![] bcast_S_S3072x512x16 (constantI S_ 32 8#32))) (broadcastInDim S3072x512x16 ![] bcast_S_S3072x512x16 (constantI S_ 32 0#32))) (Host.negf (res_main_v387 V0)) (res_main_v387 V0)) (broadcastInDim S3072x512x16 ![0, 1, 2] bcast_S3072x512x1_S3072x512x16_0_1_2 (res_main_v275 V0)))) : FVec Ideal S3072x512x16 .bf16))) bitsLt_bf16_f32 : FVec Ideal S128x3072 .bf16) (ix2 s n)
      = ((∑ k ∈ Finset.range 16384, dq A s.val k * dq B n.val k : ℝ) : EReal) := by
  have he := dot_real _ _ (dq A) (dq B) (fun k => 2 * k) (x_even V0 A hA) (w_even V0 B hB) s n
  have ho := dot_real _ _ (dq A) (dq B) (fun k => 2 * k + 1) (x_odd V0 A hA) (w_odd V0 B hB) s n
  rw [← sum_cols fun k => dq A s.val k * dq B n.val k, EReal.coe_add]
  exact congrArg₂ (fun a b : EReal => a + b) he ho

end Cert.ReferenceIdeal.Value
-- ==== Proof.V.Alg.lean ====
/- The kernel and the reference return the same seven arrays: the finite-input precondition gives the arguments as
   real arrays, and entry by entry both programs' results are the functions of Proof/V/Vals.lean and Proof/V/Deq.lean of those reals. -/
module

public import proofs.«01_k».proof.Defs
public import proofs.«01_k».proof.Proof.Gen.Pre_finite
public import proofs.«01_k».proof.Proof.KI.Launch
public import proofs.«01_k».proof.Proof.V.Vals
public import proofs.«01_k».proof.Proof.V.Ref
public import proofs.«01_k».proof.Proof.V.RefY
public import Idealize.ShloMosaic.Lib.ReduceAll
public import Idealize.ShloMosaic.Lib.Quiescent

@[expose] public section

set_option maxHeartbeats 1000000

noncomputable section

namespace Cert.V

open Idealize.ShloMosaic Idealize.ShloMosaic.Pipeline Idealize.SL.Sem

theorem ofBits_top : Ideal.ofBits .bf16 0x7F80#16 = ⊤ := by
  unfold Ideal.ofBits Ideal.ieee
  have hex : ((0x7F80#16).extractLsb' 7 8).toNat = 255 := by decide
  have hfr : ((0x7F80#16).extractLsb' 0 7).toNat = 0 := by decide
  have hs : ((0x7F80#16).extractLsb' (8 + 7) 1 == 1#1) = false := by decide
  simp only [hex, hfr, hs]
  simp

/-- An extended real that compares below `⊤` in absolute value is a real. -/
theorem coe_of_cmp (a : EReal)
    (h : FloatOps.cmpf (F := Ideal) (φ := .bf16) .olt (FloatOps.hostAbsf (F := Ideal) (φ := .bf16) a) (FloatOps.ofBits .bf16 0x7F80#16) = 1#1) :
    a = ((a.toReal : ℝ) : EReal) := by
  have h1 : FloatOps.hostAbsf (F := Ideal) (φ := .bf16) a < (⊤ : EReal) := by
    rw [← ofBits_top]
    by_contra hn
    have e : FloatOps.cmpf (F := Ideal) (φ := .bf16) .olt (FloatOps.hostAbsf (F := Ideal) (φ := .bf16) a) (FloatOps.ofBits .bf16 0x7F80#16) = 0#1 := by
      rw [Ideal.cmpf_def]
      unfold Ideal.cmp
      exact congrArg BitVec.ofBool (decide_eq_false hn)
    rw [e] at h
    exact absurd h (by decide)
  have h2 : FloatOps.hostAbsf (F := Ideal) (φ := .bf16) a = max a (-a) := rfl
  rw [h2] at h1
  refine (EReal.coe_toReal ?_ ?_).symm
  · rintro rfl; simp at h1
  · rintro rfl; simp at h1

/-- The precondition, read: both arguments are arrays of reals. -/
theorem finite_args (x : FVec Ideal Cert.Pre_finite.S1x128x16384 .bf16) (w : FVec Ideal Cert.Pre_finite.S3072x16384 .bf16)
    (h : Cert.Pre_finite.fn (F := Ideal) x w = fun _ => 1#1) :
    (∀ i, x i = ((EReal.toReal (x i) : ℝ) : EReal)) ∧ (∀ i, w i = ((EReal.toReal (w i) : ℝ) : EReal)) := by
  have h0 := congrFun h ValueIdx.ix0
  dsimp only [Cert.Pre_finite.fn] at h0
  obtain ⟨hx, hw⟩ := IntOp.andi_eq_one.1 h0
  haveI : Subsingleton (Cert.Pre_finite.S_).Idx := ⟨fun a b => funext fun k => k.elim0⟩
  exact ⟨fun i => coe_of_cmp _ (Host.reduce_andi_all _ _ _ _ _ hx i), fun i => coe_of_cmp _ (Host.reduce_andi_all _ _ _ _ _ hw i)⟩

/-- The first argument's entries as reals, by row and column; zero outside the array. -/
def A0 (x : FVec Ideal Cert.Pre_finite.S1x128x16384 .bf16) (n k : ℕ) : ℝ :=
  if h : n < 128 ∧ k < 16384 then EReal.toReal (x (ix3 0 ⟨n, h.1⟩ ⟨k, h.2⟩)) else 0

/-- The second argument's entries as reals. -/
def A1 (w : FVec Ideal Cert.Pre_finite.S3072x16384 .bf16) (n k : ℕ) : ℝ :=
  if h : n < 3072 ∧ k < 16384 then EReal.toReal (w (ix2 ⟨n, h.1⟩ ⟨k, h.2⟩)) else 0

theorem A0_spec (x : FVec Ideal Cert.Pre_finite.S1x128x16384 .bf16) (hx : ∀ i, x i = ((EReal.toReal (x i) : ℝ) : EReal))
    (n : Fin 128) (k : Fin 16384) : x (ix3 0 n k) = ((A0 x n.val k.val : ℝ) : EReal) := by
  unfold A0
  rw [dif_pos ⟨n.isLt, k.isLt⟩]
  exact hx _

theorem A1_spec (w : FVec Ideal Cert.Pre_finite.S3072x16384 .bf16) (hw : ∀ i, w i = ((EReal.toReal (w i) : ℝ) : EReal))
    (n : Fin 3072) (k : Fin 16384) : w (ix2 n k) = ((A1 w n.val k.val : ℝ) : EReal) := by
  unfold A1
  rw [dif_pos ⟨n.isLt, k.isLt⟩]
  exact hw _

/-- Two matrices with the same entries are equal. -/
theorem array_ext {a b : ℕ} {α : Type} (f g : (⟨2, ![a, b]⟩ : Shape).Idx → α) (h : ∀ (n : Fin a) (j : Fin b), f (ix2 n j) = g (ix2 n j)) : f = g := by
  funext y
  rw [eq_ix2 y]
  exact h _ _

theorem bytes_ext {a b : ℕ} (f g : IVec ⟨2, ![a, b]⟩ 8) (h : ∀ (n : Fin a) (j : Fin b), f (ix2 n j) = g (ix2 n j)) : f = g :=
  array_ext f g h

/-- Two byte matrices whose entries have the same bits are equal. -/
theorem bits_ext {a b : ℕ} (f g : IVec ⟨2, ![a, b]⟩ 8)
    (h : ∀ (n : Fin a) (j : Fin b) (p : ℕ), p < 8 → (f (ix2 n j)).getLsbD p = (g (ix2 n j)).getLsbD p) : f = g :=
  bytes_ext f g fun n j => BitVec.eq_of_getLsbD_eq fun p hp => h n j p hp

theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

open Cert.KernelIdeal.Tile in
/-- On finite arguments the kernel and the reference return the same product, masks, codes and scales. -/
theorem algebraic : Cert.algebraic_KernelIdeal_ReferenceIdeal_pre_finite := by
  intro m ρ m' ρ' hpre hagree
  refine ⟨fun c => (dats (F := Ideal) m 0 c).arrAt 3 Cert.KernelIdeal.cfg0.N,
    fun c => (dats (F := Ideal) m 0 c).arrAt 4 Cert.KernelIdeal.cfg0.N, fun c => (dats (F := Ideal) m 0 c).arrAt 5 Cert.KernelIdeal.cfg0.N,
    fun c => (dats (F := Ideal) m 0 c).arrAt 6 Cert.KernelIdeal.cfg0.N, fun c => (dats (F := Ideal) m 0 c).arrAt 7 Cert.KernelIdeal.cfg0.N,
    fun c => (dats (F := Ideal) m 0 c).arrAt 8 Cert.KernelIdeal.cfg0.N, fun c => (dats (F := Ideal) m 0 c).arrAt 9 Cert.KernelIdeal.cfg0.N, ?_, ?_⟩
  · exact (θ_run Cert.KernelIdeal.defs _ _).mono (fun _ h c => ⟨(h.1 c).1 3, (h.1 c).1 4, (h.1 c).1 5, (h.1 c).1 6, (h.1 c).1 7, (h.1 c).1 8, (h.1 c).1 9,
      ((h.1 c).2 Cert.KernelIdeal.main_arg0 (Pipeline.mem_restRefs_of Cert.KernelIdeal.main_arg0 (by decide) (by decide))).trans (Cert.KernelIdeal.Gen.V_main_arg0 m c),
      ((h.1 c).1 2).trans (((dats m 0 c).arrAt_in 2 rfl _).trans ((A_eq m c 2).trans (Cert.KernelIdeal.Gen.V_main_arg1 m c)))⟩) (run_main m ρ)
  · refine (θ_run Cert.ReferenceIdeal.defs _ _).mono (fun _ h c => ?_) (Cert.ReferenceIdeal.Value.run (F := Ideal) m' ρ')
    obtain ⟨hx, hw⟩ := finite_args _ _ (hpre c)
    have kx := A0_spec _ hx
    have kw := A1_spec _ hw
    have rx : ∀ (n : Fin 128) (k : Fin 16384), StableHlo.launchContents m' c (Proc.devRef .tc Cert.ReferenceIdeal.main_arg0) (ix3 0 n k) = _ := fun n k => (congrFun (hagree c).1 (ix3 0 n k)).trans (kx n k)
    have rw' : ∀ (n : Fin 3072) (k : Fin 16384), StableHlo.launchContents m' c (Proc.devRef .tc Cert.ReferenceIdeal.main_arg1) (ix2 n k) = _ := fun n k => (congrFun (hagree c).2 (ix2 n k)).trans (kw n k)
    obtain ⟨hy, h0, h1, h2, h3, h4, h5, h6, h7⟩ := h c
    refine ⟨hy.trans ?_, h0.trans ?_, h1.trans ?_, h2.trans ?_, h3.trans ?_, h4.trans ?_, h5.trans ?_, h6, h7⟩
    · exact array_ext _ _ fun s n => (Cert.ReferenceIdeal.Value.y_ref _ _ _ rx rw' s n).trans (y_apply m c _ _ kx kw s n).symm
    · exact bits_ext _ _ fun n j p hp => (Cert.ReferenceIdeal.Value.x_mask _ _ rx n j p hp).trans (xm_apply m c _ kx n j p hp).symm
    · exact bits_ext _ _ fun n j p hp => (Cert.ReferenceIdeal.Value.w_mask _ _ rw' n j p hp).trans (wm_apply m c _ kw n j p hp).symm
    · exact bytes_ext _ _ fun n j => (Cert.ReferenceIdeal.Value.x_code _ _ rx n j).trans (xc_apply m c _ kx n j).symm
    · exact bytes_ext _ _ fun n j => (Cert.ReferenceIdeal.Value.x_scale _ _ rx n j).trans (xs_apply m c _ kx n j).symm
    · exact bytes_ext _ _ fun n j => (Cert.ReferenceIdeal.Value.w_code _ _ rw' n j).trans (wc_apply m c _ kw n j).symm
    · exact bytes_ext _ _ fun n j => (Cert.ReferenceIdeal.Value.w_scale _ _ rw' n j).trans (ws_apply m c _ kw n j).symm

end Cert.V

end

end
-- ==== Proof.lean ====
module

public import proofs.«01_k».proof.Defs
public import proofs.«01_k».proof.Proof.Gen.ReferenceIdeal.Run
public import proofs.«01_k».proof.Proof.Gen.Pre_finite
public import proofs.«01_k».proof.Proof.K.Launch
public import proofs.«01_k».proof.Proof.KI.Launch
public import proofs.«01_k».proof.Proof.V.Alg

@[expose] public section

namespace Cert.Proof

open Idealize.ShloMosaic

theorem preserves : Cert.preserves_Kernel_KernelIdeal :=
  IdealRules.named_const.statement Cert.KernelIdeal.κ "inv_sqrt_two" .f32 0x3F3504F3#32 (((Real.sqrt 2)⁻¹ : ℝ) : EReal) rfl

theorem claim : Cert.Claim := ⟨Cert.Kernel.Gen.facts, Cert.KernelIdeal.Gen.facts, Cert.ReferenceIdeal.Gen.facts, Cert.Pre_finite.Gen.facts,
  fun m g _ => Cert.Kernel.Tile.frame_main (F := Bits) m g,
  fun m g _ => Cert.KernelIdeal.Tile.frame_main (F := Ideal) m g,
  fun m g _ => Cert.KernelIdeal.Tile.frame_main (F := Ideal) m g,
  Cert.V.frame_ri,
  Cert.V.frame_ri_finite,
  preserves,
  Cert.V.algebraic⟩

end Cert.Proof

end
